-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v156)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v156) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  IdealRules.named_const.Statement Cert.Kernel2Ideal.κ "qk_scale" .f32 0x3E0293EE#32 ((((Real.log 2) * (Real.sqrt 128))⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v18) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v82) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  IdealRules.named_const.Statement Cert.Kernel4Ideal.κ "qk_scale" .f32 0x3E0293EE#32 ((((Real.log 2) * (Real.sqrt 128))⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_v18) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v82) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
-- ==== Pre_all_finite.lean ====
abbrev S32768x4096 : Shape := ⟨2, ![32768, 4096]⟩
abbrev S8x257 : Shape := ⟨2, ![8, 257]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S8x257 : S_.BroadcastsInDim S8x257 (![] : Fin 0 → Fin S8x257.rank)
  reducesTo_S8x257_S_d0_1 : S8x257.ReducesTo [0, 1] S_

variable [Facts]

def fn {F : FTy → Type} [FloatOps F] (main_arg0 : FVec F S32768x4096 .bf16) (main_arg1 : FVec F S8x257 .f32) : IVec S_ 1 :=
  let main_v0 : FVec F S32768x4096 .bf16 := Host.absf main_arg0
  let main_cst : FVec F S_ .bf16 := constant S_ .bf16 0x7F80#16
  let main_v1 : FVec F S32768x4096 .bf16 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S8x257 .f32 := Host.absf main_arg1
  let main_cst_0 : FVec F S_ .f32 := constant S_ .f32 0x7F800000#32
  let main_v5 : FVec F S8x257 .f32 := broadcastInDim S8x257 ![] bcast_S_S8x257 main_cst_0
  let main_v6 : IVec S8x257 1 := cmpf .olt main_v4 main_v5
  let main_c_1 : IVec S_ 1 := constantI S_ 1 1#1
  let main_v7 : IVec S_ 1 := (fun x v => Host.reduce IntOp.andi x v reducesTo_S8x257_S_d0_1 h_S_) main_v6 main_c_1
  let main_v8 : IVec S_ 1 := andi main_v3 main_v7
  main_v8
-- ==== Kernel.lean ====
abbrev S32768x4096 : Shape := ⟨2, ![32768, 4096]⟩
abbrev S8x257 : Shape := ⟨2, ![8, 257]⟩
abbrev S8x1 : Shape := ⟨2, ![8, 1]⟩
abbrev S8x448 : Shape := ⟨2, ![8, 448]⟩
abbrev S8x191 : Shape := ⟨2, ![8, 191]⟩
abbrev S8x639 : Shape := ⟨2, ![8, 639]⟩
abbrev S8x576 : Shape := ⟨2, ![8, 576]⟩
abbrev S8x1x576 : Shape := ⟨3, ![8, 1, 576]⟩
abbrev S8x16x576 : Shape := ⟨3, ![8, 16, 576]⟩
abbrev S8x64x576 : Shape := ⟨3, ![8, 64, 576]⟩
abbrev S_ : Shape := ⟨0, ![]⟩
abbrev S8x64x192 : Shape := ⟨3, ![8, 64, 192]⟩
abbrev S8x64x0 : Shape := ⟨3, ![8, 64, 0]⟩
abbrev S8x64x768 : Shape := ⟨3, ![8, 64, 768]⟩
abbrev S8x64x64 : Shape := ⟨3, ![8, 64, 64]⟩
abbrev S8x64x128 : Shape := ⟨3, ![8, 64, 128]⟩
abbrev S8x256x768 : Shape := ⟨3, ![8, 256, 768]⟩
abbrev S3x1x1x768 : Shape := ⟨4, ![3, 1, 1, 768]⟩
abbrev S1x8x256x768 : Shape := ⟨4, ![1, 8, 256, 768]⟩
abbrev S3x8x256x768 : Shape := ⟨4, ![3, 8, 256, 768]⟩
abbrev S32768x1024 : Shape := ⟨2, ![32768, 1024]⟩
abbrev S256x3072 : Shape := ⟨2, ![256, 3072]⟩
abbrev S256x1024 : Shape := ⟨2, ![256, 1024]⟩
abbrev S1024x1024 : Shape := ⟨2, ![1024, 1024]⟩
abbrev S8x256x128 : Shape := ⟨3, ![8, 256, 128]⟩
abbrev S768x1024 : Shape := ⟨2, ![768, 1024]⟩
abbrev S1024x768 : Shape := ⟨2, ![1024, 768]⟩
abbrev S1024x256 : Shape := ⟨2, ![1024, 256]⟩
abbrev S2x256x768 : Shape := ⟨3, ![2, 256, 768]⟩
abbrev S512x768 : Shape := ⟨2, ![512, 768]⟩
abbrev S768x256 : Shape := ⟨2, ![768, 256]⟩
abbrev S512x256 : Shape := ⟨2, ![512, 256]⟩
abbrev S256x128 : Shape := ⟨2, ![256, 128]⟩
abbrev S1x256x128 : Shape := ⟨3, ![1, 256, 128]⟩
abbrev S128x768 : Shape := ⟨2, ![128, 768]⟩
abbrev S256x768 : Shape := ⟨2, ![256, 768]⟩
abbrev S128x640 : Shape := ⟨2, ![128, 640]⟩
abbrev S1x1x128x640 : Shape := ⟨4, ![1, 1, 128, 640]⟩
abbrev S128 : Shape := ⟨1, ![128]⟩
abbrev S128x1 : Shape := ⟨2, ![128, 1]⟩
abbrev S1x128x640 : Shape := ⟨3, ![1, 128, 640]⟩
abbrev S128x128 : Shape := ⟨2, ![128, 128]⟩
abbrev S1x128x128 : Shape := ⟨3, ![1, 128, 128]⟩

abbrev nBuf : Space → Nat
  | .hbm => 181
  | .vmem => 10
  | .smem => 0
  | _ => 0

abbrev hbmTy0_0 (i : Nat) : BufTy := match i % 128 with
  | 0 => ⟨S32768x4096, .bf16⟩
  | 1 => ⟨S8x257, .f32⟩
  | 2 => ⟨S8x1, .f32⟩
  | 3 => ⟨S8x448, .f32⟩
  | 4 => ⟨S8x191, .f32⟩
  | 5 => ⟨S8x191, .f32⟩
  | 6 => ⟨S8x639, .f32⟩
  | 7 => ⟨S8x576, .f32⟩
  | 8 => ⟨S8x576, .f32⟩
  | 9 => ⟨S8x576, .f32⟩
  | 10 => ⟨S8x576, .f32⟩
  | 11 => ⟨S8x576, .f32⟩
  | 12 => ⟨S8x576, .f32⟩
  | 13 => ⟨S8x576, .f32⟩
  | 14 => ⟨S8x576, .f32⟩
  | 15 => ⟨S8x576, .f32⟩
  | 16 => ⟨S8x576, .f32⟩
  | 17 => ⟨S8x576, .f32⟩
  | 18 => ⟨S8x576, .f32⟩
  | 19 => ⟨S8x576, .f32⟩
  | 20 => ⟨S8x576, .f32⟩
  | 21 => ⟨S8x576, .f32⟩
  | 22 => ⟨S8x576, .f32⟩
  | 23 => ⟨S8x576, .f32⟩
  | 24 => ⟨S8x576, .f32⟩
  | 25 => ⟨S8x576, .f32⟩
  | 26 => ⟨S8x576, .f32⟩
  | 27 => ⟨S8x576, .f32⟩
  | 28 => ⟨S8x576, .f32⟩
  | 29 => ⟨S8x576, .f32⟩
  | 30 => ⟨S8x576, .f32⟩
  | 31 => ⟨S8x576, .f32⟩
  | 32 => ⟨S8x576, .f32⟩
  | 33 => ⟨S8x576, .f32⟩
  | 34 => ⟨S8x576, .f32⟩
  | 35 => ⟨S8x576, .f32⟩
  | 36 => ⟨S8x576, .f32⟩
  | 37 => ⟨S8x576, .f32⟩
  | 38 => ⟨S8x576, .f32⟩
  | 39 => ⟨S8x576, .f32⟩
  | 40 => ⟨S8x576, .f32⟩
  | 41 => ⟨S8x576, .f32⟩
  | 42 => ⟨S8x576, .f32⟩
  | 43 => ⟨S8x576, .f32⟩
  | 44 => ⟨S8x576, .f32⟩
  | 45 => ⟨S8x576, .f32⟩
  | 46 => ⟨S8x576, .f32⟩
  | 47 => ⟨S8x576, .f32⟩
  | 48 => ⟨S8x576, .f32⟩
  | 49 => ⟨S8x576, .f32⟩
  | 50 => ⟨S8x576, .f32⟩
  | 51 => ⟨S8x576, .f32⟩
  | 52 => ⟨S8x576, .f32⟩
  | 53 => ⟨S8x576, .f32⟩
  | 54 => ⟨S8x576, .f32⟩
  | 55 => ⟨S8x576, .f32⟩
  | 56 => ⟨S8x576, .f32⟩
  | 57 => ⟨S8x576, .f32⟩
  | 58 => ⟨S8x576, .f32⟩
  | 59 => ⟨S8x576, .f32⟩
  | 60 => ⟨S8x576, .f32⟩
  | 61 => ⟨S8x576, .f32⟩
  | 62 => ⟨S8x576, .f32⟩
  | 63 => ⟨S8x576, .f32⟩
  | 64 => ⟨S8x576, .f32⟩
  | 65 => ⟨S8x576, .f32⟩
  | 66 => ⟨S8x576, .f32⟩
  | 67 => ⟨S8x576, .f32⟩
  | 68 => ⟨S8x576, .f32⟩
  | 69 => ⟨S8x576, .f32⟩
  | 70 => ⟨S8x576, .f32⟩
  | 71 => ⟨S8x1x576, .f32⟩
  | 72 => ⟨S8x1x576, .f32⟩
  | 73 => ⟨S8x1x576, .f32⟩
  | 74 => ⟨S8x1x576, .f32⟩
  | 75 => ⟨S8x1x576, .f32⟩
  | 76 => ⟨S8x1x576, .f32⟩
  | 77 => ⟨S8x1x576, .f32⟩
  | 78 => ⟨S8x1x576, .f32⟩
  | 79 => ⟨S8x1x576, .f32⟩
  | 80 => ⟨S8x1x576, .f32⟩
  | 81 => ⟨S8x1x576, .f32⟩
  | 82 => ⟨S8x1x576, .f32⟩
  | 83 => ⟨S8x1x576, .f32⟩
  | 84 => ⟨S8x1x576, .f32⟩
  | 85 => ⟨S8x1x576, .f32⟩
  | 86 => ⟨S8x1x576, .f32⟩
  | 87 => ⟨S8x1x576, .f32⟩
  | 88 => ⟨S8x1x576, .f32⟩
  | 89 => ⟨S8x1x576, .f32⟩
  | 90 => ⟨S8x1x576, .f32⟩
  | 91 => ⟨S8x1x576, .f32⟩
  | 92 => ⟨S8x1x576, .f32⟩
  | 93 => ⟨S8x1x576, .f32⟩
  | 94 => ⟨S8x1x576, .f32⟩
  | 95 => ⟨S8x1x576, .f32⟩
  | 96 => ⟨S8x1x576, .f32⟩
  | 97 => ⟨S8x1x576, .f32⟩
  | 98 => ⟨S8x1x576, .f32⟩
  | 99 => ⟨S8x1x576, .f32⟩
  | 100 => ⟨S8x1x576, .f32⟩
  | 101 => ⟨S8x1x576, .f32⟩
  | 102 => ⟨S8x1x576, .f32⟩
  | 103 => ⟨S8x1x576, .f32⟩
  | 104 => ⟨S8x1x576, .f32⟩
  | 105 => ⟨S8x1x576, .f32⟩
  | 106 => ⟨S8x1x576, .f32⟩
  | 107 => ⟨S8x1x576, .f32⟩
  | 108 => ⟨S8x1x576, .f32⟩
  | 109 => ⟨S8x1x576, .f32⟩
  | 110 => ⟨S8x1x576, .f32⟩
  | 111 => ⟨S8x1x576, .f32⟩
  | 112 => ⟨S8x1x576, .f32⟩
  | 113 => ⟨S8x1x576, .f32⟩
  | 114 => ⟨S8x1x576, .f32⟩
  | 115 => ⟨S8x1x576, .f32⟩
  | 116 => ⟨S8x1x576, .f32⟩
  | 117 => ⟨S8x1x576, .f32⟩
  | 118 => ⟨S8x1x576, .f32⟩
  | 119 => ⟨S8x1x576, .f32⟩
  | 120 => ⟨S8x1x576, .f32⟩
  | 121 => ⟨S8x1x576, .f32⟩
  | 122 => ⟨S8x1x576, .f32⟩
  | 123 => ⟨S8x1x576, .f32⟩
  | 124 => ⟨S8x1x576, .f32⟩
  | 125 => ⟨S8x1x576, .f32⟩
  | 126 => ⟨S8x1x576, .f32⟩
  | 127 => ⟨S8x1x576, .f32⟩
  | _ => ⟨S32768x4096, .bf16⟩

abbrev hbmTy0_1 (i : Nat) : BufTy := match i % 128 with
  | 0 => ⟨S8x1x576, .f32⟩
  | 1 => ⟨S8x1x576, .f32⟩
  | 2 => ⟨S8x1x576, .f32⟩
  | 3 => ⟨S8x1x576, .f32⟩
  | 4 => ⟨S8x1x576, .f32⟩
  | 5 => ⟨S8x1x576, .f32⟩
  | 6 => ⟨S8x1x576, .f32⟩
  | 7 => ⟨S8x16x576, .f32⟩
  | 8 => ⟨S8x16x576, .f32⟩
  | 9 => ⟨S8x16x576, .f32⟩
  | 10 => ⟨S8x16x576, .f32⟩
  | 11 => ⟨S8x64x576, .f32⟩
  | 12 => ⟨S_, .f32⟩
  | 13 => ⟨S8x64x192, .f32⟩
  | 14 => ⟨S8x64x0, .f32⟩
  | 15 => ⟨S8x64x768, .f32⟩
  | 16 => ⟨S8x64x64, .f32⟩
  | 17 => ⟨S8x64x128, .f32⟩
  | 18 => ⟨S8x64x768, .f32⟩
  | 19 => ⟨S8x64x128, .f32⟩
  | 20 => ⟨S8x64x64, .f32⟩
  | 21 => ⟨S8x64x768, .f32⟩
  | 22 => ⟨S8x64x0, .f32⟩
  | 23 => ⟨S8x64x768, .f32⟩
  | 24 => ⟨S8x256x768, .f32⟩
  | 25 => ⟨S3x1x1x768, .i32⟩
  | 26 => ⟨S_, .i32⟩
  | 27 => ⟨S_, .i32⟩
  | 28 => ⟨S3x1x1x768, .i32⟩
  | 29 => ⟨S3x1x1x768, .i32⟩
  | 30 => ⟨S3x1x1x768, .i32⟩
  | 31 => ⟨S_, .i32⟩
  | 32 => ⟨S3x1x1x768, .i32⟩
  | 33 => ⟨S3x1x1x768, .i1⟩
  | 34 => ⟨S3x1x1x768, .i32⟩
  | 35 => ⟨S3x1x1x768, .i32⟩
  | 36 => ⟨S_, .i32⟩
  | 37 => ⟨S3x1x1x768, .i32⟩
  | 38 => ⟨S3x1x1x768, .i1⟩
  | 39 => ⟨S3x1x1x768, .i1⟩
  | 40 => ⟨S_, .i32⟩
  | 41 => ⟨S3x1x1x768, .i32⟩
  | 42 => ⟨S3x1x1x768, .i32⟩
  | 43 => ⟨S3x1x1x768, .i32⟩
  | 44 => ⟨S3x1x1x768, .i32⟩
  | 45 => ⟨S3x1x1x768, .i1⟩
  | 46 => ⟨S1x8x256x768, .f32⟩
  | 47 => ⟨S_, .f32⟩
  | 48 => ⟨S3x8x256x768, .i1⟩
  | 49 => ⟨S3x8x256x768, .f32⟩
  | 50 => ⟨S3x8x256x768, .f32⟩
  | 51 => ⟨S3x8x256x768, .f32⟩
  | 52 => ⟨S32768x1024, .bf16⟩
  | _ => ⟨S32768x4096, .bf16⟩

abbrev hbmTy (i : Nat) : BufTy := match i / 128 with
  | 0 => hbmTy0_0 i
  | 1 => hbmTy0_1 i
  | _ => ⟨S32768x4096, .bf16⟩

abbrev bufTy : (tb : Table) → Fin (tcTables nBuf tb) → BufTy
  | .hbm, ⟨i, _⟩ => hbmTy i
  | .local _ .vmem, ⟨0, _⟩ => ⟨S256x3072, .bf16⟩
  | .local _ .vmem, ⟨1, _⟩ => ⟨S256x3072, .bf16⟩
  | .local _ .vmem, ⟨2, _⟩ => ⟨S1x8x256x768, .f32⟩
  | .local _ .vmem, ⟨3, _⟩ => ⟨S1x8x256x768, .f32⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x256x768, .bf16⟩
  | .local _ .vmem, ⟨9, _⟩ => ⟨S8x256x128, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_v85 : Ref sig .tc := ⟨.hbm, 87, rfl⟩
abbrev main_v86 : Ref sig .tc := ⟨.hbm, 88, rfl⟩
abbrev main_v87 : Ref sig .tc := ⟨.hbm, 89, rfl⟩
abbrev main_v88 : Ref sig .tc := ⟨.hbm, 90, rfl⟩
abbrev main_v89 : Ref sig .tc := ⟨.hbm, 91, rfl⟩
abbrev main_v90 : Ref sig .tc := ⟨.hbm, 92, rfl⟩
abbrev main_v91 : Ref sig .tc := ⟨.hbm, 93, rfl⟩
abbrev main_v92 : Ref sig .tc := ⟨.hbm, 94, rfl⟩
abbrev main_v93 : Ref sig .tc := ⟨.hbm, 95, rfl⟩
abbrev main_v94 : Ref sig .tc := ⟨.hbm, 96, rfl⟩
abbrev main_v95 : Ref sig .tc := ⟨.hbm, 97, rfl⟩
abbrev main_v96 : Ref sig .tc := ⟨.hbm, 98, rfl⟩
abbrev main_v97 : Ref sig .tc := ⟨.hbm, 99, rfl⟩
abbrev main_v98 : Ref sig .tc := ⟨.hbm, 100, rfl⟩
abbrev main_v99 : Ref sig .tc := ⟨.hbm, 101, rfl⟩
abbrev main_v100 : Ref sig .tc := ⟨.hbm, 102, rfl⟩
abbrev main_v101 : Ref sig .tc := ⟨.hbm, 103, rfl⟩
abbrev main_v102 : Ref sig .tc := ⟨.hbm, 104, rfl⟩
abbrev main_v103 : Ref sig .tc := ⟨.hbm, 105, rfl⟩
abbrev main_v104 : Ref sig .tc := ⟨.hbm, 106, rfl⟩
abbrev main_v105 : Ref sig .tc := ⟨.hbm, 107, rfl⟩
abbrev main_v106 : Ref sig .tc := ⟨.hbm, 108, rfl⟩
abbrev main_v107 : Ref sig .tc := ⟨.hbm, 109, rfl⟩
abbrev main_v108 : Ref sig .tc := ⟨.hbm, 110, rfl⟩
abbrev main_v109 : Ref sig .tc := ⟨.hbm, 111, rfl⟩
abbrev main_v110 : Ref sig .tc := ⟨.hbm, 112, rfl⟩
abbrev main_v111 : Ref sig .tc := ⟨.hbm, 113, rfl⟩
abbrev main_v112 : Ref sig .tc := ⟨.hbm, 114, rfl⟩
abbrev main_v113 : Ref sig .tc := ⟨.hbm, 115, rfl⟩
abbrev main_v114 : Ref sig .tc := ⟨.hbm, 116, rfl⟩
abbrev main_v115 : Ref sig .tc := ⟨.hbm, 117, rfl⟩
abbrev main_v116 : Ref sig .tc := ⟨.hbm, 118, rfl⟩
abbrev main_v117 : Ref sig .tc := ⟨.hbm, 119, rfl⟩
abbrev main_v118 : Ref sig .tc := ⟨.hbm, 120, rfl⟩
abbrev main_v119 : Ref sig .tc := ⟨.hbm, 121, rfl⟩
abbrev main_v120 : Ref sig .tc := ⟨.hbm, 122, rfl⟩
abbrev main_v121 : Ref sig .tc := ⟨.hbm, 123, rfl⟩
abbrev main_v122 : Ref sig .tc := ⟨.hbm, 124, rfl⟩
abbrev main_v123 : Ref sig .tc := ⟨.hbm, 125, rfl⟩
abbrev main_v124 : Ref sig .tc := ⟨.hbm, 126, rfl⟩
abbrev main_v125 : Ref sig .tc := ⟨.hbm, 127, rfl⟩
abbrev main_v126 : Ref sig .tc := ⟨.hbm, 128, rfl⟩
abbrev main_v127 : Ref sig .tc := ⟨.hbm, 129, rfl⟩
abbrev main_v128 : Ref sig .tc := ⟨.hbm, 130, rfl⟩
abbrev main_v129 : Ref sig .tc := ⟨.hbm, 131, rfl⟩
abbrev main_v130 : Ref sig .tc := ⟨.hbm, 132, rfl⟩
abbrev main_v131 : Ref sig .tc := ⟨.hbm, 133, rfl⟩
abbrev main_v132 : Ref sig .tc := ⟨.hbm, 134, rfl⟩
abbrev main_v133 : Ref sig .tc := ⟨.hbm, 135, rfl⟩
abbrev main_v134 : Ref sig .tc := ⟨.hbm, 136, rfl⟩
abbrev main_v135 : Ref sig .tc := ⟨.hbm, 137, rfl⟩
abbrev main_v136 : Ref sig .tc := ⟨.hbm, 138, rfl⟩
abbrev main_v137 : Ref sig .tc := ⟨.hbm, 139, rfl⟩
abbrev main_cst : Ref sig .tc := ⟨.hbm, 140, rfl⟩
abbrev main_v138 : Ref sig .tc := ⟨.hbm, 141, rfl⟩
abbrev main_v139 : Ref sig .tc := ⟨.hbm, 142, rfl⟩
abbrev main_v140 : Ref sig .tc := ⟨.hbm, 143, rfl⟩
abbrev main_v141 : Ref sig .tc := ⟨.hbm, 144, rfl⟩
abbrev main_v142 : Ref sig .tc := ⟨.hbm, 145, rfl⟩
abbrev main_v143 : Ref sig .tc := ⟨.hbm, 146, rfl⟩
abbrev main_v144 : Ref sig .tc := ⟨.hbm, 147, rfl⟩
abbrev main_v145 : Ref sig .tc := ⟨.hbm, 148, rfl⟩
abbrev main_v146 : Ref sig .tc := ⟨.hbm, 149, rfl⟩
abbrev main_v147 : Ref sig .tc := ⟨.hbm, 150, rfl⟩
abbrev main_v148 : Ref sig .tc := ⟨.hbm, 151, rfl⟩
abbrev main_v149 : Ref sig .tc := ⟨.hbm, 152, rfl⟩
abbrev main_v150 : Ref sig .tc := ⟨.hbm, 153, rfl⟩
abbrev main_c : Ref sig .tc := ⟨.hbm, 154, rfl⟩
abbrev main_call0_v0 : Ref sig .tc := ⟨.hbm, 155, rfl⟩
abbrev main_call0_v1 : Ref sig .tc := ⟨.hbm, 156, rfl⟩
abbrev main_call0_v2 : Ref sig .tc := ⟨.hbm, 157, rfl⟩
abbrev main_call0_v3 : Ref sig .tc := ⟨.hbm, 158, rfl⟩
abbrev main_call0_v4 : Ref sig .tc := ⟨.hbm, 159, rfl⟩
abbrev main_call0_v5 : Ref sig .tc := ⟨.hbm, 160, rfl⟩
abbrev main_call0_v6 : Ref sig .tc := ⟨.hbm, 161, rfl⟩
abbrev main_call0_v7 : Ref sig .tc := ⟨.hbm, 162, rfl⟩
abbrev main_call0_v8 : Ref sig .tc := ⟨.hbm, 163, rfl⟩
abbrev main_call0_c : Ref sig .tc := ⟨.hbm, 164, rfl⟩
abbrev main_call0_v9 : Ref sig .tc := ⟨.hbm, 165, rfl⟩
abbrev main_call0_v10 : Ref sig .tc := ⟨.hbm, 166, rfl⟩
abbrev main_call0_v11 : Ref sig .tc := ⟨.hbm, 167, rfl⟩
abbrev main_call0_c_0 : Ref sig .tc := ⟨.hbm, 168, rfl⟩
abbrev main_call0_v12 : Ref sig .tc := ⟨.hbm, 169, rfl⟩
abbrev main_call0_v13 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_cst_0 : Ref sig .tc := ⟨.hbm, 175, rfl⟩
abbrev main_call1_v0 : Ref sig .tc := ⟨.hbm, 176, rfl⟩
abbrev main_call1_v1 : Ref sig .tc := ⟨.hbm, 177, rfl⟩
abbrev main_call1_v2 : Ref sig .tc := ⟨.hbm, 178, rfl⟩
abbrev main_v155 : Ref sig .tc := ⟨.hbm, 179, rfl⟩
abbrev main_v156 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![129], ![false]⟩

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 4 → Nat :=
  let arg0 : BitVec 32 := BitVec.ofNat 32 (i 0).val
  let c127_i32 : BitVec 32 := 127#32
  let v0 : BitVec 32 := Scalar.minsi arg0 c127_i32
  let c64_i32 : BitVec 32 := 64#32
  let c0_i32 : BitVec 32 := 0#32
  let v1 : BitVec 1 := Scalar.cmpi .eq c64_i32 c0_i32
  let c1_i32 : BitVec 32 := 1#32
  let v2 : BitVec 32 := Scalar.select v1 c1_i32 c64_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32 : BitVec 32 := 2#32
  let v11 : BitVec 32 := Scalar.subi c2_i32 v10
  let c0_i32_3 : BitVec 32 := 0#32
  let v12 : BitVec 32 := Scalar.maxsi v11 c0_i32_3
  let c0_i32_4 : BitVec 32 := 0#32
  let c0_i32_5 : BitVec 32 := 0#32
  let c0_i32_6 : BitVec 32 := 0#32
  let c0_i32_7 : BitVec 32 := 0#32
  ![v12.toNat, c0_i32_4.toNat, c0_i32_5.toNat, c0_i32_6.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S32768x4096 : Shape := ⟨2, ![32768, 4096]⟩
abbrev S8x257 : Shape := ⟨2, ![8, 257]⟩
abbrev S2x16384x4096 : Shape := ⟨3, ![2, 16384, 4096]⟩
abbrev S2x16384x1024 : Shape := ⟨3, ![2, 16384, 1024]⟩
abbrev S_ : Shape := ⟨0, ![]⟩
abbrev S2x16384x8x128 : Shape := ⟨4, ![2, 16384, 8, 128]⟩
abbrev S2x256x64x8x128 : Shape := ⟨5, ![2, 256, 64, 8, 128]⟩
abbrev S256 : Shape := ⟨1, ![256]⟩
abbrev S256x1 : Shape := ⟨2, ![256, 1]⟩
abbrev S576 : Shape := ⟨1, ![576]⟩
abbrev S1x576 : Shape := ⟨2, ![1, 576]⟩
abbrev S256x576 : Shape := ⟨2, ![256, 576]⟩
abbrev S2x16896x8x128 : Shape := ⟨4, ![2, 16896, 8, 128]⟩
abbrev S256x576x1 : Shape := ⟨3, ![256, 576, 1]⟩
abbrev S2x256x576x8x128 : Shape := ⟨5, ![2, 256, 576, 8, 128]⟩
abbrev S2x256x8x64x576 : Shape := ⟨5, ![2, 256, 8, 64, 576]⟩
abbrev S64 : Shape := ⟨1, ![64]⟩
abbrev S64x1 : Shape := ⟨2, ![64, 1]⟩
abbrev S64x576 : Shape := ⟨2, ![64, 576]⟩
abbrev S64x576x1 : Shape := ⟨3, ![64, 576, 1]⟩
abbrev S8x64x576 : Shape := ⟨3, ![8, 64, 576]⟩
abbrev S1x1x8x64x576 : Shape := ⟨5, ![1, 1, 8, 64, 576]⟩
abbrev S1x256x1x1x576 : Shape := ⟨5, ![1, 256, 1, 1, 576]⟩
abbrev S2x256x8x64 : Shape := ⟨4, ![2, 256, 8, 64]⟩
abbrev S2x256x8x64x1 : Shape := ⟨5, ![2, 256, 8, 64, 1]⟩
abbrev S2x256x8x128x64 : Shape := ⟨5, ![2, 256, 8, 128, 64]⟩
abbrev S32768x1024 : Shape := ⟨2, ![32768, 1024]⟩

abbrev nBuf : Space → Nat
  | .hbm => 117
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S8x257, .f32⟩
  | .hbm, ⟨2, _⟩ => ⟨S32768x4096, .f32⟩
  | .hbm, ⟨3, _⟩ => ⟨S2x16384x4096, .f32⟩
  | .hbm, ⟨4, _⟩ => ⟨S2x16384x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2x16384x1024, .f32⟩
  | .hbm, ⟨11, _⟩ => ⟨S2x16384x1024, .f32⟩
  | .hbm, ⟨12, _⟩ => ⟨S2x16384x1024, .f32⟩
  | .hbm, ⟨13, _⟩ => ⟨S2x16384x1024, .f32⟩
  | .hbm, ⟨14, _⟩ => ⟨S2x16384x8x128, .f32⟩
  | .hbm, ⟨15, _⟩ => ⟨S2x16384x8x128, .f32⟩
  | .hbm, ⟨16, _⟩ => ⟨S2x16384x8x128, .f32⟩
  | .hbm, ⟨17, _⟩ => ⟨S2x256x64x8x128, .f32⟩
  | .hbm, ⟨18, _⟩ => ⟨S256, .i32⟩
  | .hbm, ⟨19, _⟩ => ⟨S256x1, .i32⟩
  | .hbm, ⟨20, _⟩ => ⟨S_, .i32⟩
  | .hbm, ⟨21, _⟩ => ⟨S256x1, .i32⟩
  | .hbm, ⟨22, _⟩ => ⟨S256x1, .i32⟩
  | .hbm, ⟨23, _⟩ => ⟨S576, .i32⟩
  | .hbm, ⟨24, _⟩ => ⟨S1x576, .i32⟩
  | .hbm, ⟨25, _⟩ => ⟨S256x576, .i32⟩
  | .hbm, ⟨26, _⟩ => ⟨S256x576, .i32⟩
  | .hbm, ⟨27, _⟩ => ⟨S256x576, .i32⟩
  | .hbm, ⟨28, _⟩ => ⟨S_, .i32⟩
  | .hbm, ⟨29, _⟩ => ⟨S_, .f32⟩
  | .hbm, ⟨30, _⟩ => ⟨S2x16896x8x128, .f32⟩
  | .hbm, ⟨31, _⟩ => ⟨S_, .i32⟩
  | .hbm, ⟨32, _⟩ => ⟨S256x576, .i32⟩
  | .hbm, ⟨33, _⟩ => ⟨S256x576, .i1⟩
  | .hbm, ⟨34, _⟩ => ⟨S_, .i32⟩
  | .hbm, ⟨35, _⟩ => ⟨S256x576, .i32⟩
  | .hbm, ⟨36, _⟩ => ⟨S256x576, .i32⟩
  | .hbm, ⟨37, _⟩ => ⟨S256x576, .i32⟩
  | .hbm, ⟨38, _⟩ => ⟨S256x576x1, .i32⟩
  | .hbm, ⟨39, _⟩ => ⟨S2x256x576x8x128, .f32⟩
  | .hbm, ⟨40, _⟩ => ⟨S_, .i32⟩
  | .hbm, ⟨41, _⟩ => ⟨S_, .f32⟩
  | .hbm, ⟨42, _⟩ => ⟨S2x16896x8x128, .f32⟩
  | .hbm, ⟨43, _⟩ => ⟨S_, .i32⟩
  | .hbm, ⟨44, _⟩ => ⟨S256x576, .i32⟩
  | .hbm, ⟨45, _⟩ => ⟨S256x576, .i1⟩
  | .hbm, ⟨46, _⟩ => ⟨S_, .i32⟩
  | .hbm, ⟨47, _⟩ => ⟨S256x576, .i32⟩
  | .hbm, ⟨48, _⟩ => ⟨S256x576, .i32⟩
  | .hbm, ⟨49, _⟩ => ⟨S256x576, .i32⟩
  | .hbm, ⟨50, _⟩ => ⟨S256x576x1, .i32⟩
  | .hbm, ⟨51, _⟩ => ⟨S2x256x576x8x128, .f32⟩
  | .hbm, ⟨52, _⟩ => ⟨S2x256x8x64x576, .f32⟩
  | .hbm, ⟨53, _⟩ => ⟨S_, .f32⟩
  | .hbm, ⟨54, _⟩ => ⟨S_, .f32⟩
  | .hbm, ⟨55, _⟩ => ⟨S2x256x8x64x576, .f32⟩
  | .hbm, ⟨56, _⟩ => ⟨S2x256x8x64x576, .f32⟩
  | .hbm, ⟨57, _⟩ => ⟨S64, .i32⟩
  | .hbm, ⟨58, _⟩ => ⟨S_, .i32⟩
  | .hbm, ⟨59, _⟩ => ⟨S64, .i32⟩
  | .hbm, ⟨60, _⟩ => ⟨S64, .i32⟩
  | .hbm, ⟨61, _⟩ => ⟨S576, .i32⟩
  | .hbm, ⟨62, _⟩ => ⟨S64x1, .i32⟩
  | .hbm, ⟨63, _⟩ => ⟨S1x576, .i32⟩
  | .hbm, ⟨64, _⟩ => ⟨S64x576, .i32⟩
  | .hbm, ⟨65, _⟩ => ⟨S64x576, .i32⟩
  | .hbm, ⟨66, _⟩ => ⟨S64x576, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S64x576, .i32⟩
  | .hbm, ⟨71, _⟩ => ⟨S64x576, .i32⟩
  | .hbm, ⟨72, _⟩ => ⟨S_, .i32⟩
  | .hbm, ⟨73, _⟩ => ⟨S64x576, .i32⟩
  | .hbm, ⟨74, _⟩ => ⟨S64x576, .i32⟩
  | .hbm, ⟨75, _⟩ => ⟨S_, .i32⟩
  | .hbm, ⟨76, _⟩ => ⟨S64x576, .i32⟩
  | .hbm, ⟨77, _⟩ => ⟨S64x576, .i32⟩
  | .hbm, ⟨78, _⟩ => ⟨S_, .i32⟩
  | .hbm, ⟨79, _⟩ => ⟨S64x576, .i32⟩
  | .hbm, ⟨80, _⟩ => ⟨S64x576, .i1⟩
  | .hbm, ⟨81, _⟩ => ⟨S_, .i32⟩
  | .hbm, ⟨82, _⟩ => ⟨S64x576, .i32⟩
  | .hbm, ⟨83, _⟩ => ⟨S64x576, .i32⟩
  | .hbm, ⟨84, _⟩ => ⟨S64x576, .i32⟩
  | .hbm, ⟨85, _⟩ => ⟨S64x576x1, .i32⟩
  | .hbm, ⟨86, _⟩ => ⟨S8x64x576, .f32⟩
  | .hbm, ⟨87, _⟩ => ⟨S1x1x8x64x576, .f32⟩
  | .hbm, ⟨88, _⟩ => ⟨S2x256x8x64x576, .f32⟩
  | .hbm, ⟨89, _⟩ => ⟨S2x256x8x64x576, .f32⟩
  | .hbm, ⟨90, _⟩ => ⟨S_, .i32⟩
  | .hbm, ⟨91, _⟩ => ⟨S256x576, .i32⟩
  | .hbm, ⟨92, _⟩ => ⟨S256x576, .i1⟩
  | .hbm, ⟨93, _⟩ => ⟨S1x256x1x1x576, .i1⟩
  | .hbm, ⟨94, _⟩ => ⟨S_, .f32⟩
  | .hbm, ⟨95, _⟩ => ⟨S2x256x8x64x576, .i1⟩
  | .hbm, ⟨96, _⟩ => ⟨S2x256x8x64x576, .f32⟩
  | .hbm, ⟨97, _⟩ => ⟨S2x256x8x64x576, .f32⟩
  | .hbm, ⟨98, _⟩ => ⟨S_, .f32⟩
  | .hbm, ⟨99, _⟩ => ⟨S2x256x8x64, .f32⟩
  | .hbm, ⟨100, _⟩ => ⟨S_, .f32⟩
  | .hbm, ⟨101, _⟩ => ⟨S2x256x8x64, .f32⟩
  | .hbm, ⟨102, _⟩ => ⟨S2x256x8x64, .f32⟩
  | .hbm, ⟨103, _⟩ => ⟨S2x256x8x64x1, .f32⟩
  | .hbm, ⟨104, _⟩ => ⟨S2x256x8x64x576, .f32⟩
  | .hbm, ⟨105, _⟩ => ⟨S2x256x8x64x576, .f32⟩
  | .hbm, ⟨106, _⟩ => ⟨S2x256x8x64x576, .f32⟩
  | .hbm, ⟨107, _⟩ => ⟨S_, .f32⟩
  | .hbm, ⟨108, _⟩ => ⟨S2x256x8x64, .f32⟩
  | .hbm, ⟨109, _⟩ => ⟨S2x256x8x64x1, .f32⟩
  | .hbm, ⟨110, _⟩ => ⟨S2x256x8x64x576, .f32⟩
  | .hbm, ⟨111, _⟩ => ⟨S2x256x8x64x576, .f32⟩
  | .hbm, ⟨112, _⟩ => ⟨S2x256x8x128x64, .f32⟩
  | .hbm, ⟨113, _⟩ => ⟨S2x256x64x8x128, .f32⟩
  | .hbm, ⟨114, _⟩ => ⟨S2x16384x8x128, .f32⟩
  | .hbm, ⟨115, _⟩ => ⟨S32768x1024, .f32⟩
  | .hbm, ⟨116, _⟩ => ⟨S32768x1024, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c_1 : Ref sig .tc := ⟨.hbm, 28, rfl⟩
abbrev main_call0_v0 : Ref sig .tc := ⟨.hbm, 29, rfl⟩
abbrev main_v23 : Ref sig .tc := ⟨.hbm, 30, rfl⟩
abbrev main_c_2 : Ref sig .tc := ⟨.hbm, 31, rfl⟩
abbrev main_v24 : Ref sig .tc := ⟨.hbm, 32, rfl⟩
abbrev main_v25 : Ref sig .tc := ⟨.hbm, 33, rfl⟩
abbrev main_c_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_4 : Ref sig .tc := ⟨.hbm, 40, rfl⟩
abbrev main_call1_v0 : Ref sig .tc := ⟨.hbm, 41, rfl⟩
abbrev main_v31 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_9 : Ref sig .tc := ⟨.hbm, 67, rfl⟩
abbrev main_c_10 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_v52 : Ref sig .tc := ⟨.hbm, 74, rfl⟩
abbrev main_c_11 : Ref sig .tc := ⟨.hbm, 75, rfl⟩
abbrev main_v53 : Ref sig .tc := ⟨.hbm, 76, rfl⟩
abbrev main_v54 : Ref sig .tc := ⟨.hbm, 77, rfl⟩
abbrev main_c_12 : Ref sig .tc := ⟨.hbm, 78, rfl⟩
abbrev main_v55 : Ref sig .tc := ⟨.hbm, 79, rfl⟩
abbrev main_v56 : Ref sig .tc := ⟨.hbm, 80, rfl⟩
abbrev main_c_13 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_14 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_15 : Ref sig .tc := ⟨.hbm, 94, rfl⟩
abbrev main_call3_v0 : Ref sig .tc := ⟨.hbm, 95, rfl⟩
abbrev main_call3_v1 : Ref sig .tc := ⟨.hbm, 96, rfl⟩
abbrev main_v68 : Ref sig .tc := ⟨.hbm, 97, rfl⟩
abbrev main_cst_16 : Ref sig .tc := ⟨.hbm, 98, rfl⟩
abbrev main_v69 : Ref sig .tc := ⟨.hbm, 99, rfl⟩
abbrev main_cst_17 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_18 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]
-- ==== Kernel2.lean ====
abbrev S32768x2048 : Shape := ⟨2, ![32768, 2048]⟩
abbrev S2x2048 : Shape := ⟨2, ![2, 2048]⟩
abbrev S2x2048x4096 : Shape := ⟨3, ![2, 2048, 4096]⟩
abbrev S2x2048x1 : Shape := ⟨3, ![2, 2048, 1]⟩
abbrev S32768x4096 : Shape := ⟨2, ![32768, 4096]⟩
abbrev S32768x1024 : Shape := ⟨2, ![32768, 1024]⟩
abbrev S1024x2048 : Shape := ⟨2, ![1024, 2048]⟩
abbrev S1x2048x2048 : Shape := ⟨3, ![1, 2048, 2048]⟩
abbrev S1024x1024 : Shape := ⟨2, ![1024, 1024]⟩
abbrev S512x2048 : Shape := ⟨2, ![512, 2048]⟩
abbrev S512 : Shape := ⟨1, ![512]⟩
abbrev S512x1 : Shape := ⟨2, ![512, 1]⟩
abbrev S2048x2048 : Shape := ⟨2, ![2048, 2048]⟩
abbrev S512x1024 : Shape := ⟨2, ![512, 1024]⟩

abbrev nBuf : Space → Nat
  | .hbm => 9
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S2x2048, .f32⟩
  | .hbm, ⟨2, _⟩ => ⟨S2x2048x4096, .f32⟩
  | .hbm, ⟨3, _⟩ => ⟨S2x2048x1, .f32⟩
  | .hbm, ⟨4, _⟩ => ⟨S2x2048x4096, .f32⟩
  | .hbm, ⟨5, _⟩ => ⟨S2x2048x4096, .f32⟩
  | .hbm, ⟨6, _⟩ => ⟨S2x2048x4096, .bf16⟩
  | .hbm, ⟨7, _⟩ => ⟨S32768x4096, .bf16⟩
  | .hbm, ⟨8, _⟩ => ⟨S32768x1024, .f32⟩
  | .local _ .vmem, ⟨0, _⟩ => ⟨S1024x2048, .f32⟩
  | .local _ .vmem, ⟨1, _⟩ => ⟨S1024x2048, .f32⟩
  | .local _ .vmem, ⟨2, _⟩ => ⟨S1x2048x2048, .bf16⟩
  | .local _ .vmem, ⟨3, _⟩ => ⟨S1x2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1024, .f32⟩
  | .local _ .vmem, ⟨7, _⟩ => ⟨S1024x1024, .f32⟩
  | .local _ .vmem, ⟨8, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Kernel2Ideal.lean ====
variable {F : FTy → Type} [FloatOps F] [Named F]
def κ : String → Option EReal := fun
  | "qk_scale" => some ((((Real.log 2) * (Real.sqrt 128))⁻¹ : ℝ) : EReal)
  | _ => none
-- ==== Reference2Ideal.lean ====
abbrev S32768x2048 : Shape := ⟨2, ![32768, 2048]⟩
abbrev S2x2048 : Shape := ⟨2, ![2, 2048]⟩
abbrev S2x2048x4096 : Shape := ⟨3, ![2, 2048, 4096]⟩
abbrev S1x2048 : Shape := ⟨2, ![1, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048x4096 : Shape := ⟨3, ![1, 2048, 4096]⟩
abbrev S2048x4096 : Shape := ⟨2, ![2048, 4096]⟩
abbrev S32768x4096 : Shape := ⟨2, ![32768, 4096]⟩
abbrev S32768x1024 : Shape := ⟨2, ![32768, 1024]⟩
abbrev S32768x3072 : Shape := ⟨2, ![32768, 3072]⟩

abbrev nBuf : Space → Nat
  | .hbm => 36
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2x2048, .f32⟩
  | .hbm, ⟨2, _⟩ => ⟨S2x2048x4096, .f32⟩
  | .hbm, ⟨3, _⟩ => ⟨S1x2048, .f32⟩
  | .hbm, ⟨4, _⟩ => ⟨S2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S1x2048x4096, .f32⟩
  | .hbm, ⟨22, _⟩ => ⟨S2048x4096, .f32⟩
  | .hbm, ⟨23, _⟩ => ⟨S32768x4096, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S32768x3072, .f32⟩
  | .hbm, ⟨34, _⟩ => ⟨S32768x4096, .f32⟩
  | .hbm, ⟨35, _⟩ => ⟨S32768x4096, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel3.lean ====
abbrev S32768x2048 : Shape := ⟨2, ![32768, 2048]⟩
abbrev S2x2048 : Shape := ⟨2, ![2, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S2x5632x2048 : Shape := ⟨3, ![2, 5632, 2048]⟩
abbrev S2x2048x1 : Shape := ⟨3, ![2, 2048, 1]⟩
abbrev S2x1x11264 : Shape := ⟨3, ![2, 1, 11264]⟩
abbrev S2x1x2048 : Shape := ⟨3, ![2, 1, 2048]⟩
abbrev S1024x2048 : Shape := ⟨2, ![1024, 2048]⟩
abbrev S1x2048x512 : Shape := ⟨3, ![1, 2048, 512]⟩
abbrev S1x3x11264 : Shape := ⟨3, ![1, 3, 11264]⟩
abbrev S1x1x11264 : Shape := ⟨3, ![1, 1, 11264]⟩
abbrev S1x512x2048 : Shape := ⟨3, ![1, 512, 2048]⟩
abbrev S1x1x2048 : Shape := ⟨3, ![1, 1, 2048]⟩
abbrev S1032x512 : Shape := ⟨2, ![1032, 512]⟩
abbrev S11x8x512 : Shape := ⟨3, ![11, 8, 512]⟩
abbrev S1024 : Shape := ⟨1, ![1024]⟩
abbrev S1024x1 : Shape := ⟨2, ![1024, 1]⟩
abbrev S1x8x512 : Shape := ⟨3, ![1, 8, 512]⟩
abbrev S8x512 : Shape := ⟨2, ![8, 512]⟩
abbrev S512x2048 : Shape := ⟨2, ![512, 2048]⟩
abbrev S2048x512 : Shape := ⟨2, ![2048, 512]⟩
abbrev S512x512 : Shape := ⟨2, ![512, 512]⟩
abbrev S1x1x512 : Shape := ⟨3, ![1, 1, 512]⟩
abbrev S1x512 : Shape := ⟨2, ![1, 512]⟩
abbrev S16x2048 : Shape := ⟨2, ![16, 2048]⟩
abbrev S16 : Shape := ⟨1, ![16]⟩
abbrev S16x1 : Shape := ⟨2, ![16, 1]⟩
abbrev S1x2048 : Shape := ⟨2, ![1, 2048]⟩

abbrev nBuf : Space → Nat
  | .hbm => 15
  | .vmem => 18
  | .smem => 0
  | _ => 0

abbrev bufTy : (tb : Table) → Fin (tcTables nBuf tb) → BufTy
  | .hbm, ⟨0, _⟩ => ⟨S32768x2048, .f32⟩
  | .hbm, ⟨1, _⟩ => ⟨S2x2048, .f32⟩
  | .hbm, ⟨2, _⟩ => ⟨S2x2048x11264, .f32⟩
  | .hbm, ⟨3, _⟩ => ⟨S2x3x11264, .f32⟩
  | .hbm, ⟨4, _⟩ => ⟨S2x11264, .f32⟩
  | .hbm, ⟨5, _⟩ => ⟨S2x5632x2048, .f32⟩
  | .hbm, ⟨6, _⟩ => ⟨S2x2048, .f32⟩
  | .hbm, ⟨7, _⟩ => ⟨S2x2048x1, .f32⟩
  | .hbm, ⟨8, _⟩ => ⟨S2x2048x11264, .f32⟩
  | .hbm, ⟨9, _⟩ => ⟨S2x2048x11264, .f32⟩
  | .hbm, ⟨10, _⟩ => ⟨S2x2048x11264, .bf16⟩
  | .hbm, ⟨11, _⟩ => ⟨S2x5632x2048, .bf16⟩
  | .hbm, ⟨12, _⟩ => ⟨S2x1x11264, .f32⟩
  | .hbm, ⟨13, _⟩ => ⟨S2x1x2048, .f32⟩
  | .hbm, ⟨14, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x3x11264, .f32⟩
  | .local _ .vmem, ⟨7, _⟩ => ⟨S1x1x11264, .f32⟩
  | .local _ .vmem, ⟨8, _⟩ => ⟨S1x512x2048, .bf16⟩
  | .local _ .vmem, ⟨9, _⟩ => ⟨S1x512x2048, .bf16⟩
  | .local _ .vmem, ⟨10, _⟩ => ⟨S1x1x2048, .f32⟩
  | .local _ .vmem, ⟨11, _⟩ => ⟨S1024x2048, .f32⟩
  | .local _ .vmem, ⟨12, _⟩ => ⟨S1024x2048, .f32⟩
  | .local _ .vmem, ⟨13, _⟩ => ⟨S1024x2048, .bf16⟩
  | .local _ .vmem, ⟨14, _⟩ => ⟨S1032x512, .f32⟩
  | .local _ .vmem, ⟨15, _⟩ => ⟨S1032x512, .f32⟩
  | .local _ .vmem, ⟨16, _⟩ => ⟨S11x8x512, .f32⟩
  | .local _ .vmem, ⟨17, _⟩ => ⟨S11x8x512, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 11], ![false, false]⟩

def k0_mult1 (i : grid0.Coords) : BitVec 32 :=
  let arg1 : BitVec 32 := BitVec.ofNat 32 (i 1).val
  let c512_i32 : BitVec 32 := 512#32
  let v19 : BitVec 32 := Scalar.muli arg1 c512_i32
  v19
def k0_mult2 (i : grid0.Coords) : BitVec 32 :=
  let c5632_i32 : BitVec 32 := 5632#32
  let arg1 : BitVec 32 := BitVec.ofNat 32 (i 1).val
  let c512_i32_9 : BitVec 32 := 512#32
  let v21 : BitVec 32 := Scalar.muli arg1 c512_i32_9
  let v22 : BitVec 32 := Scalar.addi c5632_i32 v21
  v22
def k0_off1 (i : grid0.Coords) : Fin 3 → Nat :=
  let arg1 : BitVec 32 := BitVec.ofNat 32 (i 1).val
  let v24 : Index := Scalar.indexCast arg1
  let c0 : Index := 0#32
  let c0_10 : Index := 0#32
  ![v24.toNat, 0, 0]
def k0_off2 (i : grid0.Coords) : Fin 3 → Nat :=
  let c0_54 : Index := 0#32
  let c0_55 : Index := 0#32
  let arg1 : BitVec 32 := BitVec.ofNat 32 (i 1).val
  let c512_i32 : BitVec 32 := 512#32
  let v19 : BitVec 32 := Scalar.muli arg1 c512_i32
  let v20 : BitVec 32 := v19
  let v78 : Index := Scalar.indexCast v20
  ![0, 0, v78.toNat]
def k0_off3 (i : grid0.Coords) : Fin 3 → Nat :=
  let c0_57 : Index := 0#32
  let c0_58 : Index := 0#32
  let arg1 : BitVec 32 := BitVec.ofNat 32 (i 1).val
  let c512_i32 : BitVec 32 := 512#32
  let v19 : BitVec 32 := Scalar.muli arg1 c512_i32
  let v20 : BitVec 32 := v19
  let v82 : Index := Scalar.indexCast v20
  ![0, 0, v82.toNat]
def k0_off4 (i : grid0.Coords) : Fin 3 → Nat :=
  let c0_60 : Index := 0#32
  let c1 : Index := 1#32
  let arg1 : BitVec 32 := BitVec.ofNat 32 (i 1).val
  let c512_i32 : BitVec 32 := 512#32
  let v19 : BitVec 32 := Scalar.muli arg1 c512_i32
  let v20 : BitVec 32 := v19
  let v90 : Index := Scalar.indexCast v20
  ![0, 1, v90.toNat]
def k0_off5 (i : grid0.Coords) : Fin 3 → Nat :=
  let c0_63 : Index := 0#32
  let c2 : Index := 2#32
  let arg1 : BitVec 32 := BitVec.ofNat 32 (i 1).val
  let c512_i32 : BitVec 32 := 512#32
  let v19 : BitVec 32 := Scalar.muli arg1 c512_i32
  let v20 : BitVec 32 := v19
  let v97 : Index := Scalar.indexCast v20
  ![0, 2, v97.toNat]
def k0_off6 (i : grid0.Coords) : Fin 3 → Nat :=
  let c0_64 : Index := 0#32
  let c0_65 : Index := 0#32
  let c5632_i32 : BitVec 32 := 5632#32
  let arg1 : BitVec 32 := BitVec.ofNat 32 (i 1).val
  let c512_i32_9 : BitVec 32 := 512#32
  let v21 : BitVec 32 := Scalar.muli arg1 c512_i32_9
  let v22 : BitVec 32 := Scalar.addi c5632_i32 v21
  let v23 : BitVec 32 := v22
  let v103 : Index := Scalar.indexCast v23
  ![0, 0, v103.toNat]
def k0_off7 (i : grid0.Coords) : Fin 3 → Nat :=
  let c0_68 : Index := 0#32
  let c0_69 : Index := 0#32
  let c5632_i32 : BitVec 32 := 5632#32
  let arg1 : BitVec 32 := BitVec.ofNat 32 (i 1).val
  let c512_i32_9 : BitVec 32 := 512#32
  let v21 : BitVec 32 := Scalar.muli arg1 c512_i32_9
  let v22 : BitVec 32 := Scalar.addi c5632_i32 v21
  let v23 : BitVec 32 := v22
  let v107 : Index := Scalar.indexCast v23
  ![0, 0, v107.toNat]
def k0_off8 (i : grid0.Coords) : Fin 3 → Nat :=
  let c0_72 : Index := 0#32
  let c1_73 : Index := 1#32
  let c5632_i32 : BitVec 32 := 5632#32
  let arg1 : BitVec 32 := BitVec.ofNat 32 (i 1).val
  let c512_i32_9 : BitVec 32 := 512#32
  let v21 : BitVec 32 := Scalar.muli arg1 c512_i32_9
  let v22 : BitVec 32 := Scalar.addi c5632_i32 v21
  let v23 : BitVec 32 := v22
  let v115 : Index := Scalar.indexCast v23
  ![0, 1, v115.toNat]
def k0_off9 (i : grid0.Coords) : Fin 3 → Nat :=
  let c0_76 : Index := 0#32
  let c2_77 : Index := 2#32
  let c5632_i32 : BitVec 32 := 5632#32
  let arg1 : BitVec 32 := BitVec.ofNat 32 (i 1).val
  let c512_i32_9 : BitVec 32 := 512#32
  let v21 : BitVec 32 := Scalar.muli arg1 c512_i32_9
  let v22 : BitVec 32 := Scalar.addi c5632_i32 v21
  let v23 : BitVec 32 := v22
  let v122 : Index := Scalar.indexCast v23
  ![0, 2, v122.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x3x11264 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x11264 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S32768x2048 : Shape := ⟨2, ![32768, 2048]⟩
abbrev S2x2048 : Shape := ⟨2, ![2, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S2x5632x2048 : Shape := ⟨3, ![2, 5632, 2048]⟩
abbrev S2x16384x2048 : Shape := ⟨3, ![2, 16384, 2048]⟩
abbrev S1x2048 : Shape := ⟨2, ![1, 2048]⟩
abbrev S2048 : Shape := ⟨1, ![2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S1x2048x11264 : Shape := ⟨3, ![1, 2048, 11264]⟩
abbrev S2048x11264 : Shape := ⟨2, ![2048, 11264]⟩
abbrev S2x16384x11264 : Shape := ⟨3, ![2, 16384, 11264]⟩
abbrev S1x3x11264 : Shape := ⟨3, ![1, 3, 11264]⟩
abbrev S3x11264 : Shape := ⟨2, ![3, 11264]⟩
abbrev S1x11264 : Shape := ⟨2, ![1, 11264]⟩
abbrev S11264 : Shape := ⟨1, ![11264]⟩
abbrev S2x16386x11264 : Shape := ⟨3, ![2, 16386, 11264]⟩
abbrev S1x1x11264 : Shape := ⟨3, ![1, 1, 11264]⟩
abbrev S2x16384x5632 : Shape := ⟨3, ![2, 16384, 5632]⟩
abbrev S1x5632x2048 : Shape := ⟨3, ![1, 5632, 2048]⟩
abbrev S5632x2048 : Shape := ⟨2, ![5632, 2048]⟩

abbrev nBuf : Space → Nat
  | .hbm => 102
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2x2048, .f32⟩
  | .hbm, ⟨2, _⟩ => ⟨S2x2048x11264, .f32⟩
  | .hbm, ⟨3, _⟩ => ⟨S2x3x11264, .f32⟩
  | .hbm, ⟨4, _⟩ => ⟨S2x11264, .f32⟩
  | .hbm, ⟨5, _⟩ => ⟨S2x5632x2048, .f32⟩
  | .hbm, ⟨6, _⟩ => ⟨S2x2048, .f32⟩
  | .hbm, ⟨7, _⟩ => ⟨S2x16384x2048, .f32⟩
  | .hbm, ⟨8, _⟩ => ⟨S1x2048, .f32⟩
  | .hbm, ⟨9, _⟩ => ⟨S2048, .f32⟩
  | .hbm, ⟨10, _⟩ => ⟨S2x16384x2048, .f32⟩
  | .hbm, ⟨11, _⟩ => ⟨S_, .f32⟩
  | .hbm, ⟨12, _⟩ => ⟨S2x16384, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S2x16384x1, .f32⟩
  | .hbm, ⟨21, _⟩ => ⟨S2x16384x2048, .f32⟩
  | .hbm, ⟨22, _⟩ => ⟨S2x16384x2048, .f32⟩
  | .hbm, ⟨23, _⟩ => ⟨S1x1x2048, .f32⟩
  | .hbm, ⟨24, _⟩ => ⟨S2x16384x2048, .f32⟩
  | .hbm, ⟨25, _⟩ => ⟨S2x16384x2048, .f32⟩
  | .hbm, ⟨26, _⟩ => ⟨S1x2048x11264, .f32⟩
  | .hbm, ⟨27, _⟩ => ⟨S2048x11264, .f32⟩
  | .hbm, ⟨28, _⟩ => ⟨S2x16384x11264, .f32⟩
  | .hbm, ⟨29, _⟩ => ⟨S1x3x11264, .f32⟩
  | .hbm, ⟨30, _⟩ => ⟨S3x11264, .f32⟩
  | .hbm, ⟨31, _⟩ => ⟨S1x11264, .f32⟩
  | .hbm, ⟨32, _⟩ => ⟨S11264, .f32⟩
  | .hbm, ⟨33, _⟩ => ⟨S_, .i32⟩
  | .hbm, ⟨34, _⟩ => ⟨S_, .f32⟩
  | .hbm, ⟨35, _⟩ => ⟨S2x16386x11264, .f32⟩
  | .hbm, ⟨36, _⟩ => ⟨S2x16384x11264, .f32⟩
  | .hbm, ⟨37, _⟩ => ⟨S1x11264, .f32⟩
  | .hbm, ⟨38, _⟩ => ⟨S11264, .f32⟩
  | .hbm, ⟨39, _⟩ => ⟨S1x1x11264, .f32⟩
  | .hbm, ⟨40, _⟩ => ⟨S2x16384x11264, .f32⟩
  | .hbm, ⟨41, _⟩ => ⟨S2x16384x11264, .f32⟩
  | .hbm, ⟨42, _⟩ => ⟨S1x1x11264, .f32⟩
  | .hbm, ⟨43, _⟩ => ⟨S2x16384x11264, .f32⟩
  | .hbm, ⟨44, _⟩ => ⟨S2x16384x11264, .f32⟩
  | .hbm, ⟨45, _⟩ => ⟨S2x16384x11264, .f32⟩
  | .hbm, ⟨46, _⟩ => ⟨S1x11264, .f32⟩
  | .hbm, ⟨47, _⟩ => ⟨S11264, .f32⟩
  | .hbm, ⟨48, _⟩ => ⟨S1x1x11264, .f32⟩
  | .hbm, ⟨49, _⟩ => ⟨S2x16384x11264, .f32⟩
  | .hbm, ⟨50, _⟩ => ⟨S2x16384x11264, .f32⟩
  | .hbm, ⟨51, _⟩ => ⟨S2x16384x11264, .f32⟩
  | .hbm, ⟨52, _⟩ => ⟨S2x16384x11264, .f32⟩
  | .hbm, ⟨53, _⟩ => ⟨S1x11264, .f32⟩
  | .hbm, ⟨54, _⟩ => ⟨S11264, .f32⟩
  | .hbm, ⟨55, _⟩ => ⟨S1x1x11264, .f32⟩
  | .hbm, ⟨56, _⟩ => ⟨S2x16384x11264, .f32⟩
  | .hbm, ⟨57, _⟩ => ⟨S2x16384x11264, .f32⟩
  | .hbm, ⟨58, _⟩ => ⟨S2x16384x11264, .f32⟩
  | .hbm, ⟨59, _⟩ => ⟨S2x16384x5632, .f32⟩
  | .hbm, ⟨60, _⟩ => ⟨S2x16384x5632, .f32⟩
  | .hbm, ⟨61, _⟩ => ⟨S2x16384x5632, .f32⟩
  | .hbm, ⟨62, _⟩ => ⟨S_, .f32⟩
  | .hbm, ⟨63, _⟩ => ⟨S2x16384x5632, .f32⟩
  | .hbm, ⟨64, _⟩ => ⟨S2x16384x5632, .f32⟩
  | .hbm, ⟨65, _⟩ => ⟨S2x16384x5632, .f32⟩
  | .hbm, ⟨66, _⟩ => ⟨S_, .f32⟩
  | .hbm, ⟨67, _⟩ => ⟨S2x16384x5632, .f32⟩
  | .hbm, ⟨68, _⟩ => ⟨S2x16384x5632, .f32⟩
  | .hbm, ⟨69, _⟩ => ⟨S2x16384x5632, .f32⟩
  | .hbm, ⟨70, _⟩ => ⟨S_, .f32⟩
  | .hbm, ⟨71, _⟩ => ⟨S2x16384x5632, .f32⟩
  | .hbm, ⟨72, _⟩ => ⟨S2x16384x5632, .f32⟩
  | .hbm, ⟨73, _⟩ => ⟨S_, .f32⟩
  | .hbm, ⟨74, _⟩ => ⟨S2x16384x5632, .f32⟩
  | .hbm, ⟨75, _⟩ => ⟨S2x16384x5632, .f32⟩
  | .hbm, ⟨76, _⟩ => ⟨S2x16384x5632, .f32⟩
  | .hbm, ⟨77, _⟩ => ⟨S2x16384x5632, .f32⟩
  | .hbm, ⟨78, _⟩ => ⟨S2x16384x5632, .f32⟩
  | .hbm, ⟨79, _⟩ => ⟨S1x5632x2048, .f32⟩
  | .hbm, ⟨80, _⟩ => ⟨S5632x2048, .f32⟩
  | .hbm, ⟨81, _⟩ => ⟨S2x16384x2048, .f32⟩
  | .hbm, ⟨82, _⟩ => ⟨S1x2048, .f32⟩
  | .hbm, ⟨83, _⟩ => ⟨S2048, .f32⟩
  | .hbm, ⟨84, _⟩ => ⟨S2x16384x2048, .f32⟩
  | .hbm, ⟨85, _⟩ => ⟨S_, .f32⟩
  | .hbm, ⟨86, _⟩ => ⟨S2x16384, .f32⟩
  | .hbm, ⟨87, _⟩ => ⟨S2x16384x1, .f32⟩
  | .hbm, ⟨88, _⟩ => ⟨S_, .f32⟩
  | .hbm, ⟨89, _⟩ => ⟨S2x16384x1, .f32⟩
  | .hbm, ⟨90, _⟩ => ⟨S2x16384x1, .f32⟩
  | .hbm, ⟨91, _⟩ => ⟨S_, .f32⟩
  | .hbm, ⟨92, _⟩ => ⟨S2x16384x1, .f32⟩
  | .hbm, ⟨93, _⟩ => ⟨S2x16384x1, .f32⟩
  | .hbm, ⟨94, _⟩ => ⟨S2x16384x1, .f32⟩
  | .hbm, ⟨95, _⟩ => ⟨S2x16384x2048, .f32⟩
  | .hbm, ⟨96, _⟩ => ⟨S2x16384x2048, .f32⟩
  | .hbm, ⟨97, _⟩ => ⟨S1x1x2048, .f32⟩
  | .hbm, ⟨98, _⟩ => ⟨S2x16384x2048, .f32⟩
  | .hbm, ⟨99, _⟩ => ⟨S2x16384x2048, .f32⟩
  | .hbm, ⟨100, _⟩ => ⟨S2x16384x2048, .f32⟩
  | .hbm, ⟨101, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_2 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_3 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_4 : Ref sig .tc := ⟨.hbm, 70, rfl⟩
abbrev main_v56 : Ref sig .tc := ⟨.hbm, 71, rfl⟩
abbrev main_v57 : Ref sig .tc := ⟨.hbm, 72, rfl⟩
abbrev main_cst_5 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_6 : Ref sig .tc := ⟨.hbm, 85, rfl⟩
abbrev main_v69 : Ref sig .tc := ⟨.hbm, 86, rfl⟩
abbrev main_v70 : Ref sig .tc := ⟨.hbm, 87, rfl⟩
abbrev main_cst_7 : Ref sig .tc := ⟨.hbm, 88, rfl⟩
abbrev main_v71 : Ref sig .tc := ⟨.hbm, 89, rfl⟩
abbrev main_v72 : Ref sig .tc := ⟨.hbm, 90, rfl⟩
abbrev main_cst_8 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩

abbrev nD : Nat := 1
abbrev τ : Topo := Topo.v7x

variable {F : FTy → Type} [FloatOps F]
-- ==== Kernel4.lean ====
abbrev S32768x2048 : Shape := ⟨2, ![32768, 2048]⟩
abbrev S2x2048 : Shape := ⟨2, ![2, 2048]⟩
abbrev S2x2048x4096 : Shape := ⟨3, ![2, 2048, 4096]⟩
abbrev S2x2048x1 : Shape := ⟨3, ![2, 2048, 1]⟩
abbrev S32768x4096 : Shape := ⟨2, ![32768, 4096]⟩
abbrev S32768x1024 : Shape := ⟨2, ![32768, 1024]⟩
abbrev S1024x2048 : Shape := ⟨2, ![1024, 2048]⟩
abbrev S1x2048x2048 : Shape := ⟨3, ![1, 2048, 2048]⟩
abbrev S1024x1024 : Shape := ⟨2, ![1024, 1024]⟩
abbrev S512x2048 : Shape := ⟨2, ![512, 2048]⟩
abbrev S512 : Shape := ⟨1, ![512]⟩
abbrev S512x1 : Shape := ⟨2, ![512, 1]⟩
abbrev S2048x2048 : Shape := ⟨2, ![2048, 2048]⟩
abbrev S512x1024 : Shape := ⟨2, ![512, 1024]⟩

abbrev nBuf : Space → Nat
  | .hbm => 9
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S2x2048, .f32⟩
  | .hbm, ⟨2, _⟩ => ⟨S2x2048x4096, .f32⟩
  | .hbm, ⟨3, _⟩ => ⟨S2x2048x1, .f32⟩
  | .hbm, ⟨4, _⟩ => ⟨S2x2048x4096, .f32⟩
  | .hbm, ⟨5, _⟩ => ⟨S2x2048x4096, .f32⟩
  | .hbm, ⟨6, _⟩ => ⟨S2x2048x4096, .bf16⟩
  | .hbm, ⟨7, _⟩ => ⟨S32768x4096, .bf16⟩
  | .hbm, ⟨8, _⟩ => ⟨S32768x1024, .f32⟩
  | .local _ .vmem, ⟨0, _⟩ => ⟨S1024x2048, .f32⟩
  | .local _ .vmem, ⟨1, _⟩ => ⟨S1024x2048, .f32⟩
  | .local _ .vmem, ⟨2, _⟩ => ⟨S1x2048x2048, .bf16⟩
  | .local _ .vmem, ⟨3, _⟩ => ⟨S1x2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1024, .f32⟩
  | .local _ .vmem, ⟨7, _⟩ => ⟨S1024x1024, .f32⟩
  | .local _ .vmem, ⟨8, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Kernel4Ideal.lean ====
variable {F : FTy → Type} [FloatOps F] [Named F]
def κ : String → Option EReal := fun
  | "qk_scale" => some ((((Real.log 2) * (Real.sqrt 128))⁻¹ : ℝ) : EReal)
  | _ => none
-- ==== Reference4Ideal.lean ====
abbrev S32768x2048 : Shape := ⟨2, ![32768, 2048]⟩
abbrev S2x2048 : Shape := ⟨2, ![2, 2048]⟩
abbrev S2x2048x4096 : Shape := ⟨3, ![2, 2048, 4096]⟩
abbrev S1x2048 : Shape := ⟨2, ![1, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048x4096 : Shape := ⟨3, ![1, 2048, 4096]⟩
abbrev S2048x4096 : Shape := ⟨2, ![2048, 4096]⟩
abbrev S32768x4096 : Shape := ⟨2, ![32768, 4096]⟩
abbrev S32768x1024 : Shape := ⟨2, ![32768, 1024]⟩
abbrev S32768x3072 : Shape := ⟨2, ![32768, 3072]⟩

abbrev nBuf : Space → Nat
  | .hbm => 36
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2x2048, .f32⟩
  | .hbm, ⟨2, _⟩ => ⟨S2x2048x4096, .f32⟩
  | .hbm, ⟨3, _⟩ => ⟨S1x2048, .f32⟩
  | .hbm, ⟨4, _⟩ => ⟨S2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S1x2048x4096, .f32⟩
  | .hbm, ⟨22, _⟩ => ⟨S2048x4096, .f32⟩
  | .hbm, ⟨23, _⟩ => ⟨S32768x4096, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S32768x3072, .f32⟩
  | .hbm, ⟨34, _⟩ => ⟨S32768x4096, .f32⟩
  | .hbm, ⟨35, _⟩ => ⟨S32768x4096, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel5.lean ====
abbrev S32768x2048 : Shape := ⟨2, ![32768, 2048]⟩
abbrev S2x2048 : Shape := ⟨2, ![2, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S2x5632x2048 : Shape := ⟨3, ![2, 5632, 2048]⟩
abbrev S2x2048x1 : Shape := ⟨3, ![2, 2048, 1]⟩
abbrev S2x1x11264 : Shape := ⟨3, ![2, 1, 11264]⟩
abbrev S2x1x2048 : Shape := ⟨3, ![2, 1, 2048]⟩
abbrev S1024x2048 : Shape := ⟨2, ![1024, 2048]⟩
abbrev S1x2048x512 : Shape := ⟨3, ![1, 2048, 512]⟩
abbrev S1x3x11264 : Shape := ⟨3, ![1, 3, 11264]⟩
abbrev S1x1x11264 : Shape := ⟨3, ![1, 1, 11264]⟩
abbrev S1x512x2048 : Shape := ⟨3, ![1, 512, 2048]⟩
abbrev S1x1x2048 : Shape := ⟨3, ![1, 1, 2048]⟩
abbrev S1032x512 : Shape := ⟨2, ![1032, 512]⟩
abbrev S11x8x512 : Shape := ⟨3, ![11, 8, 512]⟩
abbrev S1024 : Shape := ⟨1, ![1024]⟩
abbrev S1024x1 : Shape := ⟨2, ![1024, 1]⟩
abbrev S1x8x512 : Shape := ⟨3, ![1, 8, 512]⟩
abbrev S8x512 : Shape := ⟨2, ![8, 512]⟩
abbrev S512x2048 : Shape := ⟨2, ![512, 2048]⟩
abbrev S2048x512 : Shape := ⟨2, ![2048, 512]⟩
abbrev S512x512 : Shape := ⟨2, ![512, 512]⟩
abbrev S1x1x512 : Shape := ⟨3, ![1, 1, 512]⟩
abbrev S1x512 : Shape := ⟨2, ![1, 512]⟩
abbrev S16x2048 : Shape := ⟨2, ![16, 2048]⟩
abbrev S16 : Shape := ⟨1, ![16]⟩
abbrev S16x1 : Shape := ⟨2, ![16, 1]⟩
abbrev S1x2048 : Shape := ⟨2, ![1, 2048]⟩

abbrev nBuf : Space → Nat
  | .hbm => 15
  | .vmem => 18
  | .smem => 0
  | _ => 0

abbrev bufTy : (tb : Table) → Fin (tcTables nBuf tb) → BufTy
  | .hbm, ⟨0, _⟩ => ⟨S32768x2048, .f32⟩
  | .hbm, ⟨1, _⟩ => ⟨S2x2048, .f32⟩
  | .hbm, ⟨2, _⟩ => ⟨S2x2048x11264, .f32⟩
  | .hbm, ⟨3, _⟩ => ⟨S2x3x11264, .f32⟩
  | .hbm, ⟨4, _⟩ => ⟨S2x11264, .f32⟩
  | .hbm, ⟨5, _⟩ => ⟨S2x5632x2048, .f32⟩
  | .hbm, ⟨6, _⟩ => ⟨S2x2048, .f32⟩
  | .hbm, ⟨7, _⟩ => ⟨S2x2048x1, .f32⟩
  | .hbm, ⟨8, _⟩ => ⟨S2x2048x11264, .f32⟩
  | .hbm, ⟨9, _⟩ => ⟨S2x2048x11264, .f32⟩
  | .hbm, ⟨10, _⟩ => ⟨S2x2048x11264, .bf16⟩
  | .hbm, ⟨11, _⟩ => ⟨S2x5632x2048, .bf16⟩
  | .hbm, ⟨12, _⟩ => ⟨S2x1x11264, .f32⟩
  | .hbm, ⟨13, _⟩ => ⟨S2x1x2048, .f32⟩
  | .hbm, ⟨14, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x3x11264, .f32⟩
  | .local _ .vmem, ⟨7, _⟩ => ⟨S1x1x11264, .f32⟩
  | .local _ .vmem, ⟨8, _⟩ => ⟨S1x512x2048, .bf16⟩
  | .local _ .vmem, ⟨9, _⟩ => ⟨S1x512x2048, .bf16⟩
  | .local _ .vmem, ⟨10, _⟩ => ⟨S1x1x2048, .f32⟩
  | .local _ .vmem, ⟨11, _⟩ => ⟨S1024x2048, .f32⟩
  | .local _ .vmem, ⟨12, _⟩ => ⟨S1024x2048, .f32⟩
  | .local _ .vmem, ⟨13, _⟩ => ⟨S1024x2048, .bf16⟩
  | .local _ .vmem, ⟨14, _⟩ => ⟨S1032x512, .f32⟩
  | .local _ .vmem, ⟨15, _⟩ => ⟨S1032x512, .f32⟩
  | .local _ .vmem, ⟨16, _⟩ => ⟨S11x8x512, .f32⟩
  | .local _ .vmem, ⟨17, _⟩ => ⟨S11x8x512, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 11], ![false, false]⟩

def k0_mult1 (i : grid0.Coords) : BitVec 32 :=
  let arg1 : BitVec 32 := BitVec.ofNat 32 (i 1).val
  let c512_i32 : BitVec 32 := 512#32
  let v19 : BitVec 32 := Scalar.muli arg1 c512_i32
  v19
def k0_mult2 (i : grid0.Coords) : BitVec 32 :=
  let c5632_i32 : BitVec 32 := 5632#32
  let arg1 : BitVec 32 := BitVec.ofNat 32 (i 1).val
  let c512_i32_9 : BitVec 32 := 512#32
  let v21 : BitVec 32 := Scalar.muli arg1 c512_i32_9
  let v22 : BitVec 32 := Scalar.addi c5632_i32 v21
  v22
def k0_off1 (i : grid0.Coords) : Fin 3 → Nat :=
  let arg1 : BitVec 32 := BitVec.ofNat 32 (i 1).val
  let v24 : Index := Scalar.indexCast arg1
  let c0 : Index := 0#32
  let c0_10 : Index := 0#32
  ![v24.toNat, 0, 0]
def k0_off2 (i : grid0.Coords) : Fin 3 → Nat :=
  let c0_54 : Index := 0#32
  let c0_55 : Index := 0#32
  let arg1 : BitVec 32 := BitVec.ofNat 32 (i 1).val
  let c512_i32 : BitVec 32 := 512#32
  let v19 : BitVec 32 := Scalar.muli arg1 c512_i32
  let v20 : BitVec 32 := v19
  let v78 : Index := Scalar.indexCast v20
  ![0, 0, v78.toNat]
def k0_off3 (i : grid0.Coords) : Fin 3 → Nat :=
  let c0_57 : Index := 0#32
  let c0_58 : Index := 0#32
  let arg1 : BitVec 32 := BitVec.ofNat 32 (i 1).val
  let c512_i32 : BitVec 32 := 512#32
  let v19 : BitVec 32 := Scalar.muli arg1 c512_i32
  let v20 : BitVec 32 := v19
  let v82 : Index := Scalar.indexCast v20
  ![0, 0, v82.toNat]
def k0_off4 (i : grid0.Coords) : Fin 3 → Nat :=
  let c0_60 : Index := 0#32
  let c1 : Index := 1#32
  let arg1 : BitVec 32 := BitVec.ofNat 32 (i 1).val
  let c512_i32 : BitVec 32 := 512#32
  let v19 : BitVec 32 := Scalar.muli arg1 c512_i32
  let v20 : BitVec 32 := v19
  let v90 : Index := Scalar.indexCast v20
  ![0, 1, v90.toNat]
def k0_off5 (i : grid0.Coords) : Fin 3 → Nat :=
  let c0_63 : Index := 0#32
  let c2 : Index := 2#32
  let arg1 : BitVec 32 := BitVec.ofNat 32 (i 1).val
  let c512_i32 : BitVec 32 := 512#32
  let v19 : BitVec 32 := Scalar.muli arg1 c512_i32
  let v20 : BitVec 32 := v19
  let v97 : Index := Scalar.indexCast v20
  ![0, 2, v97.toNat]
def k0_off6 (i : grid0.Coords) : Fin 3 → Nat :=
  let c0_64 : Index := 0#32
  let c0_65 : Index := 0#32
  let c5632_i32 : BitVec 32 := 5632#32
  let arg1 : BitVec 32 := BitVec.ofNat 32 (i 1).val
  let c512_i32_9 : BitVec 32 := 512#32
  let v21 : BitVec 32 := Scalar.muli arg1 c512_i32_9
  let v22 : BitVec 32 := Scalar.addi c5632_i32 v21
  let v23 : BitVec 32 := v22
  let v103 : Index := Scalar.indexCast v23
  ![0, 0, v103.toNat]
def k0_off7 (i : grid0.Coords) : Fin 3 → Nat :=
  let c0_68 : Index := 0#32
  let c0_69 : Index := 0#32
  let c5632_i32 : BitVec 32 := 5632#32
  let arg1 : BitVec 32 := BitVec.ofNat 32 (i 1).val
  let c512_i32_9 : BitVec 32 := 512#32
  let v21 : BitVec 32 := Scalar.muli arg1 c512_i32_9
  let v22 : BitVec 32 := Scalar.addi c5632_i32 v21
  let v23 : BitVec 32 := v22
  let v107 : Index := Scalar.indexCast v23
  ![0, 0, v107.toNat]
def k0_off8 (i : grid0.Coords) : Fin 3 → Nat :=
  let c0_72 : Index := 0#32
  let c1_73 : Index := 1#32
  let c5632_i32 : BitVec 32 := 5632#32
  let arg1 : BitVec 32 := BitVec.ofNat 32 (i 1).val
  let c512_i32_9 : BitVec 32 := 512#32
  let v21 : BitVec 32 := Scalar.muli arg1 c512_i32_9
  let v22 : BitVec 32 := Scalar.addi c5632_i32 v21
  let v23 : BitVec 32 := v22
  let v115 : Index := Scalar.indexCast v23
  ![0, 1, v115.toNat]
def k0_off9 (i : grid0.Coords) : Fin 3 → Nat :=
  let c0_76 : Index := 0#32
  let c2_77 : Index := 2#32
  let c5632_i32 : BitVec 32 := 5632#32
  let arg1 : BitVec 32 := BitVec.ofNat 32 (i 1).val
  let c512_i32_9 : BitVec 32 := 512#32
  let v21 : BitVec 32 := Scalar.muli arg1 c512_i32_9
  let v22 : BitVec 32 := Scalar.addi c5632_i32 v21
  let v23 : BitVec 32 := v22
  let v122 : Index := Scalar.indexCast v23
  ![0, 2, v122.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x3x11264 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x11264 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference5Ideal.lean ====
abbrev S32768x2048 : Shape := ⟨2, ![32768, 2048]⟩
abbrev S2x2048 : Shape := ⟨2, ![2, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S2x5632x2048 : Shape := ⟨3, ![2, 5632, 2048]⟩
abbrev S2x16384x2048 : Shape := ⟨3, ![2, 16384, 2048]⟩
abbrev S1x2048 : Shape := ⟨2, ![1, 2048]⟩
abbrev S2048 : Shape := ⟨1, ![2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S1x2048x11264 : Shape := ⟨3, ![1, 2048, 11264]⟩
abbrev S2048x11264 : Shape := ⟨2, ![2048, 11264]⟩
abbrev S2x16384x11264 : Shape := ⟨3, ![2, 16384, 11264]⟩
abbrev S1x3x11264 : Shape := ⟨3, ![1, 3, 11264]⟩
abbrev S3x11264 : Shape := ⟨2, ![3, 11264]⟩
abbrev S1x11264 : Shape := ⟨2, ![1, 11264]⟩
abbrev S11264 : Shape := ⟨1, ![11264]⟩
abbrev S2x16386x11264 : Shape := ⟨3, ![2, 16386, 11264]⟩
abbrev S1x1x11264 : Shape := ⟨3, ![1, 1, 11264]⟩
abbrev S2x16384x5632 : Shape := ⟨3, ![2, 16384, 5632]⟩
abbrev S1x5632x2048 : Shape := ⟨3, ![1, 5632, 2048]⟩
abbrev S5632x2048 : Shape := ⟨2, ![5632, 2048]⟩

abbrev nBuf : Space → Nat
  | .hbm => 102
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2x2048, .f32⟩
  | .hbm, ⟨2, _⟩ => ⟨S2x2048x11264, .f32⟩
  | .hbm, ⟨3, _⟩ => ⟨S2x3x11264, .f32⟩
  | .hbm, ⟨4, _⟩ => ⟨S2x11264, .f32⟩
  | .hbm, ⟨5, _⟩ => ⟨S2x5632x2048, .f32⟩
  | .hbm, ⟨6, _⟩ => ⟨S2x2048, .f32⟩
  | .hbm, ⟨7, _⟩ => ⟨S2x16384x2048, .f32⟩
  | .hbm, ⟨8, _⟩ => ⟨S1x2048, .f32⟩
  | .hbm, ⟨9, _⟩ => ⟨S2048, .f32⟩
  | .hbm, ⟨10, _⟩ => ⟨S2x16384x2048, .f32⟩
  | .hbm, ⟨11, _⟩ => ⟨S_, .f32⟩
  | .hbm, ⟨12, _⟩ => ⟨S2x16384, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S2x16384x1, .f32⟩
  | .hbm, ⟨21, _⟩ => ⟨S2x16384x2048, .f32⟩
  | .hbm, ⟨22, _⟩ => ⟨S2x16384x2048, .f32⟩
  | .hbm, ⟨23, _⟩ => ⟨S1x1x2048, .f32⟩
  | .hbm, ⟨24, _⟩ => ⟨S2x16384x2048, .f32⟩
  | .hbm, ⟨25, _⟩ => ⟨S2x16384x2048, .f32⟩
  | .hbm, ⟨26, _⟩ => ⟨S1x2048x11264, .f32⟩
  | .hbm, ⟨27, _⟩ => ⟨S2048x11264, .f32⟩
  | .hbm, ⟨28, _⟩ => ⟨S2x16384x11264, .f32⟩
  | .hbm, ⟨29, _⟩ => ⟨S1x3x11264, .f32⟩
  | .hbm, ⟨30, _⟩ => ⟨S3x11264, .f32⟩
  | .hbm, ⟨31, _⟩ => ⟨S1x11264, .f32⟩
  | .hbm, ⟨32, _⟩ => ⟨S11264, .f32⟩
  | .hbm, ⟨33, _⟩ => ⟨S_, .i32⟩
  | .hbm, ⟨34, _⟩ => ⟨S_, .f32⟩
  | .hbm, ⟨35, _⟩ => ⟨S2x16386x11264, .f32⟩
  | .hbm, ⟨36, _⟩ => ⟨S2x16384x11264, .f32⟩
  | .hbm, ⟨37, _⟩ => ⟨S1x11264, .f32⟩
  | .hbm, ⟨38, _⟩ => ⟨S11264, .f32⟩
  | .hbm, ⟨39, _⟩ => ⟨S1x1x11264, .f32⟩
  | .hbm, ⟨40, _⟩ => ⟨S2x16384x11264, .f32⟩
  | .hbm, ⟨41, _⟩ => ⟨S2x16384x11264, .f32⟩
  | .hbm, ⟨42, _⟩ => ⟨S1x1x11264, .f32⟩
  | .hbm, ⟨43, _⟩ => ⟨S2x16384x11264, .f32⟩
  | .hbm, ⟨44, _⟩ => ⟨S2x16384x11264, .f32⟩
  | .hbm, ⟨45, _⟩ => ⟨S2x16384x11264, .f32⟩
  | .hbm, ⟨46, _⟩ => ⟨S1x11264, .f32⟩
  | .hbm, ⟨47, _⟩ => ⟨S11264, .f32⟩
  | .hbm, ⟨48, _⟩ => ⟨S1x1x11264, .f32⟩
  | .hbm, ⟨49, _⟩ => ⟨S2x16384x11264, .f32⟩
  | .hbm, ⟨50, _⟩ => ⟨S2x16384x11264, .f32⟩
  | .hbm, ⟨51, _⟩ => ⟨S2x16384x11264, .f32⟩
  | .hbm, ⟨52, _⟩ => ⟨S2x16384x11264, .f32⟩
  | .hbm, ⟨53, _⟩ => ⟨S1x11264, .f32⟩
  | .hbm, ⟨54, _⟩ => ⟨S11264, .f32⟩
  | .hbm, ⟨55, _⟩ => ⟨S1x1x11264, .f32⟩
  | .hbm, ⟨56, _⟩ => ⟨S2x16384x11264, .f32⟩
  | .hbm, ⟨57, _⟩ => ⟨S2x16384x11264, .f32⟩
  | .hbm, ⟨58, _⟩ => ⟨S2x16384x11264, .f32⟩
  | .hbm, ⟨59, _⟩ => ⟨S2x16384x5632, .f32⟩
  | .hbm, ⟨60, _⟩ => ⟨S2x16384x5632, .f32⟩
  | .hbm, ⟨61, _⟩ => ⟨S2x16384x5632, .f32⟩
  | .hbm, ⟨62, _⟩ => ⟨S_, .f32⟩
  | .hbm, ⟨63, _⟩ => ⟨S2x16384x5632, .f32⟩
  | .hbm, ⟨64, _⟩ => ⟨S2x16384x5632, .f32⟩
  | .hbm, ⟨65, _⟩ => ⟨S2x16384x5632, .f32⟩
  | .hbm, ⟨66, _⟩ => ⟨S_, .f32⟩
  | .hbm, ⟨67, _⟩ => ⟨S2x16384x5632, .f32⟩
  | .hbm, ⟨68, _⟩ => ⟨S2x16384x5632, .f32⟩
  | .hbm, ⟨69, _⟩ => ⟨S2x16384x5632, .f32⟩
  | .hbm, ⟨70, _⟩ => ⟨S_, .f32⟩
  | .hbm, ⟨71, _⟩ => ⟨S2x16384x5632, .f32⟩
  | .hbm, ⟨72, _⟩ => ⟨S2x16384x5632, .f32⟩
  | .hbm, ⟨73, _⟩ => ⟨S_, .f32⟩
  | .hbm, ⟨74, _⟩ => ⟨S2x16384x5632, .f32⟩
  | .hbm, ⟨75, _⟩ => ⟨S2x16384x5632, .f32⟩
  | .hbm, ⟨76, _⟩ => ⟨S2x16384x5632, .f32⟩
  | .hbm, ⟨77, _⟩ => ⟨S2x16384x5632, .f32⟩
  | .hbm, ⟨78, _⟩ => ⟨S2x16384x5632, .f32⟩
  | .hbm, ⟨79, _⟩ => ⟨S1x5632x2048, .f32⟩
  | .hbm, ⟨80, _⟩ => ⟨S5632x2048, .f32⟩
  | .hbm, ⟨81, _⟩ => ⟨S2x16384x2048, .f32⟩
  | .hbm, ⟨82, _⟩ => ⟨S1x2048, .f32⟩
  | .hbm, ⟨83, _⟩ => ⟨S2048, .f32⟩
  | .hbm, ⟨84, _⟩ => ⟨S2x16384x2048, .f32⟩
  | .hbm, ⟨85, _⟩ => ⟨S_, .f32⟩
  | .hbm, ⟨86, _⟩ => ⟨S2x16384, .f32⟩
  | .hbm, ⟨87, _⟩ => ⟨S2x16384x1, .f32⟩
  | .hbm, ⟨88, _⟩ => ⟨S_, .f32⟩
  | .hbm, ⟨89, _⟩ => ⟨S2x16384x1, .f32⟩
  | .hbm, ⟨90, _⟩ => ⟨S2x16384x1, .f32⟩
  | .hbm, ⟨91, _⟩ => ⟨S_, .f32⟩
  | .hbm, ⟨92, _⟩ => ⟨S2x16384x1, .f32⟩
  | .hbm, ⟨93, _⟩ => ⟨S2x16384x1, .f32⟩
  | .hbm, ⟨94, _⟩ => ⟨S2x16384x1, .f32⟩
  | .hbm, ⟨95, _⟩ => ⟨S2x16384x2048, .f32⟩
  | .hbm, ⟨96, _⟩ => ⟨S2x16384x2048, .f32⟩
  | .hbm, ⟨97, _⟩ => ⟨S1x1x2048, .f32⟩
  | .hbm, ⟨98, _⟩ => ⟨S2x16384x2048, .f32⟩
  | .hbm, ⟨99, _⟩ => ⟨S2x16384x2048, .f32⟩
  | .hbm, ⟨100, _⟩ => ⟨S2x16384x2048, .f32⟩
  | .hbm, ⟨101, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_2 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_3 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_4 : Ref sig .tc := ⟨.hbm, 70, rfl⟩
abbrev main_v56 : Ref sig .tc := ⟨.hbm, 71, rfl⟩
abbrev main_v57 : Ref sig .tc := ⟨.hbm, 72, rfl⟩
abbrev main_cst_5 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_6 : Ref sig .tc := ⟨.hbm, 85, rfl⟩
abbrev main_v69 : Ref sig .tc := ⟨.hbm, 86, rfl⟩
abbrev main_v70 : Ref sig .tc := ⟨.hbm, 87, rfl⟩
abbrev main_cst_7 : Ref sig .tc := ⟨.hbm, 88, rfl⟩
abbrev main_v71 : Ref sig .tc := ⟨.hbm, 89, rfl⟩
abbrev main_v72 : Ref sig .tc := ⟨.hbm, 90, rfl⟩
abbrev main_cst_8 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩

abbrev nD : Nat := 1
abbrev τ : Topo := Topo.v7x

variable {F : FTy → Type} [FloatOps F]
-- ==== Kernel6.lean ====
abbrev S32768x2048 : Shape := ⟨2, ![32768, 2048]⟩
abbrev S32768x1024 : Shape := ⟨2, ![32768, 1024]⟩
abbrev S2x4x256x256 : Shape := ⟨4, ![2, 4, 256, 256]⟩
abbrev S2x1024 : Shape := ⟨2, ![2, 1024]⟩
abbrev S2x2048x2048 : Shape := ⟨3, ![2, 2048, 2048]⟩
abbrev S2x2048 : Shape := ⟨2, ![2, 2048]⟩
abbrev S2x1x1024 : Shape := ⟨3, ![2, 1, 1024]⟩
abbrev S2x1x2048 : Shape := ⟨3, ![2, 1, 2048]⟩
abbrev S512x2048 : Shape := ⟨2, ![512, 2048]⟩
abbrev S512x1024 : Shape := ⟨2, ![512, 1024]⟩
abbrev S16x1024 : Shape := ⟨2, ![16, 1024]⟩
abbrev S1x4x256x256 : Shape := ⟨4, ![1, 4, 256, 256]⟩
abbrev S1x1x1024 : Shape := ⟨3, ![1, 1, 1024]⟩
abbrev S1x1024x2048 : Shape := ⟨3, ![1, 1024, 2048]⟩
abbrev S1x1x2048 : Shape := ⟨3, ![1, 1, 2048]⟩
abbrev S536x1024 : Shape := ⟨2, ![536, 1024]⟩
abbrev S536x256 : Shape := ⟨2, ![536, 256]⟩
abbrev S8x1024 : Shape := ⟨2, ![8, 1024]⟩
abbrev S8x256 : Shape := ⟨2, ![8, 256]⟩
abbrev S16x256 : Shape := ⟨2, ![16, 256]⟩
abbrev S512x256 : Shape := ⟨2, ![512, 256]⟩
abbrev S496x256 : Shape := ⟨2, ![496, 256]⟩
abbrev S1x1x256x256 : Shape := ⟨4, ![1, 1, 256, 256]⟩
abbrev S256x256 : Shape := ⟨2, ![256, 256]⟩
abbrev S1x1x256 : Shape := ⟨3, ![1, 1, 256]⟩
abbrev S1x256 : Shape := ⟨2, ![1, 256]⟩
abbrev S1x1024x512 : Shape := ⟨3, ![1, 1024, 512]⟩
abbrev S1024x512 : Shape := ⟨2, ![1024, 512]⟩
abbrev S512x512 : Shape := ⟨2, ![512, 512]⟩
abbrev S528x256 : Shape := ⟨2, ![528, 256]⟩
abbrev S256x2048 : Shape := ⟨2, ![256, 2048]⟩
abbrev S256x1024 : Shape := ⟨2, ![256, 1024]⟩
abbrev S1024x2048 : Shape := ⟨2, ![1024, 2048]⟩
abbrev S256 : Shape := ⟨1, ![256]⟩
abbrev S256x1 : Shape := ⟨2, ![256, 1]⟩
abbrev S1x2048 : Shape := ⟨2, ![1, 2048]⟩

abbrev nBuf : Space → Nat
  | .hbm => 12
  | .vmem => 20
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .f32⟩
  | .hbm, ⟨3, _⟩ => ⟨S2x4x256x256, .f32⟩
  | .hbm, ⟨4, _⟩ => ⟨S2x1024, .f32⟩
  | .hbm, ⟨5, _⟩ => ⟨S2x2048x2048, .f32⟩
  | .hbm, ⟨6, _⟩ => ⟨S2x2048, .f32⟩
  | .hbm, ⟨7, _⟩ => ⟨S2x4x256x256, .bf16⟩
  | .hbm, ⟨8, _⟩ => ⟨S2x2048x2048, .bf16⟩
  | .hbm, ⟨9, _⟩ => ⟨S2x1x1024, .f32⟩
  | .hbm, ⟨10, _⟩ => ⟨S2x1x2048, .f32⟩
  | .hbm, ⟨11, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S16x1024, .f32⟩
  | .local _ .vmem, ⟨7, _⟩ => ⟨S16x1024, .f32⟩
  | .local _ .vmem, ⟨8, _⟩ => ⟨S1x4x256x256, .bf16⟩
  | .local _ .vmem, ⟨9, _⟩ => ⟨S1x1x1024, .f32⟩
  | .local _ .vmem, ⟨10, _⟩ => ⟨S1x1024x2048, .bf16⟩
  | .local _ .vmem, ⟨11, _⟩ => ⟨S1x1024x2048, .bf16⟩
  | .local _ .vmem, ⟨12, _⟩ => ⟨S1x1x2048, .f32⟩
  | .local _ .vmem, ⟨13, _⟩ => ⟨S512x2048, .f32⟩
  | .local _ .vmem, ⟨14, _⟩ => ⟨S512x2048, .f32⟩
  | .local _ .vmem, ⟨15, _⟩ => ⟨S536x1024, .f32⟩
  | .local _ .vmem, ⟨16, _⟩ => ⟨S512x1024, .bf16⟩
  | .local _ .vmem, ⟨17, _⟩ => ⟨S512x2048, .f32⟩
  | .local _ .vmem, ⟨18, _⟩ => ⟨S536x256, .f32⟩
  | .local _ .vmem, ⟨19, _⟩ => ⟨S536x256, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Proof.Attn.Step.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section
set_option maxRecDepth 16384
noncomputable section
namespace Cert.KernelIdeal.Attn
open Cert.KernelIdeal Cert.KernelIdeal.Gen Idealize.ShloMosaic Idealize.ShloMosaic.TcCoe Idealize.SL.Sem
open Idealize.ShloMosaic.Pointwise

/-! # One grid point of the attention, entry by entry

Arrays are read at natural-number coordinates (`nat2`, `nat3`, `nat4`: zero outside the array), so that the
shifts of the rolling buffers are plain arithmetic. -/

/-- A matrix read at natural coordinates. -/
def nat2 {a b : ℕ} (f : (⟨2, ![a, b]⟩ : Shape).Idx → EReal) (i j : ℕ) : EReal :=
  if h : i < a ∧ j < b then f (ix2 ⟨i, h.1⟩ ⟨j, h.2⟩) else 0

/-- A rank-3 array read at natural coordinates. -/
def nat3 {a b c : ℕ} (f : (⟨3, ![a, b, c]⟩ : Shape).Idx → EReal) (i j k : ℕ) : EReal :=
  if h : i < a ∧ j < b ∧ k < c then f (ix3 ⟨i, h.1⟩ ⟨j, h.2.1⟩ ⟨k, h.2.2⟩) else 0

/-- A rank-4 array read at natural coordinates. -/
def nat4 {a b c d : ℕ} (f : (⟨4, ![a, b, c, d]⟩ : Shape).Idx → EReal) (i j k l : ℕ) : EReal :=
  if h : i < a ∧ j < b ∧ k < c ∧ l < d then f (ix4 ⟨i, h.1⟩ ⟨j, h.2.1⟩ ⟨k, h.2.2.1⟩ ⟨l, h.2.2.2⟩) else 0

theorem nat2_ix {a b : ℕ} (f : (⟨2, ![a, b]⟩ : Shape).Idx → EReal) (i : Fin a) (j : Fin b) : f (ix2 i j) = nat2 f i j := by
  unfold nat2; rw [dif_pos ⟨i.isLt, j.isLt⟩]

theorem nat3_ix {a b c : ℕ} (f : (⟨3, ![a, b, c]⟩ : Shape).Idx → EReal) (i : Fin a) (j : Fin b) (k : Fin c) :
    f (ix3 i j k) = nat3 f i j k := by
  unfold nat3; rw [dif_pos ⟨i.isLt, j.isLt, k.isLt⟩]

theorem nat4_ix {a b c d : ℕ} (f : (⟨4, ![a, b, c, d]⟩ : Shape).Idx → EReal) (i : Fin a) (j : Fin b) (k : Fin c) (l : Fin d) :
    f (ix4 i j k l) = nat4 f i j k l := by
  unfold nat4; rw [dif_pos ⟨i.isLt, j.isLt, k.isLt, l.isLt⟩]

theorem nat2_idx {a b : ℕ} (f : (⟨2, ![a, b]⟩ : Shape).Idx → EReal) (y : (⟨2, ![a, b]⟩ : Shape).Idx) :
    f y = nat2 f (y 0).val (y 1).val := by
  conv_lhs => rw [eq_ix2 y]
  exact nat2_ix f _ _

theorem nat3_idx {a b c : ℕ} (f : (⟨3, ![a, b, c]⟩ : Shape).Idx → EReal) (y : (⟨3, ![a, b, c]⟩ : Shape).Idx) :
    f y = nat3 f (y 0).val (y 1).val (y 2).val := by
  conv_lhs => rw [eq_ix3 y]
  exact nat3_ix f _ _ _

/-- A matrix given by a function of the natural coordinates, read inside its bounds. -/
theorem nat2_fun {a b : ℕ} (f : (⟨2, ![a, b]⟩ : Shape).Idx → EReal) (G : ℕ → ℕ → EReal)
    (e : ∀ y : (⟨2, ![a, b]⟩ : Shape).Idx, f y = G (y 0).val (y 1).val) {i j : ℕ} (hi : i < a) (hj : j < b) : nat2 f i j = G i j := by
  unfold nat2; rw [dif_pos ⟨hi, hj⟩, e]; rfl

theorem nat3_fun {a b c : ℕ} (f : (⟨3, ![a, b, c]⟩ : Shape).Idx → EReal) (G : ℕ → ℕ → ℕ → EReal)
    (e : ∀ y : (⟨3, ![a, b, c]⟩ : Shape).Idx, f y = G (y 0).val (y 1).val (y 2).val) {i j k : ℕ} (hi : i < a) (hj : j < b) (hk : k < c) :
    nat3 f i j k = G i j k := by
  unfold nat3; rw [dif_pos ⟨hi, hj, hk⟩, e]; rfl

/-- The transposed keys after a point, at feature `d` and position `j`: shifted one block to the left, the new block's keys at the right. -/
def rollKn (x0 : Vec Ideal S256x3072 .bf16) (kt : Vec Ideal S1024x1024 .bf16) (d j : ℕ) : EReal :=
  if j < 768 then nat2 kt d (j + 256) else nat2 x0 (j - 768) (1024 + d)

def rollK (x0 : Vec Ideal S256x3072 .bf16) (kt : Vec Ideal S1024x1024 .bf16) : Vec Ideal S1024x1024 .bf16 := fun y =>
  rollKn x0 kt (y 0).val (y 1).val

/-- The values after a point, at position `j` and feature `d`: shifted one block up, the new block's values at the bottom. -/
def rollVn (x0 : Vec Ideal S256x3072 .bf16) (v : Vec Ideal S1024x1024 .bf16) (j d : ℕ) : EReal :=
  if j < 768 then nat2 v (j + 256) d else nat2 x0 (j - 768) (2048 + d)

def rollV (x0 : Vec Ideal S256x3072 .bf16) (v : Vec Ideal S1024x1024 .bf16) : Vec Ideal S1024x1024 .bf16 := fun y =>
  rollVn x0 v (y 0).val (y 1).val

/-- The logarithm of e to base 2, by which the kernel multiplies the bias. -/
def lg : EReal := Named.named (F := Ideal) (φ := .f32) κ "log2_e" 0x3FB8AA3B#32

/-- The score of row `r` of the block against column `j` of its 768 keys, in head `h`, to base 2. -/
def score (x0 : Vec Ideal S256x3072 .bf16) (kt : Vec Ideal S1024x1024 .bf16) (b : Vec Ideal S1x8x256x768 .f32) (h r j : ℕ) : EReal :=
  (∑ d : Fin 128, nat2 x0 r (128 * h + d.val) * nat2 kt (128 * h + d.val) (256 + j)) + nat4 b 0 h r j * lg

/-- The largest score of a row over the 640 columns of its half. -/
def top (x0 : Vec Ideal S256x3072 .bf16) (kt : Vec Ideal S1024x1024 .bf16) (b : Vec Ideal S1x8x256x768 .f32) (h r : ℕ) : EReal :=
  Finset.univ.fold max (Ideal.ofBits .f32 0xFF800000#32) (fun x : Fin 640 => score x0 kt b h r (128 * (r / 128) + x.val))

/-- The weight of a row at a column, before the division by the row's sum. -/
def weight (x0 : Vec Ideal S256x3072 .bf16) (kt : Vec Ideal S1024x1024 .bf16) (b : Vec Ideal S1x8x256x768 .f32) (h r j : ℕ) : EReal :=
  FloatOps.exp2 (F := Ideal) (φ := .f32) (score x0 kt b h r j - top x0 kt b h r)

/-- The weights after a point: the two halves' bands are new, the rest is as it was. -/
def nextPn (x0 : Vec Ideal S256x3072 .bf16) (kt : Vec Ideal S1024x1024 .bf16) (b : Vec Ideal S1x8x256x768 .f32)
    (p : Vec Ideal S8x256x768 .bf16) (h r j : ℕ) : EReal :=
  if 128 * (r / 128) ≤ j ∧ j < 128 * (r / 128) + 640 then weight x0 kt b h r j else nat3 p h r j

def nextP (x0 : Vec Ideal S256x3072 .bf16) (kt : Vec Ideal S1024x1024 .bf16) (b : Vec Ideal S1x8x256x768 .f32)
    (p : Vec Ideal S8x256x768 .bf16) : Vec Ideal S8x256x768 .bf16 := fun y => nextPn x0 kt b p (y 0).val (y 1).val (y 2).val

/-- The reciprocal of a row's sum. -/
def nextLn (x0 : Vec Ideal S256x3072 .bf16) (kt : Vec Ideal S1024x1024 .bf16) (b : Vec Ideal S1x8x256x768 .f32) (h r : ℕ) : EReal :=
  Ideal.div 1 (∑ x : Fin 640, weight x0 kt b h r (128 * (r / 128) + x.val))

def nextL (x0 : Vec Ideal S256x3072 .bf16) (kt : Vec Ideal S1024x1024 .bf16) (b : Vec Ideal S1x8x256x768 .f32) :
    Vec Ideal S8x256x128 .f32 := fun y => nextLn x0 kt b (y 0).val (y 1).val

/-- What a point writes: the point before's weights applied to the values, over the rows' sums. -/
def nextOn (p : Vec Ideal S8x256x768 .bf16) (l : Vec Ideal S8x256x128 .f32) (v : Vec Ideal S1024x1024 .bf16) (r c : ℕ) : EReal :=
  (∑ k : Fin 768, nat3 p (c / 128) r k.val * nat2 v k.val c) * nat3 l (c / 128) r (c % 128)

def nextO (p : Vec Ideal S8x256x768 .bf16) (l : Vec Ideal S8x256x128 .f32) (v : Vec Ideal S1024x1024 .bf16) : Vec Ideal S256x1024 .bf16 :=
  fun y => nextOn p l v (y 0).val (y 1).val

/-- Stores that are blocks of `G`, over contents that are `G` off the stores, leave `G`. -/
theorem read_writes_total {sig : RefSig} {κ : Kind} {sp : Space} {s : Shape} {e : EltTy} {Val : EltTy → Type} (v : View sig κ sp s e)
    (f : v.ty.Contents Val) (G : s.Idx → Val e) (L : List (View.Piece Val s e)) (hL : View.PiecesOf G L) (y : s.Idx)
    (hc : (∀ p ∈ L, y ∉ p.1.set) → v.read Val f y = G y) : v.read Val (v.writes Val f L) y = G y := by
  by_cases h : ∃ p ∈ L, y ∈ p.1.set
  · exact View.read_writes_apply_of_pieces v f G L hL.mem y h
  · have h' : ∀ p ∈ L, y ∉ p.1.set := fun p hp hy => h ⟨p, hp, hy⟩
    rw [View.read_writes_apply_of_forall_not_mem v f y L h']
    exact hc h'

/-- The same for what a list of stores leaves, the earlier stores `L'` being `G` off the later ones. -/
theorem canon_total {s : Shape} {e : EltTy} {Val : EltTy → Type} [∀ e, Nonempty (Val e)] (G : s.Idx → Val e) (L' : List (View.Piece Val s e)) :
    ∀ (L : List (View.Piece Val s e)) (_ : View.PiecesOf G L) (y : s.Idx) (_ : (∀ p ∈ L, y ∉ p.1.set) → View.canon L' y = G y),
      View.canon (L ++ L') y = G y
  | [], _, _, hc => hc (by simp)
  | p :: L, hL, y, hc => by
    by_cases h : y ∈ p.1.set
    · exact View.canon_append_of_piecesOf G L' (p :: L) hL y ⟨p, List.mem_cons_self, h⟩
    · rw [List.cons_append, View.canon_cons_of_not_mem p _ h]
      refine canon_total G L' L hL.2 y fun hn => hc fun q hq => ?_
      rcases List.mem_cons.mp hq with rfl | hq
      · exact h
      · exact hn q hq

variable (x0 : Vec Ideal S256x3072 .bf16) (kt v : Vec Ideal S1024x1024 .bf16) (b : Vec Ideal S1x8x256x768 .f32)
variable (p : Vec Ideal S8x256x768 .bf16) (l : Vec Ideal S8x256x128 .f32)

theorem ktPieces : View.PiecesOf (Val := Elt Ideal) (e := .bf16) (rollK x0 kt)
    [⟨Rect.unit ![0, 768] ![1024, 256] inb_S1024x1024_S1024x256_0_768,
        k0_pay12 (View.ld x0 (Rect.unit ![0, 1024] ![256, 1024] inb_S256x3072_S256x1024_0_1024))⟩,
      ⟨Rect.unit ![0, 0] ![1024, 768] inb_S1024x1024_S1024x768_0_0,
        k0_pay11 (View.ld kt (Rect.unit ![0, 256] ![1024, 768] inb_S1024x1024_S1024x768_0_256))⟩] := by
  refine ⟨fun x => ?_, fun x => ?_, trivial⟩
  · idx_vars x
    show _ = rollKn _ kt (0 + 1 * x0.val) (768 + 1 * x1.val)
    unfold rollKn
    pointwise [k0_pay12]
    simp only [nat2_ix]
  · idx_vars x
    show _ = rollKn _ kt (0 + 1 * x0.val) (0 + 1 * x1.val)
    unfold rollKn
    pointwise [k0_pay11]
    simp only [nat2_ix, Nat.add_comm]

theorem vPiece (x : (Rect.unit (s := S1024x1024) ![0, 0] ![768, 1024] inb_S1024x1024_S768x1024_0_0).shape.Idx) :
    k0_pay9 (F := Ideal) (View.ld v (Rect.unit ![256, 0] ![768, 1024] inb_S1024x1024_S768x1024_256_0)) x
      = rollV x0 v ((Rect.unit ![0, 0] ![768, 1024] inb_S1024x1024_S768x1024_0_0).emb x) := by
  idx_vars x
  show _ = rollVn _ v (0 + 1 * x0.val) (0 + 1 * x1.val)
  unfold rollVn
  pointwise [k0_pay9]
  simp only [nat2_ix, Nat.add_comm]

theorem vPieces : View.PiecesOf (Val := Elt Ideal) (e := .bf16) (rollV x0 v)
    [⟨Rect.unit ![768, 0] ![256, 1024] inb_S1024x1024_S256x1024_768_0,
        k0_pay10 (View.ld x0 (Rect.unit ![0, 2048] ![256, 1024] inb_S256x3072_S256x1024_0_2048))⟩,
      ⟨Rect.unit ![0, 0] ![768, 1024] inb_S1024x1024_S768x1024_0_0,
        k0_pay9 (View.ld v (Rect.unit ![256, 0] ![768, 1024] inb_S1024x1024_S768x1024_256_0))⟩] := by
  refine ⟨fun x => ?_, vPiece x0 v, trivial⟩
  · idx_vars x
    show _ = rollVn _ v (768 + 1 * x0.val) (0 + 1 * x1.val)
    unfold rollVn
    pointwise [k0_pay10]
    simp only [nat2_ix]

/-- The keys read back within the point are the rolled keys. -/
theorem ktRead (r : Rect S1024x1024) : (View.whole cc0_scratch0).readCov (Val := Elt Ideal)
    [⟨Rect.unit ![0, 768] ![1024, 256] inb_S1024x1024_S1024x256_0_768,
        k0_pay12 (View.ld x0 (Rect.unit ![0, 1024] ![256, 1024] inb_S256x3072_S256x1024_0_1024))⟩,
      ⟨Rect.unit ![0, 0] ![1024, 768] inb_S1024x1024_S1024x768_0_0,
        k0_pay11 (View.ld kt (Rect.unit ![0, 256] ![1024, 768] inb_S1024x1024_S1024x768_0_256))⟩] r.toLoadRect = View.ld (rollK x0 kt) r := by
  rw [View.readCov_eq_canon']
  funext y
  exact View.canon_append_of_piecesOf (rollK x0 kt) [] _ (ktPieces x0 kt) (r.emb y)
    (View.cover_of_tiledBy _ ![1024, 256] (by sl_kernel_rfl) _)

/-- The same at the first point, whose stores stand over a fill of the buffer. -/
theorem ktRead0 (Z : Vec Ideal S1024x1024 .bf16) (r : Rect S1024x1024) : (View.whole cc0_scratch0).readCov (Val := Elt Ideal)
    [⟨Rect.unit ![0, 768] ![1024, 256] inb_S1024x1024_S1024x256_0_768,
        k0_pay12 (View.ld x0 (Rect.unit ![0, 1024] ![256, 1024] inb_S256x3072_S256x1024_0_1024))⟩,
      ⟨Rect.unit ![0, 0] ![1024, 768] inb_S1024x1024_S1024x768_0_0,
        k0_pay11 (View.ld kt (Rect.unit ![0, 256] ![1024, 768] inb_S1024x1024_S1024x768_0_256))⟩,
      ⟨Rect.unit ![0, 0] ![1024, 1024] inb_S1024x1024_S1024x1024_0_0, Z⟩] r.toLoadRect = View.ld (rollK x0 kt) r := by
  rw [View.readCov_eq_canon']
  funext y
  exact View.canon_append_of_piecesOf (rollK x0 kt) [_] [_, _] (ktPieces x0 kt) (r.emb y)
    (View.cover_of_tiledBy _ ![1024, 256] (by sl_kernel_rfl) _)

/-- The first 768 rows of the values read back within the point are the rolled values. -/
theorem vRead (o : ℕ) (inb : ∀ a, (![0, o] : Fin 2 → ℕ) a + (![768, 256] : Fin 2 → ℕ) a ≤ S1024x1024.size a) :
    (View.whole cc0_scratch1).readCov (Val := Elt Ideal)
      [⟨Rect.unit ![0, 0] ![768, 1024] inb_S1024x1024_S768x1024_0_0,
        k0_pay9 (View.ld v (Rect.unit ![256, 0] ![768, 1024] inb_S1024x1024_S768x1024_256_0))⟩]
      (Rect.unit (s := S1024x1024) ![0, o] ![768, 256] inb).toLoadRect
      = View.ld (rollV x0 v) (Rect.unit (s := S1024x1024) ![0, o] ![768, 256] inb) := by
  rw [View.readCov_eq_canon']
  funext y
  refine View.canon_append_of_piecesOf (rollV x0 v) [] [_] ⟨vPiece x0 v, trivial⟩ ((Rect.unit (s := S1024x1024) ![0, o] ![768, 256] inb).emb y)
    ⟨_, List.mem_cons_self, ?_⟩
  have h1 : o + 256 ≤ 1024 := inb 1
  have hy : (y 0).val < 768 := (y 0).isLt
  have hy1 : (y 1).val < 256 := (y 1).isLt
  rw [Rect.mem_set_unit]
  refine Fin.forall_fin_two.mpr ⟨?_, ?_⟩
  · show 0 ≤ 0 + 1 * (y 0).val ∧ 0 + 1 * (y 0).val < 0 + 768
    omega
  · show 0 ≤ o + 1 * (y 1).val ∧ o + 1 * (y 1).val < 0 + 1024
    omega

/-- The weights of the first 128 rows of head `h`, as the kernel computes them from its slices. -/
theorem weight_lo (h c : ℕ) (hc : c = 128 * h) (hh : h < 8)
    (i1 : ∀ a, (![0, c] : Fin 2 → ℕ) a + (![256, 128] : Fin 2 → ℕ) a ≤ S256x3072.size a)
    (i2 : ∀ a, (![c, 256] : Fin 2 → ℕ) a + (![128, 768] : Fin 2 → ℕ) a ≤ S1024x1024.size a)
    (i3 : ∀ a, (![0, h, 0, 0] : Fin 4 → ℕ) a + (![1, 1, 128, 640] : Fin 4 → ℕ) a ≤ S1x8x256x768.size a) (r : Fin 128) (j : Fin 640) :
    k0_pay29 (F := Ideal) (View.ld x0 (Rect.unit (s := S256x3072) ![0, c] ![256, 128] i1))
      (View.ld kt (Rect.unit (s := S1024x1024) ![c, 256] ![128, 768] i2))
      (View.ld b (Rect.unit (s := S1x8x256x768) ![0, h, 0, 0] ![1, 1, 128, 640] i3)) (ix2 r j) = weight x0 kt b h r.val j.val := by
  have e : ∀ j : Fin 640, k0_pay28 (F := Ideal) (View.ld x0 (Rect.unit (s := S256x3072) ![0, c] ![256, 128] i1))
      (View.ld kt (Rect.unit (s := S1024x1024) ![c, 256] ![128, 768] i2)) (ix2 ⟨r.val, by omega⟩ ⟨j.val, by omega⟩)
      = ∑ d : Fin 128, nat2 x0 r.val (128 * h + d.val) * nat2 kt (128 * h + d.val) (256 + j.val) := by
    intro j
    subst hc
    pointwise [k0_pay28]
    simp only [nat2_ix]
  unfold k0_pay29
  generalize k0_pay28 (F := Ideal) (View.ld x0 (Rect.unit (s := S256x3072) ![0, c] ![256, 128] i1))
      (View.ld kt (Rect.unit (s := S1024x1024) ![c, 256] ![128, 768] i2)) = s at e
  pointwise
  simp only [e, nat4_ix]
  have hr : r.val / 128 = 0 := by omega
  unfold weight top score
  simp only [hr, Nat.mul_zero, Nat.zero_add]
  rfl

/-- The weights of the last 128 rows of head `h`, as the kernel computes them from its slices. -/
theorem weight_hi (h c : ℕ) (hc : c = 128 * h) (hh : h < 8)
    (i1 : ∀ a, (![0, c] : Fin 2 → ℕ) a + (![256, 128] : Fin 2 → ℕ) a ≤ S256x3072.size a)
    (i2 : ∀ a, (![c, 256] : Fin 2 → ℕ) a + (![128, 768] : Fin 2 → ℕ) a ≤ S1024x1024.size a)
    (i3 : ∀ a, (![0, h, 128, 128] : Fin 4 → ℕ) a + (![1, 1, 128, 640] : Fin 4 → ℕ) a ≤ S1x8x256x768.size a) (r : Fin 128) (j : Fin 640) :
    k0_pay33 (F := Ideal) (k0_pay32 (View.ld x0 (Rect.unit (s := S256x3072) ![0, c] ![256, 128] i1))
      (View.ld kt (Rect.unit (s := S1024x1024) ![c, 256] ![128, 768] i2))
      (View.ld b (Rect.unit (s := S1x8x256x768) ![0, h, 128, 128] ![1, 1, 128, 640] i3))) (ix2 r j)
      = weight x0 kt b h (128 + r.val) (128 + j.val) := by
  have e : ∀ j : Fin 640, k0_pay28 (F := Ideal) (View.ld x0 (Rect.unit (s := S256x3072) ![0, c] ![256, 128] i1))
      (View.ld kt (Rect.unit (s := S1024x1024) ![c, 256] ![128, 768] i2)) (ix2 ⟨128 + r.val, by omega⟩ ⟨128 + j.val, by omega⟩)
      = ∑ d : Fin 128, nat2 x0 (128 + r.val) (128 * h + d.val) * nat2 kt (128 * h + d.val) (256 + (128 + j.val)) := by
    intro j
    subst hc
    pointwise [k0_pay28]
    simp only [nat2_ix, Nat.add_assoc]
  unfold k0_pay33 k0_pay32
  generalize k0_pay28 (F := Ideal) (View.ld x0 (Rect.unit (s := S256x3072) ![0, c] ![256, 128] i1))
      (View.ld kt (Rect.unit (s := S1024x1024) ![c, 256] ![128, 768] i2)) = s at e
  pointwise
  simp only [e, nat4_ix]
  have hr : (128 + r.val) / 128 = 1 := by omega
  unfold weight top score
  simp only [hr, Nat.mul_one]
  rfl

theorem pPiece_lo (h c : ℕ) (hc : c = 128 * h) (hh : h < 8)
    (i1 : ∀ a, (![0, c] : Fin 2 → ℕ) a + (![256, 128] : Fin 2 → ℕ) a ≤ S256x3072.size a)
    (i2 : ∀ a, (![c, 256] : Fin 2 → ℕ) a + (![128, 768] : Fin 2 → ℕ) a ≤ S1024x1024.size a)
    (i3 : ∀ a, (![0, h, 0, 0] : Fin 4 → ℕ) a + (![1, 1, 128, 640] : Fin 4 → ℕ) a ≤ S1x8x256x768.size a)
    (i4 : ∀ a, (![h, 0, 0] : Fin 3 → ℕ) a + (![1, 128, 640] : Fin 3 → ℕ) a ≤ S8x256x768.size a)
    (x : (Rect.unit (s := S8x256x768) ![h, 0, 0] ![1, 128, 640] i4).shape.Idx) :
    k0_pay30 (F := Ideal) (View.ld x0 (Rect.unit (s := S256x3072) ![0, c] ![256, 128] i1))
      (View.ld kt (Rect.unit (s := S1024x1024) ![c, 256] ![128, 768] i2))
      (View.ld b (Rect.unit (s := S1x8x256x768) ![0, h, 0, 0] ![1, 1, 128, 640] i3)) x
      = nextP x0 kt b p ((Rect.unit (s := S8x256x768) ![h, 0, 0] ![1, 128, 640] i4).emb x) := by
  idx_vars x
  show _ = nextPn _ kt b p (h + 1 * x0.val) (0 + 1 * x1.val) (0 + 1 * x2.val)
  have hx : x0.val = 0 := by omega
  have hr : x1.val / 128 = 0 := by omega
  unfold nextPn
  simp only [hx, Nat.mul_zero, Nat.add_zero, Nat.one_mul, Nat.zero_add, hr]
  rw [if_pos ⟨Nat.zero_le _, by omega⟩, ← weight_lo _ kt b h c hc hh i1 i2 i3 x1 x2]
  unfold k0_pay30
  generalize k0_pay29 (F := Ideal) _ _ _ = s
  pointwise

theorem pPiece_hi (h c : ℕ) (hc : c = 128 * h) (hh : h < 8)
    (i1 : ∀ a, (![0, c] : Fin 2 → ℕ) a + (![256, 128] : Fin 2 → ℕ) a ≤ S256x3072.size a)
    (i2 : ∀ a, (![c, 256] : Fin 2 → ℕ) a + (![128, 768] : Fin 2 → ℕ) a ≤ S1024x1024.size a)
    (i3 : ∀ a, (![0, h, 128, 128] : Fin 4 → ℕ) a + (![1, 1, 128, 640] : Fin 4 → ℕ) a ≤ S1x8x256x768.size a)
    (i4 : ∀ a, (![h, 128, 128] : Fin 3 → ℕ) a + (![1, 128, 640] : Fin 3 → ℕ) a ≤ S8x256x768.size a)
    (x : (Rect.unit (s := S8x256x768) ![h, 128, 128] ![1, 128, 640] i4).shape.Idx) :
    k0_pay34 (F := Ideal) (k0_pay32 (View.ld x0 (Rect.unit (s := S256x3072) ![0, c] ![256, 128] i1))
      (View.ld kt (Rect.unit (s := S1024x1024) ![c, 256] ![128, 768] i2))
      (View.ld b (Rect.unit (s := S1x8x256x768) ![0, h, 128, 128] ![1, 1, 128, 640] i3))) x
      = nextP x0 kt b p ((Rect.unit (s := S8x256x768) ![h, 128, 128] ![1, 128, 640] i4).emb x) := by
  idx_vars x
  show _ = nextPn _ kt b p (h + 1 * x0.val) (128 + 1 * x1.val) (128 + 1 * x2.val)
  have hx : x0.val = 0 := by omega
  have hr : (128 + x1.val) / 128 = 1 := by omega
  unfold nextPn
  simp only [hx, Nat.mul_zero, Nat.add_zero, Nat.one_mul, Nat.mul_one, hr]
  rw [if_pos ⟨by omega, by omega⟩, ← weight_hi _ kt b h c hc hh i1 i2 i3 x1 x2]
  unfold k0_pay34
  generalize k0_pay33 (F := Ideal) _ = s
  pointwise

theorem lPiece_lo (h c : ℕ) (hc : c = 128 * h) (hh : h < 8)
    (i1 : ∀ a, (![0, c] : Fin 2 → ℕ) a + (![256, 128] : Fin 2 → ℕ) a ≤ S256x3072.size a)
    (i2 : ∀ a, (![c, 256] : Fin 2 → ℕ) a + (![128, 768] : Fin 2 → ℕ) a ≤ S1024x1024.size a)
    (i3 : ∀ a, (![0, h, 0, 0] : Fin 4 → ℕ) a + (![1, 1, 128, 640] : Fin 4 → ℕ) a ≤ S1x8x256x768.size a)
    (i4 : ∀ a, (![h, 0, 0] : Fin 3 → ℕ) a + (![1, 128, 128] : Fin 3 → ℕ) a ≤ S8x256x128.size a)
    (x : (Rect.unit (s := S8x256x128) ![h, 0, 0] ![1, 128, 128] i4).shape.Idx) :
    k0_pay31 (F := Ideal) (View.ld x0 (Rect.unit (s := S256x3072) ![0, c] ![256, 128] i1))
      (View.ld kt (Rect.unit (s := S1024x1024) ![c, 256] ![128, 768] i2))
      (View.ld b (Rect.unit (s := S1x8x256x768) ![0, h, 0, 0] ![1, 1, 128, 640] i3)) x
      = nextL x0 kt b ((Rect.unit (s := S8x256x128) ![h, 0, 0] ![1, 128, 128] i4).emb x) := by
  idx_vars x
  show _ = nextLn _ kt b (h + 1 * x0.val) (0 + 1 * x1.val)
  have hx : x0.val = 0 := by omega
  have hr : x1.val / 128 = 0 := by omega
  unfold nextLn
  simp only [hx, Nat.mul_zero, Nat.add_zero, Nat.one_mul, Nat.zero_add, hr]
  simp only [← weight_lo _ kt b h c hc hh i1 i2 i3 x1]
  unfold k0_pay31
  generalize k0_pay29 (F := Ideal) _ _ _ = s
  pointwise

theorem lPiece_hi (h c : ℕ) (hc : c = 128 * h) (hh : h < 8)
    (i1 : ∀ a, (![0, c] : Fin 2 → ℕ) a + (![256, 128] : Fin 2 → ℕ) a ≤ S256x3072.size a)
    (i2 : ∀ a, (![c, 256] : Fin 2 → ℕ) a + (![128, 768] : Fin 2 → ℕ) a ≤ S1024x1024.size a)
    (i3 : ∀ a, (![0, h, 128, 128] : Fin 4 → ℕ) a + (![1, 1, 128, 640] : Fin 4 → ℕ) a ≤ S1x8x256x768.size a)
    (i4 : ∀ a, (![h, 128, 0] : Fin 3 → ℕ) a + (![1, 128, 128] : Fin 3 → ℕ) a ≤ S8x256x128.size a)
    (x : (Rect.unit (s := S8x256x128) ![h, 128, 0] ![1, 128, 128] i4).shape.Idx) :
    k0_pay35 (F := Ideal) (k0_pay32 (View.ld x0 (Rect.unit (s := S256x3072) ![0, c] ![256, 128] i1))
      (View.ld kt (Rect.unit (s := S1024x1024) ![c, 256] ![128, 768] i2))
      (View.ld b (Rect.unit (s := S1x8x256x768) ![0, h, 128, 128] ![1, 1, 128, 640] i3))) x
      = nextL x0 kt b ((Rect.unit (s := S8x256x128) ![h, 128, 0] ![1, 128, 128] i4).emb x) := by
  idx_vars x
  show _ = nextLn _ kt b (h + 1 * x0.val) (128 + 1 * x1.val)
  have hx : x0.val = 0 := by omega
  have hr : (128 + x1.val) / 128 = 1 := by omega
  unfold nextLn
  simp only [hx, Nat.mul_zero, Nat.add_zero, Nat.one_mul, Nat.mul_one, hr]
  simp only [← weight_hi _ kt b h c hc hh i1 i2 i3 x1]
  unfold k0_pay35
  generalize k0_pay33 (F := Ideal) _ = s
  pointwise

theorem oPiece_even (g c h : ℕ) (hh : h < 8) (hg : g = h) (hc : c = 128 * h)
    (i1 : ∀ a, (![g, 0, 0] : Fin 3 → ℕ) a + (![2, 256, 768] : Fin 3 → ℕ) a ≤ S8x256x768.size a)
    (i2 : ∀ a, (![0, c] : Fin 2 → ℕ) a + (![768, 256] : Fin 2 → ℕ) a ≤ S1024x1024.size a)
    (i3 : ∀ a, (![h, 0, 0] : Fin 3 → ℕ) a + (![1, 256, 128] : Fin 3 → ℕ) a ≤ S8x256x128.size a)
    (i4 : ∀ a, (![0, c] : Fin 2 → ℕ) a + (![256, 128] : Fin 2 → ℕ) a ≤ S256x1024.size a)
    (x : (Rect.unit (s := S256x1024) ![0, c] ![256, 128] i4).shape.Idx) :
    k0_pay16 (F := Ideal) (k0_pay14 (View.ld p (Rect.unit (s := S8x256x768) ![g, 0, 0] ![2, 256, 768] i1))
      (View.ld v (Rect.unit (s := S1024x1024) ![0, c] ![768, 256] i2)))
      (k0_pay15 (View.ld l (Rect.unit (s := S8x256x128) ![h, 0, 0] ![1, 256, 128] i3))) x
      = nextO p l v ((Rect.unit (s := S256x1024) ![0, c] ![256, 128] i4).emb x) := by
  idx_vars x
  show _ = nextOn p l v (0 + 1 * x0.val) (c + 1 * x1.val)
  have h1 : (c + x1.val) / 128 = h := by omega
  have h2 : (c + x1.val) % 128 = x1.val := by omega
  have h3 : x0.val / 256 = 0 := by omega
  have h4 : x0.val % 256 = x0.val := by omega
  subst hg
  unfold nextOn
  pointwise [k0_pay14, k0_pay13, k0_pay15, k0_pay16]
  simp only [nat2_ix, nat3_ix, Nat.one_mul, Nat.zero_add, Nat.add_zero, h1, h2, h3, h4]

theorem oPiece_odd (g c c' h : ℕ) (hh : h < 8) (hg : h = g + 1) (hc : c = 128 * g) (hc' : c' = 128 * h)
    (i1 : ∀ a, (![g, 0, 0] : Fin 3 → ℕ) a + (![2, 256, 768] : Fin 3 → ℕ) a ≤ S8x256x768.size a)
    (i2 : ∀ a, (![0, c] : Fin 2 → ℕ) a + (![768, 256] : Fin 2 → ℕ) a ≤ S1024x1024.size a)
    (i3 : ∀ a, (![h, 0, 0] : Fin 3 → ℕ) a + (![1, 256, 128] : Fin 3 → ℕ) a ≤ S8x256x128.size a)
    (i4 : ∀ a, (![0, c'] : Fin 2 → ℕ) a + (![256, 128] : Fin 2 → ℕ) a ≤ S256x1024.size a)
    (x : (Rect.unit (s := S256x1024) ![0, c'] ![256, 128] i4).shape.Idx) :
    k0_pay17 (F := Ideal) (k0_pay13 (View.ld p (Rect.unit (s := S8x256x768) ![g, 0, 0] ![2, 256, 768] i1))
      (View.ld v (Rect.unit (s := S1024x1024) ![0, c] ![768, 256] i2)))
      (View.ld l (Rect.unit (s := S8x256x128) ![h, 0, 0] ![1, 256, 128] i3)) x
      = nextO p l v ((Rect.unit (s := S256x1024) ![0, c'] ![256, 128] i4).emb x) := by
  idx_vars x
  show _ = nextOn p l v (0 + 1 * x0.val) (c' + 1 * x1.val)
  have h1 : (c' + x1.val) / 128 = h := by omega
  have h2 : (c' + x1.val) % 128 = x1.val := by omega
  have h3 : g + (256 + x0.val) / 256 = h := by omega
  have h5 : c + (128 + x1.val) = c' + x1.val := by omega
  unfold nextOn
  pointwise [k0_pay13, k0_pay17]
  simp only [nat2_ix, nat3_ix, Nat.one_mul, Nat.zero_add, Nat.add_zero, h1, h2, h3, h5]

end Cert.KernelIdeal.Attn
-- ==== Proof.Attn.Points.lean ====
module

public import proofs.«01_k».proof.Proof.Attn.Step

@[expose] public section
set_option maxRecDepth 16384
noncomputable section
namespace Cert.KernelIdeal.Attn
open Cert.KernelIdeal Cert.KernelIdeal.Gen Idealize.ShloMosaic Idealize.ShloMosaic.TcCoe Idealize.SL.Sem
open Idealize.ShloMosaic.Pointwise

/-! # What each grid point leaves, from what the point before left -/

variable (m : (ℓ : Loc nD τ sig) → Buf (Elt Ideal) ℓ)

/-- What the point before left: the output block, keys, values, weights and reciprocal sums. -/
abbrev before (c : Dev nD) (t : Fin cfg0.N) := outsAt0 m c (t.val - 1) (Nat.lt_of_le_of_lt (Nat.sub_le _ _) t.isLt)

theorem band_lo (y : S8x256x768.Idx) (h : ℕ) (e : (y 0).val = h) (hr : (y 1).val < 128) (hj : (y 2).val < 640) (a : Fin 3) :
    (![h, 0, 0] : Fin 3 → ℕ) a ≤ (y a).val ∧ (y a).val < (![h, 0, 0] : Fin 3 → ℕ) a + (![1, 128, 640] : Fin 3 → ℕ) a := by
  match a with
  | 0 => exact ⟨e.ge, by show (y 0).val < h + 1; omega⟩
  | 1 => exact ⟨Nat.zero_le _, by show (y 1).val < 0 + 128; omega⟩
  | 2 => exact ⟨Nat.zero_le _, by show (y 2).val < 0 + 640; omega⟩

theorem band_hi (y : S8x256x768.Idx) (h : ℕ) (e : (y 0).val = h) (hr : 128 ≤ (y 1).val) (hj : 128 ≤ (y 2).val) (a : Fin 3) :
    (![h, 128, 128] : Fin 3 → ℕ) a ≤ (y a).val ∧ (y a).val < (![h, 128, 128] : Fin 3 → ℕ) a + (![1, 128, 640] : Fin 3 → ℕ) a := by
  have h1 : (y 1).val < 256 := (y 1).isLt
  have h2 : (y 2).val < 768 := (y 2).isLt
  match a with
  | 0 => exact ⟨e.ge, by show (y 0).val < h + 1; omega⟩
  | 1 => exact ⟨hr, by show (y 1).val < 128 + 128; omega⟩
  | 2 => exact ⟨hj, by show (y 2).val < 128 + 640; omega⟩

theorem kt_step (c : Dev nD) (t : Fin cfg0.N) (h0 : ¬ t.val % 129 = 0) :
    (outsAt0 m c t.val t.isLt).2.1 = rollK (X0_0 m c t) (before m c t).2.1 := by
  rw [outsAt0_B m c t h0]
  unfold before
  generalize outsAt0 m c (t.val - 1) (Nat.lt_of_le_of_lt (Nat.sub_le _ _) t.isLt) = prev
  generalize X0_0 m c t = x0
  generalize iblk m c 1 t = x1
  frame_open
  simp (disch := decide) only [↓ View.readCov_skip, ↓ View.readCov_cons_toLoadRect, ↓ View.readCov_fill]
  frame_out
  simp only [read_unread_whole]
  funext y
  exact View.canon_append_of_piecesOf _ [] _ (ktPieces x0 prev.2.1) y (View.cover_of_tiledBy _ ![1024, 256] (by sl_kernel_rfl) _)

theorem v_step (c : Dev nD) (t : Fin cfg0.N) (h0 : ¬ t.val % 129 = 0) :
    (outsAt0 m c t.val t.isLt).2.2.1 = rollV (X0_0 m c t) (before m c t).2.2.1 := by
  rw [outsAt0_B m c t h0]
  unfold before
  generalize outsAt0 m c (t.val - 1) (Nat.lt_of_le_of_lt (Nat.sub_le _ _) t.isLt) = prev
  generalize X0_0 m c t = x0
  generalize iblk m c 1 t = x1
  frame_open
  simp (disch := decide) only [↓ View.readCov_skip, ↓ View.readCov_cons_toLoadRect, ↓ View.readCov_fill]
  frame_out
  simp only [read_unread_whole]
  funext y
  exact View.canon_append_of_piecesOf _ [] _ (vPieces x0 prev.2.2.1) y (View.cover_of_tiledBy _ ![256, 1024] (by sl_kernel_rfl) _)

theorem p_step (c : Dev nD) (t : Fin cfg0.N) (h0 : ¬ t.val % 129 = 0) :
    (outsAt0 m c t.val t.isLt).2.2.2.1
      = nextP (X0_0 m c t) (rollK (X0_0 m c t) (before m c t).2.1) (iblk m c 1 t) (before m c t).2.2.2.1 := by
  rw [outsAt0_B m c t h0]
  unfold before
  generalize outsAt0 m c (t.val - 1) (Nat.lt_of_le_of_lt (Nat.sub_le _ _) t.isLt) = prev
  generalize X0_0 m c t = x0
  generalize iblk m c 1 t = x1
  frame_open
  simp (disch := decide) only [↓ View.readCov_skip, ↓ View.readCov_cons_toLoadRect, ↓ View.readCov_fill]
  frame_out
  simp only [read_unread_whole]
  rw [ktRead, ktRead, ktRead, ktRead, ktRead, ktRead, ktRead, ktRead]
  funext y
  generalize rollK x0 prev.2.1 = K
  refine read_writes_total _ _ _ [_, _, _, _, _, _, _, _, _, _, _, _, _, _, _, _] ⟨?_, ?_, ?_, ?_, ?_, ?_, ?_, ?_, ?_, ?_, ?_, ?_, ?_, ?_, ?_, ?_, trivial⟩ y ?_
  · exact pPiece_hi x0 K x1 _ 7 _ rfl (by decide) _ _ _ inb_S8x256x768_S1x128x640_7_128_128
  · exact pPiece_lo x0 K x1 _ 7 _ rfl (by decide) _ _ _ inb_S8x256x768_S1x128x640_7_0_0
  · exact pPiece_hi x0 K x1 _ 6 _ rfl (by decide) _ _ _ inb_S8x256x768_S1x128x640_6_128_128
  · exact pPiece_lo x0 K x1 _ 6 _ rfl (by decide) _ _ _ inb_S8x256x768_S1x128x640_6_0_0
  · exact pPiece_hi x0 K x1 _ 5 _ rfl (by decide) _ _ _ inb_S8x256x768_S1x128x640_5_128_128
  · exact pPiece_lo x0 K x1 _ 5 _ rfl (by decide) _ _ _ inb_S8x256x768_S1x128x640_5_0_0
  · exact pPiece_hi x0 K x1 _ 4 _ rfl (by decide) _ _ _ inb_S8x256x768_S1x128x640_4_128_128
  · exact pPiece_lo x0 K x1 _ 4 _ rfl (by decide) _ _ _ inb_S8x256x768_S1x128x640_4_0_0
  · exact pPiece_hi x0 K x1 _ 3 _ rfl (by decide) _ _ _ inb_S8x256x768_S1x128x640_3_128_128
  · exact pPiece_lo x0 K x1 _ 3 _ rfl (by decide) _ _ _ inb_S8x256x768_S1x128x640_3_0_0
  · exact pPiece_hi x0 K x1 _ 2 _ rfl (by decide) _ _ _ inb_S8x256x768_S1x128x640_2_128_128
  · exact pPiece_lo x0 K x1 _ 2 _ rfl (by decide) _ _ _ inb_S8x256x768_S1x128x640_2_0_0
  · exact pPiece_hi x0 K x1 _ 1 _ rfl (by decide) _ _ _ inb_S8x256x768_S1x128x640_1_128_128
  · exact pPiece_lo x0 K x1 _ 1 _ rfl (by decide) _ _ _ inb_S8x256x768_S1x128x640_1_0_0
  · exact pPiece_hi x0 K x1 _ 0 _ rfl (by decide) _ _ _ inb_S8x256x768_S1x128x640_0_128_128
  · exact pPiece_lo x0 K x1 _ 0 _ rfl (by decide) _ _ _ inb_S8x256x768_S1x128x640_0_0_0
  · intro hn
    simp only [List.forall_mem_cons, Rect.mem_set_unit] at hn
    rw [read_unread_whole]
    show _ = nextPn x0 K x1 prev.2.2.2.1 (y 0).val (y 1).val (y 2).val
    unfold nextPn
    rw [if_neg, ← nat3_idx]
    rintro ⟨ha, hb⟩
    obtain ⟨h7, l7, h6, l6, h5, l5, h4, l4, h3, l3, h2, l2, h1, l1, h0, l0, -⟩ := hn
    have hy0 : (y 0).val < 8 := (y 0).isLt
    have hy1 : (y 1).val < 256 := (y 1).isLt
    rcases Nat.lt_or_ge (y 1).val 128 with hr | hr
    · have hj : (y 2).val < 640 := by omega
      have e : (y 0).val = 0 ∨ (y 0).val = 1 ∨ (y 0).val = 2 ∨ (y 0).val = 3 ∨ (y 0).val = 4 ∨ (y 0).val = 5 ∨ (y 0).val = 6 ∨ (y 0).val = 7 := by omega
      rcases e with e | e | e | e | e | e | e | e
      · exact l0 (band_lo y 0 e hr hj)
      · exact l1 (band_lo y 1 e hr hj)
      · exact l2 (band_lo y 2 e hr hj)
      · exact l3 (band_lo y 3 e hr hj)
      · exact l4 (band_lo y 4 e hr hj)
      · exact l5 (band_lo y 5 e hr hj)
      · exact l6 (band_lo y 6 e hr hj)
      · exact l7 (band_lo y 7 e hr hj)
    · have hj : 128 ≤ (y 2).val := by omega
      have e : (y 0).val = 0 ∨ (y 0).val = 1 ∨ (y 0).val = 2 ∨ (y 0).val = 3 ∨ (y 0).val = 4 ∨ (y 0).val = 5 ∨ (y 0).val = 6 ∨ (y 0).val = 7 := by omega
      rcases e with e | e | e | e | e | e | e | e
      · exact h0 (band_hi y 0 e hr hj)
      · exact h1 (band_hi y 1 e hr hj)
      · exact h2 (band_hi y 2 e hr hj)
      · exact h3 (band_hi y 3 e hr hj)
      · exact h4 (band_hi y 4 e hr hj)
      · exact h5 (band_hi y 5 e hr hj)
      · exact h6 (band_hi y 6 e hr hj)
      · exact h7 (band_hi y 7 e hr hj)

theorem l_step (c : Dev nD) (t : Fin cfg0.N) (h0 : ¬ t.val % 129 = 0) :
    (outsAt0 m c t.val t.isLt).2.2.2.2
      = nextL (X0_0 m c t) (rollK (X0_0 m c t) (before m c t).2.1) (iblk m c 1 t) := by
  rw [outsAt0_B m c t h0]
  unfold before
  generalize outsAt0 m c (t.val - 1) (Nat.lt_of_le_of_lt (Nat.sub_le _ _) t.isLt) = prev
  generalize X0_0 m c t = x0
  generalize iblk m c 1 t = x1
  frame_open
  simp (disch := decide) only [↓ View.readCov_skip, ↓ View.readCov_cons_toLoadRect, ↓ View.readCov_fill]
  frame_out
  simp only [read_unread_whole]
  rw [ktRead, ktRead, ktRead, ktRead, ktRead, ktRead, ktRead, ktRead]
  funext y
  generalize rollK x0 prev.2.1 = K
  refine View.canon_append_of_piecesOf _ [] [_, _, _, _, _, _, _, _, _, _, _, _, _, _, _, _]
    ⟨?_, ?_, ?_, ?_, ?_, ?_, ?_, ?_, ?_, ?_, ?_, ?_, ?_, ?_, ?_, ?_, trivial⟩ y
    (View.cover_of_tiledL _ ![1, 128, 128] (by sl_kernel_rfl) y)
  · exact lPiece_hi x0 K x1 7 _ rfl (by decide) _ _ _ inb_S8x256x128_S1x128x128_7_128_0
  · exact lPiece_lo x0 K x1 7 _ rfl (by decide) _ _ _ inb_S8x256x128_S1x128x128_7_0_0
  · exact lPiece_hi x0 K x1 6 _ rfl (by decide) _ _ _ inb_S8x256x128_S1x128x128_6_128_0
  · exact lPiece_lo x0 K x1 6 _ rfl (by decide) _ _ _ inb_S8x256x128_S1x128x128_6_0_0
  · exact lPiece_hi x0 K x1 5 _ rfl (by decide) _ _ _ inb_S8x256x128_S1x128x128_5_128_0
  · exact lPiece_lo x0 K x1 5 _ rfl (by decide) _ _ _ inb_S8x256x128_S1x128x128_5_0_0
  · exact lPiece_hi x0 K x1 4 _ rfl (by decide) _ _ _ inb_S8x256x128_S1x128x128_4_128_0
  · exact lPiece_lo x0 K x1 4 _ rfl (by decide) _ _ _ inb_S8x256x128_S1x128x128_4_0_0
  · exact lPiece_hi x0 K x1 3 _ rfl (by decide) _ _ _ inb_S8x256x128_S1x128x128_3_128_0
  · exact lPiece_lo x0 K x1 3 _ rfl (by decide) _ _ _ inb_S8x256x128_S1x128x128_3_0_0
  · exact lPiece_hi x0 K x1 2 _ rfl (by decide) _ _ _ inb_S8x256x128_S1x128x128_2_128_0
  · exact lPiece_lo x0 K x1 2 _ rfl (by decide) _ _ _ inb_S8x256x128_S1x128x128_2_0_0
  · exact lPiece_hi x0 K x1 1 _ rfl (by decide) _ _ _ inb_S8x256x128_S1x128x128_1_128_0
  · exact lPiece_lo x0 K x1 1 _ rfl (by decide) _ _ _ inb_S8x256x128_S1x128x128_1_0_0
  · exact lPiece_hi x0 K x1 0 _ rfl (by decide) _ _ _ inb_S8x256x128_S1x128x128_0_128_0
  · exact lPiece_lo x0 K x1 0 _ rfl (by decide) _ _ _ inb_S8x256x128_S1x128x128_0_0_0

theorem o_step (c : Dev nD) (t : Fin cfg0.N) (h0 : ¬ t.val % 129 = 0) :
    (outsAt0 m c t.val t.isLt).1
      = nextO (before m c t).2.2.2.1 (before m c t).2.2.2.2 (rollV (X0_0 m c t) (before m c t).2.2.1) := by
  rw [outsAt0_B m c t h0]
  unfold before
  generalize outsAt0 m c (t.val - 1) (Nat.lt_of_le_of_lt (Nat.sub_le _ _) t.isLt) = prev
  generalize X0_0 m c t = x0
  generalize iblk m c 1 t = x1
  frame_open
  simp (disch := decide) only [↓ View.readCov_skip, ↓ View.readCov_cons_toLoadRect, ↓ View.readCov_fill]
  frame_out
  simp only [read_unread_whole]
  rw [vRead x0, vRead x0, vRead x0, vRead x0]
  funext y
  generalize rollV x0 prev.2.2.1 = V
  refine View.canon_append_of_piecesOf _ [] [_, _, _, _, _, _, _, _] ⟨?_, ?_, ?_, ?_, ?_, ?_, ?_, ?_, trivial⟩ y
    (View.cover_of_tiledL _ ![256, 128] (by sl_kernel_rfl) y)
  · exact oPiece_odd V _ _ 6 768 896 7 (by decide) rfl rfl rfl _ _ _ inb_S256x1024_S256x128_0_896
  · exact oPiece_even V _ _ 6 _ 6 (by decide) rfl rfl _ _ _ inb_S256x1024_S256x128_0_768
  · exact oPiece_odd V _ _ 4 512 640 5 (by decide) rfl rfl rfl _ _ _ inb_S256x1024_S256x128_0_640
  · exact oPiece_even V _ _ 4 _ 4 (by decide) rfl rfl _ _ _ inb_S256x1024_S256x128_0_512
  · exact oPiece_odd V _ _ 2 256 384 3 (by decide) rfl rfl rfl _ _ _ inb_S256x1024_S256x128_0_384
  · exact oPiece_even V _ _ 2 _ 2 (by decide) rfl rfl _ _ _ inb_S256x1024_S256x128_0_256
  · exact oPiece_odd V _ _ 0 0 128 1 (by decide) rfl rfl rfl _ _ _ inb_S256x1024_S256x128_0_128
  · exact oPiece_even V _ _ 0 _ 0 (by decide) rfl rfl _ _ _ inb_S256x1024_S256x128_0_0

/-! ## The first point: the buffers are filled first -/

theorem kt_first (c : Dev nD) (t : Fin cfg0.N) (h0 : t.val % 129 = 0) :
    (outsAt0 m c t.val t.isLt).2.1 = rollK (X0_0 m c t) (k0_pay5 (F := Ideal)) := by
  rw [outsAt0_A m c t h0]
  generalize X0_0 m c t = x0
  generalize iblk m c 1 t = x1
  frame_open
  try simp (disch := decide) only [↓ View.readCov_skip, ↓ View.readCov_cons_toLoadRect, ↓ View.readCov_fill]
  frame_out
  funext y
  exact View.canon_append_of_piecesOf _ [_] [_, _] (ktPieces x0 (k0_pay5 (F := Ideal))) y (View.cover_of_tiledBy _ ![1024, 256] (by sl_kernel_rfl) _)

theorem v_first (c : Dev nD) (t : Fin cfg0.N) (h0 : t.val % 129 = 0) :
    (outsAt0 m c t.val t.isLt).2.2.1 = rollV (X0_0 m c t) (k0_pay6 (F := Ideal)) := by
  rw [outsAt0_A m c t h0]
  generalize X0_0 m c t = x0
  generalize iblk m c 1 t = x1
  frame_open
  try simp (disch := decide) only [↓ View.readCov_skip, ↓ View.readCov_cons_toLoadRect, ↓ View.readCov_fill]
  frame_out
  funext y
  exact View.canon_append_of_piecesOf _ [_] [_, _] (vPieces x0 (k0_pay6 (F := Ideal))) y (View.cover_of_tiledBy _ ![256, 1024] (by sl_kernel_rfl) _)

theorem p_first (c : Dev nD) (t : Fin cfg0.N) (h0 : t.val % 129 = 0) :
    (outsAt0 m c t.val t.isLt).2.2.2.1
      = nextP (X0_0 m c t) (rollK (X0_0 m c t) (k0_pay5 (F := Ideal))) (iblk m c 1 t) (k0_pay7 (F := Ideal)) := by
  rw [outsAt0_A m c t h0]
  generalize X0_0 m c t = x0
  generalize iblk m c 1 t = x1
  frame_open
  try simp (disch := decide) only [↓ View.readCov_skip, ↓ View.readCov_cons_toLoadRect, ↓ View.readCov_fill]
  frame_out
  rw [ktRead0, ktRead0, ktRead0, ktRead0, ktRead0, ktRead0, ktRead0, ktRead0]
  funext y
  generalize rollK x0 (k0_pay5 (F := Ideal)) = K
  refine canon_total _ [_] [_, _, _, _, _, _, _, _, _, _, _, _, _, _, _, _] ⟨?_, ?_, ?_, ?_, ?_, ?_, ?_, ?_, ?_, ?_, ?_, ?_, ?_, ?_, ?_, ?_, trivial⟩ y ?_
  · exact pPiece_hi x0 K x1 _ 7 _ rfl (by decide) _ _ _ inb_S8x256x768_S1x128x640_7_128_128
  · exact pPiece_lo x0 K x1 _ 7 _ rfl (by decide) _ _ _ inb_S8x256x768_S1x128x640_7_0_0
  · exact pPiece_hi x0 K x1 _ 6 _ rfl (by decide) _ _ _ inb_S8x256x768_S1x128x640_6_128_128
  · exact pPiece_lo x0 K x1 _ 6 _ rfl (by decide) _ _ _ inb_S8x256x768_S1x128x640_6_0_0
  · exact pPiece_hi x0 K x1 _ 5 _ rfl (by decide) _ _ _ inb_S8x256x768_S1x128x640_5_128_128
  · exact pPiece_lo x0 K x1 _ 5 _ rfl (by decide) _ _ _ inb_S8x256x768_S1x128x640_5_0_0
  · exact pPiece_hi x0 K x1 _ 4 _ rfl (by decide) _ _ _ inb_S8x256x768_S1x128x640_4_128_128
  · exact pPiece_lo x0 K x1 _ 4 _ rfl (by decide) _ _ _ inb_S8x256x768_S1x128x640_4_0_0
  · exact pPiece_hi x0 K x1 _ 3 _ rfl (by decide) _ _ _ inb_S8x256x768_S1x128x640_3_128_128
  · exact pPiece_lo x0 K x1 _ 3 _ rfl (by decide) _ _ _ inb_S8x256x768_S1x128x640_3_0_0
  · exact pPiece_hi x0 K x1 _ 2 _ rfl (by decide) _ _ _ inb_S8x256x768_S1x128x640_2_128_128
  · exact pPiece_lo x0 K x1 _ 2 _ rfl (by decide) _ _ _ inb_S8x256x768_S1x128x640_2_0_0
  · exact pPiece_hi x0 K x1 _ 1 _ rfl (by decide) _ _ _ inb_S8x256x768_S1x128x640_1_128_128
  · exact pPiece_lo x0 K x1 _ 1 _ rfl (by decide) _ _ _ inb_S8x256x768_S1x128x640_1_0_0
  · exact pPiece_hi x0 K x1 _ 0 _ rfl (by decide) _ _ _ inb_S8x256x768_S1x128x640_0_128_128
  · exact pPiece_lo x0 K x1 _ 0 _ rfl (by decide) _ _ _ inb_S8x256x768_S1x128x640_0_0_0
  · intro hn
    simp only [List.forall_mem_cons, Rect.mem_set_unit] at hn
    rw [View.canon_cons_unit_lit _ _ _ (by decide)]
    show _ = nextPn x0 K x1 (k0_pay7 (F := Ideal)) (y 0).val (y 1).val (y 2).val
    unfold nextPn
    rw [if_neg, ← nat3_idx]
    rintro ⟨ha, hb⟩
    obtain ⟨h7, l7, h6, l6, h5, l5, h4, l4, h3, l3, h2, l2, h1, l1, h0, l0, -⟩ := hn
    have hy0 : (y 0).val < 8 := (y 0).isLt
    have hy1 : (y 1).val < 256 := (y 1).isLt
    rcases Nat.lt_or_ge (y 1).val 128 with hr | hr
    · have hj : (y 2).val < 640 := by omega
      have e : (y 0).val = 0 ∨ (y 0).val = 1 ∨ (y 0).val = 2 ∨ (y 0).val = 3 ∨ (y 0).val = 4 ∨ (y 0).val = 5 ∨ (y 0).val = 6 ∨ (y 0).val = 7 := by omega
      rcases e with e | e | e | e | e | e | e | e
      · exact l0 (band_lo y 0 e hr hj)
      · exact l1 (band_lo y 1 e hr hj)
      · exact l2 (band_lo y 2 e hr hj)
      · exact l3 (band_lo y 3 e hr hj)
      · exact l4 (band_lo y 4 e hr hj)
      · exact l5 (band_lo y 5 e hr hj)
      · exact l6 (band_lo y 6 e hr hj)
      · exact l7 (band_lo y 7 e hr hj)
    · have hj : 128 ≤ (y 2).val := by omega
      have e : (y 0).val = 0 ∨ (y 0).val = 1 ∨ (y 0).val = 2 ∨ (y 0).val = 3 ∨ (y 0).val = 4 ∨ (y 0).val = 5 ∨ (y 0).val = 6 ∨ (y 0).val = 7 := by omega
      rcases e with e | e | e | e | e | e | e | e
      · exact h0 (band_hi y 0 e hr hj)
      · exact h1 (band_hi y 1 e hr hj)
      · exact h2 (band_hi y 2 e hr hj)
      · exact h3 (band_hi y 3 e hr hj)
      · exact h4 (band_hi y 4 e hr hj)
      · exact h5 (band_hi y 5 e hr hj)
      · exact h6 (band_hi y 6 e hr hj)
      · exact h7 (band_hi y 7 e hr hj)

theorem l_first (c : Dev nD) (t : Fin cfg0.N) (h0 : t.val % 129 = 0) :
    (outsAt0 m c t.val t.isLt).2.2.2.2
      = nextL (X0_0 m c t) (rollK (X0_0 m c t) (k0_pay5 (F := Ideal))) (iblk m c 1 t) := by
  rw [outsAt0_A m c t h0]
  generalize X0_0 m c t = x0
  generalize iblk m c 1 t = x1
  frame_open
  try simp (disch := decide) only [↓ View.readCov_skip, ↓ View.readCov_cons_toLoadRect, ↓ View.readCov_fill]
  frame_out
  rw [ktRead0, ktRead0, ktRead0, ktRead0, ktRead0, ktRead0, ktRead0, ktRead0]
  funext y
  generalize rollK x0 (k0_pay5 (F := Ideal)) = K
  refine View.canon_append_of_piecesOf _ [_] [_, _, _, _, _, _, _, _, _, _, _, _, _, _, _, _]
    ⟨?_, ?_, ?_, ?_, ?_, ?_, ?_, ?_, ?_, ?_, ?_, ?_, ?_, ?_, ?_, ?_, trivial⟩ y
    (View.cover_of_tiledL _ ![1, 128, 128] (by sl_kernel_rfl) y)
  · exact lPiece_hi x0 K x1 7 _ rfl (by decide) _ _ _ inb_S8x256x128_S1x128x128_7_128_0
  · exact lPiece_lo x0 K x1 7 _ rfl (by decide) _ _ _ inb_S8x256x128_S1x128x128_7_0_0
  · exact lPiece_hi x0 K x1 6 _ rfl (by decide) _ _ _ inb_S8x256x128_S1x128x128_6_128_0
  · exact lPiece_lo x0 K x1 6 _ rfl (by decide) _ _ _ inb_S8x256x128_S1x128x128_6_0_0
  · exact lPiece_hi x0 K x1 5 _ rfl (by decide) _ _ _ inb_S8x256x128_S1x128x128_5_128_0
  · exact lPiece_lo x0 K x1 5 _ rfl (by decide) _ _ _ inb_S8x256x128_S1x128x128_5_0_0
  · exact lPiece_hi x0 K x1 4 _ rfl (by decide) _ _ _ inb_S8x256x128_S1x128x128_4_128_0
  · exact lPiece_lo x0 K x1 4 _ rfl (by decide) _ _ _ inb_S8x256x128_S1x128x128_4_0_0
  · exact lPiece_hi x0 K x1 3 _ rfl (by decide) _ _ _ inb_S8x256x128_S1x128x128_3_128_0
  · exact lPiece_lo x0 K x1 3 _ rfl (by decide) _ _ _ inb_S8x256x128_S1x128x128_3_0_0
  · exact lPiece_hi x0 K x1 2 _ rfl (by decide) _ _ _ inb_S8x256x128_S1x128x128_2_128_0
  · exact lPiece_lo x0 K x1 2 _ rfl (by decide) _ _ _ inb_S8x256x128_S1x128x128_2_0_0
  · exact lPiece_hi x0 K x1 1 _ rfl (by decide) _ _ _ inb_S8x256x128_S1x128x128_1_128_0
  · exact lPiece_lo x0 K x1 1 _ rfl (by decide) _ _ _ inb_S8x256x128_S1x128x128_1_0_0
  · exact lPiece_hi x0 K x1 0 _ rfl (by decide) _ _ _ inb_S8x256x128_S1x128x128_0_128_0
  · exact lPiece_lo x0 K x1 0 _ rfl (by decide) _ _ _ inb_S8x256x128_S1x128x128_0_0_0

end Cert.KernelIdeal.Attn
-- ==== Proof.Attn.Bias.lean ====
/-  The bias table that the host builds for the kernel, read at an index. -/
module

public import proofs.«01_k».proof.Proof.Gen.KernelIdeal.Frame
public import Idealize.ShloMosaic.Lib.StableHlo.ReadAt
public import Idealize.ShloMosaic.Lib.Tactic
public import Idealize.ShloMosaic.Lib.Pointwise

@[expose] public section

set_option maxRecDepth 8000
noncomputable section

namespace Cert.KernelIdeal.Attn

open Cert.KernelIdeal Cert.KernelIdeal.Gen Idealize.ShloMosaic Idealize.ShloMosaic.TcCoe

abbrev Mem := (ℓ : Loc nD τ sig) → Buf (Elt Ideal) ℓ

/-! Each concatenation of the list, its operands each at its own buffer. -/

/-- The arrays joined along axis 1. -/
def cat16_slabs (x0 x1 x2 x3 x4 x5 x6 x7 x8 x9 x10 x11 x12 x13 x14 x15 : Vec Ideal S8x1x576 .f32) : Vec Ideal S8x16x576 .f32 :=
  concatenate S8x16x576 1 [⟨S8x1x576, x0⟩, ⟨S8x1x576, x1⟩, ⟨S8x1x576, x2⟩, ⟨S8x1x576, x3⟩, ⟨S8x1x576, x4⟩, ⟨S8x1x576, x5⟩, ⟨S8x1x576, x6⟩, ⟨S8x1x576, x7⟩, ⟨S8x1x576, x8⟩, ⟨S8x1x576, x9⟩, ⟨S8x1x576, x10⟩, ⟨S8x1x576, x11⟩, ⟨S8x1x576, x12⟩, ⟨S8x1x576, x13⟩, ⟨S8x1x576, x14⟩, ⟨S8x1x576, x15⟩] concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1

/-- The arrays joined along axis 1. -/
def cat4_groups (x0 : Vec Ideal S8x16x576 .f32) (x1 : Vec Ideal S8x16x576 .f32) (x2 : Vec Ideal S8x16x576 .f32) (x3 : Vec Ideal S8x16x576 .f32) : Vec Ideal S8x64x576 .f32 :=
  concatenate S8x64x576 1 [⟨S8x16x576, x0⟩, ⟨S8x16x576, x1⟩, ⟨S8x16x576, x2⟩, ⟨S8x16x576, x3⟩] concatenates_S8x16x576_S8x16x576_S8x16x576_S8x16x576_S8x64x576_d1

/-- The arrays joined along axis 2. -/
def cat3_pad2 (x0 : Vec Ideal S8x64x0 .f32) (x1 : Vec Ideal S8x64x576 .f32) (x2 : Vec Ideal S8x64x192 .f32) : Vec Ideal S8x64x768 .f32 :=
  concatenate S8x64x768 2 [⟨S8x64x0, x0⟩, ⟨S8x64x576, x1⟩, ⟨S8x64x192, x2⟩] concatenates_S8x64x0_S8x64x576_S8x64x192_S8x64x768_d2

/-- The arrays joined along axis 2. -/
def cat3_pad3 (x0 : Vec Ideal S8x64x64 .f32) (x1 : Vec Ideal S8x64x576 .f32) (x2 : Vec Ideal S8x64x128 .f32) : Vec Ideal S8x64x768 .f32 :=
  concatenate S8x64x768 2 [⟨S8x64x64, x0⟩, ⟨S8x64x576, x1⟩, ⟨S8x64x128, x2⟩] concatenates_S8x64x64_S8x64x576_S8x64x128_S8x64x768_d2

/-- The arrays joined along axis 2. -/
def cat3_pad4 (x0 : Vec Ideal S8x64x128 .f32) (x1 : Vec Ideal S8x64x576 .f32) (x2 : Vec Ideal S8x64x64 .f32) : Vec Ideal S8x64x768 .f32 :=
  concatenate S8x64x768 2 [⟨S8x64x128, x0⟩, ⟨S8x64x576, x1⟩, ⟨S8x64x64, x2⟩] concatenates_S8x64x128_S8x64x576_S8x64x64_S8x64x768_d2

/-- The arrays joined along axis 2. -/
def cat3_pad5 (x0 : Vec Ideal S8x64x192 .f32) (x1 : Vec Ideal S8x64x576 .f32) (x2 : Vec Ideal S8x64x0 .f32) : Vec Ideal S8x64x768 .f32 :=
  concatenate S8x64x768 2 [⟨S8x64x192, x0⟩, ⟨S8x64x576, x1⟩, ⟨S8x64x0, x2⟩] concatenates_S8x64x192_S8x64x576_S8x64x0_S8x64x768_d2

/-- The arrays joined along axis 1. -/
def cat4_rows (x0 : Vec Ideal S8x64x768 .f32) (x1 : Vec Ideal S8x64x768 .f32) (x2 : Vec Ideal S8x64x768 .f32) (x3 : Vec Ideal S8x64x768 .f32) : Vec Ideal S8x256x768 .f32 :=
  concatenate S8x256x768 1 [⟨S8x64x768, x0⟩, ⟨S8x64x768, x1⟩, ⟨S8x64x768, x2⟩, ⟨S8x64x768, x3⟩] concatenates_S8x64x768_S8x64x768_S8x64x768_S8x64x768_S8x256x768_d1

/-- The far values and the near values joined along axis 1. -/
def cat2_ext (x0 : Vec Ideal S8x448 .f32) (x1 : Vec Ideal S8x191 .f32) : Vec Ideal S8x639 .f32 :=
  concatenate S8x639 1 [⟨S8x448, x0⟩, ⟨S8x191, x1⟩] concatenates_S8x448_S8x191_S8x639_d1

theorem cat_v4 (hx hy hz) (W : Valuation τ sig (Elt Ideal)) :
    (StableHlo.binary (τ := τ) main_v1 main_v3 main_v4 ((fun a b => concatenate S8x639 1 [⟨S8x448, a⟩, ⟨S8x191, b⟩] concatenates_S8x448_S8x191_S8x639_d1) : (⟨S8x448, .f32⟩ : BufTy).Contents (Elt Ideal) → (⟨S8x191, .f32⟩ : BufTy).Contents (Elt Ideal) → (⟨S8x639, .f32⟩ : BufTy).Contents (Elt Ideal)) hx hy hz).result W (no_index (Proc.devRef .tc main_v4))
      = cat2_ext (W (Proc.devRef .tc main_v1)) (W (Proc.devRef .tc main_v3)) :=
  StableHlo.binary_result ..

theorem cat_v133 (hxs hy) (W : Valuation τ sig (Elt Ideal)) :
    (StableHlo.nary (τ := τ) ![main_v69, main_v70, main_v71, main_v72, main_v73, main_v74, main_v75, main_v76, main_v77, main_v78, main_v79, main_v80, main_v81, main_v82, main_v83, main_v84] main_v133 (fun u => (concatenate S8x16x576 1 [⟨S8x1x576, (u 0 : (⟨S8x1x576, .f32⟩ : BufTy).Contents (Elt Ideal))⟩, ⟨S8x1x576, (u 1 : (⟨S8x1x576, .f32⟩ : BufTy).Contents (Elt Ideal))⟩, ⟨S8x1x576, (u 2 : (⟨S8x1x576, .f32⟩ : BufTy).Contents (Elt Ideal))⟩, ⟨S8x1x576, (u 3 : (⟨S8x1x576, .f32⟩ : BufTy).Contents (Elt Ideal))⟩, ⟨S8x1x576, (u 4 : (⟨S8x1x576, .f32⟩ : BufTy).Contents (Elt Ideal))⟩, ⟨S8x1x576, (u 5 : (⟨S8x1x576, .f32⟩ : BufTy).Contents (Elt Ideal))⟩, ⟨S8x1x576, (u 6 : (⟨S8x1x576, .f32⟩ : BufTy).Contents (Elt Ideal))⟩, ⟨S8x1x576, (u 7 : (⟨S8x1x576, .f32⟩ : BufTy).Contents (Elt Ideal))⟩, ⟨S8x1x576, (u 8 : (⟨S8x1x576, .f32⟩ : BufTy).Contents (Elt Ideal))⟩, ⟨S8x1x576, (u 9 : (⟨S8x1x576, .f32⟩ : BufTy).Contents (Elt Ideal))⟩, ⟨S8x1x576, (u 10 : (⟨S8x1x576, .f32⟩ : BufTy).Contents (Elt Ideal))⟩, ⟨S8x1x576, (u 11 : (⟨S8x1x576, .f32⟩ : BufTy).Contents (Elt Ideal))⟩, ⟨S8x1x576, (u 12 : (⟨S8x1x576, .f32⟩ : BufTy).Contents (Elt Ideal))⟩, ⟨S8x1x576, (u 13 : (⟨S8x1x576, .f32⟩ : BufTy).Contents (Elt Ideal))⟩, ⟨S8x1x576, (u 14 : (⟨S8x1x576, .f32⟩ : BufTy).Contents (Elt Ideal))⟩, ⟨S8x1x576, (u 15 : (⟨S8x1x576, .f32⟩ : BufTy).Contents (Elt Ideal))⟩] concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1 : (⟨S8x16x576, .f32⟩ : BufTy).Contents (Elt Ideal))) hxs hy).result W (no_index (Proc.devRef .tc main_v133))
      = cat16_slabs (W (Proc.devRef .tc main_v69)) (W (Proc.devRef .tc main_v70)) (W (Proc.devRef .tc main_v71)) (W (Proc.devRef .tc main_v72)) (W (Proc.devRef .tc main_v73)) (W (Proc.devRef .tc main_v74)) (W (Proc.devRef .tc main_v75)) (W (Proc.devRef .tc main_v76)) (W (Proc.devRef .tc main_v77)) (W (Proc.devRef .tc main_v78)) (W (Proc.devRef .tc main_v79)) (W (Proc.devRef .tc main_v80)) (W (Proc.devRef .tc main_v81)) (W (Proc.devRef .tc main_v82)) (W (Proc.devRef .tc main_v83)) (W (Proc.devRef .tc main_v84)) :=
  StableHlo.nary_result ..

theorem cat_v134 (hxs hy) (W : Valuation τ sig (Elt Ideal)) :
    (StableHlo.nary (τ := τ) ![main_v85, main_v86, main_v87, main_v88, main_v89, main_v90, main_v91, main_v92, main_v93, main_v94, main_v95, main_v96, main_v97, main_v98, main_v99, main_v100] main_v134 (fun u => (concatenate S8x16x576 1 [⟨S8x1x576, (u 0 : (⟨S8x1x576, .f32⟩ : BufTy).Contents (Elt Ideal))⟩, ⟨S8x1x576, (u 1 : (⟨S8x1x576, .f32⟩ : BufTy).Contents (Elt Ideal))⟩, ⟨S8x1x576, (u 2 : (⟨S8x1x576, .f32⟩ : BufTy).Contents (Elt Ideal))⟩, ⟨S8x1x576, (u 3 : (⟨S8x1x576, .f32⟩ : BufTy).Contents (Elt Ideal))⟩, ⟨S8x1x576, (u 4 : (⟨S8x1x576, .f32⟩ : BufTy).Contents (Elt Ideal))⟩, ⟨S8x1x576, (u 5 : (⟨S8x1x576, .f32⟩ : BufTy).Contents (Elt Ideal))⟩, ⟨S8x1x576, (u 6 : (⟨S8x1x576, .f32⟩ : BufTy).Contents (Elt Ideal))⟩, ⟨S8x1x576, (u 7 : (⟨S8x1x576, .f32⟩ : BufTy).Contents (Elt Ideal))⟩, ⟨S8x1x576, (u 8 : (⟨S8x1x576, .f32⟩ : BufTy).Contents (Elt Ideal))⟩, ⟨S8x1x576, (u 9 : (⟨S8x1x576, .f32⟩ : BufTy).Contents (Elt Ideal))⟩, ⟨S8x1x576, (u 10 : (⟨S8x1x576, .f32⟩ : BufTy).Contents (Elt Ideal))⟩, ⟨S8x1x576, (u 11 : (⟨S8x1x576, .f32⟩ : BufTy).Contents (Elt Ideal))⟩, ⟨S8x1x576, (u 12 : (⟨S8x1x576, .f32⟩ : BufTy).Contents (Elt Ideal))⟩, ⟨S8x1x576, (u 13 : (⟨S8x1x576, .f32⟩ : BufTy).Contents (Elt Ideal))⟩, ⟨S8x1x576, (u 14 : (⟨S8x1x576, .f32⟩ : BufTy).Contents (Elt Ideal))⟩, ⟨S8x1x576, (u 15 : (⟨S8x1x576, .f32⟩ : BufTy).Contents (Elt Ideal))⟩] concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1 : (⟨S8x16x576, .f32⟩ : BufTy).Contents (Elt Ideal))) hxs hy).result W (no_index (Proc.devRef .tc main_v134))
      = cat16_slabs (W (Proc.devRef .tc main_v85)) (W (Proc.devRef .tc main_v86)) (W (Proc.devRef .tc main_v87)) (W (Proc.devRef .tc main_v88)) (W (Proc.devRef .tc main_v89)) (W (Proc.devRef .tc main_v90)) (W (Proc.devRef .tc main_v91)) (W (Proc.devRef .tc main_v92)) (W (Proc.devRef .tc main_v93)) (W (Proc.devRef .tc main_v94)) (W (Proc.devRef .tc main_v95)) (W (Proc.devRef .tc main_v96)) (W (Proc.devRef .tc main_v97)) (W (Proc.devRef .tc main_v98)) (W (Proc.devRef .tc main_v99)) (W (Proc.devRef .tc main_v100)) :=
  StableHlo.nary_result ..

theorem cat_v135 (hxs hy) (W : Valuation τ sig (Elt Ideal)) :
    (StableHlo.nary (τ := τ) ![main_v101, main_v102, main_v103, main_v104, main_v105, main_v106, main_v107, main_v108, main_v109, main_v110, main_v111, main_v112, main_v113, main_v114, main_v115, main_v116] main_v135 (fun u => (concatenate S8x16x576 1 [⟨S8x1x576, (u 0 : (⟨S8x1x576, .f32⟩ : BufTy).Contents (Elt Ideal))⟩, ⟨S8x1x576, (u 1 : (⟨S8x1x576, .f32⟩ : BufTy).Contents (Elt Ideal))⟩, ⟨S8x1x576, (u 2 : (⟨S8x1x576, .f32⟩ : BufTy).Contents (Elt Ideal))⟩, ⟨S8x1x576, (u 3 : (⟨S8x1x576, .f32⟩ : BufTy).Contents (Elt Ideal))⟩, ⟨S8x1x576, (u 4 : (⟨S8x1x576, .f32⟩ : BufTy).Contents (Elt Ideal))⟩, ⟨S8x1x576, (u 5 : (⟨S8x1x576, .f32⟩ : BufTy).Contents (Elt Ideal))⟩, ⟨S8x1x576, (u 6 : (⟨S8x1x576, .f32⟩ : BufTy).Contents (Elt Ideal))⟩, ⟨S8x1x576, (u 7 : (⟨S8x1x576, .f32⟩ : BufTy).Contents (Elt Ideal))⟩, ⟨S8x1x576, (u 8 : (⟨S8x1x576, .f32⟩ : BufTy).Contents (Elt Ideal))⟩, ⟨S8x1x576, (u 9 : (⟨S8x1x576, .f32⟩ : BufTy).Contents (Elt Ideal))⟩, ⟨S8x1x576, (u 10 : (⟨S8x1x576, .f32⟩ : BufTy).Contents (Elt Ideal))⟩, ⟨S8x1x576, (u 11 : (⟨S8x1x576, .f32⟩ : BufTy).Contents (Elt Ideal))⟩, ⟨S8x1x576, (u 12 : (⟨S8x1x576, .f32⟩ : BufTy).Contents (Elt Ideal))⟩, ⟨S8x1x576, (u 13 : (⟨S8x1x576, .f32⟩ : BufTy).Contents (Elt Ideal))⟩, ⟨S8x1x576, (u 14 : (⟨S8x1x576, .f32⟩ : BufTy).Contents (Elt Ideal))⟩, ⟨S8x1x576, (u 15 : (⟨S8x1x576, .f32⟩ : BufTy).Contents (Elt Ideal))⟩] concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1 : (⟨S8x16x576, .f32⟩ : BufTy).Contents (Elt Ideal))) hxs hy).result W (no_index (Proc.devRef .tc main_v135))
      = cat16_slabs (W (Proc.devRef .tc main_v101)) (W (Proc.devRef .tc main_v102)) (W (Proc.devRef .tc main_v103)) (W (Proc.devRef .tc main_v104)) (W (Proc.devRef .tc main_v105)) (W (Proc.devRef .tc main_v106)) (W (Proc.devRef .tc main_v107)) (W (Proc.devRef .tc main_v108)) (W (Proc.devRef .tc main_v109)) (W (Proc.devRef .tc main_v110)) (W (Proc.devRef .tc main_v111)) (W (Proc.devRef .tc main_v112)) (W (Proc.devRef .tc main_v113)) (W (Proc.devRef .tc main_v114)) (W (Proc.devRef .tc main_v115)) (W (Proc.devRef .tc main_v116)) :=
  StableHlo.nary_result ..

theorem cat_v136 (hxs hy) (W : Valuation τ sig (Elt Ideal)) :
    (StableHlo.nary (τ := τ) ![main_v117, main_v118, main_v119, main_v120, main_v121, main_v122, main_v123, main_v124, main_v125, main_v126, main_v127, main_v128, main_v129, main_v130, main_v131, main_v132] main_v136 (fun u => (concatenate S8x16x576 1 [⟨S8x1x576, (u 0 : (⟨S8x1x576, .f32⟩ : BufTy).Contents (Elt Ideal))⟩, ⟨S8x1x576, (u 1 : (⟨S8x1x576, .f32⟩ : BufTy).Contents (Elt Ideal))⟩, ⟨S8x1x576, (u 2 : (⟨S8x1x576, .f32⟩ : BufTy).Contents (Elt Ideal))⟩, ⟨S8x1x576, (u 3 : (⟨S8x1x576, .f32⟩ : BufTy).Contents (Elt Ideal))⟩, ⟨S8x1x576, (u 4 : (⟨S8x1x576, .f32⟩ : BufTy).Contents (Elt Ideal))⟩, ⟨S8x1x576, (u 5 : (⟨S8x1x576, .f32⟩ : BufTy).Contents (Elt Ideal))⟩, ⟨S8x1x576, (u 6 : (⟨S8x1x576, .f32⟩ : BufTy).Contents (Elt Ideal))⟩, ⟨S8x1x576, (u 7 : (⟨S8x1x576, .f32⟩ : BufTy).Contents (Elt Ideal))⟩, ⟨S8x1x576, (u 8 : (⟨S8x1x576, .f32⟩ : BufTy).Contents (Elt Ideal))⟩, ⟨S8x1x576, (u 9 : (⟨S8x1x576, .f32⟩ : BufTy).Contents (Elt Ideal))⟩, ⟨S8x1x576, (u 10 : (⟨S8x1x576, .f32⟩ : BufTy).Contents (Elt Ideal))⟩, ⟨S8x1x576, (u 11 : (⟨S8x1x576, .f32⟩ : BufTy).Contents (Elt Ideal))⟩, ⟨S8x1x576, (u 12 : (⟨S8x1x576, .f32⟩ : BufTy).Contents (Elt Ideal))⟩, ⟨S8x1x576, (u 13 : (⟨S8x1x576, .f32⟩ : BufTy).Contents (Elt Ideal))⟩, ⟨S8x1x576, (u 14 : (⟨S8x1x576, .f32⟩ : BufTy).Contents (Elt Ideal))⟩, ⟨S8x1x576, (u 15 : (⟨S8x1x576, .f32⟩ : BufTy).Contents (Elt Ideal))⟩] concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1 : (⟨S8x16x576, .f32⟩ : BufTy).Contents (Elt Ideal))) hxs hy).result W (no_index (Proc.devRef .tc main_v136))
      = cat16_slabs (W (Proc.devRef .tc main_v117)) (W (Proc.devRef .tc main_v118)) (W (Proc.devRef .tc main_v119)) (W (Proc.devRef .tc main_v120)) (W (Proc.devRef .tc main_v121)) (W (Proc.devRef .tc main_v122)) (W (Proc.devRef .tc main_v123)) (W (Proc.devRef .tc main_v124)) (W (Proc.devRef .tc main_v125)) (W (Proc.devRef .tc main_v126)) (W (Proc.devRef .tc main_v127)) (W (Proc.devRef .tc main_v128)) (W (Proc.devRef .tc main_v129)) (W (Proc.devRef .tc main_v130)) (W (Proc.devRef .tc main_v131)) (W (Proc.devRef .tc main_v132)) :=
  StableHlo.nary_result ..

theorem cat_v137 (hxs hy) (W : Valuation τ sig (Elt Ideal)) :
    (StableHlo.nary (τ := τ) ![main_v133, main_v134, main_v135, main_v136] main_v137 (fun u => (concatenate S8x64x576 1 [⟨S8x16x576, (u 0 : (⟨S8x16x576, .f32⟩ : BufTy).Contents (Elt Ideal))⟩, ⟨S8x16x576, (u 1 : (⟨S8x16x576, .f32⟩ : BufTy).Contents (Elt Ideal))⟩, ⟨S8x16x576, (u 2 : (⟨S8x16x576, .f32⟩ : BufTy).Contents (Elt Ideal))⟩, ⟨S8x16x576, (u 3 : (⟨S8x16x576, .f32⟩ : BufTy).Contents (Elt Ideal))⟩] concatenates_S8x16x576_S8x16x576_S8x16x576_S8x16x576_S8x64x576_d1 : (⟨S8x64x576, .f32⟩ : BufTy).Contents (Elt Ideal))) hxs hy).result W (no_index (Proc.devRef .tc main_v137))
      = cat4_groups (W (Proc.devRef .tc main_v133)) (W (Proc.devRef .tc main_v134)) (W (Proc.devRef .tc main_v135)) (W (Proc.devRef .tc main_v136)) :=
  StableHlo.nary_result ..

theorem cat_v140 (hxs hy) (W : Valuation τ sig (Elt Ideal)) :
    (StableHlo.nary (τ := τ) ![main_v139, main_v137, main_v138] main_v140 (fun u => (concatenate S8x64x768 2 [⟨S8x64x0, (u 0 : (⟨S8x64x0, .f32⟩ : BufTy).Contents (Elt Ideal))⟩, ⟨S8x64x576, (u 1 : (⟨S8x64x576, .f32⟩ : BufTy).Contents (Elt Ideal))⟩, ⟨S8x64x192, (u 2 : (⟨S8x64x192, .f32⟩ : BufTy).Contents (Elt Ideal))⟩] concatenates_S8x64x0_S8x64x576_S8x64x192_S8x64x768_d2 : (⟨S8x64x768, .f32⟩ : BufTy).Contents (Elt Ideal))) hxs hy).result W (no_index (Proc.devRef .tc main_v140))
      = cat3_pad2 (W (Proc.devRef .tc main_v139)) (W (Proc.devRef .tc main_v137)) (W (Proc.devRef .tc main_v138)) :=
  StableHlo.nary_result ..

theorem cat_v143 (hxs hy) (W : Valuation τ sig (Elt Ideal)) :
    (StableHlo.nary (τ := τ) ![main_v141, main_v137, main_v142] main_v143 (fun u => (concatenate S8x64x768 2 [⟨S8x64x64, (u 0 : (⟨S8x64x64, .f32⟩ : BufTy).Contents (Elt Ideal))⟩, ⟨S8x64x576, (u 1 : (⟨S8x64x576, .f32⟩ : BufTy).Contents (Elt Ideal))⟩, ⟨S8x64x128, (u 2 : (⟨S8x64x128, .f32⟩ : BufTy).Contents (Elt Ideal))⟩] concatenates_S8x64x64_S8x64x576_S8x64x128_S8x64x768_d2 : (⟨S8x64x768, .f32⟩ : BufTy).Contents (Elt Ideal))) hxs hy).result W (no_index (Proc.devRef .tc main_v143))
      = cat3_pad3 (W (Proc.devRef .tc main_v141)) (W (Proc.devRef .tc main_v137)) (W (Proc.devRef .tc main_v142)) :=
  StableHlo.nary_result ..

theorem cat_v146 (hxs hy) (W : Valuation τ sig (Elt Ideal)) :
    (StableHlo.nary (τ := τ) ![main_v144, main_v137, main_v145] main_v146 (fun u => (concatenate S8x64x768 2 [⟨S8x64x128, (u 0 : (⟨S8x64x128, .f32⟩ : BufTy).Contents (Elt Ideal))⟩, ⟨S8x64x576, (u 1 : (⟨S8x64x576, .f32⟩ : BufTy).Contents (Elt Ideal))⟩, ⟨S8x64x64, (u 2 : (⟨S8x64x64, .f32⟩ : BufTy).Contents (Elt Ideal))⟩] concatenates_S8x64x128_S8x64x576_S8x64x64_S8x64x768_d2 : (⟨S8x64x768, .f32⟩ : BufTy).Contents (Elt Ideal))) hxs hy).result W (no_index (Proc.devRef .tc main_v146))
      = cat3_pad4 (W (Proc.devRef .tc main_v144)) (W (Proc.devRef .tc main_v137)) (W (Proc.devRef .tc main_v145)) :=
  StableHlo.nary_result ..

theorem cat_v148 (hxs hy) (W : Valuation τ sig (Elt Ideal)) :
    (StableHlo.nary (τ := τ) ![main_v138, main_v137, main_v147] main_v148 (fun u => (concatenate S8x64x768 2 [⟨S8x64x192, (u 0 : (⟨S8x64x192, .f32⟩ : BufTy).Contents (Elt Ideal))⟩, ⟨S8x64x576, (u 1 : (⟨S8x64x576, .f32⟩ : BufTy).Contents (Elt Ideal))⟩, ⟨S8x64x0, (u 2 : (⟨S8x64x0, .f32⟩ : BufTy).Contents (Elt Ideal))⟩] concatenates_S8x64x192_S8x64x576_S8x64x0_S8x64x768_d2 : (⟨S8x64x768, .f32⟩ : BufTy).Contents (Elt Ideal))) hxs hy).result W (no_index (Proc.devRef .tc main_v148))
      = cat3_pad5 (W (Proc.devRef .tc main_v138)) (W (Proc.devRef .tc main_v137)) (W (Proc.devRef .tc main_v147)) :=
  StableHlo.nary_result ..

theorem cat_v149 (hxs hy) (W : Valuation τ sig (Elt Ideal)) :
    (StableHlo.nary (τ := τ) ![main_v140, main_v143, main_v146, main_v148] main_v149 (fun u => (concatenate S8x256x768 1 [⟨S8x64x768, (u 0 : (⟨S8x64x768, .f32⟩ : BufTy).Contents (Elt Ideal))⟩, ⟨S8x64x768, (u 1 : (⟨S8x64x768, .f32⟩ : BufTy).Contents (Elt Ideal))⟩, ⟨S8x64x768, (u 2 : (⟨S8x64x768, .f32⟩ : BufTy).Contents (Elt Ideal))⟩, ⟨S8x64x768, (u 3 : (⟨S8x64x768, .f32⟩ : BufTy).Contents (Elt Ideal))⟩] concatenates_S8x64x768_S8x64x768_S8x64x768_S8x64x768_S8x256x768_d1 : (⟨S8x256x768, .f32⟩ : BufTy).Contents (Elt Ideal))) hxs hy).result W (no_index (Proc.devRef .tc main_v149))
      = cat4_rows (W (Proc.devRef .tc main_v140)) (W (Proc.devRef .tc main_v143)) (W (Proc.devRef .tc main_v146)) (W (Proc.devRef .tc main_v148)) :=
  StableHlo.nary_result ..

/-- The extended table: the far value, then the near values backwards. -/
theorem ext_at (V0 : Valuation τ sig (Elt Ideal)) (h : Fin 8) (y : Fin 639) :
    (StableHlo.after hostOps0 V0 (Proc.devRef .tc main_v4) : Vec Ideal S8x639 .f32) (ix2 h y)
      = (V0 (Proc.devRef .tc main_arg1) : Vec Ideal S8x257 .f32) (ix2 h ⟨min 256 (703 - y.val), by omega⟩) := by
  after_reads_at
  by_cases hy : y.val < 448
  · simp only [hy, if_true, dif_pos]
    refine congrArg (V0 (Proc.devRef .tc main_arg1) : Vec Ideal S8x257 .f32) (congrArg (ix2 h) (Fin.ext ?_))
    show 256 = min 256 (703 - y.val)
    omega
  · simp only [hy, if_false, dif_neg, not_false_eq_true]
    refine congrArg (V0 (Proc.devRef .tc main_arg1) : Vec Ideal S8x257 .f32) (congrArg₂ ix2 rfl (Fin.ext ?_))
    show 65 + (191 - (y.val - 448 + 1)) = min 256 (703 - y.val)
    omega

set_option maxHeartbeats 4000000 in
theorem rows_at (V0 : Valuation τ sig (Elt Ideal)) (h : Fin 8) (q : Fin 64) (y : Fin 576) :
    (StableHlo.after hostOps0 V0 (Proc.devRef .tc main_v137) : Vec Ideal S8x64x576 .f32) (ix3 h q y)
     = (StableHlo.after hostOps0 V0 (Proc.devRef .tc main_v4) : Vec Ideal S8x639 .f32) (ix2 h ⟨63 - q.val + y.val, by omega⟩) := by
  simp (disch := decide) only [StableHlo.readAfter, StableHlo.readUpto, StableHlo.nullary_result', StableHlo.unary_result', StableHlo.ternary_result',
    cat_v4, cat_v133, cat_v134, cat_v135, cat_v136, cat_v137]
  generalize cat2_ext _ _ = E
  fin_cases q <;> pointwise [cat4_groups, cat16_slabs]

theorem block_at (V0 : Valuation τ sig (Elt Ideal)) (h : Fin 8) (r : Fin 256) (k : Fin 768) :
    (StableHlo.after hostOps0 V0 (Proc.devRef .tc main_v149) : Vec Ideal S8x256x768 .f32) (ix3 h r k)
     = if hk : 64 * (r.val / 64) ≤ k.val ∧ k.val < 64 * (r.val / 64) + 576 then
        (StableHlo.after hostOps0 V0 (Proc.devRef .tc main_v137) : Vec Ideal S8x64x576 .f32) (ix3 h ⟨r.val % 64, by omega⟩ ⟨k.val - 64 * (r.val / 64), by omega⟩)
       else Ideal.ofBits .f32 0xFF800000#32 := by
  simp (disch := decide) only [StableHlo.readAfter, StableHlo.readUpto, StableHlo.nullary_result', StableHlo.unary_result', StableHlo.binary_result', StableHlo.ternary_result',
    cat_v140, cat_v143, cat_v146, cat_v148, cat_v149]
  generalize (StableHlo.nary _ main_v137 _ _ _).result _ _ = R
  pointwise [cat4_rows, cat3_pad2, cat3_pad3, cat3_pad4, cat3_pad5]
  have hr := r.isLt
  have hR : ∀ (a b : Fin 64) (x y : Fin 576), a.val = b.val → x.val = y.val → R (ix3 h a x) = R (ix3 h b y) :=
    fun a b x y e₁ e₂ => congrArg R (congrArg₂ (ix3 h) (Fin.ext e₁) (Fin.ext e₂))
  by_cases hk : 64 * (r.val / 64) ≤ k.val ∧ k.val < 64 * (r.val / 64) + 576
  · rw [dif_pos hk]
    split_ifs <;> first | (exfalso; omega) | (apply hR <;> (dsimp only; omega))
  · rw [dif_neg hk]
    split_ifs <;> first | rfl | (exfalso; omega)

/-- A word of the comparison of a key's block with the number of blocks masked. -/
theorem masked_word : ∀ (n : Fin 3) (k : Fin 768),
    (IntOp.cmpi CmpIPredicate.slt
        (Scalar.select
          (IntOp.andi
            (IntOp.cmpi CmpIPredicate.ne
              (if BitVec.ofNat 32 k.val = 0 then (0 : BitVec 32) else if (BitVec.ofNat 32 k.val).msb = true then -1 else 1)
              (if 256#32 = 0 then (0 : BitVec 32) else if (256#32).msb = true then -1 else 1))
            (IntOp.cmpi CmpIPredicate.ne (IntOp.remsi ArithUnit.host (BitVec.ofNat 32 k.val) 256#32) 0#32))
          (IntOp.subi (IntOp.divsi ArithUnit.host (BitVec.ofNat 32 k.val) 256#32) 1#32)
          (IntOp.divsi ArithUnit.host (BitVec.ofNat 32 k.val) 256#32))
        (BitVec.ofNat 32 n.val)) = 1 ↔ k.val / 256 < n.val := by decide +kernel

theorem table_at (W : Valuation τ sig (Elt Ideal)) (n : Fin 3) (h : Fin 8) (r : Fin 256) (k : Fin 768) (h1 : W (Proc.devRef .tc main_v150) = iotaInDim S3x1x1x768 32 3)
    (h2 : W (Proc.devRef .tc main_c) = constantI S_ 32 256#32) :
    (StableHlo.after (hostOps0_1 ++ (hostOps0_2 ++ (hostOps0_3 ++ []))) W (Proc.devRef .tc main_v155) : Vec Ideal S3x8x256x768 .f32) (ix4 n h r k)
     = if k.val / 256 < n.val then Ideal.ofBits .f32 0xFF800000#32 else (W (Proc.devRef .tc main_v149) : Vec Ideal S8x256x768 .f32) (ix3 h r k) := by
  after_reads_at
  simp only [h1, h2, id]
  pointwise
  rw [Scalar.select]
  exact if_congr (masked_word n k) rfl rfl

/-- The bias table the kernel reads: in window `n`, at query row `r` and key `k`, the extended table's value inside the row's band and off the
    first `n` blocks of keys, `-inf` elsewhere. -/
theorem bias_at (m : (ℓ : Loc nD τ sig) → Buf (Elt Ideal) ℓ) (c : Dev nD) (n : Fin 3) (h : Fin 8) (r : Fin 256) (k : Fin 768) :
    (V m c main_v155 : Vec Ideal S3x8x256x768 .f32) (ix4 n h r k)
      = if 256 * n.val ≤ k.val ∧ 64 * (r.val / 64) ≤ k.val ∧ k.val < 64 * (r.val / 64) + 576 then
          (m ((c : Thread nD τ).loc main_arg1) : Vec Ideal S8x257 .f32) (ix2 h ⟨min 256 (640 + r.val - k.val), by omega⟩)
        else Ideal.ofBits .f32 0xFF800000#32 := by
  have e : V m c main_v155 = StableHlo.after (hostOps0_1 ++ (hostOps0_2 ++ (hostOps0_3 ++ []))) (StableHlo.after hostOps0 (fun b => m (c, b))) (Proc.devRef .tc main_v155) :=
    congrFun (StableHlo.after_append hostOps0 _ _) _
  rw [e, table_at _ n h r k (by after_reads_simp) (by after_reads_simp), block_at]
  have hr := r.isLt
  by_cases hn : k.val / 256 < n.val
  · rw [if_pos hn, if_neg (by omega)]
  · rw [if_neg hn]
    by_cases hk : 64 * (r.val / 64) ≤ k.val ∧ k.val < 64 * (r.val / 64) + 576
    · rw [dif_pos hk, if_pos (by omega), rows_at, ext_at]
      refine congrArg (m ((c : Thread nD τ).loc main_arg1)) (congrArg (ix2 h) (Fin.ext ?_))
      dsimp only
      omega
    · rw [dif_neg hk, if_neg (by omega)]
end Cert.KernelIdeal.Attn
-- ==== Proof.Attn.Windows.lean ====
module

public import proofs.«01_k».proof.Proof.Attn.Points
public import proofs.«01_k».proof.Proof.Attn.Bias
public import Idealize.ShloMosaic.Lib.Pipeline.ValueKit.Point
public import Idealize.ShloMosaic.Lib.Pipeline.ValueKit.Geometry

@[expose] public section
set_option maxRecDepth 16384
noncomputable section
namespace Cert.KernelIdeal.Attn
open Cert.KernelIdeal Cert.KernelIdeal.Gen Idealize.ShloMosaic Idealize.ShloMosaic.TcCoe Idealize.SL.Sem
open Idealize.ShloMosaic.Pointwise

/-! # Which block of each array a grid point stages -/

variable (m : (ℓ : Loc nD τ sig) → Buf (Elt Ideal) ℓ)

/-- The block of queries a point takes up: the last point takes up the last block again. -/
def blkOf (t : ℕ) : ℕ := min t 127

/-- How many of a query block's three key blocks lie before its sequence. -/
def outOf (t : ℕ) : ℕ := 2 - blkOf t % 64

theorem index0 : ∀ t : Fin cfg0.N, win0_0.index t = ![blkOf t.val, 0] := by decide +kernel
theorem index1 : ∀ t : Fin cfg0.N, win0_1.index t = ![outOf t.val, 0, 0, 0] := by decide +kernel
theorem index2 : ∀ t : Fin cfg0.N, win0_2.index t = ![t.val - 1, 0] := by decide +kernel

/-- The projected rows a point stages. -/
theorem x0_at (c : Dev nD) (t : Fin cfg0.N) (r : Fin 256) (e : Fin 3072) :
    (X0_0 m c t : Vec Ideal S256x3072 .bf16) (ix2 r e)
      = nat2 (m ((c : Thread nD τ).loc main_arg0) : Vec Ideal S32768x4096 .bf16) (256 * blkOf t.val + r.val) e.val := by
  have hb : blkOf t.val ≤ 127 := Nat.min_le_right _ _
  have hr := r.isLt
  have he := e.isLt
  unfold X0_0 Pipeline.Window.fill
  rw [dif_pos (moved0_0 t _)]
  unfold nat2
  rw [dif_pos ⟨by omega, by omega⟩]
  blk_ext [iblk, V, index0 t]

/-- The bias window a point stages. -/
theorem b_at (c : Dev nD) (t : Fin cfg0.N) (h : Fin 8) (r : Fin 256) (k : Fin 768) :
    (iblk m c 1 t : Vec Ideal S1x8x256x768 .f32) (ix4 0 h r k)
      = (V m c main_v155 : Vec Ideal S3x8x256x768 .f32) (ix4 ⟨outOf t.val, by unfold outOf; omega⟩ h r k) := by
  blk_ext [iblk, index1 t]

end Cert.KernelIdeal.Attn
-- ==== Proof.Attn.State.lean ====
module

public import proofs.«01_k».proof.Proof.Attn.Windows

@[expose] public section
set_option maxRecDepth 16384
noncomputable section
namespace Cert.KernelIdeal.Attn
open Cert.KernelIdeal Cert.KernelIdeal.Gen Idealize.ShloMosaic Idealize.ShloMosaic.TcCoe Idealize.SL.Sem
open Idealize.ShloMosaic.Pointwise

/-! # The kernel's result as one formula of its arguments

Block `i` is 256 query rows; its 768 keys are the two blocks before it and itself, key `j` standing at position `256 * i + j - 512`. -/

section
variable (Z : Vec Ideal S32768x4096 .bf16) (A : Vec Ideal S8x257 .f32)

/-- Column `e` of the row at which key `j` of block `i` stands; zero before the first row. -/
def keyAt (i j e : ℕ) : EReal := if 512 ≤ 256 * i + j then nat2 Z (256 * i + j - 512) e else 0

/-- The bias of row `r` of block `i` at key `j`: `-inf` off the row's band and before the block's sequence. -/
def biasAt (i h r j : ℕ) : EReal :=
  if 256 * (2 - i % 64) ≤ j ∧ 64 * (r / 64) ≤ j ∧ j < 64 * (r / 64) + 576 then nat2 A h (min 256 (640 + r - j)) else Ideal.ofBits .f32 0xFF800000#32

/-- The score to base 2. -/
def scoreAt (i h r j : ℕ) : EReal :=
  (∑ d : Fin 128, nat2 Z (256 * i + r) (128 * h + d.val) * keyAt Z i j (1024 + (128 * h + d.val))) + biasAt A i h r j * lg

def topAt (i h r : ℕ) : EReal :=
  Finset.univ.fold max (Ideal.ofBits .f32 0xFF800000#32) (fun x : Fin 640 => scoreAt Z A i h r (128 * (r / 128) + x.val))

def weightAt (i h r j : ℕ) : EReal := FloatOps.exp2 (F := Ideal) (φ := .f32) (scoreAt Z A i h r j - topAt Z A i h r)

def sumAt (i h r : ℕ) : EReal := ∑ x : Fin 640, weightAt Z A i h r (128 * (r / 128) + x.val)

/-- The kernel's result at row `r` of block `i` and column `c`. -/
def outAt (i r c : ℕ) : EReal :=
  (∑ k : Fin 768, (if 128 * (r / 128) ≤ k.val ∧ k.val < 128 * (r / 128) + 640 then weightAt Z A i (c / 128) r k.val else 0) * keyAt Z i k.val (2048 + c))
    * Ideal.div 1 (sumAt Z A i (c / 128) r)
end

variable (m : (ℓ : Loc nD τ sig) → Buf (Elt Ideal) ℓ) (c : Dev nD)

/-- The projected rows and the bias table as the kernel finds them. -/
abbrev Zm : Vec Ideal S32768x4096 .bf16 := m ((c : Thread nD τ).loc main_arg0)
abbrev Am : Vec Ideal S8x257 .f32 := m ((c : Thread nD τ).loc main_arg1)

theorem x0_nat (t : Fin cfg0.N) (ht : t.val ≤ 127) {r e : ℕ} (hr : r < 256) (he : e < 3072) :
    nat2 (X0_0 m c t : Vec Ideal S256x3072 .bf16) r e = nat2 (Zm m c) (256 * t.val + r) e := by
  have h := x0_at m c t ⟨r, hr⟩ ⟨e, he⟩
  rw [show blkOf t.val = t.val from Nat.min_eq_left ht] at h
  exact (nat2_ix _ ⟨r, hr⟩ ⟨e, he⟩).symm.trans h

theorem b_nat (t : Fin cfg0.N) (ht : t.val ≤ 127) {h r k : ℕ} (hh : h < 8) (hr : r < 256) (hk : k < 768) :
    nat4 (iblk m c 1 t : Vec Ideal S1x8x256x768 .f32) 0 h r k = biasAt (Am m c) t.val h r k := by
  have e := (b_at m c t ⟨h, hh⟩ ⟨r, hr⟩ ⟨k, hk⟩).trans (bias_at m c _ _ _ _)
  refine (nat4_ix _ 0 ⟨h, hh⟩ ⟨r, hr⟩ ⟨k, hk⟩).symm.trans (e.trans ?_)
  unfold biasAt
  have hb : outOf t.val = 2 - t.val % 64 := by unfold outOf; rw [show blkOf t.val = t.val from Nat.min_eq_left ht]
  simp only [hb]
  exact if_congr Iff.rfl (nat2_ix _ _ _) rfl

theorem rollK_nat (x0 : Vec Ideal S256x3072 .bf16) (kt : Vec Ideal S1024x1024 .bf16) {d j : ℕ} (hd : d < 1024) (hj : j < 1024) :
    nat2 (rollK x0 kt) d j = rollKn x0 kt d j := nat2_fun _ (rollKn x0 kt) (fun _ => rfl) hd hj

theorem rollV_nat (x0 : Vec Ideal S256x3072 .bf16) (v : Vec Ideal S1024x1024 .bf16) {j d : ℕ} (hj : j < 1024) (hd : d < 1024) :
    nat2 (rollV x0 v) j d = rollVn x0 v j d := nat2_fun _ (rollVn x0 v) (fun _ => rfl) hj hd

theorem nextP_nat (x0 : Vec Ideal S256x3072 .bf16) (kt : Vec Ideal S1024x1024 .bf16) (b : Vec Ideal S1x8x256x768 .f32)
    (p : Vec Ideal S8x256x768 .bf16) {h r j : ℕ} (hh : h < 8) (hr : r < 256) (hj : j < 768) :
    nat3 (nextP x0 kt b p) h r j = nextPn x0 kt b p h r j := nat3_fun _ (nextPn x0 kt b p) (fun _ => rfl) hh hr hj

theorem nextO_nat (p : Vec Ideal S8x256x768 .bf16) (l : Vec Ideal S8x256x128 .f32) (v : Vec Ideal S1024x1024 .bf16)
    {r e : ℕ} (hr : r < 256) (he : e < 1024) : nat2 (nextO p l v) r e = nextOn p l v r e := nat2_fun _ (nextOn p l v) (fun _ => rfl) hr he

theorem zero16 : Ideal.ofBits .bf16 0x0000#16 = 0 := by simp [Ideal.ofBits, Ideal.ieee]

theorem k0_pay5_zero (y : S1024x1024.Idx) : (k0_pay5 (F := Ideal)) y = 0 := zero16
theorem k0_pay6_zero (y : S1024x1024.Idx) : (k0_pay6 (F := Ideal)) y = 0 := zero16
theorem k0_pay7_zero (y : S8x256x768.Idx) : (k0_pay7 (F := Ideal)) y = 0 := zero16

theorem before_succ (t : ℕ) (ht : t + 1 < cfg0.N) : before m c ⟨t + 1, ht⟩ = outsAt0 m c t (Nat.lt_of_succ_lt ht) := by
  unfold before
  simp only [Nat.add_sub_cancel]

/-- Two ways of saying at which positions an array is read. -/
theorem read_ite (f : ℕ → EReal) {a b n n' : ℕ} (h : a ≤ n ↔ b ≤ n') (e : n - a = n' - b) :
    (if a ≤ n then f (n - a) else 0) = if b ≤ n' then f (n' - b) else 0 := by
  rw [e]
  by_cases hp : a ≤ n
  · rw [if_pos hp, if_pos (h.mp hp)]
  · rw [if_neg hp, if_neg (mt h.mpr hp)]

/-- The keys after point `t`. -/
theorem keys_at : ∀ (t : ℕ) (ht : t < cfg0.N), t ≤ 127 → ∀ d j : ℕ, d < 1024 → j < 1024 →
    nat2 (outsAt0 m c t ht).2.1 d j = if 768 ≤ 256 * t + j then nat2 (Zm m c) (256 * t + j - 768) (1024 + d) else 0
  | 0, ht, _, d, j, hd, hj => by
    rw [kt_first m c ⟨0, ht⟩ rfl]
    rw [rollK_nat _ _ hd hj]
    unfold rollKn
    by_cases h : j < 768
    · rw [if_pos h, if_neg (by omega)]
      unfold nat2
      rw [dif_pos ⟨hd, by omega⟩]
      exact k0_pay5_zero _
    · rw [if_neg h, if_pos (by omega), x0_nat m c ⟨0, ht⟩ (by simp) (by omega) (by omega)]
      congr 1; dsimp only; omega
  | t + 1, ht, hle, d, j, hd, hj => by
    rw [kt_step m c ⟨t + 1, ht⟩ (by dsimp only; omega), before_succ]
    rw [rollK_nat _ _ hd hj]
    unfold rollKn
    by_cases h : j < 768
    · rw [if_pos h]
      refine (keys_at t (Nat.lt_of_succ_lt ht) (by omega) d (j + 256) hd (by omega)).trans ?_
      exact read_ite (fun n => nat2 (Zm m c) n (1024 + d)) (by omega) (by omega)
    · rw [if_neg h, if_pos (by omega), x0_nat m c ⟨t + 1, ht⟩ hle (by omega) (by omega)]
      congr 1; dsimp only; omega

/-- The values after point `t`. -/
theorem values_at : ∀ (t : ℕ) (ht : t < cfg0.N), t ≤ 127 → ∀ j d : ℕ, j < 1024 → d < 1024 →
    nat2 (outsAt0 m c t ht).2.2.1 j d = if 768 ≤ 256 * t + j then nat2 (Zm m c) (256 * t + j - 768) (2048 + d) else 0
  | 0, ht, _, j, d, hj, hd => by
    rw [v_first m c ⟨0, ht⟩ rfl]
    rw [rollV_nat _ _ hj hd]
    unfold rollVn
    by_cases h : j < 768
    · rw [if_pos h, if_neg (by omega)]
      unfold nat2
      rw [dif_pos ⟨by omega, hd⟩]
      exact k0_pay6_zero _
    · rw [if_neg h, if_pos (by omega), x0_nat m c ⟨0, ht⟩ (by simp) (by omega) (by omega)]
      congr 1; dsimp only; omega
  | t + 1, ht, hle, j, d, hj, hd => by
    rw [v_step m c ⟨t + 1, ht⟩ (by dsimp only; omega), before_succ]
    rw [rollV_nat _ _ hj hd]
    unfold rollVn
    by_cases h : j < 768
    · rw [if_pos h]
      refine (values_at t (Nat.lt_of_succ_lt ht) (by omega) (j + 256) d (by omega) hd).trans ?_
      exact read_ite (fun n => nat2 (Zm m c) n (2048 + d)) (by omega) (by omega)
    · rw [if_neg h, if_pos (by omega), x0_nat m c ⟨t + 1, ht⟩ hle (by omega) (by omega)]
      congr 1; dsimp only; omega

theorem score_at (t : Fin cfg0.N) (ht : t.val ≤ 127) {h r j : ℕ} (hh : h < 8) (hr : r < 256) (hj : j < 768) :
    score (X0_0 m c t) (outsAt0 m c t.val t.isLt).2.1 (iblk m c 1 t) h r j = scoreAt (Zm m c) (Am m c) t.val h r j := by
  unfold score scoreAt
  rw [b_nat m c t ht hh hr hj]
  refine congrArg (· + _) (Finset.sum_congr rfl fun d _ => ?_)
  have hd := d.isLt
  rw [x0_nat m c t ht hr (by omega), keys_at m c t.val t.isLt ht _ _ (by omega) (by omega)]
  unfold keyAt
  exact congrArg (_ * ·) (read_ite (fun n => nat2 (Zm m c) n (1024 + (128 * h + d.val))) (by omega) (by omega))

theorem weight_at (t : Fin cfg0.N) (ht : t.val ≤ 127) {h r j : ℕ} (hh : h < 8) (hr : r < 256) (hj : j < 768) :
    weight (X0_0 m c t) (outsAt0 m c t.val t.isLt).2.1 (iblk m c 1 t) h r j = weightAt (Zm m c) (Am m c) t.val h r j := by
  have hT : top (X0_0 m c t) (outsAt0 m c t.val t.isLt).2.1 (iblk m c 1 t) h r = topAt (Zm m c) (Am m c) t.val h r := by
    unfold top topAt
    congr 1
    funext x
    have hx := x.isLt
    exact score_at m c t ht hh hr (by omega)
  unfold weight weightAt
  rw [hT, score_at m c t ht hh hr hj]

/-- The weights after point `t`: nothing off the two halves' bands. -/
theorem weights_at : ∀ (t : ℕ) (ht : t < cfg0.N), t ≤ 127 → ∀ h r j : ℕ, h < 8 → r < 256 → j < 768 →
    nat3 (outsAt0 m c t ht).2.2.2.1 h r j
      = if 128 * (r / 128) ≤ j ∧ j < 128 * (r / 128) + 640 then weightAt (Zm m c) (Am m c) t h r j else 0
  | 0, ht, _, h, r, j, hh, hr, hj => by
    rw [p_first m c ⟨0, ht⟩ rfl, ← kt_first m c ⟨0, ht⟩ rfl]
    rw [nextP_nat _ _ _ _ hh hr hj]
    unfold nextPn
    refine if_congr Iff.rfl (weight_at m c ⟨0, ht⟩ (by simp) hh hr hj) ?_
    unfold nat3
    rw [dif_pos ⟨hh, hr, hj⟩]
    exact k0_pay7_zero _
  | t + 1, ht, hle, h, r, j, hh, hr, hj => by
    rw [p_step m c ⟨t + 1, ht⟩ (by dsimp only; omega), ← kt_step m c ⟨t + 1, ht⟩ (by dsimp only; omega), before_succ]
    rw [nextP_nat _ _ _ _ hh hr hj]
    unfold nextPn
    by_cases hb : 128 * (r / 128) ≤ j ∧ j < 128 * (r / 128) + 640
    · rw [if_pos hb, if_pos hb]
      exact weight_at m c ⟨t + 1, ht⟩ hle hh hr hj
    · rw [if_neg hb, if_neg hb]
      exact (weights_at t (Nat.lt_of_succ_lt ht) (by omega) h r j hh hr hj).trans (if_neg hb)

/-- The reciprocal sums after point `t`. -/
theorem sums_at (t : Fin cfg0.N) (hle : t.val ≤ 127) {h r x : ℕ} (hh : h < 8) (hr : r < 256) (hx : x < 128) :
    nat3 (outsAt0 m c t.val t.isLt).2.2.2.2 h r x = Ideal.div 1 (sumAt (Zm m c) (Am m c) t.val h r) := by
  have e : (outsAt0 m c t.val t.isLt).2.2.2.2 = nextL (X0_0 m c t) (outsAt0 m c t.val t.isLt).2.1 (iblk m c 1 t) := by
    by_cases h0 : t.val % 129 = 0
    · rw [l_first m c t h0, ← kt_first m c t h0]
    · rw [l_step m c t h0, ← kt_step m c t h0]
  rw [e]
  refine (nat3_fun (nextL _ _ _) (fun i j _ => nextLn (X0_0 m c t) (outsAt0 m c t.val t.isLt).2.1 (iblk m c 1 t) i j) (fun _ => rfl) hh hr hx).trans ?_
  unfold nextLn sumAt
  refine congrArg _ (Finset.sum_congr rfl fun y _ => ?_)
  have hy := y.isLt
  exact weight_at m c t hle hh hr (by omega)

/-- What point `t + 1` writes: the result's block `t`. -/
theorem out_at (t : ℕ) (ht : t + 1 < cfg0.N) {r e : ℕ} (hr : r < 256) (he : e < 1024) :
    nat2 (outsAt0 m c (t + 1) ht).1 r e = outAt (Zm m c) (Am m c) t r e := by
  have hN : t + 1 < 129 := ht
  rw [o_step m c ⟨t + 1, ht⟩ (by dsimp only; omega), before_succ]
  rw [nextO_nat _ _ _ hr he]
  unfold nextOn outAt
  refine congrArg₂ (· * ·) (Finset.sum_congr rfl fun k _ => ?_) (sums_at m c ⟨t, Nat.lt_of_succ_lt ht⟩ (show t ≤ 127 by omega) (by omega) hr (by omega))
  have hk := k.isLt
  refine congrArg₂ (· * ·) (weights_at m c t (Nat.lt_of_succ_lt ht) (by omega) _ _ _ (by omega) hr hk) ?_
  rw [rollV_nat _ _ (by omega) he]
  unfold rollVn keyAt
  rw [if_pos hk]
  refine (values_at m c t (Nat.lt_of_succ_lt ht) (by omega) (k.val + 256) e (by omega) he).trans ?_
  exact read_ite (fun n => nat2 (Zm m c) n (2048 + e)) (by omega) (by omega)

end Cert.KernelIdeal.Attn
-- ==== Proof.Attn.Out.lean ====
module

public import proofs.«01_k».proof.Proof.Attn.State
public import proofs.«01_k».proof.Proof.Gen.KernelIdeal.Value

@[expose] public section
set_option maxRecDepth 16384
noncomputable section
namespace Cert.KernelIdeal.Attn
open Cert.KernelIdeal Cert.KernelIdeal.Gen Idealize.ShloMosaic Idealize.ShloMosaic.TcCoe Idealize.SL.Sem
open Idealize.ShloMosaic.Pointwise

/-! # The kernel's result array: block `t - 1` is written back after point `t` -/

variable (m : (ℓ : Loc nD τ sig) → Buf (Elt Ideal) ℓ) (c : Dev nD)

theorem flush_pos : ∀ t : Fin cfg0.N, (cfg0.win 2).flush t = true → 1 ≤ t.val := by decide +kernel

/-- The kernel's result, at every row and column. -/
def result : Vec Ideal S32768x1024 .bf16 := fun y =>
  outAt (Zm m c) (Am m c) ((y 0).val / 256) ((y 0).val % 256) (y 1).val

theorem out_block (t : Fin cfg0.N) (h1 : 1 ≤ t.val) (y : S256x1024.Idx) :
    (outsAt0 m c t.val t.isLt).1 y = outAt (Zm m c) (Am m c) (t.val - 1) (y 0).val (y 1).val := by
  obtain ⟨n, hn⟩ := t
  cases n with
  | zero => exact absurd h1 (by simp)
  | succ n => exact (nat2_idx _ y).trans (out_at m c n hn (y 0).isLt (y 1).isLt)

theorem arr_eq : (dats m 0 c).arrAt 2 cfg0.N = result m c := by
  refine (dats m 0 c).arrAt_eq_of_covers 2 _ (by decide +kernel) fun t hf y => ?_
  blk_simp
  rw [after0_2]
  have h1 := flush_pos t hf
  have hy0 : (y 0).val < 256 := (y 0).isLt
  refine (out_block m c t h1 y).trans ?_
  unfold result
  have e0 : ((((cfg0.win 2).blk t).view.emb y) 0).val = 256 * (t.val - 1) + (y 0).val := by
    blk_simp [index2 t]
    omega
  have e1 : ((((cfg0.win 2).blk t).view.emb y) 1).val = (y 1).val := by
    blk_simp [index2 t]
  rw [e0, e1]
  congr 1 <;> omega

end Cert.KernelIdeal.Attn
-- ==== Proof.Inproj.Step.lean ====
module

public import proofs.«01_k».proof.Proof.Gen.Kernel2Ideal.Value
public import proofs.«01_k».proof.Proof.Attn.Step
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Kernel2Ideal.Inproj
open Cert.Kernel2Ideal Cert.Kernel2Ideal.Gen Idealize.ShloMosaic Idealize.ShloMosaic.TcCoe Idealize.SL.Sem
open Idealize.ShloMosaic.Pointwise
open Cert.KernelIdeal.Attn (nat2 nat3 nat2_ix nat3_ix nat2_idx nat2_fun read_writes_total canon_total)

/-! # One grid point of the input projection, entry by entry -/

/-- The reciprocal of the root mean square of a row of 2048 numbers. -/
def rowScale (X : ℕ → EReal) : EReal :=
  Ideal.rsqrt (Ideal.div (∑ k : Fin 2048, X k.val * X k.val) (Ideal.ofBits .f32 0x45000000#32) + Ideal.ofBits .f32 0x358637BD#32)

variable (x0 : Vec Ideal S1024x2048 .f32) (x1 : Vec Ideal S1x2048x2048 .bf16) (h : Vec Ideal S1024x2048 .bf16)

/-- The normalised rows of a point's block. -/
def normedN (r k : ℕ) : EReal := nat2 x0 r k * rowScale (nat2 x0 r)

def normed : Vec Ideal S1024x2048 .bf16 := fun y => normedN x0 (y 0).val (y 1).val

/-- A row of the normalised block times a column of the point's weights. -/
def prodN (r e : ℕ) : EReal := ∑ k : Fin 2048, nat2 h r k.val * nat3 x1 0 k.val e

/-- What the point leaves in its block of `z`: the first 1024 columns carry the factor `q`. -/
def zN (q : EReal) (r e : ℕ) : EReal := if e < 1024 then prodN x1 h r e * q else prodN x1 h r e

def zBlk (q : EReal) : Vec Ideal S1024x2048 .bf16 := fun y => zN x1 h q (y 0).val (y 1).val

def uBlk : Vec Ideal S1024x1024 .f32 := fun y => prodN x1 h (y 0).val (1024 + (y 1).val)

theorem hPiece (o : ℕ) (inb : ∀ a, (![o, 0] : Fin 2 → ℕ) a + (![512, 2048] : Fin 2 → ℕ) a ≤ S1024x2048.size a)
    (x : (Rect.unit (s := S1024x2048) ![o, 0] ![512, 2048] inb).shape.Idx) :
    k0_pay7 (F := Ideal) (View.ld x0 (Rect.unit (s := S1024x2048) ![o, 0] ![512, 2048] inb)) x
      = normed x0 ((Rect.unit (s := S1024x2048) ![o, 0] ![512, 2048] inb).emb x) := by
  idx_vars x
  show _ = normedN _ (o + 1 * x0.val) (0 + 1 * x1.val)
  unfold normedN rowScale
  pointwise [k0_pay7]
  simp only [nat2_ix, Nat.one_mul, Nat.zero_add]

theorem hLd (o : ℕ) (inb : ∀ a, (![o, 0] : Fin 2 → ℕ) a + (![512, 2048] : Fin 2 → ℕ) a ≤ S1024x2048.size a) :
    k0_pay7 (F := Ideal) (View.ld x0 (Rect.unit (s := S1024x2048) ![o, 0] ![512, 2048] inb))
      = View.ld (normed x0) (Rect.unit (s := S1024x2048) ![o, 0] ![512, 2048] inb) := funext fun x => hPiece x0 o inb x

/-- The first half's normalisation is the second half's. -/
theorem hLd_first (o : ℕ) (inb : ∀ a, (![o, 0] : Fin 2 → ℕ) a + (![512, 2048] : Fin 2 → ℕ) a ≤ S1024x2048.size a) :
    k0_pay6 (F := Ideal) (View.ld x0 (Rect.unit (s := S1024x2048) ![o, 0] ![512, 2048] inb))
      = View.ld (normed x0) (Rect.unit (s := S1024x2048) ![o, 0] ![512, 2048] inb) := hLd x0 o inb

variable (w : Vec Ideal S1x2048x2048 .bf16)

theorem dot_at (o : ℕ) (ho : o ≤ 512) (inb : ∀ a, (![o, 0] : Fin 2 → ℕ) a + (![512, 2048] : Fin 2 → ℕ) a ≤ S1024x2048.size a)
    (r : Fin 512) (e : Fin 2048) :
    k0_pay9 (F := Ideal) (View.ld h (Rect.unit (s := S1024x2048) ![o, 0] ![512, 2048] inb)) w (ix2 r e) = prodN w h (o + r.val) e.val := by
  unfold prodN
  pointwise [k0_pay9]
  simp only [nat2_ix, nat3_ix]
  rfl

theorem zPiece_lo (q : EReal) (o : ℕ) (ho : o ≤ 512) (inb : ∀ a, (![o, 0] : Fin 2 → ℕ) a + (![512, 2048] : Fin 2 → ℕ) a ≤ S1024x2048.size a)
    (inb' : ∀ a, (![o, 0] : Fin 2 → ℕ) a + (![512, 1024] : Fin 2 → ℕ) a ≤ S1024x2048.size a)
    (x : (Rect.unit (s := S1024x2048) ![o, 0] ![512, 1024] inb').shape.Idx) :
    k0_pay3 (F := Ideal) q (View.ld h (Rect.unit (s := S1024x2048) ![o, 0] ![512, 2048] inb)) w x
      = zBlk w h q ((Rect.unit (s := S1024x2048) ![o, 0] ![512, 1024] inb').emb x) := by
  idx_vars x
  show _ = zN _ h q (o + 1 * x0.val) (0 + 1 * x1.val)
  unfold zN
  have h1 := x1.isLt
  rw [if_pos (by omega)]
  have e := dot_at h w o ho inb x0 ⟨x1.val, by omega⟩
  unfold k0_pay3
  generalize hs : k0_pay9 (F := Ideal) _ _ = s at e
  have hs' : k0_pay2 (F := Ideal) (View.ld h (Rect.unit (s := S1024x2048) ![o, 0] ![512, 2048] inb)) w = s := hs
  rw [hs']
  pointwise
  simp only [Nat.one_mul, Nat.zero_add, e]

theorem zPiece_hi (q : EReal) (o : ℕ) (ho : o ≤ 512) (inb : ∀ a, (![o, 0] : Fin 2 → ℕ) a + (![512, 2048] : Fin 2 → ℕ) a ≤ S1024x2048.size a)
    (inb' : ∀ a, (![o, 1024] : Fin 2 → ℕ) a + (![512, 1024] : Fin 2 → ℕ) a ≤ S1024x2048.size a)
    (x : (Rect.unit (s := S1024x2048) ![o, 1024] ![512, 1024] inb').shape.Idx) :
    k0_pay4 (F := Ideal) (View.ld h (Rect.unit (s := S1024x2048) ![o, 0] ![512, 2048] inb)) w x
      = zBlk w h q ((Rect.unit (s := S1024x2048) ![o, 1024] ![512, 1024] inb').emb x) := by
  idx_vars x
  show _ = zN _ h q (o + 1 * x0.val) (1024 + 1 * x1.val)
  unfold zN
  have h1 := x1.isLt
  rw [if_neg (by omega)]
  have e := dot_at h w o ho inb x0 ⟨1024 + x1.val, by omega⟩
  unfold k0_pay4
  generalize hs : k0_pay9 (F := Ideal) _ _ = s at e
  have hs' : k0_pay2 (F := Ideal) (View.ld h (Rect.unit (s := S1024x2048) ![o, 0] ![512, 2048] inb)) w = s := hs
  rw [hs']
  pointwise
  simp only [Nat.one_mul, e]

theorem uPiece (o : ℕ) (ho : o ≤ 512) (inb : ∀ a, (![o, 0] : Fin 2 → ℕ) a + (![512, 2048] : Fin 2 → ℕ) a ≤ S1024x2048.size a)
    (inb' : ∀ a, (![o, 0] : Fin 2 → ℕ) a + (![512, 1024] : Fin 2 → ℕ) a ≤ S1024x1024.size a)
    (x : (Rect.unit (s := S1024x1024) ![o, 0] ![512, 1024] inb').shape.Idx) :
    k0_pay5 (F := Ideal) (View.ld h (Rect.unit (s := S1024x2048) ![o, 0] ![512, 2048] inb)) w x
      = uBlk w h ((Rect.unit (s := S1024x1024) ![o, 0] ![512, 1024] inb').emb x) := by
  idx_vars x
  show _ = prodN _ h (o + 1 * x0.val) (1024 + (0 + 1 * x1.val))
  have e := dot_at h w o ho inb x0 ⟨1024 + x1.val, by omega⟩
  unfold k0_pay5
  generalize hs : k0_pay9 (F := Ideal) _ _ = s at e
  have hs' : k0_pay2 (F := Ideal) (View.ld h (Rect.unit (s := S1024x2048) ![o, 0] ![512, 2048] inb)) w = s := hs
  rw [hs']
  pointwise
  simp only [Nat.one_mul, Nat.zero_add, e]

/-- The four stores of a point into its block of `z`. -/
theorem zPieces (i : grid0.Coords) : View.PiecesOf (Val := Elt Ideal) (e := .bf16) (zBlk w h (k0_pay8 (F := Ideal) i))
    [⟨Rect.unit ![512, 1024] ![512, 1024] inb_S1024x2048_S512x1024_512_1024,
        k0_pay4 (View.ld h (Rect.unit ![512, 0] ![512, 2048] inb_S1024x2048_S512x2048_512_0)) w⟩,
      ⟨Rect.unit ![512, 0] ![512, 1024] inb_S1024x2048_S512x1024_512_0,
        k0_pay3 (k0_pay8 i) (View.ld h (Rect.unit ![512, 0] ![512, 2048] inb_S1024x2048_S512x2048_512_0)) w⟩,
      ⟨Rect.unit ![0, 1024] ![512, 1024] inb_S1024x2048_S512x1024_0_1024,
        k0_pay11 (View.ld h (Rect.unit ![0, 0] ![512, 2048] inb_S1024x2048_S512x2048_0_0)) w⟩,
      ⟨Rect.unit ![0, 0] ![512, 1024] inb_S1024x2048_S512x1024_0_0,
        k0_pay10 i (View.ld h (Rect.unit ![0, 0] ![512, 2048] inb_S1024x2048_S512x2048_0_0)) w⟩] :=
  ⟨zPiece_hi h w _ 512 (by decide) _ inb_S1024x2048_S512x1024_512_1024, zPiece_lo h w _ 512 (by decide) _ inb_S1024x2048_S512x1024_512_0,
    zPiece_hi h w _ 0 (by decide) _ inb_S1024x2048_S512x1024_0_1024, zPiece_lo h w _ 0 (by decide) _ inb_S1024x2048_S512x1024_0_0, trivial⟩

/-- The two stores of a point into its block of `u`. -/
theorem uPieces : View.PiecesOf (Val := Elt Ideal) (e := .f32) (uBlk w h)
    [⟨Rect.unit ![512, 0] ![512, 1024] inb_S1024x1024_S512x1024_512_0,
        k0_pay5 (View.ld h (Rect.unit ![512, 0] ![512, 2048] inb_S1024x2048_S512x2048_512_0)) w⟩,
      ⟨Rect.unit ![0, 0] ![512, 1024] inb_S1024x1024_S512x1024_0_0,
        k0_pay1 (k0_pay9 (View.ld h (Rect.unit ![0, 0] ![512, 2048] inb_S1024x2048_S512x2048_0_0)) w)⟩] :=
  ⟨uPiece h w 512 (by decide) _ inb_S1024x1024_S512x1024_512_0, uPiece h w 0 (by decide) _ inb_S1024x1024_S512x1024_0_0, trivial⟩

end Cert.Kernel2Ideal.Inproj
-- ==== Proof.Inproj.Points.lean ====
module

public import proofs.«01_k».proof.Proof.Inproj.Step

@[expose] public section
set_option maxRecDepth 16384
noncomputable section
namespace Cert.Kernel2Ideal.Inproj
open Cert.Kernel2Ideal Cert.Kernel2Ideal.Gen Idealize.ShloMosaic Idealize.ShloMosaic.TcCoe Idealize.SL.Sem
open Idealize.ShloMosaic.Pointwise
open Cert.KernelIdeal.Attn (nat2 nat3 nat2_ix nat3_ix nat2_idx nat2_fun read_writes_total canon_total)

/-! # What each grid point leaves, from what the point before left -/

variable (m : (ℓ : Loc nD τ sig) → Buf (Elt Ideal) ℓ)

/-- What the point before left: the two output blocks and the normalised rows. -/
abbrev before (c : Dev nD) (t : Fin cfg0.N) := outsAt0 m c (t.val - 1) (Nat.lt_of_le_of_lt (Nat.sub_le _ _) t.isLt)

theorem h_A (c : Dev nD) (t : Fin cfg0.N) (h0 : t.val % 2 = 0) :
    (outsAt0 m c t.val t.isLt).2.2 = normed (iblk m c 0 t) := by
  rw [outsAt0_A m c t h0]
  generalize iblk m c 0 t = x0
  generalize iblk m c 1 t = x1
  frame_open
  simp (disch := decide) only [↓ View.readCov_skip, ↓ View.readCov_cons_toLoadRect, ↓ View.readCov_fill]
  frame_out
  funext y
  refine View.canon_append_of_piecesOf (normed x0) [] [_, _] ⟨hPiece x0 512 _, hPiece x0 0 _, trivial⟩ y (View.cover_of_tiledBy _ ![512, 2048] (by sl_kernel_rfl) _)

theorem h_B (c : Dev nD) (t : Fin cfg0.N) (h0 : ¬ t.val % 2 = 0) (hb : (before m c t).2.2 = normed (iblk m c 0 t)) :
    (outsAt0 m c t.val t.isLt).2.2 = normed (iblk m c 0 t) := by
  rw [outsAt0_B m c t h0]
  unfold before at hb
  generalize outsAt0 m c (t.val - 1) (Nat.lt_of_le_of_lt (Nat.sub_le _ _) t.isLt) = prev at *
  generalize iblk m c 0 t = x0 at *
  generalize iblk m c 1 t = x1
  frame_open
  simp (disch := decide) only [↓ View.readCov_skip, ↓ View.readCov_cons_toLoadRect, ↓ View.readCov_fill]
  frame_out
  funext y
  refine read_writes_total _ _ (normed x0) [_] ⟨hPiece x0 512 _, trivial⟩ y fun _ => ?_
  rw [read_unread_whole, hb]

theorem z_A (c : Dev nD) (t : Fin cfg0.N) (h0 : t.val % 2 = 0) :
    (outsAt0 m c t.val t.isLt).1 = zBlk (iblk m c 1 t) (normed (iblk m c 0 t)) (k0_pay8 (F := Ideal) (grid0.coords t)) := by
  rw [outsAt0_A m c t h0]
  generalize iblk m c 0 t = x0
  generalize iblk m c 1 t = x1
  frame_open
  simp (disch := decide) only [↓ View.readCov_skip, ↓ View.readCov_cons_toLoadRect, ↓ View.readCov_fill]
  frame_out
  rw [hLd, hLd_first]
  funext y
  exact View.canon_append_of_piecesOf _ [] _ (zPieces (normed x0) x1 _) y (View.cover_of_tiledBy _ ![512, 1024] (by sl_kernel_rfl) _)

theorem z_B (c : Dev nD) (t : Fin cfg0.N) (h0 : ¬ t.val % 2 = 0) (hb : (before m c t).2.2 = normed (iblk m c 0 t)) :
    (outsAt0 m c t.val t.isLt).1 = zBlk (iblk m c 1 t) (normed (iblk m c 0 t)) (k0_pay8 (F := Ideal) (grid0.coords t)) := by
  rw [outsAt0_B m c t h0]
  unfold before at hb
  generalize outsAt0 m c (t.val - 1) (Nat.lt_of_le_of_lt (Nat.sub_le _ _) t.isLt) = prev at *
  generalize iblk m c 0 t = x0 at *
  generalize iblk m c 1 t = x1
  frame_open
  simp (disch := decide) only [↓ View.readCov_skip, ↓ View.readCov_cons_toLoadRect, ↓ View.readCov_fill]
  frame_out
  rw [hLd, read_unread_whole, hb]
  funext y
  exact View.canon_append_of_piecesOf _ [] _ (zPieces (normed x0) x1 _) y (View.cover_of_tiledBy _ ![512, 1024] (by sl_kernel_rfl) _)

theorem u_B (c : Dev nD) (t : Fin cfg0.N) (h0 : ¬ t.val % 2 = 0) (hb : (before m c t).2.2 = normed (iblk m c 0 t)) :
    (outsAt0 m c t.val t.isLt).2.1 = uBlk (iblk m c 1 t) (normed (iblk m c 0 t)) := by
  rw [outsAt0_B m c t h0]
  unfold before at hb
  generalize outsAt0 m c (t.val - 1) (Nat.lt_of_le_of_lt (Nat.sub_le _ _) t.isLt) = prev at *
  generalize iblk m c 0 t = x0 at *
  generalize iblk m c 1 t = x1
  frame_open
  simp (disch := decide) only [↓ View.readCov_skip, ↓ View.readCov_cons_toLoadRect, ↓ View.readCov_fill]
  frame_out
  rw [hLd, read_unread_whole, hb]
  funext y
  exact View.canon_append_of_piecesOf _ [] _ (uPieces (normed x0) x1) y (View.cover_of_tiledBy _ ![512, 1024] (by sl_kernel_rfl) _)

end Cert.Kernel2Ideal.Inproj
-- ==== Proof.Inproj.Windows.lean ====
module

public import proofs.«01_k».proof.Proof.Inproj.Points
public import Idealize.ShloMosaic.Lib.Pipeline.ValueKit.Point
public import Idealize.ShloMosaic.Lib.Pipeline.ValueKit.Geometry
public import Idealize.ShloMosaic.Lib.StableHlo.ReadAt
public import Idealize.ShloMosaic.Lib.Tactic

@[expose] public section
set_option maxRecDepth 16384
noncomputable section
namespace Cert.Kernel2Ideal.Inproj
open Cert.Kernel2Ideal Cert.Kernel2Ideal.Gen Idealize.ShloMosaic Idealize.ShloMosaic.TcCoe Idealize.SL.Sem
open Idealize.ShloMosaic.Pointwise
open Cert.KernelIdeal.Attn (nat2 nat3 nat2_ix nat3_ix)

/-! # Which block of each array a grid point stages

Point `t` works on rows `1024 (t / 2)` onwards and on half `t % 2` of the weights' columns. -/

variable (m : (ℓ : Loc nD τ sig) → Buf (Elt Ideal) ℓ) (c : Dev nD)

/-- The layer's input. -/
abbrev Xm : Vec Ideal S32768x2048 .f32 := m ((c : Thread nD τ).loc main_arg0)

/-- The gains of the two layers' normalisations. -/
abbrev Gm : Vec Ideal S2x2048 .f32 := m ((c : Thread nD τ).loc main_arg1)

/-- The weights of the two layers. -/
abbrev Wm : Vec Ideal S2x2048x4096 .f32 := m ((c : Thread nD τ).loc main_arg2)

theorem index0 : ∀ t : Fin cfg0.N, win0_0.index t = ![t.val / 2, 0] := by decide +kernel
theorem index1 : ∀ t : Fin cfg0.N, win0_1.index t = ![0, 0, t.val % 2] := by decide +kernel
theorem index2 : ∀ t : Fin cfg0.N, win0_2.index t = ![t.val / 2, t.val % 2] := by decide +kernel
theorem index3 : ∀ t : Fin cfg0.N, win0_3.index t = ![t.val / 2, 0] := by decide +kernel

/-- The rows a point stages. -/
theorem x_at (t : Fin cfg0.N) (r : Fin 1024) (k : Fin 2048) :
    (iblk m c 0 t : Vec Ideal S1024x2048 .f32) (ix2 r k) = nat2 (Xm m c) (1024 * (t.val / 2) + r.val) k.val := by
  have ht : t.val < 64 := lt_of_lt_of_eq t.isLt (show cfg0.N = 64 from N_0)
  have hr := r.isLt
  have hk := k.isLt
  unfold nat2
  rw [dif_pos ⟨by omega, by omega⟩]
  blk_ext [iblk, V, index0 t]

/-- The weights with the gain in them, as the host prepares them. -/
theorem gained_at (l : Fin 2) (k : Fin 2048) (e : Fin 4096) :
    (V m c main_v3 : Vec Ideal S2x2048x4096 .bf16) (ix3 l k e) = Wm m c (ix3 l k e) * Gm m c (ix2 l k) := by
  after_reads_at

/-- The weights a point stages. -/
theorem w_at (t : Fin cfg0.N) (k e : Fin 2048) :
    (iblk m c 1 t : Vec Ideal S1x2048x2048 .bf16) (ix3 0 k e)
      = nat3 (Wm m c) 0 k.val (2048 * (t.val % 2) + e.val) * nat2 (Gm m c) 0 k.val := by
  have he := e.isLt
  have hk := k.isLt
  have h2 : t.val % 2 < 2 := Nat.mod_lt _ (by decide)
  refine Eq.trans ?_ ((gained_at m c 0 k ⟨2048 * (t.val % 2) + e.val, by omega⟩).trans ?_)
  · blk_ext [iblk, index1 t]
  · unfold nat2 nat3
    rw [dif_pos ⟨by omega, by omega, by omega⟩, dif_pos ⟨by omega, by omega⟩]
    rfl

/-- Both points of a row block stage the same rows. -/
theorem x_same (t : Fin cfg0.N) (h0 : ¬ t.val % 2 = 0) (hs : t.val - 1 < cfg0.N) : (iblk m c 0 t : Vec Ideal S1024x2048 .f32) = iblk m c 0 ⟨t.val - 1, hs⟩ := by
  funext y
  rw [eq_ix2 y]
  refine (x_at m c t (y 0) (y 1)).trans (Eq.trans ?_ (x_at m c ⟨t.val - 1, hs⟩ (y 0) (y 1)).symm)
  have e : t.val / 2 = (t.val - 1) / 2 := by omega
  rw [e]

/-- The factor of the first 1024 columns of a point's block of `z`. -/
theorem factor_even (t : Fin cfg0.N) (h0 : t.val % 2 = 0) : k0_pay8 (F := Ideal) (grid0.coords t) = Named.named κ "qk_scale" 0x3E0293EE#32 := by
  have e : ∀ t : Fin cfg0.N, t.val % 2 = 0 → Scalar.cmpi .eq (BitVec.ofNat 32 ((grid0.coords t) 1).val) 0#32 = 1#1 := by decide +kernel
  unfold k0_pay8
  dsimp only
  rw [e t h0]
  rfl

theorem factor_odd (t : Fin cfg0.N) (h0 : ¬ t.val % 2 = 0) : k0_pay8 (F := Ideal) (grid0.coords t) = Ideal.ofBits .f32 0x3F800000#32 := by
  have e : ∀ t : Fin cfg0.N, ¬ t.val % 2 = 0 → Scalar.cmpi .eq (BitVec.ofNat 32 ((grid0.coords t) 1).val) 0#32 = 0#1 := by decide +kernel
  unfold k0_pay8
  dsimp only
  rw [e t h0]
  rfl

end Cert.Kernel2Ideal.Inproj
-- ==== Proof.Inproj.RefOut.lean ====
module

public import proofs.«01_k».proof.Proof.Gen.Reference2Ideal.Read
public import proofs.«01_k».proof.Proof.Inproj.Step
public import Idealize.ShloMosaic.Lib.Pointwise
public import Idealize.ShloMosaic.Lib.Tactic
public import Idealize.ShloMosaic.Lib.IdealHost

@[expose] public section
set_option maxRecDepth 16384
noncomputable section
namespace Cert.Reference2Ideal.Inproj
open Cert.Reference2Ideal Cert.Reference2Ideal.Gen Cert.Reference2Ideal.Read Idealize.ShloMosaic Idealize.ShloMosaic.TcCoe Idealize.SL.Sem
open Idealize.ShloMosaic.Pointwise
open Cert.KernelIdeal.Attn (nat2 nat3 nat2_ix nat3_ix)
open Cert.Kernel2Ideal.Inproj (rowScale)

/-! # The reference's two results as formulas -/

variable (X : Vec Ideal S32768x2048 .f32) (G : Vec Ideal S2x2048 .f32) (W : Vec Ideal S2x2048x4096 .f32)

/-- The reference's projection of row `r` to column `e`. -/
def refProd (r e : ℕ) : EReal := ∑ k : Fin 2048, nat2 X r k.val * rowScale (nat2 X r) * nat2 G 0 k.val * nat3 W 0 k.val e

theorem scale_at (r : Fin 32768) (z : Fin 1) : val_main_v9 (F := Ideal) X (ix2 r z) = rowScale (nat2 X r.val) := by
  unfold rowScale
  pointwise [val_main_v9, val_main_v8, val_main_v7, val_main_v6, val_main_v5, val_main_v4, val_main_v3, val_main_v2, val_main_cst, val_main_cst_0, val_main_cst_1]
  simp only [nat2_ix]

theorem hidden_at (r : Fin 32768) (k : Fin 2048) :
    val_main_v14 (F := Ideal) X G (ix2 r k) = nat2 X r.val k.val * rowScale (nat2 X r.val) * nat2 G 0 k.val := by
  pointwise [val_main_v14, val_main_v13, val_main_v12, val_main_v11, val_main_v10, val_main_v1, val_main_v0]
  rw [scale_at]
  simp only [nat2_ix]
  rfl

theorem prod_at (r : Fin 32768) (e : Fin 4096) : val_main_v17 (F := Ideal) X G W (ix2 r e) = refProd X G W r.val e.val := by
  unfold refProd
  pointwise [val_main_v17, val_main_v16, val_main_v15]
  simp only [hidden_at, nat3_ix]
  rfl

theorem z_at (r : Fin 32768) (e : Fin 4096) :
    val_main_v27 (F := Ideal) X G W (ix2 r e)
      = if e.val < 1024 then Ideal.div (refProd X G W r.val e.val) (Ideal.sqrt (Ideal.ofBits .f32 0x43000000#32) * Ideal.log (Ideal.ofBits .f32 0x40000000#32))
        else refProd X G W r.val e.val := by
  pointwise [val_main_v27, val_main_v26, val_main_v25, val_main_v24, val_main_v23, val_main_v22, val_main_v21, val_main_v20, val_main_v19, val_main_cst_2, val_main_cst_3]
  rw [prod_at]
  by_cases h : e.val < 1024
  · rw [dif_pos h, if_pos h]
  · rw [dif_neg h, if_neg h, prod_at]
    congr 1
    show 1024 + (e.val - 1024) = e.val
    omega

theorem u_at (r : Fin 32768) (e : Fin 1024) : val_main_v18 (F := Ideal) X G W (ix2 r e) = refProd X G W r.val (3072 + e.val) := by
  pointwise [val_main_v18]
  rw [prod_at]

end Cert.Reference2Ideal.Inproj
-- ==== Proof.Attn.RefWord.lean ====
module

public import Idealize.ShloMosaic.PureOps

@[expose] public section
namespace Cert.ReferenceIdeal.Attn
open Idealize.ShloMosaic

/-! # The column of the bias table, as a word -/

/-- The word of the table's column at a distance `w` between query and key. -/
def column (w : BitVec 32) : BitVec 32 :=
  Scalar.select
      (IntOp.cmpi CmpIPredicate.slt (IntOp.addi (IntOp.minsi 128#32 (IntOp.maxsi 4294967168#32 w)) 128#32) 0#32)
      (IntOp.addi (IntOp.addi (IntOp.minsi 128#32 (IntOp.maxsi 4294967168#32 w)) 128#32) 257#32)
      (IntOp.addi (IntOp.minsi 128#32 (IntOp.maxsi 4294967168#32 w)) 128#32)

theorem column_word : ∀ δ : Fin 639, (column (BitVec.ofNat 32 δ.val - 63#32)).toInt.toNat = min 256 (65 + δ.val) := by decide +kernel

end Cert.ReferenceIdeal.Attn
-- ==== Proof.Attn.RefRead.lean ====
module

public import proofs.«01_k».proof.Proof.Gen.ReferenceIdeal.Read
public import proofs.«01_k».proof.Proof.Attn.State
public import proofs.«01_k».proof.Proof.Attn.RefWord
public import Idealize.ShloMosaic.Lib.Pointwise
public import Idealize.ShloMosaic.Lib.Tactic
public import Idealize.ShloMosaic.Lib.IdealHost

@[expose] public section
set_option maxRecDepth 16384
noncomputable section
namespace Cert.ReferenceIdeal.Attn
open Cert.ReferenceIdeal Cert.ReferenceIdeal.Gen Cert.ReferenceIdeal.Read Idealize.ShloMosaic Idealize.ShloMosaic.TcCoe Idealize.SL.Sem
open Idealize.ShloMosaic.Pointwise
open Cert.KernelIdeal.Attn (nat2 nat2_ix)

/-! # The reference's parts, read at an index -/

abbrev gK : GatherDims S2x16896x8x128 S256x576x1 S2x256x576x8x128 := gather_S2x16896x8x128_S256x576x1_S2x256x576x8x128_034_1_n_n_1_2_218128
abbrev gB : GatherDims S8x257 S64x576x1 S8x64x576 := gather_S8x257_S64x576x1_S8x64x576_0_1_n_n_1_2_81

/-- A row of positions gathered at computed positions. -/
theorem gather_pos {α : Type} (x : S2x16896x8x128.Idx → α) (idx : IVec S256x576x1 32) (b : Fin 2) (n : Fin 256) (k : Fin 576) (h : Fin 8) (d : Fin 128) :
    Host.gather gK x idx (ix5 b n k h d) = x (ix4 b ⟨min (idx (ix3 n k (0 : Fin 1))).toInt.toNat 16895, by omega⟩ h d) := by
  unfold Host.gather
  refine congrArg x (funext fun a => Fin.ext ?_)
  match a with
  | ⟨0, _⟩ =>
    show gK.start _ idx 0 + gK.batchCoord _ 0 + gK.offCoord _ 0 = b.val
    have e1 : gK.start (ix5 b n k h d) idx 0 = 0 := rfl
    have e2 : gK.batchCoord (ix5 b n k h d) 0 = 0 := rfl
    have e3 : gK.offCoord (ix5 b n k h d) 0 = b.val := rfl
    omega
  | ⟨1, _⟩ =>
    show gK.start _ idx 1 + gK.batchCoord _ 1 + gK.offCoord _ 1 = _
    have e0 : gK.siIdx (ix5 b n k h d) ⟨0, by decide⟩ = ix3 n k (0 : Fin 1) := by
      funext a; match a with
      | ⟨0, _⟩ => rfl
      | ⟨1, _⟩ => rfl
      | ⟨2, _⟩ => rfl
    have e1 : gK.start (ix5 b n k h d) idx 1 = min (idx (gK.siIdx (ix5 b n k h d) ⟨0, by decide⟩)).toInt.toNat 16895 := rfl
    have e2 : gK.batchCoord (ix5 b n k h d) 1 = 0 := rfl
    have e3 : gK.offCoord (ix5 b n k h d) 1 = 0 := rfl
    rw [e1, e2, e3, e0]
    rfl
  | ⟨2, _⟩ =>
    show gK.start _ idx 2 + gK.batchCoord _ 2 + gK.offCoord _ 2 = h.val
    have e1 : gK.start (ix5 b n k h d) idx 2 = 0 := rfl
    have e2 : gK.batchCoord (ix5 b n k h d) 2 = 0 := rfl
    have e3 : gK.offCoord (ix5 b n k h d) 2 = h.val := rfl
    omega
  | ⟨3, _⟩ =>
    show gK.start _ idx 3 + gK.batchCoord _ 3 + gK.offCoord _ 3 = d.val
    have e1 : gK.start (ix5 b n k h d) idx 3 = 0 := rfl
    have e2 : gK.batchCoord (ix5 b n k h d) 3 = 0 := rfl
    have e3 : gK.offCoord (ix5 b n k h d) 3 = d.val := rfl
    omega

/-- The table's rows gathered at computed columns. -/
theorem gather_col {α : Type} (x : S8x257.Idx → α) (idx : IVec S64x576x1 32) (h : Fin 8) (q : Fin 64) (k : Fin 576) :
    Host.gather gB x idx (ix3 h q k) = x (ix2 h ⟨min (idx (ix3 q k (0 : Fin 1))).toInt.toNat 256, by omega⟩) := by
  unfold Host.gather
  refine congrArg x (funext fun a => Fin.ext ?_)
  match a with
  | ⟨0, _⟩ =>
    show gB.start _ idx 0 + gB.batchCoord _ 0 + gB.offCoord _ 0 = h.val
    have e1 : gB.start (ix3 h q k) idx 0 = 0 := rfl
    have e2 : gB.batchCoord (ix3 h q k) 0 = 0 := rfl
    have e3 : gB.offCoord (ix3 h q k) 0 = h.val := rfl
    omega
  | ⟨1, _⟩ =>
    show gB.start _ idx 1 + gB.batchCoord _ 1 + gB.offCoord _ 1 = _
    have e0 : gB.siIdx (ix3 h q k) ⟨0, by decide⟩ = ix3 q k (0 : Fin 1) := by
      funext a; match a with
      | ⟨0, _⟩ => rfl
      | ⟨1, _⟩ => rfl
      | ⟨2, _⟩ => rfl
    have e1 : gB.start (ix3 h q k) idx 1 = min (idx (gB.siIdx (ix3 h q k) ⟨0, by decide⟩)).toInt.toNat 256 := rfl
    have e2 : gB.batchCoord (ix3 h q k) 1 = 0 := rfl
    have e3 : gB.offCoord (ix3 h q k) 1 = 0 := rfl
    rw [e1, e2, e3, e0]
    rfl

variable (Z : Vec Ideal S32768x4096 .bf16) (A : Vec Ideal S8x257 .f32)

/-- The pre-scale undone: the square root of 128 times the logarithm of 2. -/
def unscale : EReal := Ideal.sqrt (Ideal.ofBits .f32 0x43000000#32) * Ideal.log (Ideal.ofBits .f32 0x40000000#32)

theorem q_at (b : Fin 2) (n : Fin 256) (q : Fin 64) (h : Fin 8) (d : Fin 128) :
    val_main_v13 (F := Ideal) Z (ix5 b n q h d)
      = Z (ix2 ⟨b.val * 16384 + (n.val * 64 + q.val), by omega⟩ ⟨h.val * 128 + d.val, by omega⟩) * unscale := by
  pointwise [val_main_v13, val_main_v10, val_main_v7, val_main_v2, val_main_v1, val_main_v0, val_main_v6, val_main_v5, val_main_v4, val_main_v3, val_main_cst, val_main_cst_0, unscale]

theorem k_at (b : Fin 2) (s : Fin 16384) (h : Fin 8) (d : Fin 128) :
    val_main_v11 (F := Ideal) Z (ix4 b s h d)
      = Z (ix2 ⟨b.val * 16384 + s.val, by omega⟩ ⟨1024 + (h.val * 128 + d.val), by omega⟩) := by
  pointwise [val_main_v11, val_main_v8, val_main_v1, val_main_v0]

theorem v_at (b : Fin 2) (s : Fin 16384) (h : Fin 8) (d : Fin 128) :
    val_main_v12 (F := Ideal) Z (ix4 b s h d)
      = Z (ix2 ⟨b.val * 16384 + s.val, by omega⟩ ⟨2048 + (h.val * 128 + d.val), by omega⟩) := by
  pointwise [val_main_v12, val_main_v9, val_main_v1, val_main_v0]

theorem zero_word : (FloatOps.sitofp (F := Ideal) .f32 (0#32) : EReal) = 0 := by
  show (((0#32).toInt : ℝ) : EReal) = 0
  simp

theorem kpad_at (b : Fin 2) (p : Fin 16896) (h : Fin 8) (d : Fin 128) :
    val_main_v23 (F := Ideal) Z (ix4 b p h d)
      = if 512 ≤ p.val ∧ p.val - 512 < 16384 then val_main_v11 (F := Ideal) Z (ix4 b ⟨min (p.val - 512) 16383, by omega⟩ h d) else 0 := by
  pointwise [val_main_v23, val_main_call0_v0, val_main_c_1]
  split
  case isTrue hp => simp only [Nat.min_eq_left (Nat.le_of_lt_succ hp.2)]
  case isFalse hp => exact zero_word

theorem vpad_at (b : Fin 2) (p : Fin 16896) (h : Fin 8) (d : Fin 128) :
    val_main_v31 (F := Ideal) Z (ix4 b p h d)
      = if 512 ≤ p.val ∧ p.val - 512 < 16384 then val_main_v12 (F := Ideal) Z (ix4 b ⟨min (p.val - 512) 16383, by omega⟩ h d) else 0 := by
  pointwise [val_main_v31, val_main_call1_v0, val_main_c_4]
  split
  case isTrue hp => simp only [Nat.min_eq_left (Nat.le_of_lt_succ hp.2)]
  case isFalse hp => exact zero_word

theorem max_at (b : Fin 2) (n : Fin 256) (h : Fin 8) (q : Fin 64) :
    val_main_v69 (F := Ideal) Z A (ix4 b n h q)
      = Finset.univ.fold max (Ideal.ofBits .f32 0xFF800000#32) (fun k : Fin 576 => val_main_v68 (F := Ideal) Z A (ix5 b n h q k)) := by
  pointwise [val_main_v69, val_main_cst_16]

theorem sum_at (b : Fin 2) (n : Fin 256) (h : Fin 8) (q : Fin 64) :
    val_main_v76 (F := Ideal) Z A (ix4 b n h q)
      = ∑ k : Fin 576, val_main_v75 (F := Ideal) Z A (ix5 b n h q k) := by
  pointwise [val_main_v76, val_main_cst_18]

theorem dot_at (b : Fin 2) (n : Fin 256) (h : Fin 8) (q : Fin 64) (k : Fin 576) :
    val_main_v39 (F := Ideal) Z (ix5 b n h q k)
      = ∑ d : Fin 128, val_main_v13 (F := Ideal) Z (ix5 b n q h d) * val_main_v30 (F := Ideal) Z (ix5 b n k h d) := by
  pointwise [val_main_v39]

theorem result_at (x : Fin 32768) (e : Fin 1024) :
    val_main_v84 (F := Ideal) Z A (ix2 x e)
      = ∑ k : Fin 576, val_main_v38 (F := Ideal) Z (ix5 (⟨x.val / 16384, by omega⟩ : Fin 2) (⟨x.val / 64 % 256, by omega⟩ : Fin 256) k (⟨e.val / 128, by omega⟩ : Fin 8) (⟨e.val % 128, by omega⟩ : Fin 128))
          * val_main_v79 (F := Ideal) Z A (ix5 (⟨x.val / 16384, by omega⟩ : Fin 2) (⟨x.val / 64 % 256, by omega⟩ : Fin 256) (⟨e.val / 128, by omega⟩ : Fin 8) (⟨x.val % 64, by omega⟩ : Fin 64) k) := by
  pointwise [val_main_v84, val_main_v83, val_main_v82, val_main_v81, val_main_v80]

theorem pos_at (n : Fin 256) (k : Fin 576) : val_main_v22 (F := Ideal) (ix2 n k) = BitVec.ofNat 32 (64 * n.val + k.val) := by
  pointwise [val_main_v22, val_main_v21, val_main_v20, val_main_v19, val_main_v18, val_main_v17, val_main_v16, val_main_v15, val_main_v14, val_main_c]
  show BitVec.ofNat 32 n.val * 64#32 + BitVec.ofNat 32 k.val = _
  apply BitVec.eq_of_toNat_eq
  simp only [BitVec.toNat_add, BitVec.toNat_mul, BitVec.toNat_ofNat]
  omega

/-- A position is not negative, so wrapping it changes nothing. -/
theorem wrap_pos (p : ℕ) (hp : p < 16960) (y : BitVec 32) :
    Scalar.select (IntOp.cmpi CmpIPredicate.slt (BitVec.ofNat 32 p) 0#32) y (BitVec.ofNat 32 p) = BitVec.ofNat 32 p := by
  have e : IntOp.cmpi CmpIPredicate.slt (BitVec.ofNat 32 p) 0#32 = 0#1 :=
    (WordCmp.cmpi_slt_ofNat_eq_zero_iff (w := 32) (a := p) (b := 0) (by omega) (by omega)).2 (by omega)
  rw [e, WordCmp.select_zero]

theorem nat_of_pos (p : ℕ) (hp : p < 16960) : (BitVec.ofNat 32 p).toInt.toNat = p := by
  rw [WordCmp.toInt_ofNat_of_lt (by omega)]
  rfl

theorem kpos_at (n : Fin 256) (k : Fin 576) : val_main_v29 (F := Ideal) (ix3 n k (0 : Fin 1)) = BitVec.ofNat 32 (64 * n.val + k.val) := by
  pointwise [val_main_v29, val_main_v28, val_main_v27, val_main_v26, val_main_v25, val_main_v24]
  rw [pos_at]
  exact wrap_pos _ (by omega) _

theorem vpos_at (n : Fin 256) (k : Fin 576) : val_main_v37 (F := Ideal) (ix3 n k (0 : Fin 1)) = BitVec.ofNat 32 (64 * n.val + k.val) := by
  pointwise [val_main_v37, val_main_v36, val_main_v35, val_main_v34, val_main_v33, val_main_v32]
  rw [pos_at]
  exact wrap_pos _ (by omega) _

theorem bpos_word (q : Fin 64) (k : Fin 576) : val_main_v60 (F := Ideal) (ix3 q k (0 : Fin 1))
    = column (IntOp.subi (IntOp.addi (BitVec.ofNat 32 q.val) 512#32) (BitVec.ofNat 32 k.val)) := by
  pointwise [val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43,
    val_main_call2_v0, val_main_call2_v1, val_main_call2_v2, val_main_call2_v3, val_main_call2_v4, val_main_c_8, val_main_c_9, val_main_c_10, val_main_c_11, val_main_c_12, val_main_c_13]
  rfl

theorem bpos_at (q : Fin 64) (k : Fin 576) : (val_main_v60 (F := Ideal) (ix3 q k (0 : Fin 1))).toInt.toNat = min 256 (640 + q.val - k.val) := by
  have e : IntOp.subi (IntOp.addi (BitVec.ofNat 32 q.val) 512#32) (BitVec.ofNat 32 k.val) = BitVec.ofNat 32 (q.val + 575 - k.val) - 63#32 := by
    show BitVec.ofNat 32 q.val + 512#32 - BitVec.ofNat 32 k.val = _
    apply BitVec.eq_of_toNat_eq
    simp only [BitVec.toNat_sub, BitVec.toNat_add, BitVec.toNat_ofNat]
    omega
  rw [bpos_word, e, column_word ⟨q.val + 575 - k.val, by omega⟩]
  show min 256 (65 + (q.val + 575 - k.val)) = _
  omega

theorem key_at (b : Fin 2) (n : Fin 256) (k : Fin 576) (h : Fin 8) (d : Fin 128) :
    val_main_v30 (F := Ideal) Z (ix5 b n k h d)
      = if 512 ≤ 64 * n.val + k.val then nat2 Z (16384 * b.val + (64 * n.val + k.val - 512)) (1024 + (128 * h.val + d.val)) else 0 := by
  unfold val_main_v30
  rw [gather_pos, kpad_at]
  simp only [kpos_at, nat_of_pos (64 * n.val + k.val) (by omega), k_at]
  have e : min (64 * n.val + k.val) 16895 = 64 * n.val + k.val := by omega
  simp only [e]
  by_cases hp : 512 ≤ 64 * n.val + k.val
  · rw [if_pos ⟨hp, by omega⟩, if_pos hp, nat2_ix Z]
    congr 1
    · show b.val * 16384 + min _ _ = _; omega
    · show 1024 + (h.val * 128 + d.val) = _; omega
  · rw [if_neg (fun q => hp q.1), if_neg hp]

theorem value_at (b : Fin 2) (n : Fin 256) (k : Fin 576) (h : Fin 8) (d : Fin 128) :
    val_main_v38 (F := Ideal) Z (ix5 b n k h d)
      = if 512 ≤ 64 * n.val + k.val then nat2 Z (16384 * b.val + (64 * n.val + k.val - 512)) (2048 + (128 * h.val + d.val)) else 0 := by
  unfold val_main_v38
  rw [gather_pos, vpad_at]
  simp only [vpos_at, nat_of_pos (64 * n.val + k.val) (by omega), v_at]
  have e : min (64 * n.val + k.val) 16895 = 64 * n.val + k.val := by omega
  simp only [e]
  by_cases hp : 512 ≤ 64 * n.val + k.val
  · rw [if_pos ⟨hp, by omega⟩, if_pos hp, nat2_ix Z]
    congr 1
    · show b.val * 16384 + min _ _ = _; omega
    · show 2048 + (h.val * 128 + d.val) = _; omega
  · rw [if_neg (fun q => hp q.1), if_neg hp]

theorem bias_at (h : Fin 8) (q : Fin 64) (k : Fin 576) :
    val_main_v61 (F := Ideal) A (ix3 h q k) = nat2 A h.val (min 256 (640 + q.val - k.val)) := by
  unfold val_main_v61
  rw [gather_col, nat2_ix A]
  simp only [bpos_at]
  congr 1
  show min (min 256 _) 256 = _
  omega

end Cert.ReferenceIdeal.Attn
-- ==== Proof.Attn.RefOut.lean ====
module

public import proofs.«01_k».proof.Proof.Attn.RefRead
public import Idealize.ShloMosaic.Lib.Pointwise
public import Idealize.ShloMosaic.Lib.Tactic
public import Idealize.ShloMosaic.Lib.IdealHost

@[expose] public section
set_option maxRecDepth 16384
noncomputable section
namespace Cert.ReferenceIdeal.Attn
open Cert.ReferenceIdeal Cert.ReferenceIdeal.Gen Cert.ReferenceIdeal.Read Idealize.ShloMosaic Idealize.ShloMosaic.TcCoe Idealize.SL.Sem
open Idealize.ShloMosaic.Pointwise
open Cert.KernelIdeal.Attn (nat2 nat2_ix)

/-! # The reference's result as a formula -/

variable (Z : Vec Ideal S32768x4096 .bf16) (A : Vec Ideal S8x257 .f32)

/-- The reference's score of the query at row `x` of head `h` and the key at band position `k`. -/
def refScore (x h k : ℕ) : EReal :=
  if 512 ≤ 64 * (x / 64 % 256) + k then
    Ideal.div (∑ d : Fin 128, (nat2 Z x (128 * h + d.val) * unscale) * nat2 Z (16384 * (x / 16384) + (64 * (x / 64 % 256) + k - 512)) (1024 + (128 * h + d.val)))
      (Ideal.sqrt (Ideal.ofBits .f32 0x43000000#32)) + nat2 A h (min 256 (640 + x % 64 - k))
  else Ideal.ofBits .f32 0xFF800000#32

theorem score_at (b : Fin 2) (n : Fin 256) (h : Fin 8) (q : Fin 64) (k : Fin 576) :
    val_main_v68 (F := Ideal) Z A (ix5 b n h q k) = refScore Z A (16384 * b.val + 64 * n.val + q.val) h.val k.val := by
  pointwise [val_main_v68, val_main_call3_v0, val_main_call3_v1, val_main_v67, val_main_v66, val_main_v65, val_main_v64, val_main_v63, val_main_v62, val_main_v42, val_main_v41, val_main_v40]
  rw [pos_at, bias_at, dot_at]
  unfold refScore
  have e1 : (16384 * b.val + 64 * n.val + q.val) / 64 % 256 = n.val := by omega
  have e2 : (16384 * b.val + 64 * n.val + q.val) / 16384 = b.val := by omega
  have e3 : (16384 * b.val + 64 * n.val + q.val) % 64 = q.val := by omega
  rw [e1, e2, e3]
  by_cases hp : 512 ≤ 64 * n.val + k.val
  · have e : IntOp.cmpi CmpIPredicate.sge (BitVec.ofNat 32 (64 * n.val + k.val)) (BitVec.ofNat 32 512) = 1#1 :=
      (WordCmp.cmpi_sge_ofNat_eq_one_iff (by omega) (by omega)).2 hp
    rw [if_pos hp]
    refine (congrArg (fun w => Scalar.select w _ _) e).trans ?_
    rw [WordCmp.select_one]
    refine congrArg (fun s => Ideal.div s _ + _) (Finset.sum_congr rfl fun d _ => ?_)
    rw [q_at, key_at, if_pos hp, nat2_ix Z]
    refine congrArg (fun z => z * _ * _) ?_
    congr 1
    · show b.val * 16384 + (n.val * 64 + q.val) = _; omega
    · show h.val * 128 + d.val = _; omega
  · have e : IntOp.cmpi CmpIPredicate.sge (BitVec.ofNat 32 (64 * n.val + k.val)) (BitVec.ofNat 32 512) = 0#1 :=
      (WordCmp.cmpi_sge_ofNat_eq_zero_iff (by omega) (by omega)).2 hp
    rw [if_neg hp]
    refine (congrArg (fun w => Scalar.select w _ _) e).trans ?_
    rw [WordCmp.select_zero]
    rfl

/-- The largest of a query's scores. -/
def refTop (x h : ℕ) : EReal := max (Ideal.ofBits .f32 0xFF800000#32) (Finset.univ.fold max (Ideal.ofBits .f32 0xFF800000#32) (fun k : Fin 576 => refScore Z A x h k.val))

/-- A key's weight before the division by their sum. -/
def refWeight (x h k : ℕ) : EReal := Ideal.exp (refScore Z A x h k - refTop Z A x h)

theorem weight_at (b : Fin 2) (n : Fin 256) (h : Fin 8) (q : Fin 64) (k : Fin 576) :
    val_main_v75 (F := Ideal) Z A (ix5 b n h q k) = refWeight Z A (16384 * b.val + 64 * n.val + q.val) h.val k.val := by
  have e : idx_main_v72 (idx_main_v73 (ix5 b n h q k)) = ix4 b n h q := by
    funext a; match a with
    | ⟨0, _⟩ => rfl
    | ⟨1, _⟩ => rfl
    | ⟨2, _⟩ => rfl
    | ⟨3, _⟩ => rfl
  rw [val_main_v75_apply, val_main_v74_apply, val_main_v73_apply, val_main_v72_apply, e, val_main_v71_apply, val_main_v70_apply, val_main_cst_17_apply, max_at, score_at]
  simp only [score_at]
  unfold refWeight refTop
  generalize (Finset.univ.fold max (Ideal.ofBits .f32 0xFF800000#32) (fun k : Fin 576 => refScore Z A (16384 * b.val + 64 * n.val + q.val) h.val k.val)) = f
  generalize refScore Z A _ _ _ = g
  rfl

/-- The reference's result at row `x` and column `e`. -/
def refOut (x e : ℕ) : EReal :=
  ∑ k : Fin 576, (if 512 ≤ 64 * (x / 64 % 256) + k.val then nat2 Z (16384 * (x / 16384) + (64 * (x / 64 % 256) + k.val - 512)) (2048 + e) else 0)
    * Ideal.div (refWeight Z A x (e / 128) k.val) (∑ k' : Fin 576, refWeight Z A x (e / 128) k'.val)

theorem out_at (x : Fin 32768) (e : Fin 1024) : val_main_v84 (F := Ideal) Z A (ix2 x e) = refOut Z A x.val e.val := by
  rw [result_at]
  refine Finset.sum_congr rfl fun k _ => ?_
  rw [value_at]
  have e1 : 16384 * (x.val / 16384) + 64 * (x.val / 64 % 256) + x.val % 64 = x.val := by omega
  have e2 : 128 * (e.val / 128) + e.val % 128 = e.val := by omega
  congr 1
  · show ite _ (nat2 Z _ (2048 + (128 * (e.val / 128) + e.val % 128))) 0 = _
    rw [e2]
  · pointwise [val_main_v79, val_main_v78, val_main_v77]
    rw [sum_at]
    simp only [weight_at, e1]

end Cert.ReferenceIdeal.Attn
-- ==== Proof.Attn.Consts.lean ====
module

public import proofs.«01_k».proof.Proof.Attn.RefOut

@[expose] public section
noncomputable section
namespace Cert.Attn
open Idealize.ShloMosaic

/-! # The constants the two programs read, as numbers -/

theorem neg_inf : Ideal.ofBits .f32 0xFF800000#32 = (⊥ : EReal) := by simp [Ideal.ofBits, Ideal.ieee, -EReal.coe_mul]

theorem pos_inf : Ideal.ofBits .f32 0x7F800000#32 = (⊤ : EReal) := by simp [Ideal.ofBits, Ideal.ieee, -EReal.coe_mul]

theorem pos_inf16 : Ideal.ofBits .bf16 0x7F80#16 = (⊤ : EReal) := by simp [Ideal.ofBits, Ideal.ieee, -EReal.coe_mul]

theorem v128 : Ideal.ofBits .f32 0x43000000#32 = ((128 : ℝ) : EReal) := by
  simp [Ideal.ofBits, Ideal.ieee, -EReal.coe_mul]; norm_num

theorem v2 : Ideal.ofBits .f32 0x40000000#32 = ((2 : ℝ) : EReal) := by
  simp [Ideal.ofBits, Ideal.ieee, -EReal.coe_mul]; norm_num

theorem sqrt128 : Ideal.sqrt (Ideal.ofBits .f32 0x43000000#32) = ((Real.sqrt 128 : ℝ) : EReal) := by
  rw [v128, Ideal.sqrt_coe, if_neg (by norm_num)]

theorem sqrt128_ne : Real.sqrt 128 ≠ 0 := by positivity

theorem log2_pos : 0 < Real.log 2 := Real.log_pos (by norm_num)

theorem unscale_eq : Cert.ReferenceIdeal.Attn.unscale = ((Real.sqrt 128 * Real.log 2 : ℝ) : EReal) := by
  unfold Cert.ReferenceIdeal.Attn.unscale
  rw [sqrt128, v2, Ideal.log_coe, if_neg (by norm_num), EReal.coe_mul]

theorem lg_eq : Cert.KernelIdeal.Attn.lg = (((Real.log 2)⁻¹ : ℝ) : EReal) :=
  IdealRules.named_const.ideal_named_scalar _ _ _ _ rfl

end Cert.Attn
-- ==== Proof.Inproj.Out.lean ====
module

public import proofs.«01_k».proof.Proof.Inproj.Windows
public import proofs.«01_k».proof.Proof.Inproj.RefOut
public import proofs.«01_k».proof.Proof.Attn.Consts

@[expose] public section
set_option maxRecDepth 16384
noncomputable section
namespace Cert.Kernel2Ideal.Inproj
open Cert.Kernel2Ideal Cert.Kernel2Ideal.Gen Idealize.ShloMosaic Idealize.ShloMosaic.TcCoe Idealize.SL.Sem
open Idealize.ShloMosaic.Pointwise
open Cert.KernelIdeal.Attn (nat2 nat3 nat2_ix nat3_ix)
open Cert.Reference2Ideal.Inproj (refProd)

/-! # The kernel's two result arrays are the reference's -/

variable (m : (ℓ : Loc nD τ sig) → Buf (Elt Ideal) ℓ) (c : Dev nD)

/-- The scratch holds the normalised rows of the point's block at both points of the block. -/
theorem hidden (t : Fin cfg0.N) : (outsAt0 m c t.val t.isLt).2.2 = normed (iblk m c 0 t) := by
  by_cases h0 : t.val % 2 = 0
  · exact h_A m c t h0
  · refine h_B m c t h0 ?_
    rw [x_same m c t h0 (Nat.lt_of_le_of_lt (Nat.sub_le _ _) t.isLt)]
    exact h_A m c ⟨t.val - 1, _⟩ (show (t.val - 1) % 2 = 0 by omega)

theorem hidden_before (t : Fin cfg0.N) (h0 : ¬ t.val % 2 = 0) : (before m c t).2.2 = normed (iblk m c 0 t) := by
  rw [x_same m c t h0 (Nat.lt_of_le_of_lt (Nat.sub_le _ _) t.isLt)]
  exact hidden m c ⟨t.val - 1, _⟩

/-- The constant by which the queries are scaled is the inverse of what the reference divides by. -/
theorem scale_eq (s : EReal) : s * (Named.named (F := Ideal) κ "qk_scale" 0x3E0293EE#32 : Ideal .f32)
    = Ideal.div s (Ideal.sqrt (Ideal.ofBits .f32 0x43000000#32) * Ideal.log (Ideal.ofBits .f32 0x40000000#32)) := by
  rw [Cert.Attn.sqrt128, Cert.Attn.v2, Ideal.log_coe, if_neg (by norm_num), ← EReal.coe_mul,
    Ideal.div_coe (mul_ne_zero Cert.Attn.sqrt128_ne Cert.Attn.log2_pos.ne'), mul_comm (Real.sqrt 128), one_div]
  exact congrArg (s * ·) (IdealRules.named_const.ideal_named_scalar κ "qk_scale" _ (((Real.log 2 * Real.sqrt 128)⁻¹ : ℝ) : EReal) rfl)

theorem one_word : Ideal.ofBits .f32 0x3F800000#32 = (1 : EReal) := by
  simp [Ideal.ofBits, Ideal.ieee, -EReal.coe_mul]; norm_num [← EReal.coe_mul]

/-- A point's product is the reference's: the gain is a factor of the weights in one and of the rows in the other. -/
theorem prod_eq (t : Fin cfg0.N) (r e : ℕ) (hr : r < 1024) (he : e < 2048) :
    prodN (iblk m c 1 t) (normed (iblk m c 0 t)) r e
      = refProd (Xm m c) (Gm m c) (Wm m c) (1024 * (t.val / 2) + r) (2048 * (t.val % 2) + e) := by
  have hx : ∀ k : Fin 2048, nat2 (iblk m c 0 t : Vec Ideal S1024x2048 .f32) r k.val = nat2 (Xm m c) (1024 * (t.val / 2) + r) k.val :=
    fun k => (nat2_ix (iblk m c 0 t : Vec Ideal S1024x2048 .f32) ⟨r, hr⟩ k).symm.trans (x_at m c t ⟨r, hr⟩ k)
  have hw : ∀ k : Fin 2048, nat3 (iblk m c 1 t : Vec Ideal S1x2048x2048 .bf16) 0 k.val e
      = nat3 (Wm m c) 0 k.val (2048 * (t.val % 2) + e) * nat2 (Gm m c) 0 k.val :=
    fun k => (nat3_ix (iblk m c 1 t : Vec Ideal S1x2048x2048 .bf16) 0 k ⟨e, he⟩).symm.trans (w_at m c t k ⟨e, he⟩)
  have hs : rowScale (nat2 (iblk m c 0 t : Vec Ideal S1024x2048 .f32) r) = rowScale (nat2 (Xm m c) (1024 * (t.val / 2) + r)) := by
    unfold rowScale
    simp only [hx]
  have hn : ∀ k : Fin 2048, nat2 (normed (iblk m c 0 t)) r k.val
      = nat2 (Xm m c) (1024 * (t.val / 2) + r) k.val * rowScale (nat2 (Xm m c) (1024 * (t.val / 2) + r)) := by
    intro k
    refine (nat2_ix (normed (iblk m c 0 t)) ⟨r, hr⟩ k).symm.trans ?_
    show nat2 _ r k.val * rowScale (nat2 _ r) = _
    rw [hx, hs]
  unfold prodN refProd
  refine Finset.sum_congr rfl fun k _ => ?_
  rw [hn, hw, mul_comm (nat3 (Wm m c) 0 _ _), mul_assoc, mul_assoc, mul_assoc]

/-- The reference's first result at a row and a column. -/
def zRes (r e : ℕ) : EReal :=
  if e < 1024 then Ideal.div (refProd (Xm m c) (Gm m c) (Wm m c) r e) (Ideal.sqrt (Ideal.ofBits .f32 0x43000000#32) * Ideal.log (Ideal.ofBits .f32 0x40000000#32))
  else refProd (Xm m c) (Gm m c) (Wm m c) r e

theorem z_point (t : Fin cfg0.N) (y : S1024x2048.Idx) :
    (outsAt0 m c t.val t.isLt).1 y = zRes m c (1024 * (t.val / 2) + (y 0).val) (2048 * (t.val % 2) + (y 1).val) := by
  have hr : (y 0).val < 1024 := (y 0).isLt
  have he : (y 1).val < 2048 := (y 1).isLt
  by_cases h0 : t.val % 2 = 0
  · rw [z_A m c t h0, factor_even t h0]
    unfold zBlk zN zRes
    rw [prod_eq m c t _ _ hr he, scale_eq, h0, Nat.mul_zero, Nat.zero_add]
  · rw [z_B m c t h0 (hidden_before m c t h0), factor_odd t h0, one_word]
    unfold zBlk zN zRes
    rw [prod_eq m c t _ _ hr he, mul_one, ite_self, if_neg (by omega)]

theorem u_point (t : Fin cfg0.N) (h0 : ¬ t.val % 2 = 0) (y : S1024x1024.Idx) :
    (outsAt0 m c t.val t.isLt).2.1 y = refProd (Xm m c) (Gm m c) (Wm m c) (1024 * (t.val / 2) + (y 0).val) (3072 + (y 1).val) := by
  have hr : (y 0).val < 1024 := (y 0).isLt
  have he : (y 1).val < 1024 := (y 1).isLt
  rw [u_B m c t h0 (hidden_before m c t h0)]
  unfold uBlk
  rw [prod_eq m c t _ _ hr (by omega)]
  congr 1
  omega

/-- The kernel's first result array. -/
theorem z_eq : (dats m 0 c).arrAt 2 cfg0.N = Cert.Reference2Ideal.Read.val_main_v27 (F := Ideal) (Xm m c) (Gm m c) (Wm m c) := by
  refine (dats m 0 c).arrAt_eq_of_covers 2 _ (by decide +kernel) fun t hf y => ?_
  blk_simp
  rw [after0_2]
  refine (z_point m c t y).trans ?_
  have e0 : ((((cfg0.win 2).blk t).view.emb y) 0).val = 1024 * (t.val / 2) + (y 0).val := by
    blk_simp [index2 t]
    omega
  have e1 : ((((cfg0.win 2).blk t).view.emb y) 1).val = 2048 * (t.val % 2) + (y 1).val := by
    blk_simp [index2 t]
    omega
  rw [← e0, ← e1]
  generalize ((cfg0.win 2).blk t).view.emb y = w
  exact (Cert.Reference2Ideal.Inproj.z_at (Xm m c) (Gm m c) (Wm m c) (w 0) (w 1)).symm.trans (congrArg _ (eq_ix2 w).symm)

/-- The kernel's second result array. -/
theorem u_eq : (dats m 0 c).arrAt 3 cfg0.N = Cert.Reference2Ideal.Read.val_main_v18 (F := Ideal) (Xm m c) (Gm m c) (Wm m c) := by
  refine (dats m 0 c).arrAt_eq_of_covers 3 _ (by decide +kernel) fun t hf y => ?_
  have h1 := (flush0_3 t).1 hf
  blk_simp
  rw [after0_3]
  refine (u_point m c t (by omega) y).trans ?_
  have e0 : ((((cfg0.win 3).blk t).view.emb y) 0).val = 1024 * (t.val / 2) + (y 0).val := by
    blk_simp [index3 t]
    omega
  have e1 : ((((cfg0.win 3).blk t).view.emb y) 1).val = (y 1).val := by
    blk_simp [index3 t]
  rw [← e0, ← e1]
  generalize ((cfg0.win 3).blk t).view.emb y = w
  exact (Cert.Reference2Ideal.Inproj.u_at (Xm m c) (Gm m c) (Wm m c) (w 0) (w 1)).symm.trans (congrArg _ (eq_ix2 w).symm)

end Cert.Kernel2Ideal.Inproj
-- ==== Proof.Ffn.Setup.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The feed-forward call: its arrays, its blocks and the conditions of its body -/

variable (m : (ℓ : Loc nD τ sig) → Buf (Elt F) ℓ) (ρ : Dev nD → PrngReg)

/-- The buffers of a core when its grid begins: what the host's operations leave. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- What window `w` shows of its array at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- A run that leaves the pipeline's post leaves every argument as it was. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-- The point begins a tile of rows: its block is normalised. -/
abbrev begins (i : grid0.Coords) : Prop := (Scalar.cmpi .ne (Scalar.extui (Scalar.cmpi .eq (BitVec.ofNat 32 (i 1).val) 0#32)) 0#32) = 1#1
theorem hbegins (t : Fin cfg0.N) : begins (grid0.coords t) ↔ t.val % 11 = 0 :=
  (fun t => by
    have ht : t.val < 352 := Nat.lt_of_lt_of_eq t.isLt N_0
    have e0 : (grid0.coords t 0).val = t.val / 11 % 32 := Pipeline.Grid.coords_val t 0 (by decide) rfl
    have e1 : (grid0.coords t 1).val = t.val / 1 % 11 := Pipeline.Grid.coords_val t 1 (by decide) rfl
    simp only [begins, e0, e1]
    word_cmp
   : ∀ t : Fin grid0.N, begins (grid0.coords t) ↔ t.val % 11 = 0) t

/-- The point is the first of all. -/
abbrev opens (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hopens (t : Fin cfg0.N) : opens (grid0.coords t) ↔ t.val % 352 = 0 :=
  (fun t => by
    have ht : t.val < 352 := Nat.lt_of_lt_of_eq t.isLt N_0
    have e0 : (grid0.coords t 0).val = t.val / 11 % 32 := Pipeline.Grid.coords_val t 0 (by decide) rfl
    have e1 : (grid0.coords t 1).val = t.val / 1 % 11 := Pipeline.Grid.coords_val t 1 (by decide) rfl
    simp only [opens, e0, e1]
    word_cmp
   : ∀ t : Fin grid0.N, opens (grid0.coords t) ↔ t.val % 352 = 0) t

/-- The point ends a tile of rows: its sum is normalised and the residual added. -/
abbrev ends (i : grid0.Coords) : Prop := (Scalar.cmpi .ne (Scalar.extui (Scalar.cmpi .eq (BitVec.ofNat 32 (i 1).val) 10#32)) 0#32) = 1#1
theorem hends (t : Fin cfg0.N) : ends (grid0.coords t) ↔ t.val % 11 = 10 :=
  (fun t => by
    have ht : t.val < 352 := Nat.lt_of_lt_of_eq t.isLt N_0
    have e0 : (grid0.coords t 0).val = t.val / 11 % 32 := Pipeline.Grid.coords_val t 0 (by decide) rfl
    have e1 : (grid0.coords t 1).val = t.val / 1 % 11 := Pipeline.Grid.coords_val t 1 (by decide) rfl
    simp only [ends, e0, e1]
    word_cmp
   : ∀ t : Fin grid0.N, ends (grid0.coords t) ↔ t.val % 11 = 10) t

/-! The staging buffers of a point, and the scratch. -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3x11264 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x11264 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x2048 .f32 := win0_7.stage (cfg0.slots t 7)
abbrev hs0_7 (t : Fin cfg0.N) : (ms0_7 t).IsWhole := hstage0_7 ((cfg0.slots t 7).cast nbuf0_7)

abbrev scM0_0 : Memref sig .tc .vmem S1024x2048 .bf16 := Memref.whole cc0_scratch0
abbrev scM0_1 : Memref sig .tc .vmem S1032x512 .f32 := Memref.whole cc0_scratch1
abbrev scM0_2 : Memref sig .tc .vmem S1032x512 .f32 := Memref.whole cc0_scratch2
abbrev scM0_3 : Memref sig .tc .vmem S11x8x512 .f32 := Memref.whole cc0_scratch3
abbrev scM0_4 : Memref sig .tc .vmem S11x8x512 .f32 := Memref.whole cc0_scratch4

/-- What the pipeline leaves beside the windows: the scratch at some contents and the generator. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel3Ideal.Ffn
-- ==== Proof.Ffn.RunFirst.lean ====
module

public import proofs.«01_k».proof.Proof.Ffn.Setup

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body runs over whole buffers at any contents; the lists name what it stores where. Here: at the first point. -/
noncomputable def runFirst (c : Dev nD) (i : grid0.Coords)
    (arg2 : Memref sig .tc .vmem S1024x2048 .f32) (harg2 : arg2.IsWhole)
    (arg3 : Memref sig .tc .vmem S1x2048x512 .bf16) (harg3 : arg3.IsWhole)
    (arg4 : Memref sig .tc .vmem S1x2048x512 .bf16) (harg4 : arg4.IsWhole)
    (arg5 : Memref sig .tc .vmem S1x3x11264 .f32) (harg5 : arg5.IsWhole)
    (arg6 : Memref sig .tc .vmem S1x1x11264 .f32) (harg6 : arg6.IsWhole)
    (arg7 : Memref sig .tc .vmem S1x512x2048 .bf16) (harg7 : arg7.IsWhole)
    (arg8 : Memref sig .tc .vmem S1x1x2048 .f32) (harg8 : arg8.IsWhole)
    (arg9 : Memref sig .tc .vmem S1024x2048 .f32) (harg9 : arg9.IsWhole)
    (arg10 : Memref sig .tc .vmem S1024x2048 .bf16) (harg10 : arg10.IsWhole)
    (arg11 : Memref sig .tc .vmem S1032x512 .f32) (harg11 : arg11.IsWhole)
    (arg12 : Memref sig .tc .vmem S1032x512 .f32) (harg12 : arg12.IsWhole)
    (arg13 : Memref sig .tc .vmem S11x8x512 .f32) (harg13 : arg13.IsWhole)
    (arg14 : Memref sig .tc .vmem S11x8x512 .f32) (harg14 : arg14.IsWhole)
    (hb : begins i) (ho : opens i) (he : ¬ends i)
    (x0 : Vec F S1024x2048 .f32) (x1 : Vec F S1x2048x512 .bf16) (x2 : Vec F S1x2048x512 .bf16) (x3 : Vec F S1x3x11264 .f32) (x4 : Vec F S1x1x11264 .f32) (x5 : Vec F S1x512x2048 .bf16) (x6 : Vec F S1x1x2048 .f32)
    (y : Vec F S1024x2048 .f32) (h : Vec F S1024x2048 .bf16) (cg cv : Vec F S11x8x512 .f32) :
    Σ' (LY : List (View.Piece (Elt F) S1024x2048 .f32)), Σ' (LH : List (View.Piece (Elt F) S1024x2048 .bf16)), Σ' (LG : List (View.Piece (Elt F) S11x8x512 .f32)), Σ' (LV : List (View.Piece (Elt F) S11x8x512 .f32)), Σ' (LT : List (View.Piece (Elt F) S1032x512 .f32)), { LU : List (View.Piece (Elt F) S1032x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare y ∗ owns (c : Thread nD τ) arg10 fullShare h ∗ (∃ d, owns (c : Thread nD τ) arg11 fullShare d) ∗ (∃ d, owns (c : Thread nD τ) arg12 fullShare d) ∗ owns (c : Thread nD τ) arg13 fullShare cg ∗ owns (c : Thread nD τ) arg14 fullShare cv
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
              ∗ (arg9.view.loc (c : Thread nD τ) ↦[arg9.view.set]{fullShare} arg9.view.writes (Elt F) (harg9.unread y) LY) ∗ (arg10.view.loc (c : Thread nD τ) ↦[arg10.view.set]{fullShare} arg10.view.writes (Elt F) (harg10.unread h) LH)
              ∗ (∃ f, arg11.view.loc (c : Thread nD τ) ↦[arg11.view.set]{fullShare} arg11.view.writes (Elt F) f LT) ∗ (∃ f, arg12.view.loc (c : Thread nD τ) ↦[arg12.view.set]{fullShare} arg12.view.writes (Elt F) f LU)
              ∗ (arg13.view.loc (c : Thread nD τ) ↦[arg13.view.set]{fullShare} arg13.view.writes (Elt F) (harg13.unread cg) LG) ∗ (arg14.view.loc (c : Thread nD τ) ↦[arg14.view.set]{fullShare} arg14.view.writes (Elt F) (harg14.unread cv) LV)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_ffn_eq_skeleton]; unfold cc0_ffn_skel
    simp only [k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, ⟨%ds2, %fs2, -, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg13.eq_unread hfs3; obtain rfl := harg14.eq_unread hfs4
    sl_exec (disch := first | sl_exact hb | sl_exact ho | sl_exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [HS0]; · iexact HS0
    isplitl [HS1]; · iexists _; iexact HS1
    isplitl [HS2]; · iexists _; iexact HS2
    isplitl [HS3]; · iexact HS3
    iexact HS4

end Cert.Kernel3Ideal.Ffn
-- ==== Proof.Ffn.RunInner.lean ====
module

public import proofs.«01_k».proof.Proof.Ffn.RunFirst

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1200000 in
/-- The body runs over whole buffers at any contents; the lists name what it stores where. Here: strictly inside a tile of rows. -/
noncomputable def runInner (c : Dev nD) (i : grid0.Coords)
    (arg2 : Memref sig .tc .vmem S1024x2048 .f32) (harg2 : arg2.IsWhole)
    (arg3 : Memref sig .tc .vmem S1x2048x512 .bf16) (harg3 : arg3.IsWhole)
    (arg4 : Memref sig .tc .vmem S1x2048x512 .bf16) (harg4 : arg4.IsWhole)
    (arg5 : Memref sig .tc .vmem S1x3x11264 .f32) (harg5 : arg5.IsWhole)
    (arg6 : Memref sig .tc .vmem S1x1x11264 .f32) (harg6 : arg6.IsWhole)
    (arg7 : Memref sig .tc .vmem S1x512x2048 .bf16) (harg7 : arg7.IsWhole)
    (arg8 : Memref sig .tc .vmem S1x1x2048 .f32) (harg8 : arg8.IsWhole)
    (arg9 : Memref sig .tc .vmem S1024x2048 .f32) (harg9 : arg9.IsWhole)
    (arg10 : Memref sig .tc .vmem S1024x2048 .bf16) (harg10 : arg10.IsWhole)
    (arg11 : Memref sig .tc .vmem S1032x512 .f32) (harg11 : arg11.IsWhole)
    (arg12 : Memref sig .tc .vmem S1032x512 .f32) (harg12 : arg12.IsWhole)
    (arg13 : Memref sig .tc .vmem S11x8x512 .f32) (harg13 : arg13.IsWhole)
    (arg14 : Memref sig .tc .vmem S11x8x512 .f32) (harg14 : arg14.IsWhole)
    (hb : ¬begins i) (ho : ¬opens i) (he : ¬ends i)
    (x0 : Vec F S1024x2048 .f32) (x1 : Vec F S1x2048x512 .bf16) (x2 : Vec F S1x2048x512 .bf16) (x3 : Vec F S1x3x11264 .f32) (x4 : Vec F S1x1x11264 .f32) (x5 : Vec F S1x512x2048 .bf16) (x6 : Vec F S1x1x2048 .f32)
    (y : Vec F S1024x2048 .f32) (h : Vec F S1024x2048 .bf16) (cg cv : Vec F S11x8x512 .f32) :
    Σ' (LY : List (View.Piece (Elt F) S1024x2048 .f32)), Σ' (LH : List (View.Piece (Elt F) S1024x2048 .bf16)), Σ' (LG : List (View.Piece (Elt F) S11x8x512 .f32)), Σ' (LV : List (View.Piece (Elt F) S11x8x512 .f32)), Σ' (LT : List (View.Piece (Elt F) S1032x512 .f32)), { LU : List (View.Piece (Elt F) S1032x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare y ∗ owns (c : Thread nD τ) arg10 fullShare h ∗ (∃ d, owns (c : Thread nD τ) arg11 fullShare d) ∗ (∃ d, owns (c : Thread nD τ) arg12 fullShare d) ∗ owns (c : Thread nD τ) arg13 fullShare cg ∗ owns (c : Thread nD τ) arg14 fullShare cv
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
              ∗ (arg9.view.loc (c : Thread nD τ) ↦[arg9.view.set]{fullShare} arg9.view.writes (Elt F) (harg9.unread y) LY) ∗ (arg10.view.loc (c : Thread nD τ) ↦[arg10.view.set]{fullShare} arg10.view.writes (Elt F) (harg10.unread h) LH)
              ∗ (∃ f, arg11.view.loc (c : Thread nD τ) ↦[arg11.view.set]{fullShare} arg11.view.writes (Elt F) f LT) ∗ (∃ f, arg12.view.loc (c : Thread nD τ) ↦[arg12.view.set]{fullShare} arg12.view.writes (Elt F) f LU)
              ∗ (arg13.view.loc (c : Thread nD τ) ↦[arg13.view.set]{fullShare} arg13.view.writes (Elt F) (harg13.unread cg) LG) ∗ (arg14.view.loc (c : Thread nD τ) ↦[arg14.view.set]{fullShare} arg14.view.writes (Elt F) (harg14.unread cv) LV)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14) K } := by
  refine ⟨?_, [], ?_, ?_, ?_, ?_, fun E K => ?run⟩
  case run =>
    simp only [cc0_ffn_eq_skeleton]; unfold cc0_ffn_skel
    simp only [k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, ⟨%ds2, %fs2, -, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg13.eq_unread hfs3; obtain rfl := harg14.eq_unread hfs4
    sl_exec (disch := first | sl_exact hb | sl_exact ho | sl_exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [HS0]; · iexact HS0
    isplitl [HS1]; · iexists _; iexact HS1
    isplitl [HS2]; · iexists _; iexact HS2
    isplitl [HS3]; · iexact HS3
    iexact HS4

end Cert.Kernel3Ideal.Ffn
-- ==== Proof.Ffn.RunLast.lean ====
module

public import proofs.«01_k».proof.Proof.Ffn.RunInner

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2408000 in
/-- The body runs over whole buffers at any contents; the lists name what it stores where. Here: at the end of a tile of rows. -/
noncomputable def runLast (c : Dev nD) (i : grid0.Coords)
    (arg2 : Memref sig .tc .vmem S1024x2048 .f32) (harg2 : arg2.IsWhole)
    (arg3 : Memref sig .tc .vmem S1x2048x512 .bf16) (harg3 : arg3.IsWhole)
    (arg4 : Memref sig .tc .vmem S1x2048x512 .bf16) (harg4 : arg4.IsWhole)
    (arg5 : Memref sig .tc .vmem S1x3x11264 .f32) (harg5 : arg5.IsWhole)
    (arg6 : Memref sig .tc .vmem S1x1x11264 .f32) (harg6 : arg6.IsWhole)
    (arg7 : Memref sig .tc .vmem S1x512x2048 .bf16) (harg7 : arg7.IsWhole)
    (arg8 : Memref sig .tc .vmem S1x1x2048 .f32) (harg8 : arg8.IsWhole)
    (arg9 : Memref sig .tc .vmem S1024x2048 .f32) (harg9 : arg9.IsWhole)
    (arg10 : Memref sig .tc .vmem S1024x2048 .bf16) (harg10 : arg10.IsWhole)
    (arg11 : Memref sig .tc .vmem S1032x512 .f32) (harg11 : arg11.IsWhole)
    (arg12 : Memref sig .tc .vmem S1032x512 .f32) (harg12 : arg12.IsWhole)
    (arg13 : Memref sig .tc .vmem S11x8x512 .f32) (harg13 : arg13.IsWhole)
    (arg14 : Memref sig .tc .vmem S11x8x512 .f32) (harg14 : arg14.IsWhole)
    (hb : ¬begins i) (ho : ¬opens i) (he : ends i)
    (x0 : Vec F S1024x2048 .f32) (x1 : Vec F S1x2048x512 .bf16) (x2 : Vec F S1x2048x512 .bf16) (x3 : Vec F S1x3x11264 .f32) (x4 : Vec F S1x1x11264 .f32) (x5 : Vec F S1x512x2048 .bf16) (x6 : Vec F S1x1x2048 .f32)
    (y : Vec F S1024x2048 .f32) (h : Vec F S1024x2048 .bf16) (cg cv : Vec F S11x8x512 .f32) :
    Σ' (LY : List (View.Piece (Elt F) S1024x2048 .f32)), Σ' (LH : List (View.Piece (Elt F) S1024x2048 .bf16)), Σ' (LG : List (View.Piece (Elt F) S11x8x512 .f32)), Σ' (LV : List (View.Piece (Elt F) S11x8x512 .f32)), Σ' (LT : List (View.Piece (Elt F) S1032x512 .f32)), { LU : List (View.Piece (Elt F) S1032x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare y ∗ owns (c : Thread nD τ) arg10 fullShare h ∗ (∃ d, owns (c : Thread nD τ) arg11 fullShare d) ∗ (∃ d, owns (c : Thread nD τ) arg12 fullShare d) ∗ owns (c : Thread nD τ) arg13 fullShare cg ∗ owns (c : Thread nD τ) arg14 fullShare cv
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
              ∗ (arg9.view.loc (c : Thread nD τ) ↦[arg9.view.set]{fullShare} arg9.view.writes (Elt F) (harg9.unread y) LY) ∗ (arg10.view.loc (c : Thread nD τ) ↦[arg10.view.set]{fullShare} arg10.view.writes (Elt F) (harg10.unread h) LH)
              ∗ (∃ f, arg11.view.loc (c : Thread nD τ) ↦[arg11.view.set]{fullShare} arg11.view.writes (Elt F) f LT) ∗ (∃ f, arg12.view.loc (c : Thread nD τ) ↦[arg12.view.set]{fullShare} arg12.view.writes (Elt F) f LU)
              ∗ (arg13.view.loc (c : Thread nD τ) ↦[arg13.view.set]{fullShare} arg13.view.writes (Elt F) (harg13.unread cg) LG) ∗ (arg14.view.loc (c : Thread nD τ) ↦[arg14.view.set]{fullShare} arg14.view.writes (Elt F) (harg14.unread cv) LV)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14) K } := by
  refine ⟨?_, [], ?_, ?_, ?_, ?_, fun E K => ?run⟩
  case run =>
    simp only [cc0_ffn_eq_skeleton]; unfold cc0_ffn_skel
    simp only [k0_part35_eq_skeleton, k0_part36_eq_skeleton, k0_part37_eq_skeleton, k0_part38_eq_skeleton, k0_part39_eq_skeleton, k0_part40_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, ⟨%ds2, %fs2, -, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg13.eq_unread hfs3; obtain rfl := harg14.eq_unread hfs4
    sl_exec (disch := first | sl_exact hb | sl_exact ho | sl_exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [HS0]; · iexact HS0
    isplitl [HS1]; · iexists _; iexact HS1
    isplitl [HS2]; · iexists _; iexact HS2
    isplitl [HS3]; · iexact HS3
    iexact HS4

end Cert.Kernel3Ideal.Ffn
-- ==== Proof.Ffn.RunStart.lean ====
module

public import proofs.«01_k».proof.Proof.Ffn.RunLast

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body runs over whole buffers at any contents; the lists name what it stores where. Here: at the start of a later tile of rows. -/
noncomputable def runStart (c : Dev nD) (i : grid0.Coords)
    (arg2 : Memref sig .tc .vmem S1024x2048 .f32) (harg2 : arg2.IsWhole)
    (arg3 : Memref sig .tc .vmem S1x2048x512 .bf16) (harg3 : arg3.IsWhole)
    (arg4 : Memref sig .tc .vmem S1x2048x512 .bf16) (harg4 : arg4.IsWhole)
    (arg5 : Memref sig .tc .vmem S1x3x11264 .f32) (harg5 : arg5.IsWhole)
    (arg6 : Memref sig .tc .vmem S1x1x11264 .f32) (harg6 : arg6.IsWhole)
    (arg7 : Memref sig .tc .vmem S1x512x2048 .bf16) (harg7 : arg7.IsWhole)
    (arg8 : Memref sig .tc .vmem S1x1x2048 .f32) (harg8 : arg8.IsWhole)
    (arg9 : Memref sig .tc .vmem S1024x2048 .f32) (harg9 : arg9.IsWhole)
    (arg10 : Memref sig .tc .vmem S1024x2048 .bf16) (harg10 : arg10.IsWhole)
    (arg11 : Memref sig .tc .vmem S1032x512 .f32) (harg11 : arg11.IsWhole)
    (arg12 : Memref sig .tc .vmem S1032x512 .f32) (harg12 : arg12.IsWhole)
    (arg13 : Memref sig .tc .vmem S11x8x512 .f32) (harg13 : arg13.IsWhole)
    (arg14 : Memref sig .tc .vmem S11x8x512 .f32) (harg14 : arg14.IsWhole)
    (hb : begins i) (ho : ¬opens i) (he : ¬ends i)
    (x0 : Vec F S1024x2048 .f32) (x1 : Vec F S1x2048x512 .bf16) (x2 : Vec F S1x2048x512 .bf16) (x3 : Vec F S1x3x11264 .f32) (x4 : Vec F S1x1x11264 .f32) (x5 : Vec F S1x512x2048 .bf16) (x6 : Vec F S1x1x2048 .f32)
    (y : Vec F S1024x2048 .f32) (h : Vec F S1024x2048 .bf16) (cg cv : Vec F S11x8x512 .f32) :
    Σ' (LY : List (View.Piece (Elt F) S1024x2048 .f32)), Σ' (LH : List (View.Piece (Elt F) S1024x2048 .bf16)), Σ' (LG : List (View.Piece (Elt F) S11x8x512 .f32)), Σ' (LV : List (View.Piece (Elt F) S11x8x512 .f32)), Σ' (LT : List (View.Piece (Elt F) S1032x512 .f32)), { LU : List (View.Piece (Elt F) S1032x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare y ∗ owns (c : Thread nD τ) arg10 fullShare h ∗ (∃ d, owns (c : Thread nD τ) arg11 fullShare d) ∗ (∃ d, owns (c : Thread nD τ) arg12 fullShare d) ∗ owns (c : Thread nD τ) arg13 fullShare cg ∗ owns (c : Thread nD τ) arg14 fullShare cv
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
              ∗ (arg9.view.loc (c : Thread nD τ) ↦[arg9.view.set]{fullShare} arg9.view.writes (Elt F) (harg9.unread y) LY) ∗ (arg10.view.loc (c : Thread nD τ) ↦[arg10.view.set]{fullShare} arg10.view.writes (Elt F) (harg10.unread h) LH)
              ∗ (∃ f, arg11.view.loc (c : Thread nD τ) ↦[arg11.view.set]{fullShare} arg11.view.writes (Elt F) f LT) ∗ (∃ f, arg12.view.loc (c : Thread nD τ) ↦[arg12.view.set]{fullShare} arg12.view.writes (Elt F) f LU)
              ∗ (arg13.view.loc (c : Thread nD τ) ↦[arg13.view.set]{fullShare} arg13.view.writes (Elt F) (harg13.unread cg) LG) ∗ (arg14.view.loc (c : Thread nD τ) ↦[arg14.view.set]{fullShare} arg14.view.writes (Elt F) (harg14.unread cv) LV)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_ffn_eq_skeleton]; unfold cc0_ffn_skel
    simp only [k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, ⟨%ds2, %fs2, -, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg13.eq_unread hfs3; obtain rfl := harg14.eq_unread hfs4
    sl_exec (disch := first | sl_exact hb | sl_exact ho | sl_exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [HS0]; · iexact HS0
    isplitl [HS1]; · iexists _; iexact HS1
    isplitl [HS2]; · iexists _; iexact HS2
    isplitl [HS3]; · iexact HS3
    iexact HS4

end Cert.Kernel3Ideal.Ffn
-- ==== Proof.Ffn.Step.lean ====
module

public import proofs.«01_k».proof.Proof.Ffn.RunStart
public import Idealize.ShloMosaic.Lib.Pipeline.ValueKit
public import Idealize.ShloMosaic.Lib.Pipeline.ReadBack

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What one point of the feed-forward call computes, as functions of what it finds -/

section Reads
variable {sig : RefSig} {κ : Kind} {sp : Space} {s : Shape} {e : EltTy} {Val : EltTy → Type}

/-- A load from a whole buffer reads its contents. -/
theorem readAt_ld (a : Memref sig κ sp s e) (h : a.IsWhole) (X : s.Idx → Val e) (r : Rect s) :
    View.readAt Val a.view r.toLoadRect (h.unread X) = View.ld X r := by
  rw [View.readAt_eq_ld, h.read_unread]

/-- A load of what a list of stores left. -/
theorem readCov_ld [∀ e, Nonempty (Val e)] (v : View sig κ sp s e) (L : List (View.Piece Val s e)) (r : Rect s) :
    v.readCov L r.toLoadRect = View.ld (View.canon L) r := View.readCov_eq_canon' v L r.toLoadRect

/-- Stores that cover a shape hide the earlier ones. -/
theorem canon_append_cover [∀ e, Nonempty (Val e)] (L' : List (View.Piece Val s e)) : ∀ (L : List (View.Piece Val s e)) (y : s.Idx),
    (∃ p ∈ L, y ∈ p.1.set) → View.canon (L ++ L') y = View.canon L y
  | [], _, h => by obtain ⟨p, hp, _⟩ := h; cases hp
  | p :: L, y, h => by
    by_cases hy : y ∈ p.1.set
    · obtain ⟨r, w⟩ := p
      obtain ⟨x, rfl⟩ : ∃ x, r.emb x = y := r.exists_idx_of_mem hy
      rw [List.cons_append, View.canon_cons_emb, View.canon_cons_emb]
    · obtain ⟨q, hq, hqy⟩ := h
      have hq' : q ∈ L := (List.mem_cons.mp hq).resolve_left fun e => hy (e ▸ hqy)
      rw [List.cons_append, View.canon_cons_of_not_mem p _ hy, View.canon_cons_of_not_mem p _ hy]
      exact canon_append_cover L' L y ⟨q, hq', hqy⟩
end Reads

abbrev top : Rect S1024x2048 := Rect.unit ![0, 0] S512x2048.size inb_S1024x2048_S512x2048_0_0
abbrev bot : Rect S1024x2048 := Rect.unit ![512, 0] S512x2048.size inb_S1024x2048_S512x2048_512_0
abbrev upAll : Rect S1x2048x512 := Rect.unit ![0, 0, 0] S1x2048x512.size inb_S1x2048x512_S1x2048x512_0_0_0
abbrev downAll : Rect S1x512x2048 := Rect.unit ![0, 0, 0] S1x512x2048.size inb_S1x512x2048_S1x512x2048_0_0_0
abbrev gainAll : Rect S1x1x2048 := Rect.unit ![0, 0, 0] S1x1x2048.size inb_S1x1x2048_S1x1x2048_0_0_0
/-- The rows kept for the next tile. -/
abbrev tailRows : Rect S1032x512 := Rect.unit ![1024, 0] S8x512.size inb_S1032x512_S8x512_1024_0
/-- The place in the kept rows of the point's feature block. -/
abbrev slot (i : grid0.Coords) : Rect S11x8x512 := Rect.unit (k0_off1 i) S1x8x512.size (k0_off1_inb i)

/-- Whether the point's tile opens a sequence. -/
def firstTile (i : grid0.Coords) : BitVec 1 :=
  Scalar.cmpi .eq (Scalar.select (Scalar.andi (Scalar.xori (Scalar.cmpi .slt (Scalar.remsi (BitVec.ofNat 32 (i 0).val) 16#32) 0#32) 0#1)
      (Scalar.cmpi .ne (Scalar.remsi (BitVec.ofNat 32 (i 0).val) 16#32) 0#32))
    (Scalar.addi (Scalar.remsi (BitVec.ofNat 32 (i 0).val) 16#32) 16#32) (Scalar.remsi (BitVec.ofNat 32 (i 0).val) 16#32)) 0#32

/-- The normalised rows. -/
def hNorm (x0 : Vec F S1024x2048 .f32) : Vec F S1024x2048 .bf16 :=
  k0_pay107 (View.ld x0 (Rect.unit ![0, 0] S1024x2048.size inb_S1024x2048_S1024x2048_0_0))

/-- The rows times a block of the up-projection, under eight rows of the tile before. -/
def buf (i : grid0.Coords) (z : Vec F S1x8x512 .f32) (h : Vec F S1024x2048 .bf16) (w : Vec F S1x2048x512 .bf16) : Vec F S1032x512 .f32 :=
  View.canon (Val := Elt F) (s := S1032x512) (e := .f32)
    [⟨Rect.unit ![520, 0] S512x512.size inb_S1032x512_S512x512_520_0, k0_pay113 (View.ld h bot) (View.ld w upAll)⟩,
      ⟨Rect.unit ![8, 0] S512x512.size inb_S1032x512_S512x512_8_0, k0_pay111 (View.ld h top) (View.ld w upAll)⟩,
      ⟨Rect.unit ![0, 0] S8x512.size inb_S1032x512_S8x512_0_0, k0_pay110 (firstTile i) z⟩]

/-- The gate's convolution of 512 rows, read at three consecutive starts. -/
def gate (i : grid0.Coords) (x3 : Vec F S1x3x11264 .f32) (x4 : Vec F S1x1x11264 .f32) (a b d : Vec F S512x512 .f32) : FVec F S512x512 .f32 :=
  k0_pay120 (View.ld x4 (Rect.unit (k0_off2 i) S1x1x512.size (k0_off2_inb i))) a (View.ld x3 (Rect.unit (k0_off3 i) S1x1x512.size (k0_off3_inb i)))
    b (View.ld x3 (Rect.unit (k0_off4 i) S1x1x512.size (k0_off4_inb i))) d (View.ld x3 (Rect.unit (k0_off5 i) S1x1x512.size (k0_off5_inb i)))

/-- The value's. -/
def value (i : grid0.Coords) (x3 : Vec F S1x3x11264 .f32) (x4 : Vec F S1x1x11264 .f32) (a b d : Vec F S512x512 .f32) : FVec F S512x512 .f32 :=
  k0_pay120 (View.ld x4 (Rect.unit (k0_off6 i) S1x1x512.size (k0_off6_inb i))) a (View.ld x3 (Rect.unit (k0_off7 i) S1x1x512.size (k0_off7_inb i)))
    b (View.ld x3 (Rect.unit (k0_off8 i) S1x1x512.size (k0_off8_inb i))) d (View.ld x3 (Rect.unit (k0_off9 i) S1x1x512.size (k0_off9_inb i)))

/-- Half a block of the sum, with the product of the activated features and a block of the down-projection. -/
def accum (i : grid0.Coords) (g v : FVec F S512x512 .f32) (y : Vec F S512x2048 .f32) (x5 : Vec F S1x512x2048 .bf16) : FVec F S512x2048 .f32 :=
  k0_pay124 (BitVec.ofNat 32 (i 1).val) g v (mulf (broadcast S512x512 (Scalar.ofBits .f32 0x3F000000#32)) g) (mulf (mulf g g) g) k0_pay123 y
    (View.ld x5 downAll)

def yStep (i : grid0.Coords) (g v : Vec F S1032x512 .f32) (x3 : Vec F S1x3x11264 .f32) (x4 : Vec F S1x1x11264 .f32) (x5 : Vec F S1x512x2048 .bf16)
    (y : Vec F S1024x2048 .f32) : Vec F S1024x2048 .f32 :=
  View.canon (Val := Elt F) (s := S1024x2048) (e := .f32)
    [⟨bot, accum i
        (gate i x3 x4 (View.ld g (Rect.unit ![518, 0] S512x512.size inb_S1032x512_S512x512_518_0))
          (View.ld g (Rect.unit ![519, 0] S512x512.size inb_S1032x512_S512x512_519_0)) (View.ld g (Rect.unit ![520, 0] S512x512.size inb_S1032x512_S512x512_520_0)))
        (value i x3 x4 (View.ld v (Rect.unit ![518, 0] S512x512.size inb_S1032x512_S512x512_518_0))
          (View.ld v (Rect.unit ![519, 0] S512x512.size inb_S1032x512_S512x512_519_0)) (View.ld v (Rect.unit ![520, 0] S512x512.size inb_S1032x512_S512x512_520_0)))
        (View.ld y bot) x5⟩,
      ⟨top, accum i
        (gate i x3 x4 (View.ld g (Rect.unit ![6, 0] S512x512.size inb_S1032x512_S512x512_6_0))
          (View.ld g (Rect.unit ![7, 0] S512x512.size inb_S1032x512_S512x512_7_0)) (View.ld g (Rect.unit ![8, 0] S512x512.size inb_S1032x512_S512x512_8_0)))
        (value i x3 x4 (View.ld v (Rect.unit ![6, 0] S512x512.size inb_S1032x512_S512x512_6_0))
          (View.ld v (Rect.unit ![7, 0] S512x512.size inb_S1032x512_S512x512_7_0)) (View.ld v (Rect.unit ![8, 0] S512x512.size inb_S1032x512_S512x512_8_0)))
        (View.ld y top) x5⟩]

theorem yCover (P Q : S512x2048.Idx → Elt F .f32) (L : List (View.Piece (Elt F) S1024x2048 .f32)) (y : S1024x2048.Idx) :
    ∃ p ∈ (⟨bot, P⟩ : View.Piece (Elt F) S1024x2048 .f32) :: (⟨top, Q⟩ : View.Piece (Elt F) S1024x2048 .f32) :: L, y ∈ p.1.set := by
  have h := View.cover_of_tiledBy (Val := Elt F) (e := .f32) [(⟨bot, P⟩ : View.Piece (Elt F) S1024x2048 .f32), ⟨top, Q⟩] ![512, 2048] (by sl_kernel_rfl) y
  obtain ⟨p, hp, hy⟩ := h
  rcases List.mem_cons.mp hp with rfl | hp
  · exact ⟨_, List.mem_cons_self, hy⟩
  · rcases List.mem_cons.mp hp with rfl | hp
    · exact ⟨_, List.mem_cons_of_mem _ List.mem_cons_self, hy⟩
    · exact absurd hp List.not_mem_nil

theorem yCanon (P Q : S512x2048.Idx → Elt F .f32) (L : List (View.Piece (Elt F) S1024x2048 .f32)) :
    View.canon ((⟨bot, P⟩ : View.Piece (Elt F) S1024x2048 .f32) :: (⟨top, Q⟩ : View.Piece (Elt F) S1024x2048 .f32) :: L)
      = View.canon [(⟨bot, P⟩ : View.Piece (Elt F) S1024x2048 .f32), ⟨top, Q⟩] :=
  funext fun y => canon_append_cover L [(⟨bot, P⟩ : View.Piece (Elt F) S1024x2048 .f32), ⟨top, Q⟩] y (yCover P Q [] y)

/-- Sixteen finished rows, from sixteen rows of the sum and of the input. -/
def chunk (x0 y : Vec F S1024x2048 .f32) (x6 : Vec F S1x1x2048 .f32) (k : Fin 64) : FVec F S16x2048 .f32 :=
  have inb : ∀ a, (![16 * k.val, 0] : Fin 2 → ℕ) a + S16x2048.size a ≤ S1024x2048.size a := by
    intro a; have := k.isLt; fin_cases a
    · show 16 * k.val + 16 ≤ 1024; omega
    · show 0 + 2048 ≤ 2048; omega
  k0_pay3 (View.ld y (Rect.unit ![16 * k.val, 0] S16x2048.size inb)) (View.ld x0 (Rect.unit ![16 * k.val, 0] S16x2048.size inb)) (View.ld x6 gainAll)

/-- The finished tile: the sum normalised and scaled, and the input added. -/
def yEnd (x0 y : Vec F S1024x2048 .f32) (x6 : Vec F S1x1x2048 .f32) : Vec F S1024x2048 .f32 := fun z =>
  chunk x0 y x6 ⟨(z 0).val / 16, by have h : (z 0).val < 1024 := (z 0).isLt; omega⟩
    (ix2 ⟨(z 0).val % 16, Nat.mod_lt _ (by decide)⟩ ⟨(z 1).val, (z 1).isLt⟩)

theorem yEnd_at (x0 y : Vec F S1024x2048 .f32) (x6 : Vec F S1x1x2048 .f32) (k : Fin 64) (p : Fin 16) (q : Fin 2048) (z : S1024x2048.Idx)
    (h0 : (z 0).val = 16 * k.val + p.val) (h1 : (z 1).val = q.val) : yEnd x0 y x6 z = chunk x0 y x6 k (ix2 p q) := by
  unfold yEnd
  have ek : ∀ (r : ℕ) (hr : r / 16 < 64), r = 16 * k.val + p.val → (⟨r / 16, hr⟩ : Fin 64) = k := fun r hr h =>
    Fin.ext (by show r / 16 = k.val; omega)
  have ep : ∀ (r : ℕ) (hr : r % 16 < 16), r = 16 * k.val + p.val → (⟨r % 16, hr⟩ : Fin 16) = p := fun r hr h =>
    Fin.ext (by show r % 16 = p.val; omega)
  have eq : ∀ (r : ℕ) (hr : r < 2048), r = q.val → (⟨r, hr⟩ : Fin 2048) = q := fun r hr h => Fin.ext h
  rw [ek _ _ h0, ep _ _ h0]
  exact congrArg (fun q => chunk x0 y x6 k (ix2 p q)) (eq _ _ h1)

/-- After `n` chunks: the first `16 n` rows are finished, the others still the sum. -/
def Done (x0 y : Vec F S1024x2048 .f32) (x6 : Vec F S1x1x2048 .f32) (n : ℕ) (L : List (View.Piece (Elt F) S1024x2048 .f32)) : Prop :=
  ∀ z, View.canon L z = if (z 0).val < 16 * n then yEnd x0 y x6 z else y z

/-- Storing the next chunk finishes sixteen more rows. -/
theorem Done.step {x0 y : Vec F S1024x2048 .f32} {x6 : Vec F S1x1x2048 .f32} {n o : ℕ} (ho : o = 16 * n) (hn : n < 64)
    {L : List (View.Piece (Elt F) S1024x2048 .f32)} (a2 : Memref sig .tc .vmem S1024x2048 .f32) (h2 : a2.IsWhole)
    (a8 : Memref sig .tc .vmem S1x1x2048 .f32) (h8 : a8.IsWhole) (v : View sig .tc .vmem S1024x2048 .f32)
    (inb : ∀ a, (![o, 0] : Fin 2 → ℕ) a + S16x2048.size a ≤ S1024x2048.size a) (hL : Done x0 y x6 n L)
    {p : S16x2048.Idx → Elt F .f32}
    (hp : p = k0_pay3 (v.readCov L (Rect.unit (s := S1024x2048) ![o, 0] S16x2048.size inb).toLoadRect)
      (View.readAt (Elt F) a2.view (Rect.unit (s := S1024x2048) ![o, 0] S16x2048.size inb).toLoadRect (h2.unread x0))
      (View.readAt (Elt F) a8.view gainAll.toLoadRect (h8.unread x6))) :
    Done x0 y x6 (n + 1) ((⟨Rect.unit (s := S1024x2048) ![o, 0] S16x2048.size inb, p⟩ : View.Piece (Elt F) S1024x2048 .f32) :: L) := by
  subst ho
  have hp' : p = chunk x0 y x6 ⟨n, hn⟩ := by
    rw [hp, readAt_ld, readAt_ld, readCov_ld]
    have e : View.ld (View.canon L) (Rect.unit (s := S1024x2048) ![16 * n, 0] S16x2048.size inb) = View.ld y (Rect.unit (s := S1024x2048) ![16 * n, 0] S16x2048.size inb) := by
      funext j
      refine (hL _).trans (if_neg ?_)
      show ¬ 16 * n + 1 * (j 0).val < 16 * n
      omega
    rw [e]; rfl
  subst hp'
  intro z
  by_cases hz : z ∈ (Rect.unit (s := S1024x2048) ![16 * n, 0] S16x2048.size inb).set
  · obtain ⟨x, rfl⟩ : ∃ x, (Rect.unit (s := S1024x2048) ![16 * n, 0] S16x2048.size inb).emb x = z := LoadRect.exists_idx_of_mem _ hz
    rw [View.canon_cons_emb]
    obtain ⟨x0', x1', rfl⟩ : ∃ (a : Fin 16) (b : Fin 2048), x = ix2 a b := ⟨x 0, x 1, by funext a; fin_cases a <;> rfl⟩
    have h0 := x0'.isLt
    rw [if_pos (by show 16 * n + 1 * x0'.val < 16 * (n + 1); omega)]
    exact (yEnd_at x0 y x6 ⟨n, hn⟩ x0' x1' _ (by show 16 * n + 1 * x0'.val = 16 * n + x0'.val; omega) (by show 0 + 1 * x1'.val = x1'.val; omega)).symm
  · have hz2 : z ∉ (⟨Rect.unit (s := S1024x2048) ![16 * n, 0] S16x2048.size inb, chunk x0 y x6 ⟨n, hn⟩⟩ : View.Piece (Elt F) S1024x2048 .f32).1.set := hz
    refine (View.canon_cons_of_not_mem _ L hz2).trans ((hL z).trans ?_)
    clear hz2
    have hz' : ¬ (16 * n ≤ (z 0).val ∧ (z 0).val < 16 * n + 16) := fun ⟨ha, hb⟩ => hz (by
      have e : (Rect.unit (s := S1024x2048) ![16 * n, 0] S16x2048.size inb).emb
          (ix2 (⟨(z 0).val - 16 * n, by omega⟩ : Fin 16) (⟨(z 1).val, (z 1).isLt⟩ : Fin 2048)) = z := funext fun a => by
        match a with
        | 0 => exact Fin.ext (by show 16 * n + 1 * ((z 0).val - 16 * n) = (z 0).val; omega)
        | 1 => exact Fin.ext (by show 0 + 1 * (z 1).val = (z 1).val; omega)
      rw [← e]; exact LoadRect.idx_mem _ _)
    by_cases hh : (z 0).val < 16 * n
    · rw [if_pos hh, if_pos (by omega)]
    · rw [if_neg hh, if_neg (by omega)]

/-- The kept rows with the point's own replaced. -/
def put (i : grid0.Coords) (w : Vec F S1x8x512 .f32) (X : Vec F S11x8x512 .f32) : Vec F S11x8x512 .f32 := fun z =>
  if z ∈ (slot i).set then View.canon (Val := Elt F) (s := S11x8x512) (e := .f32) [⟨slot i, w⟩] z else X z

theorem read_put (i : grid0.Coords) (w : Vec F S1x8x512 .f32) (X : Vec F S11x8x512 .f32) (a : Memref sig .tc .vmem S11x8x512 .f32) (h : a.IsWhole) :
    a.view.read (Elt F) (a.view.writes (Elt F) (h.unread X) [(⟨slot i, w⟩ : View.Piece (Elt F) S11x8x512 .f32)]) = put i w X := by
  funext z
  unfold put
  by_cases hz : z ∈ (slot i).set
  · rw [if_pos hz]; exact View.read_writes_apply_eq_canon _ _ _ _ ⟨_, List.mem_cons_self, hz⟩
  · rw [if_neg hz, View.read_writes_apply_of_forall_not_mem _ _ _ _ (fun p hp hy => hz (by
      rcases List.mem_cons.mp hp with rfl | hp
      · exact hy
      · cases hp)), h.read_unread]

theorem put_same (i : grid0.Coords) (w : Vec F S1x8x512 .f32) (X : Vec F S11x8x512 .f32) : View.ld (put i w X) (slot i) = w := by
  funext j
  have hz : (slot i).emb j ∈ (slot i).set := LoadRect.idx_mem _ _
  show put i w X ((slot i).emb j) = w j
  unfold put
  rw [if_pos hz, View.canon_cons_emb]

theorem off1_eq (i : grid0.Coords) : k0_off1 i = ![(i 1).val, 0, 0] := by
  have h : (i 1).val < 11 := (i 1).isLt
  unfold k0_off1
  funext a; fin_cases a
  · show (Scalar.indexCast (BitVec.ofNat 32 (i 1).val)).toNat = (i 1).val
    show (BitVec.ofNat 32 (i 1).val).toNat = (i 1).val
    rw [BitVec.toNat_ofNat]; exact Nat.mod_eq_of_lt (by omega)
  · rfl
  · rfl

theorem put_other (i i' : grid0.Coords) (hi : (i 1).val ≠ (i' 1).val) (w : Vec F S1x8x512 .f32) (X : Vec F S11x8x512 .f32) :
    View.ld (put i w X) (slot i') = View.ld X (slot i') := by
  funext j
  have val : ∀ (i : grid0.Coords) (x : (slot i).shape.Idx), ((slot i).emb x 0).val = (i 1).val := fun i x => by
    have hx : (x 0).val < 1 := (x 0).isLt
    show k0_off1 i 0 + 1 * (x 0).val = (i 1).val
    rw [off1_eq]; show (i 1).val + 1 * (x 0).val = (i 1).val; omega
  have hz : (slot i').emb j ∉ (slot i).set := fun h => by
    obtain ⟨x, hx⟩ : ∃ x, (slot i).emb x = (slot i').emb j := LoadRect.exists_idx_of_mem _ h
    exact hi (by rw [← val i x, ← val i' j, hx])
  show put i w X ((slot i').emb j) = X ((slot i').emb j)
  unfold put
  rw [if_neg hz]

end Cert.Kernel3Ideal.Ffn
-- ==== Proof.Ffn.Reads.lean ====
module

public import proofs.«01_k».proof.Proof.Ffn.Step

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the body leaves in each buffer, case by case -/

variable (c : Dev nD) (i : grid0.Coords)
  (arg2 : Memref sig .tc .vmem S1024x2048 .f32) (harg2 : arg2.IsWhole)
  (arg3 : Memref sig .tc .vmem S1x2048x512 .bf16) (harg3 : arg3.IsWhole)
  (arg4 : Memref sig .tc .vmem S1x2048x512 .bf16) (harg4 : arg4.IsWhole)
  (arg5 : Memref sig .tc .vmem S1x3x11264 .f32) (harg5 : arg5.IsWhole)
  (arg6 : Memref sig .tc .vmem S1x1x11264 .f32) (harg6 : arg6.IsWhole)
  (arg7 : Memref sig .tc .vmem S1x512x2048 .bf16) (harg7 : arg7.IsWhole)
  (arg8 : Memref sig .tc .vmem S1x1x2048 .f32) (harg8 : arg8.IsWhole)
  (arg9 : Memref sig .tc .vmem S1024x2048 .f32) (harg9 : arg9.IsWhole)
  (arg10 : Memref sig .tc .vmem S1024x2048 .bf16) (harg10 : arg10.IsWhole)
  (arg11 : Memref sig .tc .vmem S1032x512 .f32) (harg11 : arg11.IsWhole)
  (arg12 : Memref sig .tc .vmem S1032x512 .f32) (harg12 : arg12.IsWhole)
  (arg13 : Memref sig .tc .vmem S11x8x512 .f32) (harg13 : arg13.IsWhole)
  (arg14 : Memref sig .tc .vmem S11x8x512 .f32) (harg14 : arg14.IsWhole)
  (x0 : Vec F S1024x2048 .f32) (x1 : Vec F S1x2048x512 .bf16) (x2 : Vec F S1x2048x512 .bf16) (x3 : Vec F S1x3x11264 .f32) (x4 : Vec F S1x1x11264 .f32) (x5 : Vec F S1x512x2048 .bf16) (x6 : Vec F S1x1x2048 .f32)
  (y : Vec F S1024x2048 .f32) (h : Vec F S1024x2048 .bf16) (cg cv : Vec F S11x8x512 .f32)

theorem whole_ld (w : Vec F S1024x2048 .bf16) :
    View.canon (Val := Elt F) (s := S1024x2048) (e := .bf16) [⟨Rect.unit ![0, 0] ![1024, 2048] inb_S1024x2048_S1024x2048_0_0, w⟩] = w :=
  View.canon_unit_zero (by funext a; fin_cases a <;> rfl) _ w

theorem read_whole (a : Memref sig .tc .vmem S1024x2048 .bf16) (ha : a.IsWhole) (w : Vec F S1024x2048 .bf16) :
    a.view.read (Elt F) (a.view.writes (Elt F) (ha.unread h) [⟨Rect.unit ![0, 0] S1024x2048.size inb_S1024x2048_S1024x2048_0_0, w⟩]) = w := by
  rw [View.read_writes_eq_canon _ _ _ fun y => ⟨_, List.mem_cons_self, View.mem_set_unit_zero (by funext a; fin_cases a <;> rfl) inb_S1024x2048_S1024x2048_0_0 y⟩]
  exact whole_ld w

/-- At the start of a tile the old sum is not used. -/
theorem accum_start (hb : begins i) (g v : FVec F S512x512 .f32) (a b : Vec F S512x2048 .f32) :
    accum i g v a x5 = accum i g v b x5 := by
  have h0 : Scalar.cmpi .eq (BitVec.ofNat 32 (i 1).val) 0#32 = 1#1 := by
    have hb' : Scalar.cmpi .ne (Scalar.extui (Scalar.cmpi .eq (BitVec.ofNat 32 (i 1).val) 0#32) : BitVec 32) 0#32 = 1#1 := hb
    generalize Scalar.cmpi .eq (BitVec.ofNat 32 (i 1).val) 0#32 = q at hb' ⊢
    revert q; decide
  unfold accum k0_pay124
  dsimp only
  rw [h0]
  rfl

theorem yStep_start (hb : begins i) (g v : Vec F S1032x512 .f32) (a b : Vec F S1024x2048 .f32) :
    yStep i g v x3 x4 x5 a = yStep i g v x3 x4 x5 b := by
  unfold yStep
  rw [accum_start i x5 hb _ _ (View.ld a bot) (View.ld b bot), accum_start i x5 hb _ _ (View.ld a top) (View.ld b top)]

theorem runFirst_g (hb : begins i) (ho : opens i) (he : ¬ends i) :
    arg13.view.read (Elt F) (arg13.view.writes (Elt F) (harg13.unread cg) (runFirst c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.2.1)
      = put i (k0_pay115 (View.ld (buf i (View.ld cg (slot i)) (hNorm x0) x1) tailRows)) cg := by
  unfold runFirst; dsimp only; frame_open; simp only [readAt_ld, readCov_ld, whole_ld]
  exact read_put i _ cg arg13 harg13

theorem runFirst_v (hb : begins i) (ho : opens i) (he : ¬ends i) :
    arg14.view.read (Elt F) (arg14.view.writes (Elt F) (harg14.unread cv) (runFirst c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.2.2.1)
      = put i (k0_pay115 (View.ld (buf i (View.ld cv (slot i)) (hNorm x0) x2) tailRows)) cv := by
  unfold runFirst; dsimp only; frame_open; simp only [readAt_ld, readCov_ld, whole_ld]
  exact read_put i _ cv arg14 harg14

theorem runFirst_h (hb : begins i) (ho : opens i) (he : ¬ends i) :
    arg10.view.read (Elt F) (arg10.view.writes (Elt F) (harg10.unread h) (runFirst c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.1) = hNorm x0 := by
  unfold runFirst; dsimp only; frame_open; simp only [readAt_ld, readCov_ld, whole_ld]
  exact read_whole h arg10 harg10 _

theorem runFirst_y (hb : begins i) (ho : opens i) (he : ¬ends i) :
    arg9.view.read (Elt F) (arg9.view.writes (Elt F) (harg9.unread y) (runFirst c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).1) = yStep i (buf i (View.ld cg (slot i)) (hNorm x0) x1) (buf i (View.ld cv (slot i)) (hNorm x0) x2) x3 x4 x5 y := by
  unfold runFirst; dsimp only; frame_open
  refine (View.read_writes_eq_canon _ _ _ fun z => yCover _ _ _ z).trans ?_
  simp only [readAt_ld, readCov_ld, whole_ld]
  refine (yCanon _ _ _).trans ?_
  refine congrArg₂ (fun (P Q : S512x2048.Idx → Elt F .f32) => View.canon [(⟨bot, P⟩ : View.Piece (Elt F) S1024x2048 .f32), ⟨top, Q⟩]) ?_ ?_
  · exact accum_start i x5 hb _ _ _ _
  · exact accum_start i x5 hb _ _ _ _

theorem runInner_g (hb : ¬begins i) (ho : ¬opens i) (he : ¬ends i) :
    arg13.view.read (Elt F) (arg13.view.writes (Elt F) (harg13.unread cg) (runInner c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.2.1)
      = put i (k0_pay115 (View.ld (buf i (View.ld cg (slot i)) h x1) tailRows)) cg := by
  unfold runInner; dsimp only; frame_open; simp only [readAt_ld, readCov_ld, whole_ld]
  exact read_put i _ cg arg13 harg13

theorem runInner_v (hb : ¬begins i) (ho : ¬opens i) (he : ¬ends i) :
    arg14.view.read (Elt F) (arg14.view.writes (Elt F) (harg14.unread cv) (runInner c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.2.2.1)
      = put i (k0_pay115 (View.ld (buf i (View.ld cv (slot i)) h x2) tailRows)) cv := by
  unfold runInner; dsimp only; frame_open; simp only [readAt_ld, readCov_ld, whole_ld]
  exact read_put i _ cv arg14 harg14

theorem runInner_h (hb : ¬begins i) (ho : ¬opens i) (he : ¬ends i) :
    arg10.view.read (Elt F) (arg10.view.writes (Elt F) (harg10.unread h) (runInner c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.1) = h := by
  unfold runInner; dsimp only; rw [View.writes_nil, harg10.read_unread]

theorem runInner_y (hb : ¬begins i) (ho : ¬opens i) (he : ¬ends i) :
    arg9.view.read (Elt F) (arg9.view.writes (Elt F) (harg9.unread y) (runInner c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).1) = yStep i (buf i (View.ld cg (slot i)) h x1) (buf i (View.ld cv (slot i)) h x2) x3 x4 x5 y := by
  unfold runInner; dsimp only; frame_open
  refine (View.read_writes_eq_canon _ _ _ fun z => yCover _ _ _ z).trans ?_
  simp only [readAt_ld, readCov_ld, whole_ld]
  rfl

theorem runLast_g (hb : ¬begins i) (ho : ¬opens i) (he : ends i) :
    arg13.view.read (Elt F) (arg13.view.writes (Elt F) (harg13.unread cg) (runLast c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.2.1)
      = put i (k0_pay115 (View.ld (buf i (View.ld cg (slot i)) h x1) tailRows)) cg := by
  unfold runLast; dsimp only; frame_open; simp only [readAt_ld, readCov_ld, whole_ld]
  exact read_put i _ cg arg13 harg13

theorem runLast_v (hb : ¬begins i) (ho : ¬opens i) (he : ends i) :
    arg14.view.read (Elt F) (arg14.view.writes (Elt F) (harg14.unread cv) (runLast c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.2.2.1)
      = put i (k0_pay115 (View.ld (buf i (View.ld cv (slot i)) h x2) tailRows)) cv := by
  unfold runLast; dsimp only; frame_open; simp only [readAt_ld, readCov_ld, whole_ld]
  exact read_put i _ cv arg14 harg14

theorem runLast_h (hb : ¬begins i) (ho : ¬opens i) (he : ends i) :
    arg10.view.read (Elt F) (arg10.view.writes (Elt F) (harg10.unread h) (runLast c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.1) = h := by
  unfold runLast; dsimp only; rw [View.writes_nil, harg10.read_unread]

set_option maxHeartbeats 2000000 in
theorem runLast_base :
    View.canon (runLast.sl.H7_2 c i arg3 harg3 arg4 harg4 arg5 harg5 arg6 harg6 arg7 harg7 arg9 harg9 arg10 harg10 arg11 arg12 arg13 harg13 arg14 harg14 x1 x2 x3 x4 x5 y h cg cv)
      = yStep i (buf i (View.ld cg (slot i)) h x1) (buf i (View.ld cv (slot i)) h x2) x3 x4 x5 y := by
  unfold runLast.sl.H7_2; frame_open; simp only [readAt_ld, readCov_ld, whole_ld]
  rfl

set_option maxHeartbeats 4000000 in
theorem runLast_done (hb : ¬begins i) (ho : ¬opens i) (he : ends i) :
    Done x0 (yStep i (buf i (View.ld cg (slot i)) h x1) (buf i (View.ld cv (slot i)) h x2) x3 x4 x5 y) x6 64 (runLast c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).1 := by
  unfold runLast; dsimp only
  iterate 64 (refine Done.step (by first | rfl | decide) (by decide) arg2 harg2 arg8 harg8 arg9.view _ ?_ (by rfl))
  intro z
  rw [if_neg (by omega)]
  exact congrFun (runLast_base c i arg3 harg3 arg4 harg4 arg5 harg5 arg6 harg6 arg7 harg7 arg9 harg9 arg10 harg10 arg11 arg12 arg13 harg13 arg14 harg14 x1 x2 x3 x4 x5 y h cg cv) z

theorem runStart_g (hb : begins i) (ho : ¬opens i) (he : ¬ends i) :
    arg13.view.read (Elt F) (arg13.view.writes (Elt F) (harg13.unread cg) (runStart c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.2.1)
      = put i (k0_pay115 (View.ld (buf i (View.ld cg (slot i)) (hNorm x0) x1) tailRows)) cg := by
  unfold runStart; dsimp only; frame_open; simp only [readAt_ld, readCov_ld, whole_ld]
  exact read_put i _ cg arg13 harg13

theorem runStart_v (hb : begins i) (ho : ¬opens i) (he : ¬ends i) :
    arg14.view.read (Elt F) (arg14.view.writes (Elt F) (harg14.unread cv) (runStart c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.2.2.1)
      = put i (k0_pay115 (View.ld (buf i (View.ld cv (slot i)) (hNorm x0) x2) tailRows)) cv := by
  unfold runStart; dsimp only; frame_open; simp only [readAt_ld, readCov_ld, whole_ld]
  exact read_put i _ cv arg14 harg14

theorem runStart_h (hb : begins i) (ho : ¬opens i) (he : ¬ends i) :
    arg10.view.read (Elt F) (arg10.view.writes (Elt F) (harg10.unread h) (runStart c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.1) = hNorm x0 := by
  unfold runStart; dsimp only; frame_open; simp only [readAt_ld, readCov_ld, whole_ld]
  exact read_whole h arg10 harg10 _

theorem runStart_y (hb : begins i) (ho : ¬opens i) (he : ¬ends i) :
    arg9.view.read (Elt F) (arg9.view.writes (Elt F) (harg9.unread y) (runStart c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).1) = yStep i (buf i (View.ld cg (slot i)) (hNorm x0) x1) (buf i (View.ld cv (slot i)) (hNorm x0) x2) x3 x4 x5 y := by
  unfold runStart; dsimp only; frame_open
  refine (View.read_writes_eq_canon _ _ _ fun z => yCover _ _ _ z).trans ?_
  simp only [readAt_ld, readCov_ld, whole_ld]
  rfl

/-- A store more hides nothing of a covered shape. -/
theorem cover_cons (p : View.Piece (Elt F) S1024x2048 .f32) (L : List (View.Piece (Elt F) S1024x2048 .f32))
    (hL : ∀ z, ∃ q ∈ L, z ∈ q.1.set) : ∀ z, ∃ q ∈ p :: L, z ∈ q.1.set := fun z =>
  have ⟨q, hq, hz⟩ := hL z
  ⟨q, List.mem_cons_of_mem _ hq, hz⟩

set_option maxHeartbeats 4000000 in
theorem runLast_y (hb : ¬begins i) (ho : ¬opens i) (he : ends i) :
    arg9.view.read (Elt F) (arg9.view.writes (Elt F) (harg9.unread y) (runLast c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).1) = yEnd x0 (yStep i (buf i (View.ld cg (slot i)) h x1) (buf i (View.ld cv (slot i)) h x2) x3 x4 x5 y) x6 := by
  refine (View.read_writes_eq_canon _ _ _ ?_).trans (funext fun z => ?_)
  · unfold runLast; dsimp only
    iterate 64 refine cover_cons _ _ ?_
    exact fun z => yCover _ _ _ z
  · refine (runLast_done (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he z).trans (if_pos ?_)
    have h0 : (z 0).val < 1024 := (z 0).isLt
    exact h0

end Cert.Kernel3Ideal.Ffn
-- ==== Proof.Ffn.Body.lean ====
module

public import proofs.«01_k».proof.Proof.Ffn.Reads

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the body does at a point, in one statement -/

/-- The normalised rows after a point: computed where a tile begins, kept otherwise. -/
def hAfter (i : grid0.Coords) (x0 : Vec F S1024x2048 .f32) (h : Vec F S1024x2048 .bf16) : Vec F S1024x2048 .bf16 :=
  if begins i then hNorm x0 else h

/-- The kept rows after a point. -/
def keep (i : grid0.Coords) (w : Vec F S1x2048x512 .bf16) (h : Vec F S1024x2048 .bf16) (cg : Vec F S11x8x512 .f32) : Vec F S11x8x512 .f32 :=
  put i (k0_pay115 (View.ld (buf i (View.ld cg (slot i)) h w) tailRows)) cg

/-- The output tile after a point, from the two blocks of features. -/
def yAfter (i : grid0.Coords) (g v : Vec F S1032x512 .f32) (x0 : Vec F S1024x2048 .f32) (x3 : Vec F S1x3x11264 .f32) (x4 : Vec F S1x1x11264 .f32)
    (x5 : Vec F S1x512x2048 .bf16) (x6 : Vec F S1x1x2048 .f32) (y : Vec F S1024x2048 .f32) : Vec F S1024x2048 .f32 :=
  if ends i then yEnd x0 (yStep i g v x3 x4 x5 y) x6 else yStep i g v x3 x4 x5 y

variable (c : Dev nD) (i : grid0.Coords)
  (arg2 : Memref sig .tc .vmem S1024x2048 .f32) (harg2 : arg2.IsWhole)
  (arg3 : Memref sig .tc .vmem S1x2048x512 .bf16) (harg3 : arg3.IsWhole)
  (arg4 : Memref sig .tc .vmem S1x2048x512 .bf16) (harg4 : arg4.IsWhole)
  (arg5 : Memref sig .tc .vmem S1x3x11264 .f32) (harg5 : arg5.IsWhole)
  (arg6 : Memref sig .tc .vmem S1x1x11264 .f32) (harg6 : arg6.IsWhole)
  (arg7 : Memref sig .tc .vmem S1x512x2048 .bf16) (harg7 : arg7.IsWhole)
  (arg8 : Memref sig .tc .vmem S1x1x2048 .f32) (harg8 : arg8.IsWhole)
  (arg9 : Memref sig .tc .vmem S1024x2048 .f32) (harg9 : arg9.IsWhole)
  (arg10 : Memref sig .tc .vmem S1024x2048 .bf16) (harg10 : arg10.IsWhole)
  (arg11 : Memref sig .tc .vmem S1032x512 .f32) (harg11 : arg11.IsWhole)
  (arg12 : Memref sig .tc .vmem S1032x512 .f32) (harg12 : arg12.IsWhole)
  (arg13 : Memref sig .tc .vmem S11x8x512 .f32) (harg13 : arg13.IsWhole)
  (arg14 : Memref sig .tc .vmem S11x8x512 .f32) (harg14 : arg14.IsWhole)
  (x0 : Vec F S1024x2048 .f32) (x1 : Vec F S1x2048x512 .bf16) (x2 : Vec F S1x2048x512 .bf16) (x3 : Vec F S1x3x11264 .f32) (x4 : Vec F S1x1x11264 .f32) (x5 : Vec F S1x512x2048 .bf16) (x6 : Vec F S1x1x2048 .f32)
  (y : Vec F S1024x2048 .f32) (h : Vec F S1024x2048 .bf16) (cg cv : Vec F S11x8x512 .f32)

set_option maxHeartbeats 4000000 in
theorem body_triple (hx : opens i → begins i) (hz : ends i → ¬begins i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y ∗ owns (c : Thread nD τ) arg10 fullShare h
        ∗ (∃ d, owns (c : Thread nD τ) arg11 fullShare d) ∗ (∃ d, owns (c : Thread nD τ) arg12 fullShare d) ∗ owns (c : Thread nD τ) arg13 fullShare cg ∗ owns (c : Thread nD τ) arg14 fullShare cv
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (yAfter i (buf i (View.ld cg (slot i)) (hAfter i x0 h) x1) (buf i (View.ld cv (slot i)) (hAfter i x0 h) x2) x0 x3 x4 x5 x6 y) ∗ owns (c : Thread nD τ) arg10 fullShare (hAfter i x0 h)
        ∗ (∃ d, owns (c : Thread nD τ) arg11 fullShare d) ∗ (∃ d, owns (c : Thread nD τ) arg12 fullShare d) ∗ owns (c : Thread nD τ) arg13 fullShare (keep i x1 (hAfter i x0 h) cg) ∗ owns (c : Thread nD τ) arg14 fullShare (keep i x2 (hAfter i x0 h) cv)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14) K := by
  iintro ⟨H0, H1, H2, H3, H4, H5, H6, H7, HS0, HS1, HS2, HS3, HS4, Hk⟩
  by_cases hb : begins i
  · have he : ¬ends i := fun h => hz h hb
    by_cases ho : opens i
    · have eh : hAfter i x0 h = hNorm x0 := if_pos hb
      iapply ((runFirst c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.2.2.2.2.2 E K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, HS0, ⟨%f1, HS1⟩, ⟨%f2, HS2⟩, HS3, HS4⟩
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact (runFirst_y c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans (by unfold yAfter; rw [eh]; exact (if_neg he).symm)
      isplitl [HS0]
      · unfold owns; iexists _; isplitr
        swap; · iexact HS0
        ipureintro; exact (runFirst_h c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans eh.symm
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · unfold owns; iexists _; isplitr
        swap; · iexact HS3
        ipureintro; exact (runFirst_g c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans (by unfold keep; rw [eh])
      unfold owns; iexists _; isplitr
      swap; · iexact HS4
      ipureintro; exact (runFirst_v c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans (by unfold keep; rw [eh])
    · have eh : hAfter i x0 h = hNorm x0 := if_pos hb
      iapply ((runStart c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.2.2.2.2.2 E K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, HS0, ⟨%f1, HS1⟩, ⟨%f2, HS2⟩, HS3, HS4⟩
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact (runStart_y c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans (by unfold yAfter; rw [eh]; exact (if_neg he).symm)
      isplitl [HS0]
      · unfold owns; iexists _; isplitr
        swap; · iexact HS0
        ipureintro; exact (runStart_h c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans eh.symm
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · unfold owns; iexists _; isplitr
        swap; · iexact HS3
        ipureintro; exact (runStart_g c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans (by unfold keep; rw [eh])
      unfold owns; iexists _; isplitr
      swap; · iexact HS4
      ipureintro; exact (runStart_v c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans (by unfold keep; rw [eh])
  · have ho : ¬opens i := fun h => hb (hx h)
    by_cases he : ends i
    · have eh : hAfter i x0 h = h := if_neg hb
      iapply ((runLast c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.2.2.2.2.2 E K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, HS0, ⟨%f1, HS1⟩, ⟨%f2, HS2⟩, HS3, HS4⟩
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact (runLast_y c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans (by unfold yAfter; rw [eh]; exact (if_pos he).symm)
      isplitl [HS0]
      · unfold owns; iexists _; isplitr
        swap; · iexact HS0
        ipureintro; exact (runLast_h c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans eh.symm
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · unfold owns; iexists _; isplitr
        swap; · iexact HS3
        ipureintro; exact (runLast_g c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans (by unfold keep; rw [eh])
      unfold owns; iexists _; isplitr
      swap; · iexact HS4
      ipureintro; exact (runLast_v c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans (by unfold keep; rw [eh])
    · have eh : hAfter i x0 h = h := if_neg hb
      iapply ((runInner c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.2.2.2.2.2 E K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, HS0, ⟨%f1, HS1⟩, ⟨%f2, HS2⟩, HS3, HS4⟩
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact (runInner_y c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans (by unfold yAfter; rw [eh]; exact (if_neg he).symm)
      isplitl [HS0]
      · unfold owns; iexists _; isplitr
        swap; · iexact HS0
        ipureintro; exact (runInner_h c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans eh.symm
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · unfold owns; iexists _; isplitr
        swap; · iexact HS3
        ipureintro; exact (runInner_g c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans (by unfold keep; rw [eh])
      unfold owns; iexists _; isplitr
      swap; · iexact HS4
      ipureintro; exact (runInner_v c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans (by unfold keep; rw [eh])

end Cert.Kernel3Ideal.Ffn
-- ==== Proof.Ffn.State.lean ====
module

public import proofs.«01_k».proof.Proof.Ffn.Body

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the buffers hold at each point -/

variable (m : (ℓ : Loc nD τ sig) → Buf (Elt F) ℓ) (c : Dev nD)

abbrev xb (t : Fin cfg0.N) : Vec F S1024x2048 .f32 := iblk m c 0 t
abbrev wgb (t : Fin cfg0.N) : Vec F S1x2048x512 .bf16 := iblk m c 1 t
abbrev wvb (t : Fin cfg0.N) : Vec F S1x2048x512 .bf16 := iblk m c 2 t
abbrev cwb (t : Fin cfg0.N) : Vec F S1x3x11264 .f32 := iblk m c 3 t
abbrev cbb (t : Fin cfg0.N) : Vec F S1x1x11264 .f32 := iblk m c 4 t
abbrev wdb (t : Fin cfg0.N) : Vec F S1x512x2048 .bf16 := iblk m c 5 t
abbrev pgb (t : Fin cfg0.N) : Vec F S1x1x2048 .f32 := iblk m c 6 t

theorem lt352 (t : Fin cfg0.N) : t.val < 352 := lt_of_lt_of_eq t.isLt (show cfg0.N = 352 from N_0)

theorem coord0 (t : Fin cfg0.N) : (grid0.coords t 0).val = t.val / 11 := by
  have ht := lt352 t
  have e : (grid0.coords t 0).val = t.val / 11 % 32 := Pipeline.Grid.coords_val t 0 (by decide) rfl
  omega

theorem coord1 (t : Fin cfg0.N) : (grid0.coords t 1).val = t.val % 11 := by
  have e : (grid0.coords t 1).val = t.val / 1 % 11 := Pipeline.Grid.coords_val t 1 (by decide) rfl
  omega

theorem index0 : ∀ t : Fin cfg0.N, win0_0.index t = ![t.val / 11, 0] := by decide +kernel

/-- The rows a point stages. -/
theorem xb_at (t : Fin cfg0.N) (r : Fin 1024) (k : Fin 2048) :
    xb m c t (ix2 r k) = m ((c : Thread nD τ).loc main_arg0) (ix2 (⟨1024 * (t.val / 11) + r.val, by have := lt352 t; omega⟩ : Fin 32768) k) := by
  have ht := lt352 t
  have hr := r.isLt
  have hk := k.isLt
  unfold xb
  refine Eq.trans ?_ (congrFun (V_main_arg0 m c) _)
  blk_ext [iblk, index0 t]

/-- The points of a tile stage the same rows. -/
theorem xb_same (t t' : Fin cfg0.N) (h : t.val / 11 = t'.val / 11) : xb m c t = xb m c t' := by
  funext y
  obtain ⟨r, k, rfl⟩ : ∃ (a : Fin 1024) (b : Fin 2048), y = ix2 a b := ⟨y 0, y 1, by funext a; fin_cases a <;> rfl⟩
  rw [xb_at, xb_at]
  congr 2
  exact Fin.ext (by show 1024 * (t.val / 11) + r.val = 1024 * (t'.val / 11) + r.val; rw [h])

theorem inb_tail : ∀ a, (![504, 0] : Fin 2 → ℕ) a + S8x512.size a ≤ S512x512.size a := by
  intro a; fin_cases a <;> decide

/-- The last eight rows of a tile's block of features. -/
def tailOf (h : Vec F S1024x2048 .bf16) (w : Vec F S1x2048x512 .bf16) : Vec F S1x8x512 .f32 :=
  k0_pay115 (View.ld (k0_pay113 (View.ld h bot) (View.ld w upAll) : Vec F S512x512 .f32) (Rect.unit (s := S512x512) ![504, 0] S8x512.size inb_tail))

theorem buf_tail (i : grid0.Coords) (z : Vec F S1x8x512 .f32) (h : Vec F S1024x2048 .bf16) (w : Vec F S1x2048x512 .bf16) :
    k0_pay115 (View.ld (buf i z h w) tailRows) = tailOf h w := by
  unfold tailOf
  refine congrArg k0_pay115 (funext fun j => ?_)
  obtain ⟨r, k, rfl⟩ : ∃ (a : Fin 8) (b : Fin 512), j = ix2 a b := ⟨j 0, j 1, by funext a; fin_cases a <;> rfl⟩
  have hr := r.isLt
  have e : (Rect.unit (s := S1032x512) ![1024, 0] S8x512.size inb_S1032x512_S8x512_1024_0).idx (ix2 r k)
      = (Rect.unit (s := S1032x512) ![520, 0] S512x512.size inb_S1032x512_S512x512_520_0).emb (ix2 (⟨504 + r.val, by omega⟩ : Fin 512) k) := funext fun a => by
    match a with
    | 0 => exact Fin.ext (by show 1024 + 1 * r.val = 520 + 1 * (504 + r.val); omega)
    | 1 => rfl
  show buf i z h w ((Rect.unit (s := S1032x512) ![1024, 0] S8x512.size inb_S1032x512_S8x512_1024_0).idx (ix2 r k)) = _
  rw [e]
  unfold buf
  rw [View.canon_cons_emb]
  show _ = k0_pay113 (View.ld h bot) (View.ld w upAll) ((Rect.unit (s := S512x512) ![504, 0] S8x512.size inb_tail).idx (ix2 r k))
  congr 1
  funext a
  match a with
  | 0 => exact Fin.ext (by show 504 + r.val = 504 + 1 * r.val; omega)
  | 1 => exact Fin.ext (by show k.val = 0 + 1 * k.val; omega)

theorem slot_congr (i i' : grid0.Coords) (h : (i 1).val = (i' 1).val) (X : Vec F S11x8x512 .f32) : (View.ld X (slot i) : Vec F S1x8x512 .f32) = View.ld X (slot i') := by
  funext j
  refine congrArg X (funext fun a => Fin.ext ?_)
  show k0_off1 i a + 1 * (j a).val = k0_off1 i' a + 1 * (j a).val
  rw [off1_eq, off1_eq, h]

/-- The eight rows before a point's tile: the last ones of the tile before, where there is one. -/
def halo (w : Fin cfg0.N → Vec F S1x2048x512 .bf16) (t : Fin cfg0.N) : Vec F S1x8x512 .f32 :=
  if 11 ≤ t.val then tailOf (hNorm (xb m c ⟨t.val - 11, by have := t.isLt; omega⟩)) (w ⟨t.val - 11, by have := t.isLt; omega⟩)
  else broadcast S1x8x512 (Scalar.ofBits .f32 0x00000000#32)

/-- A point's block of features, under those rows. -/
def bufAt (w : Fin cfg0.N → Vec F S1x2048x512 .bf16) (t : Fin cfg0.N) : Vec F S1032x512 .f32 :=
  buf (grid0.coords t) (halo m c w t) (hNorm (xb m c t)) (w t)

theorem first_of_lt (t : Fin cfg0.N) (h : t.val < 11) : firstTile (grid0.coords t) = 1#1 := by
  have e : (grid0.coords t 0).val = 0 := by rw [coord0]; omega
  unfold firstTile
  rw [e]
  decide

theorem buf_first (i : grid0.Coords) (hi : firstTile i = 1#1) (z z' : Vec F S1x8x512 .f32) (h : Vec F S1024x2048 .bf16) (w : Vec F S1x2048x512 .bf16) :
    buf i z h w = buf i z' h w := by
  unfold buf k0_pay110
  rw [hi]
  rfl

/-- The kept rows before point `n` are those of the last eleven points. -/
def Kept (n : ℕ) (w : Fin cfg0.N → Vec F S1x2048x512 .bf16) (cg : Vec F S11x8x512 .f32) : Prop :=
  ∀ t : Fin cfg0.N, t.val < n → n ≤ t.val + 11 → (View.ld cg (slot (grid0.coords t)) : Vec F S1x8x512 .f32) = tailOf (hNorm (xb m c t)) (w t)

theorem Kept.step {w : Fin cfg0.N → Vec F S1x2048x512 .bf16} {cg : Vec F S11x8x512 .f32} (t : Fin cfg0.N) (hK : Kept m c t.val w cg) :
    Kept m c (t.val + 1) w (keep (grid0.coords t) (w t) (hNorm (xb m c t)) cg) := by
  intro t' h1 h2
  unfold keep
  by_cases e : t' = t
  · subst e
    rw [buf_tail]
    exact put_same _ _ _
  · have ne : t'.val ≠ t.val := fun h => e (Fin.ext h)
    refine (put_other _ _ ?_ _ _).trans (hK t' (by omega) (by omega))
    rw [coord1, coord1]
    omega

theorem Kept.buf {w : Fin cfg0.N → Vec F S1x2048x512 .bf16} {cg : Vec F S11x8x512 .f32} (t : Fin cfg0.N) (hK : Kept m c t.val w cg) :
    buf (grid0.coords t) (View.ld cg (slot (grid0.coords t))) (hNorm (xb m c t)) (w t) = bufAt m c w t := by
  unfold bufAt
  by_cases h : 11 ≤ t.val
  · have hz : halo m c w t = View.ld cg (slot (grid0.coords t)) := by
      unfold halo
      rw [if_pos h]
      refine Eq.trans (hK ⟨t.val - 11, _⟩ (by show t.val - 11 < t.val; omega) (by show t.val ≤ t.val - 11 + 11; omega)).symm (slot_congr _ _ ?_ _)
      rw [coord1, coord1]
      show (t.val - 11) % 11 = t.val % 11
      omega
    rw [hz]
  · exact buf_first _ (first_of_lt t (by omega)) _ _ _ _

/-- The scratch before point `n`. -/
def Good (n : ℕ) (h : Vec F S1024x2048 .bf16) (cg cv : Vec F S11x8x512 .f32) : Prop :=
  (∀ t : Fin cfg0.N, t.val + 1 = n → h = hNorm (xb m c t)) ∧ Kept m c n (wgb m c) cg ∧ Kept m c n (wvb m c) cv

theorem Good.zero (h : Vec F S1024x2048 .bf16) (cg cv : Vec F S11x8x512 .f32) : Good m c 0 h cg cv :=
  ⟨fun t ht => absurd ht (by omega), fun t ht => absurd ht (by omega), fun t ht => absurd ht (by omega)⟩

theorem Good.h {h : Vec F S1024x2048 .bf16} {cg cv : Vec F S11x8x512 .f32} (t : Fin cfg0.N) (hG : Good m c t.val h cg cv) :
    hAfter (grid0.coords t) (xb m c t) h = hNorm (xb m c t) := by
  unfold hAfter
  by_cases hb : begins (grid0.coords t)
  · rw [if_pos hb]
  · rw [if_neg hb]
    have h0 : ¬ t.val % 11 = 0 := fun h => hb ((hbegins t).mpr h)
    rw [hG.1 ⟨t.val - 1, by have := t.isLt; omega⟩ (by show t.val - 1 + 1 = t.val; omega)]
    exact congrArg hNorm (xb_same m c _ _ (by show (t.val - 1) / 11 = t.val / 11; omega))

theorem Good.step {h : Vec F S1024x2048 .bf16} {cg cv : Vec F S11x8x512 .f32} (t : Fin cfg0.N) (hG : Good m c t.val h cg cv) :
    Good m c (t.val + 1) (hAfter (grid0.coords t) (xb m c t) h) (keep (grid0.coords t) (wgb m c t) (hAfter (grid0.coords t) (xb m c t) h) cg)
      (keep (grid0.coords t) (wvb m c t) (hAfter (grid0.coords t) (xb m c t) h) cv) := by
  rw [hG.h]
  exact ⟨fun t' ht' => by rw [show t' = t from Fin.ext (by omega)], hG.2.1.step m c t, hG.2.2.step m c t⟩

/-- One point's work on the output tile. -/
def yNext (t : Fin cfg0.N) (y : Vec F S1024x2048 .f32) : Vec F S1024x2048 .f32 :=
  yAfter (grid0.coords t) (bufAt m c (wgb m c) t) (bufAt m c (wvb m c) t) (xb m c t) (cwb m c t) (cbb m c t) (wdb m c t) (pgb m c t) y

/-- The output tile after each point. -/
def yAt : (n : ℕ) → (hn : n < cfg0.N) → Vec F S1024x2048 .f32
  | 0, hn => yNext m c ⟨0, hn⟩ (fun _ => Scalar.ofBits .f32 0x00000000#32)
  | n + 1, hn => yNext m c ⟨n + 1, hn⟩ (yAt n (Nat.lt_of_succ_lt hn))

theorem yNext_start (t : Fin cfg0.N) (h : t.val % 11 = 0) (y y' : Vec F S1024x2048 .f32) : yNext m c t y = yNext m c t y' := by
  unfold yNext yAfter
  rw [yStep_start (grid0.coords t) (cwb m c t) (cbb m c t) (wdb m c t) ((hbegins t).mpr h) _ _ y y']

theorem yAt_start (t : Fin cfg0.N) (h : t.val % 11 = 0) (y : Vec F S1024x2048 .f32) : yAt m c t.val t.isLt = yNext m c t y := by
  obtain ⟨n, hn⟩ := t
  cases n with
  | zero => exact yNext_start m c _ h _ _
  | succ n => exact yNext_start m c _ h _ _

theorem yAt_next (t : Fin cfg0.N) (h : ¬ t.val % 11 = 0) : yAt m c t.val t.isLt = yNext m c t (yAt m c (t.val - 1) (Nat.lt_of_le_of_lt (Nat.sub_le _ _) t.isLt)) := by
  obtain ⟨n, hn⟩ := t
  cases n with
  | zero => exact absurd rfl h
  | succ n => rfl

end Cert.Kernel3Ideal.Ffn
-- ==== Proof.Ffn.Frame.lean ====
module

public import proofs.«01_k».proof.Proof.Ffn.State
public import Idealize.ShloMosaic.Lib.Claim

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the feed-forward call -/

variable (m : (ℓ : Loc nD τ sig) → Buf (Elt F) ℓ) (ρ : Dev nD → PrngReg)

/-- Between two points: the scratch as the points so far left it, and the generator. -/
def Inv (c : Dev nD) (n : ℕ) : sProp 𝕄 :=
  iprop((∃ h cg cv, iprop(⌜Good m c n h cg cv⌝ ∗ owns (c : Thread nD τ) scM0_0 fullShare h ∗ (∃ d, owns (c : Thread nD τ) scM0_1 fullShare d)
      ∗ (∃ d, owns (c : Thread nD τ) scM0_2 fullShare d) ∗ owns (c : Thread nD τ) scM0_3 fullShare cg ∗ owns (c : Thread nD τ) scM0_4 fullShare cv))
    ∗ (∃ r, prngReg c r))

/-- What the pipeline is told: the arrays, what each point leaves in each window, and the invariant. -/
def dats (_ : Fin 1) (c : Dev nD) : Dat τ (Elt F) Unit ℕ (UR sig nD τ) ℕ cfg0 c where
  A w := V m c (Pipeline.arrRef spec0 w)
  after w := match w with
    | 0 => iblk m c 0
    | 1 => iblk m c 1
    | 2 => iblk m c 2
    | 3 => iblk m c 3
    | 4 => iblk m c 4
    | 5 => iblk m c 5
    | 6 => iblk m c 6
    | 7 => fun t => yAt m c t.val t.isLt
  Φ t := Inv m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = yAt m c t.val t.isLt := by dsimp only [dats]
theorem found_0 (c : Dev nD) (t : Fin cfg0.N) (d) : (dats m 0 c).before 0 t d = iblk m c 0 t := before_0 m (dats m 0 c) (A_eq m c 0) (after_0 m c) t d
theorem found_1 (c : Dev nD) (t : Fin cfg0.N) (d) : (dats m 0 c).before 1 t d = iblk m c 1 t := before_1 m (dats m 0 c) (A_eq m c 1) (after_1 m c) t d
theorem found_2 (c : Dev nD) (t : Fin cfg0.N) (d) : (dats m 0 c).before 2 t d = iblk m c 2 t := before_2 m (dats m 0 c) (A_eq m c 2) (after_2 m c) t d
theorem found_3 (c : Dev nD) (t : Fin cfg0.N) (d) : (dats m 0 c).before 3 t d = iblk m c 3 t := before_3 m (dats m 0 c) (A_eq m c 3) (after_3 m c) t d
theorem found_4 (c : Dev nD) (t : Fin cfg0.N) (d) : (dats m 0 c).before 4 t d = iblk m c 4 t := before_4 m (dats m 0 c) (A_eq m c 4) (after_4 m c) t d
theorem found_5 (c : Dev nD) (t : Fin cfg0.N) (d) : (dats m 0 c).before 5 t d = iblk m c 5 t := before_5 m (dats m 0 c) (A_eq m c 5) (after_5 m c) t d
theorem found_6 (c : Dev nD) (t : Fin cfg0.N) (d) : (dats m 0 c).before 6 t d = iblk m c 6 t := before_6 m (dats m 0 c) (A_eq m c 6) (after_6 m c) t d

/-- Within a tile the output window still holds what the point before left. -/
theorem found_7 (c : Dev nD) (t : Fin cfg0.N) (h0 : ¬t.val % 11 = 0) (d) :
    (dats m 0 c).before 7 t d = yAt m c (t.val - 1) (Nat.lt_of_le_of_lt (Nat.sub_le _ _) t.isLt) := by
  have hN := lt352 t
  rw [Dat.before_out_kept _ 7 rfl t (by omega) (Bool.eq_false_iff.mpr fun h => by have := (flush0_7 _).mp h; dsimp only at this; omega)
    (fun _ => rfl) (fun _ _ => rfl)]
  dsimp only [dats]

/-- Whatever a point finds in the output window, it leaves the tile's next state. -/
theorem found_next (c : Dev nD) (t : Fin cfg0.N) (d) : yNext m c t ((dats m 0 c).before 7 t d) = yAt m c t.val t.isLt := by
  by_cases h : t.val % 11 = 0
  · exact (yAt_start m c t h _).symm
  · rw [found_7 m c t h d, yAt_next m c t h]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

theorem Phi_at (c : Dev nD) (t : Fin (cfg0.N + 1)) : (dats m 0 c).Φ t = Inv m c t.val := by dsimp only [dats]

theorem y_left (c : Dev nD) (t : Fin cfg0.N) (d) (h : Vec F S1024x2048 .bf16) (cg cv : Vec F S11x8x512 .f32) (hG : Good m c t.val h cg cv) :
    yAfter (grid0.coords t) (buf (grid0.coords t) (View.ld cg (slot (grid0.coords t))) (hAfter (grid0.coords t) (xb m c t) h) (wgb m c t))
      (buf (grid0.coords t) (View.ld cv (slot (grid0.coords t))) (hAfter (grid0.coords t) (xb m c t) h) (wvb m c t))
      (xb m c t) (cwb m c t) (cbb m c t) (wdb m c t) (pgb m c t) ((dats m 0 c).before 7 t d) = yAt m c t.val t.isLt := by
  rw [hG.h, hG.2.1.buf m c t, hG.2.2.buf m c t]
  exact found_next m c t d

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2, found_3, found_4, found_5, found_6]
  rw [show (dats m 0 c).owesAt () t.succ = (dats m 0 c).owesAt () t.castSucc from rfl,
    after_0, after_1, after_2, after_3, after_4, after_5, after_6, after_7, Phi_at, Phi_at]
  rw [show t.castSucc.val = t.val from rfl, show t.succ.val = t.val + 1 from rfl]
  unfold Inv
  iintro ⟨⟨⟨%h, %cg, %cv, %hG, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (xb m c t) (wgb m c t) (wvb m c t) (cwb m c t) (cbb m c t) (wdb m c t) (pgb m c t) ((dats m 0 c).before 7 t d7) h cg cv
    (fun ho => (hbegins t).mpr (by have := (hopens t).mp ho; omega)) (fun he hb => by have := (hends t).mp he; have := (hbegins t).mp hb; omega) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  rw [y_left m c t d7 h cg cv hG]
  iintro ⟨H0, H1, H2, H3, H4, H5, H6, H7, HS0, HS1, HS2, HS3, HS4⟩
  isplitl [HS0 HS1 HS2 HS3 HS4 Hg]
  · isplitl [HS0 HS1 HS2 HS3 HS4]
    · iexists _; iexists _; iexists _
      isplitr
      · ipureintro; exact hG.step m c t
      isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [Phi_at, PhiA0_eq]
  unfold Inv
  iintro ⟨⟨⟨%h, HS0⟩, HS1, HS2, ⟨%cg, HS3⟩, ⟨%cv, HS4⟩⟩, Hg⟩
  isplitl [HS0 HS1 HS2 HS3 HS4]
  · iexists _; iexists _; iexists _
    isplitr
    · ipureintro; exact Good.zero m c h cg cv
    isplitl [HS0]; · iexact HS0
    isplitl [HS1]; · iexact HS1
    isplitl [HS2]; · iexact HS2
    isplitl [HS3]; · iexact HS3
    iexact HS4
  iexact Hg

theorem hout (c : Dev nD) : (dats m 0 c).Φ (Fin.last cfg0.N) ⊢ Pipeline.ΦA spec0 c := by
  rw [Phi_at, PhiA0_eq]
  unfold Inv
  iintro ⟨⟨%h, %cg, %cv, -, HS0, HS1, HS2, HS3, HS4⟩, Hg⟩
  isplitl [HS0 HS1 HS2 HS3 HS4]
  · isplitl [HS0]
    · iexists _; iexact HS0
    isplitl [HS1]; · iexact HS1
    isplitl [HS2]; · iexact HS2
    isplitl [HS3]
    · iexists _; iexact HS3
    iexists _; iexact HS4
  iexact Hg

set_option backward.isDefEq.respectTransparency.types false in
/-- Every run ends, with the arrays as the points leave them and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The call leaves its arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Kernel3Ideal.Ffn
-- ==== Proof.Ffn.RawFrame.lean ====
module

public import proofs.«01_k».proof.Proof.Ffn.Frame
public import proofs.«01_k».proof.Kernel3

@[expose] public section
noncomputable section
namespace Cert.Kernel3.Ffn
open Cert.Kernel3 Idealize.ShloMosaic Idealize.SL.Sem Idealize.ShloMosaic.TcCoe
variable {F : FTy → Type} [FloatOps F] [Cert.Kernel3.Facts]

/-! # The run of the call as printed

No operation of this call is replaced in its idealized program, so the two programs are the same term and the frame of one is the other's. -/

/-- The call leaves its arguments as they were, and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Eq.mp (by sl_kernel_rfl) (@Cert.Kernel3Ideal.Ffn.frame F _ m ρ)

end Cert.Kernel3.Ffn
-- ==== Proof.Ffn.Math.lean ====
module

public import proofs.«01_k».proof.Proof.Inproj.Step

@[expose] public section
noncomputable section
namespace Cert.Ffn
open Idealize.ShloMosaic
open Cert.Kernel2Ideal.Inproj (rowScale)

/-! # The channel mixing of one layer, as formulas

The rows of the two sequences of 16384 are counted in one list; features and columns by natural numbers. `X` is the input, `g` the gain
before the up-projection `W`, `C` the three taps of the convolution and `B` its bias, `D` the down-projection and `p` the gain after it. -/

variable (X : ℕ → ℕ → EReal) (g : ℕ → EReal) (W : ℕ → ℕ → EReal) (C : ℕ → ℕ → EReal) (B : ℕ → EReal) (D : ℕ → ℕ → EReal) (p : ℕ → EReal)

/-- Row `r` of the up-projection at feature `e`. -/
def up (r e : ℕ) : EReal := ∑ k : Fin 2048, X r k.val * rowScale (X r) * g k.val * W k.val e

/-- The same `d` rows earlier in the sequence: zero before its start. -/
def back (d r e : ℕ) : EReal := if r % 16384 < d then 0 else up X g W (r - d) e

/-- The causal convolution over three rows. -/
def conv (r e : ℕ) : EReal := B e + back X g W 2 r e * C 0 e + back X g W 1 r e * C 1 e + back X g W 0 r e * C 2 e

/-- The approximate Gaussian unit, by the hyperbolic tangent. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

/-- Gate times value at feature `f` of 5632. -/
def act (r f : ℕ) : EReal := gelu (conv X g W C B r f) * conv X g W C B r (5632 + f)

/-- The down-projection. -/
def down (r e : ℕ) : EReal := ∑ f : Fin 5632, act X g W C B r f.val * D f.val e

/-- The layer's output: the normalised down-projection added to the input. -/
def out (r e : ℕ) : EReal := X r e + down X g W C B D r e * rowScale (down X g W C B D r) * p e

end Cert.Ffn
-- ==== Proof.Ffn.Points.lean ====
module

public import proofs.«01_k».proof.Proof.Ffn.State
public import proofs.«01_k».proof.Proof.Ffn.Math
public import Idealize.ShloMosaic.Lib.Pointwise

@[expose] public section
set_option maxRecDepth 16384
noncomputable section
namespace Cert.Kernel3Ideal.Ffn
open Cert.Kernel3Ideal Cert.Kernel3Ideal.Gen Idealize.ShloMosaic Idealize.ShloMosaic.TcCoe Idealize.SL.Sem
open Idealize.ShloMosaic.Pointwise
open Cert.KernelIdeal.Attn (nat2 nat3 nat2_ix nat3_ix nat2_idx)
open Cert.Kernel2Ideal.Inproj (rowScale)
open Cert.Ffn (gelu)

/-! # What one point computes, entry by entry -/

theorem hNorm_at (x0 : Vec Ideal S1024x2048 .f32) (r : Fin 1024) (k : Fin 2048) :
    hNorm x0 (ix2 r k) = nat2 x0 r k * rowScale (nat2 x0 r) := by
  unfold hNorm rowScale
  pointwise [k0_pay107]
  simp only [nat2_ix, Nat.one_mul, Nat.zero_add]

/-- A row of the tile times a column of a block of the up-projection. -/
def prod (h : Vec Ideal S1024x2048 .bf16) (w : Vec Ideal S1x2048x512 .bf16) (r e : ℕ) : EReal := ∑ k : Fin 2048, nat2 h r k.val * nat3 w 0 k.val e

theorem prod_top (h : Vec Ideal S1024x2048 .bf16) (w : Vec Ideal S1x2048x512 .bf16) (r e : Fin 512) :
    k0_pay111 (F := Ideal) (View.ld h top) (View.ld w upAll) (ix2 r e) = prod h w r e := by
  unfold prod
  pointwise [k0_pay111]
  simp only [nat2_ix, nat3_ix, Nat.one_mul, Nat.zero_add]
  rfl

theorem prod_bot (h : Vec Ideal S1024x2048 .bf16) (w : Vec Ideal S1x2048x512 .bf16) (r e : Fin 512) :
    k0_pay113 (F := Ideal) (View.ld h bot) (View.ld w upAll) (ix2 r e) = prod h w (512 + r.val) e := by
  unfold prod
  pointwise [k0_pay113]
  simp only [nat2_ix, nat3_ix, Nat.one_mul, Nat.zero_add]
  rfl

theorem tail_at (h : Vec Ideal S1024x2048 .bf16) (w : Vec Ideal S1x2048x512 .bf16) (r : Fin 8) (e : Fin 512) :
    tailOf h w (ix3 0 r e) = prod h w (1016 + r.val) e := by
  have hr := r.isLt
  refine Eq.trans ?_ ((prod_bot h w ⟨504 + r.val, by omega⟩ e).trans ?_)
  · unfold tailOf
    generalize (k0_pay113 (View.ld h bot) (View.ld w upAll) : Vec Ideal S512x512 .f32) = q
    pointwise [k0_pay115]
  · show prod h w (512 + (504 + r.val)) e.val = _
    congr 1
    omega

/-- The carried rows a point starts from: zero where its tile opens a sequence. -/
theorem head_at (b : BitVec 1) (z : Vec Ideal S1x8x512 .f32) (r : Fin 8) (e : Fin 512) :
    k0_pay110 (F := Ideal) b z (ix2 r e) = if b = 1#1 then 0 else nat3 z 0 r e := by
  by_cases hb : b = 1#1
  · subst hb
    rw [if_pos rfl]
    pointwise [k0_pay110]
  · rw [if_neg hb]
    have h0 : b = 0#1 := by revert hb; revert b; decide
    subst h0
    pointwise [k0_pay110]
    simp only [nat3_ix]
    rfl

section Pieces
variable (A B : Vec Ideal S512x512 .f32) (C : Vec Ideal S8x512 .f32)

/-- Eight rows and twice 512 rows under one another. -/
def stack : Vec Ideal S1032x512 .f32 :=
  View.canon (Val := Elt Ideal) (s := S1032x512) (e := .f32)
    [⟨Rect.unit ![520, 0] S512x512.size inb_S1032x512_S512x512_520_0, A⟩,
      ⟨Rect.unit ![8, 0] S512x512.size inb_S1032x512_S512x512_8_0, B⟩,
      ⟨Rect.unit ![0, 0] S8x512.size inb_S1032x512_S8x512_0_0, C⟩]

theorem emb_520 (r e : Fin 512) (q : Fin 1032) (hq : q.val = 520 + r.val) :
    (Rect.unit (s := S1032x512) ![520, 0] S512x512.size inb_S1032x512_S512x512_520_0).emb (ix2 r e) = (ix2 q e : S1032x512.Idx) := funext fun a => by
  match a with
  | 0 => exact Fin.ext (by show 520 + 1 * r.val = q.val; omega)
  | 1 => exact Fin.ext (by show 0 + 1 * e.val = e.val; omega)

theorem emb_8 (r e : Fin 512) (q : Fin 1032) (hq : q.val = 8 + r.val) :
    (Rect.unit (s := S1032x512) ![8, 0] S512x512.size inb_S1032x512_S512x512_8_0).emb (ix2 r e) = (ix2 q e : S1032x512.Idx) := funext fun a => by
  match a with
  | 0 => exact Fin.ext (by show 8 + 1 * r.val = q.val; omega)
  | 1 => exact Fin.ext (by show 0 + 1 * e.val = e.val; omega)

theorem emb_0 (r : Fin 8) (e : Fin 512) (q : Fin 1032) (hq : q.val = r.val) :
    (Rect.unit (s := S1032x512) ![0, 0] S8x512.size inb_S1032x512_S8x512_0_0).emb (ix2 r e) = (ix2 q e : S1032x512.Idx) := funext fun a => by
  match a with
  | 0 => exact Fin.ext (by show 0 + 1 * r.val = q.val; omega)
  | 1 => exact Fin.ext (by show 0 + 1 * e.val = e.val; omega)

theorem not_520 (q : Fin 1032) (e : Fin 512) (h : q.val < 520) :
    (ix2 q e : S1032x512.Idx) ∉ (Rect.unit (s := S1032x512) ![520, 0] S512x512.size inb_S1032x512_S512x512_520_0).set := by
  intro hm
  obtain ⟨x, hx⟩ := LoadRect.exists_idx_of_mem _ hm
  have h0 : 520 + 1 * (x 0).val = q.val := congrArg (fun y : S1032x512.Idx => (y 0).val) hx
  omega

theorem not_8 (q : Fin 1032) (e : Fin 512) (h : q.val < 8) :
    (ix2 q e : S1032x512.Idx) ∉ (Rect.unit (s := S1032x512) ![8, 0] S512x512.size inb_S1032x512_S512x512_8_0).set := by
  intro hm
  obtain ⟨x, hx⟩ := LoadRect.exists_idx_of_mem _ hm
  have h0 : 8 + 1 * (x 0).val = q.val := congrArg (fun y : S1032x512.Idx => (y 0).val) hx
  omega

theorem stack_bot (r e : Fin 512) (q : Fin 1032) (hq : q.val = 520 + r.val) : stack A B C (ix2 q e) = A (ix2 r e) := by
  rw [← emb_520 r e q hq]
  exact View.canon_cons_emb _ _ _ _

theorem stack_top (r e : Fin 512) (q : Fin 1032) (hq : q.val = 8 + r.val) : stack A B C (ix2 q e) = B (ix2 r e) := by
  have hr := r.isLt
  refine (View.canon_cons_of_not_mem (Val := Elt Ideal) (e := .f32) (⟨Rect.unit ![520, 0] S512x512.size inb_S1032x512_S512x512_520_0, A⟩ : View.Piece (Elt Ideal) S1032x512 .f32) _
    (not_520 q e (by omega))).trans ?_
  rw [← emb_8 r e q hq]
  exact View.canon_cons_emb _ _ _ _

theorem stack_head (r : Fin 8) (e : Fin 512) (q : Fin 1032) (hq : q.val = r.val) : stack A B C (ix2 q e) = C (ix2 r e) := by
  have hr := r.isLt
  refine (View.canon_cons_of_not_mem (Val := Elt Ideal) (e := .f32) (⟨Rect.unit ![520, 0] S512x512.size inb_S1032x512_S512x512_520_0, A⟩ : View.Piece (Elt Ideal) S1032x512 .f32) _
    (not_520 q e (by omega))).trans ?_
  refine (View.canon_cons_of_not_mem (Val := Elt Ideal) (e := .f32) (⟨Rect.unit ![8, 0] S512x512.size inb_S1032x512_S512x512_8_0, B⟩ : View.Piece (Elt Ideal) S1032x512 .f32) _
    (not_8 q e (by omega))).trans ?_
  rw [← emb_0 r e q hq]
  exact View.canon_cons_emb _ _ _ _
end Pieces

section Buf
variable (i : grid0.Coords) (z : Vec Ideal S1x8x512 .f32) (h : Vec Ideal S1024x2048 .bf16) (w : Vec Ideal S1x2048x512 .bf16)

theorem buf_stack : buf i z h w = stack (k0_pay113 (View.ld h bot) (View.ld w upAll)) (k0_pay111 (View.ld h top) (View.ld w upAll)) (k0_pay110 (firstTile i) z) := rfl

/-- The block's rows of the point's own tile. -/
theorem buf_own (r : Fin 1024) (e : Fin 512) (q : Fin 1032) (hq : q.val = 8 + r.val) : buf i z h w (ix2 q e) = prod h w r e := by
  have hr := r.isLt
  rw [buf_stack]
  by_cases hlt : r.val < 512
  · exact (stack_top _ _ _ ⟨r.val, hlt⟩ e q hq).trans (prod_top h w _ _)
  · refine (stack_bot _ _ _ ⟨r.val - 512, by omega⟩ e q (by show q.val = 520 + (r.val - 512); omega)).trans ((prod_bot h w _ _).trans ?_)
    show prod h w (512 + (r.val - 512)) e.val = _
    congr 1
    omega

/-- Its first eight rows. -/
theorem buf_head (r : Fin 8) (e : Fin 512) (q : Fin 1032) (hq : q.val = r.val) :
    buf i z h w (ix2 q e) = if firstTile i = 1#1 then 0 else nat3 z 0 r e := by
  rw [buf_stack]
  exact (stack_head _ _ _ r e q hq).trans (head_at _ z r e)
end Buf

section Conv
variable (i : grid0.Coords) (x3 : Vec Ideal S1x3x11264 .f32) (x4 : Vec Ideal S1x1x11264 .f32)

theorem conv_pay (A : Vec Ideal S1x1x512 .f32) (a : Vec Ideal S512x512 .f32) (B : Vec Ideal S1x1x512 .f32) (b : Vec Ideal S512x512 .f32)
    (C : Vec Ideal S1x1x512 .f32) (d : Vec Ideal S512x512 .f32) (D : Vec Ideal S1x1x512 .f32) (r e : Fin 512) :
    k0_pay120 (F := Ideal) A a B b C d D (ix2 r e)
      = A (ix3 0 0 e) + a (ix2 r e) * B (ix3 0 0 e) + b (ix2 r e) * C (ix3 0 0 e) + d (ix2 r e) * D (ix3 0 0 e) := by
  pointwise [k0_pay120]

theorem coord_lt : (i 1).val < 11 := (i 1).isLt

theorem off2 : k0_off2 i = ![0, 0, 512 * (i 1).val] := by
  have h : ∀ j : Fin 11, (Scalar.indexCast (Scalar.muli (BitVec.ofNat 32 j.val) 512#32)).toNat = 512 * j.val := by decide +kernel
  exact congrArg (fun n => (![0, 0, n] : Fin 3 → ℕ)) (h (i 1))
theorem off3 : k0_off3 i = ![0, 0, 512 * (i 1).val] := off2 i
theorem off4 : k0_off4 i = ![0, 1, 512 * (i 1).val] := by
  have h : ∀ j : Fin 11, (Scalar.indexCast (Scalar.muli (BitVec.ofNat 32 j.val) 512#32)).toNat = 512 * j.val := by decide +kernel
  exact congrArg (fun n => (![0, 1, n] : Fin 3 → ℕ)) (h (i 1))
theorem off5 : k0_off5 i = ![0, 2, 512 * (i 1).val] := by
  have h : ∀ j : Fin 11, (Scalar.indexCast (Scalar.muli (BitVec.ofNat 32 j.val) 512#32)).toNat = 512 * j.val := by decide +kernel
  exact congrArg (fun n => (![0, 2, n] : Fin 3 → ℕ)) (h (i 1))
theorem off_value : ∀ j : Fin 11, (Scalar.indexCast (Scalar.addi 5632#32 (Scalar.muli (BitVec.ofNat 32 j.val) 512#32))).toNat = 5632 + 512 * j.val := by
  decide +kernel
theorem off6 : k0_off6 i = ![0, 0, 5632 + 512 * (i 1).val] := congrArg (fun n => (![0, 0, n] : Fin 3 → ℕ)) (off_value (i 1))
theorem off7 : k0_off7 i = ![0, 0, 5632 + 512 * (i 1).val] := congrArg (fun n => (![0, 0, n] : Fin 3 → ℕ)) (off_value (i 1))
theorem off8 : k0_off8 i = ![0, 1, 5632 + 512 * (i 1).val] := congrArg (fun n => (![0, 1, n] : Fin 3 → ℕ)) (off_value (i 1))
theorem off9 : k0_off9 i = ![0, 2, 5632 + 512 * (i 1).val] := congrArg (fun n => (![0, 2, n] : Fin 3 → ℕ)) (off_value (i 1))

/-- A load of 512 features of one row of an array of 11264. -/
theorem ld_row {n : ℕ} (X : Vec Ideal ⟨3, ![1, n, 11264]⟩ .f32) (o : Fin 3 → ℕ) (inb : ∀ a, o a + S1x1x512.size a ≤ (⟨3, ![1, n, 11264]⟩ : Shape).size a)
    (d p : ℕ) (ho : o = ![0, d, p]) (e : Fin 512) :
    (View.ld X (Rect.unit (s := ⟨3, ![1, n, 11264]⟩) o S1x1x512.size inb) : Vec Ideal S1x1x512 .f32) (ix3 0 0 e) = nat3 X 0 d (p + e.val) := by
  subst ho
  have h1 : d + 1 ≤ n := inb 1
  have h2 : p + 512 ≤ 11264 := inb 2
  have he := e.isLt
  unfold nat3
  rw [dif_pos ⟨by omega, by omega, by omega⟩]
  refine congrArg X (funext fun a => ?_)
  match a with
  | 0 => rfl
  | 1 => exact Fin.ext (by show d + 1 * 0 = d; omega)
  | 2 => exact Fin.ext (by show p + 1 * e.val = p + e.val; omega)

/-- The convolution at feature `f` of three entries of consecutive rows. -/
def tap (f : ℕ) (a b d : EReal) : EReal := nat3 x4 0 0 f + a * nat3 x3 0 0 f + b * nat3 x3 0 1 f + d * nat3 x3 0 2 f

theorem gate_at (a b d : Vec Ideal S512x512 .f32) (r e : Fin 512) :
    gate i x3 x4 a b d (ix2 r e) = tap x3 x4 (512 * (i 1).val + e.val) (a (ix2 r e)) (b (ix2 r e)) (d (ix2 r e)) := by
  unfold gate tap
  rw [conv_pay, ld_row x4 _ _ _ _ (off2 i), ld_row x3 _ _ _ _ (off3 i), ld_row x3 _ _ _ _ (off4 i), ld_row x3 _ _ _ _ (off5 i)]

theorem value_at (a b d : Vec Ideal S512x512 .f32) (r e : Fin 512) :
    value i x3 x4 a b d (ix2 r e) = tap x3 x4 (5632 + 512 * (i 1).val + e.val) (a (ix2 r e)) (b (ix2 r e)) (d (ix2 r e)) := by
  unfold value tap
  rw [conv_pay, ld_row x4 _ _ _ _ (off6 i), ld_row x3 _ _ _ _ (off7 i), ld_row x3 _ _ _ _ (off8 i), ld_row x3 _ _ _ _ (off9 i)]

theorem one_word : Ideal.ofBits .f32 0x3F800000#32 = (1 : EReal) := by
  simp [Ideal.ofBits, Ideal.ieee, -EReal.coe_mul]; norm_num [← EReal.coe_mul]

theorem gelu_eq (x : EReal) : Ideal.ofBits .f32 0x3F000000#32 * x * ((1 : EReal)
    + Ideal.tanh (Ideal.ofBits .f32 0x3F4C422A#32 * (x + Ideal.ofBits .f32 0x3D372713#32 * (x * x * x)))) = gelu x := by
  unfold gelu
  rw [one_word, mul_comm (Ideal.ofBits .f32 0x3F000000#32) x, mul_assoc]

theorem accum_at (g v : FVec Ideal S512x512 .f32) (y : Vec Ideal S512x2048 .f32) (x5 : Vec Ideal S1x512x2048 .bf16) (r : Fin 512) (e : Fin 2048) :
    accum i g v y x5 (ix2 r e)
      = (if (i 1).val = 0 then 0 else y (ix2 r e)) + ∑ f : Fin 512, gelu (g (ix2 r f)) * v (ix2 r f) * nat3 x5 0 f.val e.val := by
  have hc : ∀ j : Fin 11, Scalar.cmpi .eq (BitVec.ofNat 32 j.val) 0#32 = if j.val = 0 then 1#1 else 0#1 := by decide +kernel
  have hw : ∀ f : Fin 512, (View.ld x5 downAll : Vec Ideal S1x512x2048 .bf16) (ix3 0 f e) = nat3 x5 0 f.val e.val := fun f => by
    refine Eq.trans (congrArg x5 (funext fun a => ?_)) (nat3_ix x5 0 f e)
    match a with
    | 0 => rfl
    | 1 => exact Fin.ext (by show 0 + 1 * f.val = f.val; omega)
    | 2 => exact Fin.ext (by show 0 + 1 * e.val = e.val; omega)
  unfold accum
  generalize (View.ld x5 downAll : Vec Ideal S1x512x2048 .bf16) = W at *
  unfold k0_pay124
  dsimp only
  rw [hc (i 1)]
  by_cases h0 : (i 1).val = 0
  · simp only [if_pos h0]
    pointwise [k0_pay123]
    simp only [gelu_eq, hw]
  · simp only [if_neg h0]
    pointwise [k0_pay123]
    simp only [gelu_eq, hw]
end Conv

end Cert.Kernel3Ideal.Ffn
-- ==== Proof.Ffn.Windows.lean ====
module

public import proofs.«01_k».proof.Proof.Ffn.State
public import Idealize.ShloMosaic.Lib.Pipeline.ValueKit.Geometry
public import Idealize.ShloMosaic.Lib.StableHlo.ReadAt
public import Idealize.ShloMosaic.Lib.Tactic
public import proofs.«01_k».proof.Proof.Ffn.Math
public import Idealize.ShloMosaic.Lib.Pointwise

@[expose] public section
set_option maxRecDepth 16384
noncomputable section
namespace Cert.Kernel3Ideal.Ffn
open Cert.Kernel3Ideal Cert.Kernel3Ideal.Gen Idealize.ShloMosaic Idealize.ShloMosaic.TcCoe Idealize.SL.Sem
open Idealize.ShloMosaic.Pointwise
open Cert.KernelIdeal.Attn (nat2 nat3 nat2_ix nat3_ix)

/-! # Which block of each array a grid point stages

Point `t` works on rows `1024 (t / 11)` onwards and on the features `512 (t % 11)` onwards of the gate and of the value. -/

variable (m : (ℓ : Loc nD τ sig) → Buf (Elt Ideal) ℓ) (c : Dev nD)

/-- The call's input. -/
abbrev Xm : Vec Ideal S32768x2048 .f32 := m ((c : Thread nD τ).loc main_arg0)
/-- The gains before the up-projections of the two layers. -/
abbrev Gm : Vec Ideal S2x2048 .f32 := m ((c : Thread nD τ).loc main_arg1)
/-- The up-projections. -/
abbrev Wm : Vec Ideal S2x2048x11264 .f32 := m ((c : Thread nD τ).loc main_arg2)
/-- The taps of the convolutions. -/
abbrev Cm : Vec Ideal S2x3x11264 .f32 := m ((c : Thread nD τ).loc main_arg3)
/-- Their biases. -/
abbrev Bm : Vec Ideal S2x11264 .f32 := m ((c : Thread nD τ).loc main_arg4)
/-- The down-projections. -/
abbrev Dm : Vec Ideal S2x5632x2048 .f32 := m ((c : Thread nD τ).loc main_arg5)
/-- The gains after them. -/
abbrev Pm : Vec Ideal S2x2048 .f32 := m ((c : Thread nD τ).loc main_arg6)

theorem index1 : ∀ t : Fin cfg0.N, win0_1.index t = ![0, 0, t.val % 11] := by decide +kernel
theorem index2 : ∀ t : Fin cfg0.N, win0_2.index t = ![0, 0, t.val % 11 + 11] := by decide +kernel
theorem index3 : ∀ t : Fin cfg0.N, win0_3.index t = ![0, 0, 0] := by decide +kernel
theorem index4 : ∀ t : Fin cfg0.N, win0_4.index t = ![0, 0, 0] := by decide +kernel
theorem index5 : ∀ t : Fin cfg0.N, win0_5.index t = ![0, t.val % 11, 0] := by decide +kernel
theorem index6 : ∀ t : Fin cfg0.N, win0_6.index t = ![0, 0, 0] := by decide +kernel
theorem index7 : ∀ t : Fin cfg0.N, win0_7.index t = ![t.val / 11, 0] := by decide +kernel

/-- The rows a point stages. -/
theorem x_at (t : Fin cfg0.N) (r : Fin 1024) (k : Fin 2048) :
    xb m c t (ix2 r k) = nat2 (Xm m c) (1024 * (t.val / 11) + r.val) k.val :=
  (xb_at m c t r k).trans (nat2_ix (Xm m c) _ _)

/-- The up-projections with the gain in them, as the host prepares them. -/
theorem gained_at (l : Fin 2) (k : Fin 2048) (e : Fin 11264) :
    (V m c main_v3 : Vec Ideal S2x2048x11264 .bf16) (ix3 l k e) = Wm m c (ix3 l k e) * Gm m c (ix2 l k) := by
  after_reads_at

theorem down_host (l : Fin 2) (f : Fin 5632) (e : Fin 2048) :
    (V m c main_v4 : Vec Ideal S2x5632x2048 .bf16) (ix3 l f e) = Dm m c (ix3 l f e) := by
  after_reads_at

theorem bias_host (l : Fin 2) (e : Fin 11264) :
    (V m c main_v5 : Vec Ideal S2x1x11264 .f32) (ix3 l 0 e) = Bm m c (ix2 l e) := by
  after_reads_at

theorem post_host (l : Fin 2) (e : Fin 2048) :
    (V m c main_v6 : Vec Ideal S2x1x2048 .f32) (ix3 l 0 e) = Pm m c (ix2 l e) := by
  after_reads_at

/-- The gate's weights. -/
theorem wg_at (t : Fin cfg0.N) (k : Fin 2048) (e : Fin 512) :
    wgb m c t (ix3 0 k e) = nat3 (Wm m c) 0 k.val (512 * (t.val % 11) + e.val) * nat2 (Gm m c) 0 k.val := by
  have he := e.isLt
  have hk := k.isLt
  have h2 : t.val % 11 < 11 := Nat.mod_lt _ (by decide)
  refine Eq.trans ?_ ((gained_at m c 0 k ⟨512 * (t.val % 11) + e.val, by omega⟩).trans ?_)
  · unfold wgb
    blk_ext [iblk, index1 t]
  · rw [nat3_ix (Wm m c), nat2_ix (Gm m c)]
    rfl

/-- The value's. -/
theorem wv_at (t : Fin cfg0.N) (k : Fin 2048) (e : Fin 512) :
    wvb m c t (ix3 0 k e) = nat3 (Wm m c) 0 k.val (5632 + 512 * (t.val % 11) + e.val) * nat2 (Gm m c) 0 k.val := by
  have he := e.isLt
  have hk := k.isLt
  have h2 : t.val % 11 < 11 := Nat.mod_lt _ (by decide)
  refine Eq.trans ?_ ((gained_at m c 0 k ⟨5632 + 512 * (t.val % 11) + e.val, by omega⟩).trans ?_)
  · unfold wvb
    blk_ext [iblk, index2 t]
  · rw [nat3_ix (Wm m c), nat2_ix (Gm m c)]
    rfl

/-- The taps. -/
theorem cw_at (t : Fin cfg0.N) (d : Fin 3) (e : Fin 11264) : cwb m c t (ix3 0 d e) = nat3 (Cm m c) 0 d.val e.val := by
  refine Eq.trans ?_ ((congrFun (V_main_arg3 m c) (ix3 0 d e)).trans (nat3_ix (Cm m c) 0 d e))
  unfold cwb
  blk_ext [iblk, index3 t]

/-- The biases. -/
theorem cb_at (t : Fin cfg0.N) (e : Fin 11264) : cbb m c t (ix3 0 0 e) = nat2 (Bm m c) 0 e.val := by
  refine Eq.trans ?_ ((bias_host m c 0 e).trans (nat2_ix (Bm m c) 0 e))
  unfold cbb
  blk_ext [iblk, index4 t]

/-- The block of the down-projection. -/
theorem wd_at (t : Fin cfg0.N) (f : Fin 512) (e : Fin 2048) : wdb m c t (ix3 0 f e) = nat3 (Dm m c) 0 (512 * (t.val % 11) + f.val) e.val := by
  have hf := f.isLt
  have h2 : t.val % 11 < 11 := Nat.mod_lt _ (by decide)
  refine Eq.trans ?_ ((down_host m c 0 ⟨512 * (t.val % 11) + f.val, by omega⟩ e).trans ?_)
  · unfold wdb
    blk_ext [iblk, index5 t]
  · exact nat3_ix (Dm m c) 0 _ e

/-- The gain after it. -/
theorem pg_at (t : Fin cfg0.N) (e : Fin 2048) : pgb m c t (ix3 0 0 e) = nat2 (Pm m c) 0 e.val := by
  refine Eq.trans ?_ ((post_host m c 0 e).trans (nat2_ix (Pm m c) 0 e))
  unfold pgb
  blk_ext [iblk, index6 t]

end Cert.Kernel3Ideal.Ffn
-- ==== Proof.Ffn.Sums.lean ====
module

public import proofs.«01_k».proof.Proof.Ffn.Points
public import proofs.«01_k».proof.Proof.Ffn.Windows

@[expose] public section
set_option maxRecDepth 16384
noncomputable section
namespace Cert.Kernel3Ideal.Ffn
open Cert.Kernel3Ideal Cert.Kernel3Ideal.Gen Idealize.ShloMosaic Idealize.ShloMosaic.TcCoe Idealize.SL.Sem
open Idealize.ShloMosaic.Pointwise
open Cert.KernelIdeal.Attn (nat2 nat3 nat2_ix nat3_ix nat2_idx)
open Cert.Kernel2Ideal.Inproj (rowScale)
open Cert.Ffn

/-! # The output tile after each point, as a part of the reference's sum -/

/-- An array of one matrix, read at natural coordinates. -/
theorem nat3_one {b c : ℕ} (f : (⟨3, ![1, b, c]⟩ : Shape).Idx → EReal) (j : Fin b) (k : Fin c) : nat3 f 0 j.val k.val = f (ix3 0 j k) :=
  (nat3_ix f 0 j k).symm

section Halves
variable (A B : Vec Ideal S512x2048 .f32)

/-- Two halves of an output tile. -/
def halves : Vec Ideal S1024x2048 .f32 := View.canon (Val := Elt Ideal) (s := S1024x2048) (e := .f32) [⟨bot, A⟩, ⟨top, B⟩]

theorem halves_bot (r : Fin 512) (e : Fin 2048) (q : Fin 1024) (hq : q.val = 512 + r.val) : halves A B (ix2 q e) = A (ix2 r e) := by
  have ee : bot.emb (ix2 r e) = (ix2 q e : S1024x2048.Idx) := funext fun a => by
    match a with
    | 0 => exact Fin.ext (by show 512 + 1 * r.val = q.val; omega)
    | 1 => exact Fin.ext (by show 0 + 1 * e.val = e.val; omega)
  rw [← ee]
  exact View.canon_cons_emb _ _ _ _

theorem halves_top (r : Fin 512) (e : Fin 2048) (q : Fin 1024) (hq : q.val = r.val) : halves A B (ix2 q e) = B (ix2 r e) := by
  have hr := r.isLt
  have hn : (ix2 q e : S1024x2048.Idx) ∉ bot.set := by
    intro hm
    obtain ⟨x, hx⟩ := LoadRect.exists_idx_of_mem _ hm
    have h0 : 512 + 1 * (x 0).val = q.val := congrArg (fun y : S1024x2048.Idx => (y 0).val) hx
    omega
  have ee : top.emb (ix2 r e) = (ix2 q e : S1024x2048.Idx) := funext fun a => by
    match a with
    | 0 => exact Fin.ext (by show 0 + 1 * r.val = q.val; omega)
    | 1 => exact Fin.ext (by show 0 + 1 * e.val = e.val; omega)
  refine (View.canon_cons_of_not_mem (Val := Elt Ideal) (e := .f32) (⟨bot, A⟩ : View.Piece (Elt Ideal) S1024x2048 .f32) _ hn).trans ?_
  rw [← ee]
  exact View.canon_cons_emb _ _ _ _
end Halves

/-- A load of 512 rows of a block of features. -/
theorem ld_rows (g : Vec Ideal S1032x512 .f32) (o : ℕ) (inb : ∀ a, (![o, 0] : Fin 2 → ℕ) a + S512x512.size a ≤ S1032x512.size a) (r f : Fin 512) :
    (View.ld g (Rect.unit (s := S1032x512) ![o, 0] S512x512.size inb) : Vec Ideal S512x512 .f32) (ix2 r f) = nat2 g (o + r.val) f.val := by
  have h0 : o + 512 ≤ 1032 := inb 0
  have hr := r.isLt
  refine Eq.trans (congrArg g (funext fun a => ?_)) (nat2_ix g ⟨o + r.val, by omega⟩ f)
  match a with
  | 0 => exact Fin.ext (by show o + 1 * r.val = o + r.val; omega)
  | 1 => exact Fin.ext (by show 0 + 1 * f.val = f.val; omega)

section Step
variable (i : grid0.Coords) (g v : Vec Ideal S1032x512 .f32) (x3 : Vec Ideal S1x3x11264 .f32) (x4 : Vec Ideal S1x1x11264 .f32)
  (x5 : Vec Ideal S1x512x2048 .bf16) (y : Vec Ideal S1024x2048 .f32)

/-- One point's share of an entry of the sum. -/
def share (r e : ℕ) : EReal := ∑ f : Fin 512,
  gelu (tap x3 x4 (512 * (i 1).val + f.val) (nat2 g (6 + r) f.val) (nat2 g (7 + r) f.val) (nat2 g (8 + r) f.val))
    * tap x3 x4 (5632 + 512 * (i 1).val + f.val) (nat2 v (6 + r) f.val) (nat2 v (7 + r) f.val) (nat2 v (8 + r) f.val) * nat3 x5 0 f.val e

theorem yStep_at (r : Fin 1024) (e : Fin 2048) :
    yStep i g v x3 x4 x5 y (ix2 r e) = (if (i 1).val = 0 then 0 else y (ix2 r e)) + share i g v x3 x4 x5 r.val e.val := by
  have hr := r.isLt
  unfold yStep share
  by_cases hlt : r.val < 512
  · refine (halves_top _ _ ⟨r.val, hlt⟩ e r rfl).trans ((accum_at i _ _ _ x5 ⟨r.val, hlt⟩ e).trans ?_)
    refine congrArg₂ (· + ·) (congrArg (fun q : EReal => if (i 1).val = 0 then 0 else q) ?_) (Finset.sum_congr rfl fun f _ => by
      rw [gate_at, value_at, ld_rows, ld_rows, ld_rows, ld_rows, ld_rows, ld_rows])
    refine congrArg y (funext fun a => ?_)
    match a with
    | 0 => exact Fin.ext (by show 0 + 1 * r.val = r.val; omega)
    | 1 => exact Fin.ext (by show 0 + 1 * e.val = e.val; omega)
  · refine (halves_bot _ _ ⟨r.val - 512, by omega⟩ e r (by show r.val = 512 + (r.val - 512); omega)).trans ((accum_at i _ _ _ x5 ⟨r.val - 512, by omega⟩ e).trans ?_)
    have e6 : 518 + (r.val - 512) = 6 + r.val := by omega
    have e7 : 519 + (r.val - 512) = 7 + r.val := by omega
    have e8 : 520 + (r.val - 512) = 8 + r.val := by omega
    refine congrArg₂ (· + ·) (congrArg (fun q : EReal => if (i 1).val = 0 then 0 else q) ?_) (Finset.sum_congr rfl fun f _ => by
      rw [gate_at, value_at, ld_rows, ld_rows, ld_rows, ld_rows, ld_rows, ld_rows]
      simp only [e6, e7, e8])
    refine congrArg y (funext fun a => ?_)
    match a with
    | 0 => exact Fin.ext (by show 512 + 1 * (r.val - 512) = r.val; omega)
    | 1 => exact Fin.ext (by show 0 + 1 * e.val = e.val; omega)
end Step

/-- A finished entry. -/
theorem yEnd_ix (x0 y : Vec Ideal S1024x2048 .f32) (x6 : Vec Ideal S1x1x2048 .f32) (r : Fin 1024) (e : Fin 2048) :
    yEnd x0 y x6 (ix2 r e) = nat2 x0 r e + nat2 y r e * rowScale (nat2 y r) * nat3 x6 0 0 e := by
  have hr := r.isLt
  have er : 16 * (r.val / 16) + r.val % 16 = r.val := Nat.div_add_mod _ _
  refine (yEnd_at x0 y x6 ⟨r.val / 16, by omega⟩ ⟨r.val % 16, by omega⟩ e (ix2 r e) er.symm rfl).trans ?_
  unfold chunk rowScale
  pointwise [k0_pay3]
  simp only [nat2_ix, nat3_ix, Nat.one_mul, Nat.zero_add, er]
  rfl

section Tile
variable (m : (ℓ : Loc nD τ sig) → Buf (Elt Ideal) ℓ) (c : Dev nD)

/-- The test on a tile's number. -/
def firstWord (x : BitVec 32) : BitVec 1 :=
  Scalar.cmpi .eq (Scalar.select (Scalar.andi (Scalar.xori (Scalar.cmpi .slt (Scalar.remsi x 16#32) 0#32) 0#1) (Scalar.cmpi .ne (Scalar.remsi x 16#32) 0#32))
    (Scalar.addi (Scalar.remsi x 16#32) 16#32) (Scalar.remsi x 16#32)) 0#32

/-- A tile opens a sequence when its number is a multiple of sixteen. -/
theorem firstTile_iff (t : Fin cfg0.N) : firstTile (grid0.coords t) = 1#1 ↔ t.val / 11 % 16 = 0 := by
  have h : ∀ a : Fin 32, firstWord (BitVec.ofNat 32 a.val) = 1#1 ↔ a.val % 16 = 0 := by decide +kernel
  have e := h (grid0.coords t 0)
  rw [coord0 t] at e
  rw [← e]
  show firstWord (BitVec.ofNat 32 (grid0.coords t 0).val) = 1#1 ↔ _
  rw [coord0 t]

variable (w : Fin cfg0.N → Vec Ideal S1x2048x512 .bf16) (col : ℕ → ℕ → ℕ)
  (hw : ∀ (t : Fin cfg0.N) (k : Fin 2048) (e : Fin 512), w t (ix3 0 k e) = nat3 (Wm m c) 0 k.val (col (t.val % 11) e.val) * nat2 (Gm m c) 0 k.val)

include hw in
/-- A point's product is the reference's: the gain is a factor of the weights in one and of the rows in the other. -/
theorem prod_up (t : Fin cfg0.N) (r : Fin 1024) (e : Fin 512) :
    prod (hNorm (xb m c t)) (w t) r.val e.val = up (nat2 (Xm m c)) (nat2 (Gm m c) 0) (nat3 (Wm m c) 0) (1024 * (t.val / 11) + r.val) (col (t.val % 11) e.val) := by
  have hx : ∀ k : Fin 2048, nat2 (xb m c t) r.val k.val = nat2 (Xm m c) (1024 * (t.val / 11) + r.val) k.val :=
    fun k => (nat2_ix (xb m c t) r k).symm.trans (x_at m c t r k)
  have hs : rowScale (nat2 (xb m c t) r.val) = rowScale (nat2 (Xm m c) (1024 * (t.val / 11) + r.val)) := by
    unfold rowScale
    simp only [hx]
  unfold prod up
  refine Finset.sum_congr rfl fun k _ => ?_
  rw [← nat2_ix (hNorm (xb m c t)) r k, hNorm_at, hs, hx, nat3_one (w t) k e, hw, mul_comm (nat3 (Wm m c) 0 _ _), mul_assoc, mul_assoc, mul_assoc]

include hw in
/-- A point's block of features holds the rows of the reference, those before its tile included. -/
theorem buf_back (t : Fin cfg0.N) (r : Fin 1024) (e : Fin 512) (d : ℕ) (hd : d ≤ 2) :
    nat2 (bufAt m c w t) (8 - d + r.val) e.val
      = back (nat2 (Xm m c)) (nat2 (Gm m c) 0) (nat3 (Wm m c) 0) d (1024 * (t.val / 11) + r.val) (col (t.val % 11) e.val) := by
  have hr := r.isLt
  have ht := lt352 t
  unfold back
  refine (nat2_ix (bufAt m c w t) ⟨8 - d + r.val, by omega⟩ e).symm.trans ?_
  unfold bufAt
  by_cases h : d ≤ r.val
  · refine (buf_own _ _ _ _ ⟨r.val - d, by omega⟩ e _ (by show 8 - d + r.val = 8 + (r.val - d); omega)).trans ((prod_up m c w col hw t _ e).trans ?_)
    rw [if_neg (by omega)]
    show up _ _ _ (1024 * (t.val / 11) + (r.val - d)) _ = _
    congr 1
    omega
  · refine (buf_head _ _ _ _ ⟨8 - d + r.val, by omega⟩ e _ rfl).trans ?_
    by_cases h0 : t.val / 11 % 16 = 0
    · rw [if_pos ((firstTile_iff t).mpr h0), if_pos (by omega)]
    · rw [if_neg (fun hh => h0 ((firstTile_iff t).mp hh)), if_neg (by omega)]
      have h11 : 11 ≤ t.val := by omega
      unfold halo
      rw [if_pos h11]
      refine (nat3_one (tailOf (hNorm (xb m c ⟨t.val - 11, by omega⟩)) (w ⟨t.val - 11, by omega⟩)) (⟨8 - d + r.val, by omega⟩ : Fin 8) e).trans ((tail_at _ _ _ e).trans ?_)
      refine (prod_up m c w col hw ⟨t.val - 11, _⟩ ⟨1016 + (8 - d + r.val), by omega⟩ e).trans ?_
      show up _ _ _ (1024 * ((t.val - 11) / 11) + (1016 + (8 - d + r.val))) (col ((t.val - 11) % 11) e.val) = _
      have e1 : (t.val - 11) % 11 = t.val % 11 := by omega
      rw [e1]
      congr 1
      omega

/-- The taps of a point's blocks at a feature are the reference's convolution. -/
theorem tap_conv (t : Fin cfg0.N) (r : Fin 1024) (f : ℕ) (hf : f < 11264) {a b d : EReal}
    (ha : a = back (nat2 (Xm m c)) (nat2 (Gm m c) 0) (nat3 (Wm m c) 0) 2 (1024 * (t.val / 11) + r.val) f)
    (hb : b = back (nat2 (Xm m c)) (nat2 (Gm m c) 0) (nat3 (Wm m c) 0) 1 (1024 * (t.val / 11) + r.val) f)
    (hd : d = back (nat2 (Xm m c)) (nat2 (Gm m c) 0) (nat3 (Wm m c) 0) 0 (1024 * (t.val / 11) + r.val) f) :
    tap (cwb m c t) (cbb m c t) f a b d
      = conv (nat2 (Xm m c)) (nat2 (Gm m c) 0) (nat3 (Wm m c) 0) (nat3 (Cm m c) 0) (nat2 (Bm m c) 0) (1024 * (t.val / 11) + r.val) f := by
  have h3 : ∀ k : Fin 3, nat3 (cwb m c t) 0 k.val f = nat3 (Cm m c) 0 k.val f := fun k =>
    (nat3_ix (cwb m c t) 0 k ⟨f, hf⟩).symm.trans (cw_at m c t k ⟨f, hf⟩)
  have h4 : nat3 (cbb m c t) 0 0 f = nat2 (Bm m c) 0 f := (nat3_ix (cbb m c t) 0 0 ⟨f, hf⟩).symm.trans (cb_at m c t ⟨f, hf⟩)
  have h30 := h3 0
  have h31 := h3 1
  have h32 := h3 2
  unfold tap conv
  rw [ha, hb, hd, h4]
  exact congrArg₂ (· + ·) (congrArg₂ (· + ·) (congrArg (_ + _ * ·) h30) (congrArg (_ * ·) h31)) (congrArg (_ * ·) h32)

/-- One feature's term of the reference's down-projection. -/
def term (r e f : ℕ) : EReal :=
  act (nat2 (Xm m c)) (nat2 (Gm m c) 0) (nat3 (Wm m c) 0) (nat3 (Cm m c) 0) (nat2 (Bm m c) 0) r f * nat3 (Dm m c) 0 f e

/-- The down-projection over the first `512 j` features. -/
def part (j r e : ℕ) : EReal := ∑ f ∈ Finset.range (512 * j), term m c r e f

theorem part_succ (j r e : ℕ) : part m c (j + 1) r e = part m c j r e + ∑ f : Fin 512, term m c r e (512 * j + f.val) := by
  unfold part
  rw [Nat.mul_succ, Finset.sum_range_add, Finset.sum_range (fun x => term m c r e (512 * j + x))]

theorem part_all (r e : ℕ) : part m c 11 r e
    = down (nat2 (Xm m c)) (nat2 (Gm m c) 0) (nat3 (Wm m c) 0) (nat3 (Cm m c) 0) (nat2 (Bm m c) 0) (nat3 (Dm m c) 0) r e :=
  Finset.sum_range (fun f => term m c r e f)

theorem share_at (t : Fin cfg0.N) (r : Fin 1024) (e : Fin 2048) :
    share (grid0.coords t) (bufAt m c (wgb m c) t) (bufAt m c (wvb m c) t) (cwb m c t) (cbb m c t) (wdb m c t) r.val e.val
      = ∑ f : Fin 512, term m c (1024 * (t.val / 11) + r.val) e.val (512 * (t.val % 11) + f.val) := by
  have h2 : t.val % 11 < 11 := Nat.mod_lt _ (by decide)
  unfold share term act
  refine Finset.sum_congr rfl fun f _ => ?_
  have hf := f.isLt
  have hg := fun d hd => buf_back m c (wgb m c) (fun j e => 512 * j + e) (fun t k e => wg_at m c t k e) t r f d hd
  have hv := fun d hd => buf_back m c (wvb m c) (fun j e => 5632 + 512 * j + e) (fun t k e => wv_at m c t k e) t r f d hd
  rw [coord1 t, tap_conv m c t r (512 * (t.val % 11) + f.val) (by omega) (hg 2 (by omega)) (hg 1 (by omega)) (hg 0 (by omega)),
    tap_conv m c t r (5632 + 512 * (t.val % 11) + f.val) (by omega) (hv 2 (by omega)) (hv 1 (by omega)) (hv 0 (by omega)),
    nat3_one (wdb m c t) f e, wd_at, Nat.add_assoc 5632]

/-- A point adds its 512 features to the sum. -/
theorem step_at (t : Fin cfg0.N) (y : Vec Ideal S1024x2048 .f32)
    (hy : ¬ t.val % 11 = 0 → ∀ (r : Fin 1024) (e : Fin 2048), y (ix2 r e) = part m c (t.val % 11) (1024 * (t.val / 11) + r.val) e.val)
    (r : Fin 1024) (e : Fin 2048) :
    yStep (grid0.coords t) (bufAt m c (wgb m c) t) (bufAt m c (wvb m c) t) (cwb m c t) (cbb m c t) (wdb m c t) y (ix2 r e)
      = part m c (t.val % 11 + 1) (1024 * (t.val / 11) + r.val) e.val := by
  rw [yStep_at, share_at, part_succ, coord1]
  congr 1
  by_cases h0 : t.val % 11 = 0
  · rw [if_pos h0, h0]
    rfl
  · rw [if_neg h0, hy h0]

theorem tile_partial : ∀ (n : ℕ) (hn : n < cfg0.N), ¬ n % 11 = 10 → ∀ (r : Fin 1024) (e : Fin 2048),
    yAt m c n hn (ix2 r e) = part m c (n % 11 + 1) (1024 * (n / 11) + r.val) e.val := by
  intro n
  induction n with
  | zero =>
    intro hn h r e
    rw [yAt_start m c ⟨0, hn⟩ rfl (fun _ => 0)]
    unfold yNext yAfter
    rw [if_neg (fun hh => h ((hends ⟨0, hn⟩).mp hh))]
    exact step_at m c ⟨0, hn⟩ _ (fun hh => absurd rfl hh) r e
  | succ n ih =>
    intro hn h r e
    by_cases h0 : (n + 1) % 11 = 0
    · rw [yAt_start m c ⟨n + 1, hn⟩ h0 (fun _ => 0)]
      unfold yNext yAfter
      rw [if_neg (fun hh => h ((hends ⟨n + 1, hn⟩).mp hh))]
      exact step_at m c ⟨n + 1, hn⟩ _ (fun hh => absurd h0 hh) r e
    · show yNext m c ⟨n + 1, hn⟩ (yAt m c n (Nat.lt_of_succ_lt hn)) (ix2 r e) = _
      unfold yNext yAfter
      rw [if_neg (fun hh => h ((hends ⟨n + 1, hn⟩).mp hh))]
      refine step_at m c ⟨n + 1, hn⟩ _ (fun _ r e => ?_) r e
      rw [ih (Nat.lt_of_succ_lt hn) (by omega) r e]
      have e1 : n % 11 + 1 = (n + 1) % 11 := by omega
      have e2 : n / 11 = (n + 1) / 11 := by omega
      rw [e1, e2]

/-- A tile's last point leaves the reference's rows. -/
theorem tile_done (t : Fin cfg0.N) (h : t.val % 11 = 10) (r : Fin 1024) (e : Fin 2048) :
    yAt m c t.val t.isLt (ix2 r e)
      = out (nat2 (Xm m c)) (nat2 (Gm m c) 0) (nat3 (Wm m c) 0) (nat3 (Cm m c) 0) (nat2 (Bm m c) 0) (nat3 (Dm m c) 0) (nat2 (Pm m c) 0)
          (1024 * (t.val / 11) + r.val) e.val := by
  have h0 : ¬ t.val % 11 = 0 := by omega
  rw [yAt_next m c t h0]
  unfold yNext yAfter
  rw [if_pos ((hends t).mpr h), yEnd_ix]
  have hy : ∀ k : Fin 2048, nat2 (yStep (grid0.coords t) (bufAt m c (wgb m c) t) (bufAt m c (wvb m c) t) (cwb m c t) (cbb m c t) (wdb m c t)
      (yAt m c (t.val - 1) (Nat.lt_of_le_of_lt (Nat.sub_le _ _) t.isLt))) r.val k.val
      = down (nat2 (Xm m c)) (nat2 (Gm m c) 0) (nat3 (Wm m c) 0) (nat3 (Cm m c) 0) (nat2 (Bm m c) 0) (nat3 (Dm m c) 0) (1024 * (t.val / 11) + r.val) k.val := by
    intro k
    rw [← nat2_ix _ r k, step_at m c t _ (fun _ r e => ?_) r k, h, part_all]
    rw [tile_partial m c (t.val - 1) _ (by omega) r e]
    have e1 : (t.val - 1) % 11 + 1 = t.val % 11 := by omega
    have e2 : (t.val - 1) / 11 = t.val / 11 := by omega
    rw [e1, e2]
  generalize yStep (grid0.coords t) (bufAt m c (wgb m c) t) (bufAt m c (wvb m c) t) (cwb m c t) (cbb m c t) (wdb m c t)
      (yAt m c (t.val - 1) (Nat.lt_of_le_of_lt (Nat.sub_le _ _) t.isLt)) = Y at *
  unfold out
  have hs : rowScale (nat2 Y r.val) = rowScale (down (nat2 (Xm m c)) (nat2 (Gm m c) 0) (nat3 (Wm m c) 0) (nat3 (Cm m c) 0) (nat2 (Bm m c) 0) (nat3 (Dm m c) 0) (1024 * (t.val / 11) + r.val)) := by
    unfold rowScale
    simp only [hy]
  rw [hs, hy, ← nat2_ix (xb m c t) r e, x_at, show nat3 (pgb m c t) 0 0 e.val = nat2 (Pm m c) 0 e.val from (nat3_one (pgb m c t) 0 e).trans (pg_at m c t e)]
end Tile

end Cert.Kernel3Ideal.Ffn
-- ==== Proof.Ffn.RefOut.lean ====
module

public import proofs.«01_k».proof.Proof.Gen.Reference3Ideal.Read
public import proofs.«01_k».proof.Proof.Ffn.Math
public import Idealize.ShloMosaic.Lib.Pointwise
public import Idealize.ShloMosaic.Lib.Tactic
public import Idealize.ShloMosaic.Lib.IdealHost

@[expose] public section
set_option maxRecDepth 16384
noncomputable section
namespace Cert.Reference3Ideal.Ffn
open Cert.Reference3Ideal Cert.Reference3Ideal.Gen Cert.Reference3Ideal.Read Idealize.ShloMosaic Idealize.ShloMosaic.TcCoe Idealize.SL.Sem
open Idealize.ShloMosaic.Pointwise
open Cert.KernelIdeal.Attn (nat2 nat3 nat2_ix nat3_ix)
open Cert.Kernel2Ideal.Inproj (rowScale)
open Cert.Ffn

/-! # The reference's result as a formula -/

variable (X : Vec Ideal S32768x2048 .f32) (G : Vec Ideal S2x2048 .f32) (W : Vec Ideal S2x2048x11264 .f32) (C : Vec Ideal S2x3x11264 .f32)
  (B : Vec Ideal S2x11264 .f32) (D : Vec Ideal S2x5632x2048 .f32) (P : Vec Ideal S2x2048 .f32)

theorem x_at (b : Fin 2) (s : Fin 16384) (k : Fin 2048) : val_main_v0 (F := Ideal) X (ix3 b s k) = nat2 X (16384 * b.val + s.val) k.val := by
  pointwise [val_main_v0]
  rw [nat2_ix X]
  congr 1
  show b.val * 16384 + s.val = _; omega

theorem scale_at (b : Fin 2) (s : Fin 16384) (z : Fin 1) : val_main_v10 (F := Ideal) X (ix3 b s z) = rowScale (nat2 X (16384 * b.val + s.val)) := by
  unfold rowScale
  pointwise [val_main_v10, val_main_v9, val_main_v8, val_main_v7, val_main_v6, val_main_v5, val_main_v4, val_main_v3, val_main_cst, val_main_cst_0, val_main_cst_1]
  simp only [x_at]

theorem hidden_at (b : Fin 2) (s : Fin 16384) (k : Fin 2048) :
    val_main_v15 (F := Ideal) X G (ix3 b s k) = nat2 X (16384 * b.val + s.val) k.val * rowScale (nat2 X (16384 * b.val + s.val)) * nat2 G 0 k.val := by
  pointwise [val_main_v15, val_main_v14, val_main_v13, val_main_v12, val_main_v11, val_main_v2, val_main_v1]
  rw [scale_at, x_at]
  simp only [nat2_ix]
  rfl

theorem up_at (b : Fin 2) (s : Fin 16384) (e : Fin 11264) :
    val_main_v18 (F := Ideal) X G W (ix3 b s e) = up (nat2 X) (nat2 G 0) (nat3 W 0) (16384 * b.val + s.val) e.val := by
  unfold up
  pointwise [val_main_v18, val_main_v17, val_main_v16]
  simp only [hidden_at]
  simp only [nat3_ix]
  rfl

/-- The rows with two of zeros before each sequence. -/
theorem padded_at (b : Fin 2) (s : Fin 16386) (e : Fin 11264) :
    val_main_v23 (F := Ideal) X G W (ix3 b s e)
      = if s.val < 2 then 0 else up (nat2 X) (nat2 G 0) (nat3 W 0) (16384 * b.val + (s.val - 2)) e.val := by
  pointwise [val_main_v23, val_main_call0_v0, val_main_c]
  have hs := s.isLt
  by_cases h : s.val < 2
  · rw [dif_neg (by omega), if_pos h]
    show ((((0#32 : BitVec 32).toInt : ℤ) : ℝ) : EReal) = 0
    simp
  · rw [dif_pos ⟨by omega, by omega⟩, if_neg h, up_at]

theorem conv_at (b : Fin 2) (s : Fin 16384) (e : Fin 11264) :
    val_main_v46 (F := Ideal) X G W C B (ix3 b s e) = conv (nat2 X) (nat2 G 0) (nat3 W 0) (nat3 C 0) (nat2 B 0) (16384 * b.val + s.val) e.val := by
  have hs := s.isLt
  unfold conv back
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v22, val_main_v21, val_main_v20, val_main_v19]
  simp only [padded_at]
  simp only [nat2_ix, nat3_ix]
  have e0 : (16384 * b.val + s.val) % 16384 = s.val := by omega
  rw [e0, if_neg (Nat.not_lt_zero s.val), if_neg (show ¬ 2 + s.val < 2 by omega)]
  have e2 : 16384 * b.val + (2 + s.val - 2) = 16384 * b.val + s.val := by omega
  have f2 : (if s.val < 2 then 0 else up (nat2 X) (nat2 G 0) (nat3 W 0) (16384 * b.val + (s.val - 2)) e.val)
      = if s.val < 2 then 0 else up (nat2 X) (nat2 G 0) (nat3 W 0) (16384 * b.val + s.val - 2) e.val := by
    by_cases h : s.val < 2
    · rw [if_pos h, if_pos h]
    · rw [if_neg h, if_neg h]; congr 1; omega
  have f1 : (if 1 + s.val < 2 then 0 else up (nat2 X) (nat2 G 0) (nat3 W 0) (16384 * b.val + (1 + s.val - 2)) e.val)
      = if s.val < 1 then 0 else up (nat2 X) (nat2 G 0) (nat3 W 0) (16384 * b.val + s.val - 1) e.val := by
    by_cases h : s.val < 1
    · rw [if_pos h, if_pos (by omega)]
    · rw [if_neg h, if_neg (by omega)]; congr 1; omega
  rw [f1, f2, e2]
  rfl

theorem act_at (b : Fin 2) (s : Fin 16384) (f : Fin 5632) :
    val_main_v62 (F := Ideal) X G W C B (ix3 b s f) = act (nat2 X) (nat2 G 0) (nat3 W 0) (nat3 C 0) (nat2 B 0) (16384 * b.val + s.val) f.val := by
  unfold act gelu
  pointwise [val_main_v62, val_main_v61, val_main_v60, val_main_v59, val_main_v58, val_main_v57, val_main_v56, val_main_v55, val_main_v54, val_main_v53, val_main_v52, val_main_v51, val_main_v50, val_main_v49, val_main_v48, val_main_v47, val_main_cst_2, val_main_cst_3, val_main_cst_4, val_main_cst_5]
  simp only [conv_at]

theorem down_at (b : Fin 2) (s : Fin 16384) (e : Fin 2048) :
    val_main_v65 (F := Ideal) X G W C B D (ix3 b s e) = down (nat2 X) (nat2 G 0) (nat3 W 0) (nat3 C 0) (nat2 B 0) (nat3 D 0) (16384 * b.val + s.val) e.val := by
  unfold down
  pointwise [val_main_v65, val_main_v64, val_main_v63]
  simp only [act_at]
  simp only [nat3_ix]
  rfl

theorem end_at (b : Fin 2) (s : Fin 16384) (z : Fin 1) :
    val_main_v75 (F := Ideal) X G W C B D (ix3 b s z) = rowScale (down (nat2 X) (nat2 G 0) (nat3 W 0) (nat3 C 0) (nat2 B 0) (nat3 D 0) (16384 * b.val + s.val)) := by
  unfold rowScale
  pointwise [val_main_v75, val_main_v74, val_main_v73, val_main_v72, val_main_v71, val_main_v70, val_main_v69, val_main_v68, val_main_cst_6, val_main_cst_7, val_main_cst_8]
  simp only [down_at]

theorem out_at (r : Fin 32768) (e : Fin 2048) :
    val_main_v82 (F := Ideal) X G W C B D P (ix2 r e)
      = out (nat2 X) (nat2 G 0) (nat3 W 0) (nat3 C 0) (nat2 B 0) (nat3 D 0) (nat2 P 0) r.val e.val := by
  have hr := r.isLt
  have he := e.isLt
  have e0 : idx_main_v82 (ix2 r e) = ix3 (⟨r.val / 16384, by omega⟩ : Fin 2) (⟨r.val % 16384, by omega⟩ : Fin 16384) e := by
    funext a; match a with
    | ⟨0, _⟩ => exact Fin.ext (by show (r.val * 2048 + e.val) / 33554432 = r.val / 16384; omega)
    | ⟨1, _⟩ => exact Fin.ext (by show (r.val * 2048 + e.val) / 2048 % 16384 = r.val % 16384; omega)
    | ⟨2, _⟩ => exact Fin.ext (by show (r.val * 2048 + e.val) % 2048 = e.val; omega)
  have e1 : 16384 * (r.val / 16384) + r.val % 16384 = r.val := Nat.div_add_mod _ _
  rw [val_main_v82_apply, e0]
  unfold out
  pointwise [val_main_v81, val_main_v80, val_main_v79, val_main_v78, val_main_v77, val_main_v76, val_main_v67, val_main_v66]
  rw [end_at, x_at, down_at]
  simp only [e1, nat2_ix]
  rfl

end Cert.Reference3Ideal.Ffn
-- ==== Proof.Ffn.Out.lean ====
module

public import proofs.«01_k».proof.Proof.Ffn.Sums
public import proofs.«01_k».proof.Proof.Ffn.Frame
public import proofs.«01_k».proof.Proof.Ffn.RefOut
public import Idealize.ShloMosaic.Lib.Pipeline.ValueKit.Point

@[expose] public section
set_option maxRecDepth 16384
noncomputable section
namespace Cert.Kernel3Ideal.Ffn
open Cert.Kernel3Ideal Cert.Kernel3Ideal.Gen Idealize.ShloMosaic Idealize.ShloMosaic.TcCoe Idealize.SL.Sem
open Idealize.ShloMosaic.Pointwise

/-! # The call's result array is the reference's -/

variable (m : (ℓ : Loc nD τ sig) → Buf (Elt Ideal) ℓ)

theorem y_eq (c : Dev nD) : (dats m 0 c).arrAt 7 cfg0.N
    = Cert.Reference3Ideal.Read.val_main_v82 (F := Ideal) (Xm m c) (Gm m c) (Wm m c) (Cm m c) (Bm m c) (Dm m c) (Pm m c) := by
  refine (dats m 0 c).arrAt_eq_of_covers 7 _ (by decide +kernel) fun t hf y => ?_
  have h1 := (flush0_7 t).1 hf
  blk_simp
  rw [after_7]
  refine (congrArg (yAt m c t.val t.isLt) (eq_ix2 y)).trans ((tile_done m c t h1 (y 0) (y 1)).trans ?_)
  have e0 : ((((cfg0.win 7).blk t).view.emb y) 0).val = 1024 * (t.val / 11) + (y 0).val := by
    blk_simp [index7 t]
    omega
  have e1 : ((((cfg0.win 7).blk t).view.emb y) 1).val = (y 1).val := by
    blk_simp [index7 t]
  rw [← e0, ← e1]
  generalize ((cfg0.win 7).blk t).view.emb y = w
  exact (Cert.Reference3Ideal.Ffn.out_at (Xm m c) (Gm m c) (Wm m c) (Cm m c) (Bm m c) (Dm m c) (Pm m c) (w 0) (w 1)).symm.trans (congrArg _ (eq_ix2 w).symm)

/-- The run's result and its arguments. -/
theorem run_blocks (ρ : Dev nD → PrngReg) : θ_run defs (onTc (τ := τ) (main (F := Ideal))) ⟨m, fun _ => 0, ρ⟩ (fun r => ∀ c : Dev nD,
      r.2.mem ((c.tc : Thread nD τ).loc main_v7) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c).1 7, h.2 c⟩) (θ_run_and (run_main m ρ) (frame_of m ρ (dats m) (A_eq m) (run_main m ρ)))

end Cert.Kernel3Ideal.Ffn
-- ==== Proof.InprojB.Step.lean ====
module

public import proofs.«01_k».proof.Proof.Gen.Kernel4Ideal.Value
public import proofs.«01_k».proof.Proof.Attn.Step
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Kernel4Ideal.Inproj
open Cert.Kernel4Ideal Cert.Kernel4Ideal.Gen Idealize.ShloMosaic Idealize.ShloMosaic.TcCoe Idealize.SL.Sem
open Idealize.ShloMosaic.Pointwise
open Cert.KernelIdeal.Attn (nat2 nat3 nat2_ix nat3_ix nat2_idx nat2_fun read_writes_total canon_total)

/-! # One grid point of the input projection, entry by entry -/

/-- The reciprocal of the root mean square of a row of 2048 numbers. -/
def rowScale (X : ℕ → EReal) : EReal :=
  Ideal.rsqrt (Ideal.div (∑ k : Fin 2048, X k.val * X k.val) (Ideal.ofBits .f32 0x45000000#32) + Ideal.ofBits .f32 0x358637BD#32)

variable (x0 : Vec Ideal S1024x2048 .f32) (x1 : Vec Ideal S1x2048x2048 .bf16) (h : Vec Ideal S1024x2048 .bf16)

/-- The normalised rows of a point's block. -/
def normedN (r k : ℕ) : EReal := nat2 x0 r k * rowScale (nat2 x0 r)

def normed : Vec Ideal S1024x2048 .bf16 := fun y => normedN x0 (y 0).val (y 1).val

/-- A row of the normalised block times a column of the point's weights. -/
def prodN (r e : ℕ) : EReal := ∑ k : Fin 2048, nat2 h r k.val * nat3 x1 0 k.val e

/-- What the point leaves in its block of `z`: the first 1024 columns carry the factor `q`. -/
def zN (q : EReal) (r e : ℕ) : EReal := if e < 1024 then prodN x1 h r e * q else prodN x1 h r e

def zBlk (q : EReal) : Vec Ideal S1024x2048 .bf16 := fun y => zN x1 h q (y 0).val (y 1).val

def uBlk : Vec Ideal S1024x1024 .f32 := fun y => prodN x1 h (y 0).val (1024 + (y 1).val)

theorem hPiece (o : ℕ) (inb : ∀ a, (![o, 0] : Fin 2 → ℕ) a + (![512, 2048] : Fin 2 → ℕ) a ≤ S1024x2048.size a)
    (x : (Rect.unit (s := S1024x2048) ![o, 0] ![512, 2048] inb).shape.Idx) :
    k0_pay7 (F := Ideal) (View.ld x0 (Rect.unit (s := S1024x2048) ![o, 0] ![512, 2048] inb)) x
      = normed x0 ((Rect.unit (s := S1024x2048) ![o, 0] ![512, 2048] inb).emb x) := by
  idx_vars x
  show _ = normedN _ (o + 1 * x0.val) (0 + 1 * x1.val)
  unfold normedN rowScale
  pointwise [k0_pay7]
  simp only [nat2_ix, Nat.one_mul, Nat.zero_add]

theorem hLd (o : ℕ) (inb : ∀ a, (![o, 0] : Fin 2 → ℕ) a + (![512, 2048] : Fin 2 → ℕ) a ≤ S1024x2048.size a) :
    k0_pay7 (F := Ideal) (View.ld x0 (Rect.unit (s := S1024x2048) ![o, 0] ![512, 2048] inb))
      = View.ld (normed x0) (Rect.unit (s := S1024x2048) ![o, 0] ![512, 2048] inb) := funext fun x => hPiece x0 o inb x

/-- The first half's normalisation is the second half's. -/
theorem hLd_first (o : ℕ) (inb : ∀ a, (![o, 0] : Fin 2 → ℕ) a + (![512, 2048] : Fin 2 → ℕ) a ≤ S1024x2048.size a) :
    k0_pay6 (F := Ideal) (View.ld x0 (Rect.unit (s := S1024x2048) ![o, 0] ![512, 2048] inb))
      = View.ld (normed x0) (Rect.unit (s := S1024x2048) ![o, 0] ![512, 2048] inb) := hLd x0 o inb

variable (w : Vec Ideal S1x2048x2048 .bf16)

theorem dot_at (o : ℕ) (ho : o ≤ 512) (inb : ∀ a, (![o, 0] : Fin 2 → ℕ) a + (![512, 2048] : Fin 2 → ℕ) a ≤ S1024x2048.size a)
    (r : Fin 512) (e : Fin 2048) :
    k0_pay9 (F := Ideal) (View.ld h (Rect.unit (s := S1024x2048) ![o, 0] ![512, 2048] inb)) w (ix2 r e) = prodN w h (o + r.val) e.val := by
  unfold prodN
  pointwise [k0_pay9]
  simp only [nat2_ix, nat3_ix]
  rfl

theorem zPiece_lo (q : EReal) (o : ℕ) (ho : o ≤ 512) (inb : ∀ a, (![o, 0] : Fin 2 → ℕ) a + (![512, 2048] : Fin 2 → ℕ) a ≤ S1024x2048.size a)
    (inb' : ∀ a, (![o, 0] : Fin 2 → ℕ) a + (![512, 1024] : Fin 2 → ℕ) a ≤ S1024x2048.size a)
    (x : (Rect.unit (s := S1024x2048) ![o, 0] ![512, 1024] inb').shape.Idx) :
    k0_pay3 (F := Ideal) q (View.ld h (Rect.unit (s := S1024x2048) ![o, 0] ![512, 2048] inb)) w x
      = zBlk w h q ((Rect.unit (s := S1024x2048) ![o, 0] ![512, 1024] inb').emb x) := by
  idx_vars x
  show _ = zN _ h q (o + 1 * x0.val) (0 + 1 * x1.val)
  unfold zN
  have h1 := x1.isLt
  rw [if_pos (by omega)]
  have e := dot_at h w o ho inb x0 ⟨x1.val, by omega⟩
  unfold k0_pay3
  generalize hs : k0_pay9 (F := Ideal) _ _ = s at e
  have hs' : k0_pay2 (F := Ideal) (View.ld h (Rect.unit (s := S1024x2048) ![o, 0] ![512, 2048] inb)) w = s := hs
  rw [hs']
  pointwise
  simp only [Nat.one_mul, Nat.zero_add, e]

theorem zPiece_hi (q : EReal) (o : ℕ) (ho : o ≤ 512) (inb : ∀ a, (![o, 0] : Fin 2 → ℕ) a + (![512, 2048] : Fin 2 → ℕ) a ≤ S1024x2048.size a)
    (inb' : ∀ a, (![o, 1024] : Fin 2 → ℕ) a + (![512, 1024] : Fin 2 → ℕ) a ≤ S1024x2048.size a)
    (x : (Rect.unit (s := S1024x2048) ![o, 1024] ![512, 1024] inb').shape.Idx) :
    k0_pay4 (F := Ideal) (View.ld h (Rect.unit (s := S1024x2048) ![o, 0] ![512, 2048] inb)) w x
      = zBlk w h q ((Rect.unit (s := S1024x2048) ![o, 1024] ![512, 1024] inb').emb x) := by
  idx_vars x
  show _ = zN _ h q (o + 1 * x0.val) (1024 + 1 * x1.val)
  unfold zN
  have h1 := x1.isLt
  rw [if_neg (by omega)]
  have e := dot_at h w o ho inb x0 ⟨1024 + x1.val, by omega⟩
  unfold k0_pay4
  generalize hs : k0_pay9 (F := Ideal) _ _ = s at e
  have hs' : k0_pay2 (F := Ideal) (View.ld h (Rect.unit (s := S1024x2048) ![o, 0] ![512, 2048] inb)) w = s := hs
  rw [hs']
  pointwise
  simp only [Nat.one_mul, e]

theorem uPiece (o : ℕ) (ho : o ≤ 512) (inb : ∀ a, (![o, 0] : Fin 2 → ℕ) a + (![512, 2048] : Fin 2 → ℕ) a ≤ S1024x2048.size a)
    (inb' : ∀ a, (![o, 0] : Fin 2 → ℕ) a + (![512, 1024] : Fin 2 → ℕ) a ≤ S1024x1024.size a)
    (x : (Rect.unit (s := S1024x1024) ![o, 0] ![512, 1024] inb').shape.Idx) :
    k0_pay5 (F := Ideal) (View.ld h (Rect.unit (s := S1024x2048) ![o, 0] ![512, 2048] inb)) w x
      = uBlk w h ((Rect.unit (s := S1024x1024) ![o, 0] ![512, 1024] inb').emb x) := by
  idx_vars x
  show _ = prodN _ h (o + 1 * x0.val) (1024 + (0 + 1 * x1.val))
  have e := dot_at h w o ho inb x0 ⟨1024 + x1.val, by omega⟩
  unfold k0_pay5
  generalize hs : k0_pay9 (F := Ideal) _ _ = s at e
  have hs' : k0_pay2 (F := Ideal) (View.ld h (Rect.unit (s := S1024x2048) ![o, 0] ![512, 2048] inb)) w = s := hs
  rw [hs']
  pointwise
  simp only [Nat.one_mul, Nat.zero_add, e]

/-- The four stores of a point into its block of `z`. -/
theorem zPieces (i : grid0.Coords) : View.PiecesOf (Val := Elt Ideal) (e := .bf16) (zBlk w h (k0_pay8 (F := Ideal) i))
    [⟨Rect.unit ![512, 1024] ![512, 1024] inb_S1024x2048_S512x1024_512_1024,
        k0_pay4 (View.ld h (Rect.unit ![512, 0] ![512, 2048] inb_S1024x2048_S512x2048_512_0)) w⟩,
      ⟨Rect.unit ![512, 0] ![512, 1024] inb_S1024x2048_S512x1024_512_0,
        k0_pay3 (k0_pay8 i) (View.ld h (Rect.unit ![512, 0] ![512, 2048] inb_S1024x2048_S512x2048_512_0)) w⟩,
      ⟨Rect.unit ![0, 1024] ![512, 1024] inb_S1024x2048_S512x1024_0_1024,
        k0_pay11 (View.ld h (Rect.unit ![0, 0] ![512, 2048] inb_S1024x2048_S512x2048_0_0)) w⟩,
      ⟨Rect.unit ![0, 0] ![512, 1024] inb_S1024x2048_S512x1024_0_0,
        k0_pay10 i (View.ld h (Rect.unit ![0, 0] ![512, 2048] inb_S1024x2048_S512x2048_0_0)) w⟩] :=
  ⟨zPiece_hi h w _ 512 (by decide) _ inb_S1024x2048_S512x1024_512_1024, zPiece_lo h w _ 512 (by decide) _ inb_S1024x2048_S512x1024_512_0,
    zPiece_hi h w _ 0 (by decide) _ inb_S1024x2048_S512x1024_0_1024, zPiece_lo h w _ 0 (by decide) _ inb_S1024x2048_S512x1024_0_0, trivial⟩

/-- The two stores of a point into its block of `u`. -/
theorem uPieces : View.PiecesOf (Val := Elt Ideal) (e := .f32) (uBlk w h)
    [⟨Rect.unit ![512, 0] ![512, 1024] inb_S1024x1024_S512x1024_512_0,
        k0_pay5 (View.ld h (Rect.unit ![512, 0] ![512, 2048] inb_S1024x2048_S512x2048_512_0)) w⟩,
      ⟨Rect.unit ![0, 0] ![512, 1024] inb_S1024x1024_S512x1024_0_0,
        k0_pay1 (k0_pay9 (View.ld h (Rect.unit ![0, 0] ![512, 2048] inb_S1024x2048_S512x2048_0_0)) w)⟩] :=
  ⟨uPiece h w 512 (by decide) _ inb_S1024x1024_S512x1024_512_0, uPiece h w 0 (by decide) _ inb_S1024x1024_S512x1024_0_0, trivial⟩

end Cert.Kernel4Ideal.Inproj
-- ==== Proof.InprojB.Points.lean ====
module

public import proofs.«01_k».proof.Proof.InprojB.Step

@[expose] public section
set_option maxRecDepth 16384
noncomputable section
namespace Cert.Kernel4Ideal.Inproj
open Cert.Kernel4Ideal Cert.Kernel4Ideal.Gen Idealize.ShloMosaic Idealize.ShloMosaic.TcCoe Idealize.SL.Sem
open Idealize.ShloMosaic.Pointwise
open Cert.KernelIdeal.Attn (nat2 nat3 nat2_ix nat3_ix nat2_idx nat2_fun read_writes_total canon_total)

/-! # What each grid point leaves, from what the point before left -/

variable (m : (ℓ : Loc nD τ sig) → Buf (Elt Ideal) ℓ)

/-- What the point before left: the two output blocks and the normalised rows. -/
abbrev before (c : Dev nD) (t : Fin cfg0.N) := outsAt0 m c (t.val - 1) (Nat.lt_of_le_of_lt (Nat.sub_le _ _) t.isLt)

theorem h_A (c : Dev nD) (t : Fin cfg0.N) (h0 : t.val % 2 = 0) :
    (outsAt0 m c t.val t.isLt).2.2 = normed (iblk m c 0 t) := by
  rw [outsAt0_A m c t h0]
  generalize iblk m c 0 t = x0
  generalize iblk m c 1 t = x1
  frame_open
  simp (disch := decide) only [↓ View.readCov_skip, ↓ View.readCov_cons_toLoadRect, ↓ View.readCov_fill]
  frame_out
  funext y
  refine View.canon_append_of_piecesOf (normed x0) [] [_, _] ⟨hPiece x0 512 _, hPiece x0 0 _, trivial⟩ y (View.cover_of_tiledBy _ ![512, 2048] (by sl_kernel_rfl) _)

theorem h_B (c : Dev nD) (t : Fin cfg0.N) (h0 : ¬ t.val % 2 = 0) (hb : (before m c t).2.2 = normed (iblk m c 0 t)) :
    (outsAt0 m c t.val t.isLt).2.2 = normed (iblk m c 0 t) := by
  rw [outsAt0_B m c t h0]
  unfold before at hb
  generalize outsAt0 m c (t.val - 1) (Nat.lt_of_le_of_lt (Nat.sub_le _ _) t.isLt) = prev at *
  generalize iblk m c 0 t = x0 at *
  generalize iblk m c 1 t = x1
  frame_open
  simp (disch := decide) only [↓ View.readCov_skip, ↓ View.readCov_cons_toLoadRect, ↓ View.readCov_fill]
  frame_out
  funext y
  refine read_writes_total _ _ (normed x0) [_] ⟨hPiece x0 512 _, trivial⟩ y fun _ => ?_
  rw [read_unread_whole, hb]

theorem z_A (c : Dev nD) (t : Fin cfg0.N) (h0 : t.val % 2 = 0) :
    (outsAt0 m c t.val t.isLt).1 = zBlk (iblk m c 1 t) (normed (iblk m c 0 t)) (k0_pay8 (F := Ideal) (grid0.coords t)) := by
  rw [outsAt0_A m c t h0]
  generalize iblk m c 0 t = x0
  generalize iblk m c 1 t = x1
  frame_open
  simp (disch := decide) only [↓ View.readCov_skip, ↓ View.readCov_cons_toLoadRect, ↓ View.readCov_fill]
  frame_out
  rw [hLd, hLd_first]
  funext y
  exact View.canon_append_of_piecesOf _ [] _ (zPieces (normed x0) x1 _) y (View.cover_of_tiledBy _ ![512, 1024] (by sl_kernel_rfl) _)

theorem z_B (c : Dev nD) (t : Fin cfg0.N) (h0 : ¬ t.val % 2 = 0) (hb : (before m c t).2.2 = normed (iblk m c 0 t)) :
    (outsAt0 m c t.val t.isLt).1 = zBlk (iblk m c 1 t) (normed (iblk m c 0 t)) (k0_pay8 (F := Ideal) (grid0.coords t)) := by
  rw [outsAt0_B m c t h0]
  unfold before at hb
  generalize outsAt0 m c (t.val - 1) (Nat.lt_of_le_of_lt (Nat.sub_le _ _) t.isLt) = prev at *
  generalize iblk m c 0 t = x0 at *
  generalize iblk m c 1 t = x1
  frame_open
  simp (disch := decide) only [↓ View.readCov_skip, ↓ View.readCov_cons_toLoadRect, ↓ View.readCov_fill]
  frame_out
  rw [hLd, read_unread_whole, hb]
  funext y
  exact View.canon_append_of_piecesOf _ [] _ (zPieces (normed x0) x1 _) y (View.cover_of_tiledBy _ ![512, 1024] (by sl_kernel_rfl) _)

theorem u_B (c : Dev nD) (t : Fin cfg0.N) (h0 : ¬ t.val % 2 = 0) (hb : (before m c t).2.2 = normed (iblk m c 0 t)) :
    (outsAt0 m c t.val t.isLt).2.1 = uBlk (iblk m c 1 t) (normed (iblk m c 0 t)) := by
  rw [outsAt0_B m c t h0]
  unfold before at hb
  generalize outsAt0 m c (t.val - 1) (Nat.lt_of_le_of_lt (Nat.sub_le _ _) t.isLt) = prev at *
  generalize iblk m c 0 t = x0 at *
  generalize iblk m c 1 t = x1
  frame_open
  simp (disch := decide) only [↓ View.readCov_skip, ↓ View.readCov_cons_toLoadRect, ↓ View.readCov_fill]
  frame_out
  rw [hLd, read_unread_whole, hb]
  funext y
  exact View.canon_append_of_piecesOf _ [] _ (uPieces (normed x0) x1) y (View.cover_of_tiledBy _ ![512, 1024] (by sl_kernel_rfl) _)

end Cert.Kernel4Ideal.Inproj
-- ==== Proof.InprojB.Windows.lean ====
module

public import proofs.«01_k».proof.Proof.InprojB.Points
public import Idealize.ShloMosaic.Lib.Pipeline.ValueKit.Point
public import Idealize.ShloMosaic.Lib.Pipeline.ValueKit.Geometry
public import Idealize.ShloMosaic.Lib.StableHlo.ReadAt
public import Idealize.ShloMosaic.Lib.Tactic

@[expose] public section
set_option maxRecDepth 16384
noncomputable section
namespace Cert.Kernel4Ideal.Inproj
open Cert.Kernel4Ideal Cert.Kernel4Ideal.Gen Idealize.ShloMosaic Idealize.ShloMosaic.TcCoe Idealize.SL.Sem
open Idealize.ShloMosaic.Pointwise
open Cert.KernelIdeal.Attn (nat2 nat3 nat2_ix nat3_ix)

/-! # Which block of each array a grid point stages

Point `t` works on rows `1024 (t / 2)` onwards and on half `t % 2` of the weights' columns. -/

variable (m : (ℓ : Loc nD τ sig) → Buf (Elt Ideal) ℓ) (c : Dev nD)

/-- The layer's input. -/
abbrev Xm : Vec Ideal S32768x2048 .f32 := m ((c : Thread nD τ).loc main_arg0)

/-- The gains of the two layers' normalisations. -/
abbrev Gm : Vec Ideal S2x2048 .f32 := m ((c : Thread nD τ).loc main_arg1)

/-- The weights of the two layers. -/
abbrev Wm : Vec Ideal S2x2048x4096 .f32 := m ((c : Thread nD τ).loc main_arg2)

theorem index0 : ∀ t : Fin cfg0.N, win0_0.index t = ![t.val / 2, 0] := by decide +kernel
theorem index1 : ∀ t : Fin cfg0.N, win0_1.index t = ![1, 0, t.val % 2] := by decide +kernel
theorem index2 : ∀ t : Fin cfg0.N, win0_2.index t = ![t.val / 2, t.val % 2] := by decide +kernel
theorem index3 : ∀ t : Fin cfg0.N, win0_3.index t = ![t.val / 2, 0] := by decide +kernel

/-- The rows a point stages. -/
theorem x_at (t : Fin cfg0.N) (r : Fin 1024) (k : Fin 2048) :
    (iblk m c 0 t : Vec Ideal S1024x2048 .f32) (ix2 r k) = nat2 (Xm m c) (1024 * (t.val / 2) + r.val) k.val := by
  have ht : t.val < 64 := lt_of_lt_of_eq t.isLt (show cfg0.N = 64 from N_0)
  have hr := r.isLt
  have hk := k.isLt
  unfold nat2
  rw [dif_pos ⟨by omega, by omega⟩]
  blk_ext [iblk, V, index0 t]

/-- The weights with the gain in them, as the host prepares them. -/
theorem gained_at (l : Fin 2) (k : Fin 2048) (e : Fin 4096) :
    (V m c main_v3 : Vec Ideal S2x2048x4096 .bf16) (ix3 l k e) = Wm m c (ix3 l k e) * Gm m c (ix2 l k) := by
  after_reads_at

/-- The weights a point stages. -/
theorem w_at (t : Fin cfg0.N) (k e : Fin 2048) :
    (iblk m c 1 t : Vec Ideal S1x2048x2048 .bf16) (ix3 0 k e)
      = nat3 (Wm m c) 1 k.val (2048 * (t.val % 2) + e.val) * nat2 (Gm m c) 1 k.val := by
  have he := e.isLt
  have hk := k.isLt
  have h2 : t.val % 2 < 2 := Nat.mod_lt _ (by decide)
  refine Eq.trans ?_ ((gained_at m c 1 k ⟨2048 * (t.val % 2) + e.val, by omega⟩).trans ?_)
  · blk_ext [iblk, index1 t]
  · unfold nat2 nat3
    rw [dif_pos ⟨by omega, by omega, by omega⟩, dif_pos ⟨by omega, by omega⟩]
    rfl

/-- Both points of a row block stage the same rows. -/
theorem x_same (t : Fin cfg0.N) (h0 : ¬ t.val % 2 = 0) (hs : t.val - 1 < cfg0.N) : (iblk m c 0 t : Vec Ideal S1024x2048 .f32) = iblk m c 0 ⟨t.val - 1, hs⟩ := by
  funext y
  rw [eq_ix2 y]
  refine (x_at m c t (y 0) (y 1)).trans (Eq.trans ?_ (x_at m c ⟨t.val - 1, hs⟩ (y 0) (y 1)).symm)
  have e : t.val / 2 = (t.val - 1) / 2 := by omega
  rw [e]

/-- The factor of the first 1024 columns of a point's block of `z`. -/
theorem factor_even (t : Fin cfg0.N) (h0 : t.val % 2 = 0) : k0_pay8 (F := Ideal) (grid0.coords t) = Named.named κ "qk_scale" 0x3E0293EE#32 := by
  have e : ∀ t : Fin cfg0.N, t.val % 2 = 0 → Scalar.cmpi .eq (BitVec.ofNat 32 ((grid0.coords t) 1).val) 0#32 = 1#1 := by decide +kernel
  unfold k0_pay8
  dsimp only
  rw [e t h0]
  rfl

theorem factor_odd (t : Fin cfg0.N) (h0 : ¬ t.val % 2 = 0) : k0_pay8 (F := Ideal) (grid0.coords t) = Ideal.ofBits .f32 0x3F800000#32 := by
  have e : ∀ t : Fin cfg0.N, ¬ t.val % 2 = 0 → Scalar.cmpi .eq (BitVec.ofNat 32 ((grid0.coords t) 1).val) 0#32 = 0#1 := by decide +kernel
  unfold k0_pay8
  dsimp only
  rw [e t h0]
  rfl

end Cert.Kernel4Ideal.Inproj
-- ==== Proof.InprojB.RefOut.lean ====
module

public import proofs.«01_k».proof.Proof.Gen.Reference4Ideal.Read
public import proofs.«01_k».proof.Proof.InprojB.Step
public import Idealize.ShloMosaic.Lib.Pointwise
public import Idealize.ShloMosaic.Lib.Tactic
public import Idealize.ShloMosaic.Lib.IdealHost

@[expose] public section
set_option maxRecDepth 16384
noncomputable section
namespace Cert.Reference4Ideal.Inproj
open Cert.Reference4Ideal Cert.Reference4Ideal.Gen Cert.Reference4Ideal.Read Idealize.ShloMosaic Idealize.ShloMosaic.TcCoe Idealize.SL.Sem
open Idealize.ShloMosaic.Pointwise
open Cert.KernelIdeal.Attn (nat2 nat3 nat2_ix nat3_ix)
open Cert.Kernel4Ideal.Inproj (rowScale)

/-! # The reference's two results as formulas -/

variable (X : Vec Ideal S32768x2048 .f32) (G : Vec Ideal S2x2048 .f32) (W : Vec Ideal S2x2048x4096 .f32)

/-- The reference's projection of row `r` to column `e`. -/
def refProd (r e : ℕ) : EReal := ∑ k : Fin 2048, nat2 X r k.val * rowScale (nat2 X r) * nat2 G 1 k.val * nat3 W 1 k.val e

theorem scale_at (r : Fin 32768) (z : Fin 1) : val_main_v9 (F := Ideal) X (ix2 r z) = rowScale (nat2 X r.val) := by
  unfold rowScale
  pointwise [val_main_v9, val_main_v8, val_main_v7, val_main_v6, val_main_v5, val_main_v4, val_main_v3, val_main_v2, val_main_cst, val_main_cst_0, val_main_cst_1]
  simp only [nat2_ix]

theorem hidden_at (r : Fin 32768) (k : Fin 2048) :
    val_main_v14 (F := Ideal) X G (ix2 r k) = nat2 X r.val k.val * rowScale (nat2 X r.val) * nat2 G 1 k.val := by
  pointwise [val_main_v14, val_main_v13, val_main_v12, val_main_v11, val_main_v10, val_main_v1, val_main_v0]
  rw [scale_at]
  simp only [nat2_ix]
  rfl

theorem prod_at (r : Fin 32768) (e : Fin 4096) : val_main_v17 (F := Ideal) X G W (ix2 r e) = refProd X G W r.val e.val := by
  unfold refProd
  pointwise [val_main_v17, val_main_v16, val_main_v15]
  simp only [hidden_at, nat3_ix]
  rfl

theorem z_at (r : Fin 32768) (e : Fin 4096) :
    val_main_v27 (F := Ideal) X G W (ix2 r e)
      = if e.val < 1024 then Ideal.div (refProd X G W r.val e.val) (Ideal.sqrt (Ideal.ofBits .f32 0x43000000#32) * Ideal.log (Ideal.ofBits .f32 0x40000000#32))
        else refProd X G W r.val e.val := by
  pointwise [val_main_v27, val_main_v26, val_main_v25, val_main_v24, val_main_v23, val_main_v22, val_main_v21, val_main_v20, val_main_v19, val_main_cst_2, val_main_cst_3]
  rw [prod_at]
  by_cases h : e.val < 1024
  · rw [dif_pos h, if_pos h]
  · rw [dif_neg h, if_neg h, prod_at]
    congr 1
    show 1024 + (e.val - 1024) = e.val
    omega

theorem u_at (r : Fin 32768) (e : Fin 1024) : val_main_v18 (F := Ideal) X G W (ix2 r e) = refProd X G W r.val (3072 + e.val) := by
  pointwise [val_main_v18]
  rw [prod_at]

end Cert.Reference4Ideal.Inproj
-- ==== Proof.InprojB.Out.lean ====
module

public import proofs.«01_k».proof.Proof.InprojB.Windows
public import proofs.«01_k».proof.Proof.InprojB.RefOut
public import proofs.«01_k».proof.Proof.Attn.Consts

@[expose] public section
set_option maxRecDepth 16384
noncomputable section
namespace Cert.Kernel4Ideal.Inproj
open Cert.Kernel4Ideal Cert.Kernel4Ideal.Gen Idealize.ShloMosaic Idealize.ShloMosaic.TcCoe Idealize.SL.Sem
open Idealize.ShloMosaic.Pointwise
open Cert.KernelIdeal.Attn (nat2 nat3 nat2_ix nat3_ix)
open Cert.Reference4Ideal.Inproj (refProd)

/-! # The kernel's two result arrays are the reference's -/

variable (m : (ℓ : Loc nD τ sig) → Buf (Elt Ideal) ℓ) (c : Dev nD)

/-- The scratch holds the normalised rows of the point's block at both points of the block. -/
theorem hidden (t : Fin cfg0.N) : (outsAt0 m c t.val t.isLt).2.2 = normed (iblk m c 0 t) := by
  by_cases h0 : t.val % 2 = 0
  · exact h_A m c t h0
  · refine h_B m c t h0 ?_
    rw [x_same m c t h0 (Nat.lt_of_le_of_lt (Nat.sub_le _ _) t.isLt)]
    exact h_A m c ⟨t.val - 1, _⟩ (show (t.val - 1) % 2 = 0 by omega)

theorem hidden_before (t : Fin cfg0.N) (h0 : ¬ t.val % 2 = 0) : (before m c t).2.2 = normed (iblk m c 0 t) := by
  rw [x_same m c t h0 (Nat.lt_of_le_of_lt (Nat.sub_le _ _) t.isLt)]
  exact hidden m c ⟨t.val - 1, _⟩

/-- The constant by which the queries are scaled is the inverse of what the reference divides by. -/
theorem scale_eq (s : EReal) : s * (Named.named (F := Ideal) κ "qk_scale" 0x3E0293EE#32 : Ideal .f32)
    = Ideal.div s (Ideal.sqrt (Ideal.ofBits .f32 0x43000000#32) * Ideal.log (Ideal.ofBits .f32 0x40000000#32)) := by
  rw [Cert.Attn.sqrt128, Cert.Attn.v2, Ideal.log_coe, if_neg (by norm_num), ← EReal.coe_mul,
    Ideal.div_coe (mul_ne_zero Cert.Attn.sqrt128_ne Cert.Attn.log2_pos.ne'), mul_comm (Real.sqrt 128), one_div]
  exact congrArg (s * ·) (IdealRules.named_const.ideal_named_scalar κ "qk_scale" _ (((Real.log 2 * Real.sqrt 128)⁻¹ : ℝ) : EReal) rfl)

theorem one_word : Ideal.ofBits .f32 0x3F800000#32 = (1 : EReal) := by
  simp [Ideal.ofBits, Ideal.ieee, -EReal.coe_mul]; norm_num [← EReal.coe_mul]

/-- A point's product is the reference's: the gain is a factor of the weights in one and of the rows in the other. -/
theorem prod_eq (t : Fin cfg0.N) (r e : ℕ) (hr : r < 1024) (he : e < 2048) :
    prodN (iblk m c 1 t) (normed (iblk m c 0 t)) r e
      = refProd (Xm m c) (Gm m c) (Wm m c) (1024 * (t.val / 2) + r) (2048 * (t.val % 2) + e) := by
  have hx : ∀ k : Fin 2048, nat2 (iblk m c 0 t : Vec Ideal S1024x2048 .f32) r k.val = nat2 (Xm m c) (1024 * (t.val / 2) + r) k.val :=
    fun k => (nat2_ix (iblk m c 0 t : Vec Ideal S1024x2048 .f32) ⟨r, hr⟩ k).symm.trans (x_at m c t ⟨r, hr⟩ k)
  have hw : ∀ k : Fin 2048, nat3 (iblk m c 1 t : Vec Ideal S1x2048x2048 .bf16) 0 k.val e
      = nat3 (Wm m c) 1 k.val (2048 * (t.val % 2) + e) * nat2 (Gm m c) 1 k.val :=
    fun k => (nat3_ix (iblk m c 1 t : Vec Ideal S1x2048x2048 .bf16) 0 k ⟨e, he⟩).symm.trans (w_at m c t k ⟨e, he⟩)
  have hs : rowScale (nat2 (iblk m c 0 t : Vec Ideal S1024x2048 .f32) r) = rowScale (nat2 (Xm m c) (1024 * (t.val / 2) + r)) := by
    unfold rowScale
    simp only [hx]
  have hn : ∀ k : Fin 2048, nat2 (normed (iblk m c 0 t)) r k.val
      = nat2 (Xm m c) (1024 * (t.val / 2) + r) k.val * rowScale (nat2 (Xm m c) (1024 * (t.val / 2) + r)) := by
    intro k
    refine (nat2_ix (normed (iblk m c 0 t)) ⟨r, hr⟩ k).symm.trans ?_
    show nat2 _ r k.val * rowScale (nat2 _ r) = _
    rw [hx, hs]
  unfold prodN refProd
  refine Finset.sum_congr rfl fun k _ => ?_
  rw [hn, hw, mul_comm (nat3 (Wm m c) 1 _ _), mul_assoc, mul_assoc, mul_assoc]

/-- The reference's first result at a row and a column. -/
def zRes (r e : ℕ) : EReal :=
  if e < 1024 then Ideal.div (refProd (Xm m c) (Gm m c) (Wm m c) r e) (Ideal.sqrt (Ideal.ofBits .f32 0x43000000#32) * Ideal.log (Ideal.ofBits .f32 0x40000000#32))
  else refProd (Xm m c) (Gm m c) (Wm m c) r e

theorem z_point (t : Fin cfg0.N) (y : S1024x2048.Idx) :
    (outsAt0 m c t.val t.isLt).1 y = zRes m c (1024 * (t.val / 2) + (y 0).val) (2048 * (t.val % 2) + (y 1).val) := by
  have hr : (y 0).val < 1024 := (y 0).isLt
  have he : (y 1).val < 2048 := (y 1).isLt
  by_cases h0 : t.val % 2 = 0
  · rw [z_A m c t h0, factor_even t h0]
    unfold zBlk zN zRes
    rw [prod_eq m c t _ _ hr he, scale_eq, h0, Nat.mul_zero, Nat.zero_add]
  · rw [z_B m c t h0 (hidden_before m c t h0), factor_odd t h0, one_word]
    unfold zBlk zN zRes
    rw [prod_eq m c t _ _ hr he, mul_one, ite_self, if_neg (by omega)]

theorem u_point (t : Fin cfg0.N) (h0 : ¬ t.val % 2 = 0) (y : S1024x1024.Idx) :
    (outsAt0 m c t.val t.isLt).2.1 y = refProd (Xm m c) (Gm m c) (Wm m c) (1024 * (t.val / 2) + (y 0).val) (3072 + (y 1).val) := by
  have hr : (y 0).val < 1024 := (y 0).isLt
  have he : (y 1).val < 1024 := (y 1).isLt
  rw [u_B m c t h0 (hidden_before m c t h0)]
  unfold uBlk
  rw [prod_eq m c t _ _ hr (by omega)]
  congr 1
  omega

/-- The kernel's first result array. -/
theorem z_eq : (dats m 0 c).arrAt 2 cfg0.N = Cert.Reference4Ideal.Read.val_main_v27 (F := Ideal) (Xm m c) (Gm m c) (Wm m c) := by
  refine (dats m 0 c).arrAt_eq_of_covers 2 _ (by decide +kernel) fun t hf y => ?_
  blk_simp
  rw [after0_2]
  refine (z_point m c t y).trans ?_
  have e0 : ((((cfg0.win 2).blk t).view.emb y) 0).val = 1024 * (t.val / 2) + (y 0).val := by
    blk_simp [index2 t]
    omega
  have e1 : ((((cfg0.win 2).blk t).view.emb y) 1).val = 2048 * (t.val % 2) + (y 1).val := by
    blk_simp [index2 t]
    omega
  rw [← e0, ← e1]
  generalize ((cfg0.win 2).blk t).view.emb y = w
  exact (Cert.Reference4Ideal.Inproj.z_at (Xm m c) (Gm m c) (Wm m c) (w 0) (w 1)).symm.trans (congrArg _ (eq_ix2 w).symm)

/-- The kernel's second result array. -/
theorem u_eq : (dats m 0 c).arrAt 3 cfg0.N = Cert.Reference4Ideal.Read.val_main_v18 (F := Ideal) (Xm m c) (Gm m c) (Wm m c) := by
  refine (dats m 0 c).arrAt_eq_of_covers 3 _ (by decide +kernel) fun t hf y => ?_
  have h1 := (flush0_3 t).1 hf
  blk_simp
  rw [after0_3]
  refine (u_point m c t (by omega) y).trans ?_
  have e0 : ((((cfg0.win 3).blk t).view.emb y) 0).val = 1024 * (t.val / 2) + (y 0).val := by
    blk_simp [index3 t]
    omega
  have e1 : ((((cfg0.win 3).blk t).view.emb y) 1).val = (y 1).val := by
    blk_simp [index3 t]
  rw [← e0, ← e1]
  generalize ((cfg0.win 3).blk t).view.emb y = w
  exact (Cert.Reference4Ideal.Inproj.u_at (Xm m c) (Gm m c) (Wm m c) (w 0) (w 1)).symm.trans (congrArg _ (eq_ix2 w).symm)

end Cert.Kernel4Ideal.Inproj
-- ==== Proof.FfnB.Setup.lean ====
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel5Ideal.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The feed-forward call: its arrays, its blocks and the conditions of its body -/

variable (m : (ℓ : Loc nD τ sig) → Buf (Elt F) ℓ) (ρ : Dev nD → PrngReg)

/-- The buffers of a core when its grid begins: what the host's operations leave. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- What window `w` shows of its array at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- A run that leaves the pipeline's post leaves every argument as it was. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-- The point begins a tile of rows: its block is normalised. -/
abbrev begins (i : grid0.Coords) : Prop := (Scalar.cmpi .ne (Scalar.extui (Scalar.cmpi .eq (BitVec.ofNat 32 (i 1).val) 0#32)) 0#32) = 1#1
theorem hbegins (t : Fin cfg0.N) : begins (grid0.coords t) ↔ t.val % 11 = 0 :=
  (fun t => by
    have ht : t.val < 352 := Nat.lt_of_lt_of_eq t.isLt N_0
    have e0 : (grid0.coords t 0).val = t.val / 11 % 32 := Pipeline.Grid.coords_val t 0 (by decide) rfl
    have e1 : (grid0.coords t 1).val = t.val / 1 % 11 := Pipeline.Grid.coords_val t 1 (by decide) rfl
    simp only [begins, e0, e1]
    word_cmp
   : ∀ t : Fin grid0.N, begins (grid0.coords t) ↔ t.val % 11 = 0) t

/-- The point is the first of all. -/
abbrev opens (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hopens (t : Fin cfg0.N) : opens (grid0.coords t) ↔ t.val % 352 = 0 :=
  (fun t => by
    have ht : t.val < 352 := Nat.lt_of_lt_of_eq t.isLt N_0
    have e0 : (grid0.coords t 0).val = t.val / 11 % 32 := Pipeline.Grid.coords_val t 0 (by decide) rfl
    have e1 : (grid0.coords t 1).val = t.val / 1 % 11 := Pipeline.Grid.coords_val t 1 (by decide) rfl
    simp only [opens, e0, e1]
    word_cmp
   : ∀ t : Fin grid0.N, opens (grid0.coords t) ↔ t.val % 352 = 0) t

/-- The point ends a tile of rows: its sum is normalised and the residual added. -/
abbrev ends (i : grid0.Coords) : Prop := (Scalar.cmpi .ne (Scalar.extui (Scalar.cmpi .eq (BitVec.ofNat 32 (i 1).val) 10#32)) 0#32) = 1#1
theorem hends (t : Fin cfg0.N) : ends (grid0.coords t) ↔ t.val % 11 = 10 :=
  (fun t => by
    have ht : t.val < 352 := Nat.lt_of_lt_of_eq t.isLt N_0
    have e0 : (grid0.coords t 0).val = t.val / 11 % 32 := Pipeline.Grid.coords_val t 0 (by decide) rfl
    have e1 : (grid0.coords t 1).val = t.val / 1 % 11 := Pipeline.Grid.coords_val t 1 (by decide) rfl
    simp only [ends, e0, e1]
    word_cmp
   : ∀ t : Fin grid0.N, ends (grid0.coords t) ↔ t.val % 11 = 10) t

/-! The staging buffers of a point, and the scratch. -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3x11264 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x11264 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x2048 .f32 := win0_7.stage (cfg0.slots t 7)
abbrev hs0_7 (t : Fin cfg0.N) : (ms0_7 t).IsWhole := hstage0_7 ((cfg0.slots t 7).cast nbuf0_7)

abbrev scM0_0 : Memref sig .tc .vmem S1024x2048 .bf16 := Memref.whole cc0_scratch0
abbrev scM0_1 : Memref sig .tc .vmem S1032x512 .f32 := Memref.whole cc0_scratch1
abbrev scM0_2 : Memref sig .tc .vmem S1032x512 .f32 := Memref.whole cc0_scratch2
abbrev scM0_3 : Memref sig .tc .vmem S11x8x512 .f32 := Memref.whole cc0_scratch3
abbrev scM0_4 : Memref sig .tc .vmem S11x8x512 .f32 := Memref.whole cc0_scratch4

/-- What the pipeline leaves beside the windows: the scratch at some contents and the generator. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel5Ideal.Ffn
-- ==== Proof.FfnB.RunFirst.lean ====
module

public import proofs.«01_k».proof.Proof.FfnB.Setup

@[expose] public section

set_option maxRecDepth 16384

noncomputable section

namespace Cert.Kernel5Ideal.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body runs over whole buffers at any contents; the lists name what it stores where. Here: at the first point. -/
noncomputable def runFirst (c : Dev nD) (i : grid0.Coords)
    (arg2 : Memref sig .tc .vmem S1024x2048 .f32) (harg2 : arg2.IsWhole)
    (arg3 : Memref sig .tc .vmem S1x2048x512 .bf16) (harg3 : arg3.IsWhole)
    (arg4 : Memref sig .tc .vmem S1x2048x512 .bf16) (harg4 : arg4.IsWhole)
    (arg5 : Memref sig .tc .vmem S1x3x11264 .f32) (harg5 : arg5.IsWhole)
    (arg6 : Memref sig .tc .vmem S1x1x11264 .f32) (harg6 : arg6.IsWhole)
    (arg7 : Memref sig .tc .vmem S1x512x2048 .bf16) (harg7 : arg7.IsWhole)
    (arg8 : Memref sig .tc .vmem S1x1x2048 .f32) (harg8 : arg8.IsWhole)
    (arg9 : Memref sig .tc .vmem S1024x2048 .f32) (harg9 : arg9.IsWhole)
    (arg10 : Memref sig .tc .vmem S1024x2048 .bf16) (harg10 : arg10.IsWhole)
    (arg11 : Memref sig .tc .vmem S1032x512 .f32) (harg11 : arg11.IsWhole)
    (arg12 : Memref sig .tc .vmem S1032x512 .f32) (harg12 : arg12.IsWhole)
    (arg13 : Memref sig .tc .vmem S11x8x512 .f32) (harg13 : arg13.IsWhole)
    (arg14 : Memref sig .tc .vmem S11x8x512 .f32) (harg14 : arg14.IsWhole)
    (hb : begins i) (ho : opens i) (he : ¬ends i)
    (x0 : Vec F S1024x2048 .f32) (x1 : Vec F S1x2048x512 .bf16) (x2 : Vec F S1x2048x512 .bf16) (x3 : Vec F S1x3x11264 .f32) (x4 : Vec F S1x1x11264 .f32) (x5 : Vec F S1x512x2048 .bf16) (x6 : Vec F S1x1x2048 .f32)
    (y : Vec F S1024x2048 .f32) (h : Vec F S1024x2048 .bf16) (cg cv : Vec F S11x8x512 .f32) :
    Σ' (LY : List (View.Piece (Elt F) S1024x2048 .f32)), Σ' (LH : List (View.Piece (Elt F) S1024x2048 .bf16)), Σ' (LG : List (View.Piece (Elt F) S11x8x512 .f32)), Σ' (LV : List (View.Piece (Elt F) S11x8x512 .f32)), Σ' (LT : List (View.Piece (Elt F) S1032x512 .f32)), { LU : List (View.Piece (Elt F) S1032x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare y ∗ owns (c : Thread nD τ) arg10 fullShare h ∗ (∃ d, owns (c : Thread nD τ) arg11 fullShare d) ∗ (∃ d, owns (c : Thread nD τ) arg12 fullShare d) ∗ owns (c : Thread nD τ) arg13 fullShare cg ∗ owns (c : Thread nD τ) arg14 fullShare cv
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
              ∗ (arg9.view.loc (c : Thread nD τ) ↦[arg9.view.set]{fullShare} arg9.view.writes (Elt F) (harg9.unread y) LY) ∗ (arg10.view.loc (c : Thread nD τ) ↦[arg10.view.set]{fullShare} arg10.view.writes (Elt F) (harg10.unread h) LH)
              ∗ (∃ f, arg11.view.loc (c : Thread nD τ) ↦[arg11.view.set]{fullShare} arg11.view.writes (Elt F) f LT) ∗ (∃ f, arg12.view.loc (c : Thread nD τ) ↦[arg12.view.set]{fullShare} arg12.view.writes (Elt F) f LU)
              ∗ (arg13.view.loc (c : Thread nD τ) ↦[arg13.view.set]{fullShare} arg13.view.writes (Elt F) (harg13.unread cg) LG) ∗ (arg14.view.loc (c : Thread nD τ) ↦[arg14.view.set]{fullShare} arg14.view.writes (Elt F) (harg14.unread cv) LV)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_ffn_eq_skeleton]; unfold cc0_ffn_skel
    simp only [k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, ⟨%ds2, %fs2, -, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg13.eq_unread hfs3; obtain rfl := harg14.eq_unread hfs4
    sl_exec (disch := first | sl_exact hb | sl_exact ho | sl_exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [HS0]; · iexact HS0
    isplitl [HS1]; · iexists _; iexact HS1
    isplitl [HS2]; · iexists _; iexact HS2
    isplitl [HS3]; · iexact HS3
    iexact HS4

end Cert.Kernel5Ideal.Ffn
-- ==== Proof.FfnB.RunInner.lean ====
module

public import proofs.«01_k».proof.Proof.FfnB.RunFirst

@[expose] public section

set_option maxRecDepth 16384

noncomputable section

namespace Cert.Kernel5Ideal.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1200000 in
/-- The body runs over whole buffers at any contents; the lists name what it stores where. Here: strictly inside a tile of rows. -/
noncomputable def runInner (c : Dev nD) (i : grid0.Coords)
    (arg2 : Memref sig .tc .vmem S1024x2048 .f32) (harg2 : arg2.IsWhole)
    (arg3 : Memref sig .tc .vmem S1x2048x512 .bf16) (harg3 : arg3.IsWhole)
    (arg4 : Memref sig .tc .vmem S1x2048x512 .bf16) (harg4 : arg4.IsWhole)
    (arg5 : Memref sig .tc .vmem S1x3x11264 .f32) (harg5 : arg5.IsWhole)
    (arg6 : Memref sig .tc .vmem S1x1x11264 .f32) (harg6 : arg6.IsWhole)
    (arg7 : Memref sig .tc .vmem S1x512x2048 .bf16) (harg7 : arg7.IsWhole)
    (arg8 : Memref sig .tc .vmem S1x1x2048 .f32) (harg8 : arg8.IsWhole)
    (arg9 : Memref sig .tc .vmem S1024x2048 .f32) (harg9 : arg9.IsWhole)
    (arg10 : Memref sig .tc .vmem S1024x2048 .bf16) (harg10 : arg10.IsWhole)
    (arg11 : Memref sig .tc .vmem S1032x512 .f32) (harg11 : arg11.IsWhole)
    (arg12 : Memref sig .tc .vmem S1032x512 .f32) (harg12 : arg12.IsWhole)
    (arg13 : Memref sig .tc .vmem S11x8x512 .f32) (harg13 : arg13.IsWhole)
    (arg14 : Memref sig .tc .vmem S11x8x512 .f32) (harg14 : arg14.IsWhole)
    (hb : ¬begins i) (ho : ¬opens i) (he : ¬ends i)
    (x0 : Vec F S1024x2048 .f32) (x1 : Vec F S1x2048x512 .bf16) (x2 : Vec F S1x2048x512 .bf16) (x3 : Vec F S1x3x11264 .f32) (x4 : Vec F S1x1x11264 .f32) (x5 : Vec F S1x512x2048 .bf16) (x6 : Vec F S1x1x2048 .f32)
    (y : Vec F S1024x2048 .f32) (h : Vec F S1024x2048 .bf16) (cg cv : Vec F S11x8x512 .f32) :
    Σ' (LY : List (View.Piece (Elt F) S1024x2048 .f32)), Σ' (LH : List (View.Piece (Elt F) S1024x2048 .bf16)), Σ' (LG : List (View.Piece (Elt F) S11x8x512 .f32)), Σ' (LV : List (View.Piece (Elt F) S11x8x512 .f32)), Σ' (LT : List (View.Piece (Elt F) S1032x512 .f32)), { LU : List (View.Piece (Elt F) S1032x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare y ∗ owns (c : Thread nD τ) arg10 fullShare h ∗ (∃ d, owns (c : Thread nD τ) arg11 fullShare d) ∗ (∃ d, owns (c : Thread nD τ) arg12 fullShare d) ∗ owns (c : Thread nD τ) arg13 fullShare cg ∗ owns (c : Thread nD τ) arg14 fullShare cv
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
              ∗ (arg9.view.loc (c : Thread nD τ) ↦[arg9.view.set]{fullShare} arg9.view.writes (Elt F) (harg9.unread y) LY) ∗ (arg10.view.loc (c : Thread nD τ) ↦[arg10.view.set]{fullShare} arg10.view.writes (Elt F) (harg10.unread h) LH)
              ∗ (∃ f, arg11.view.loc (c : Thread nD τ) ↦[arg11.view.set]{fullShare} arg11.view.writes (Elt F) f LT) ∗ (∃ f, arg12.view.loc (c : Thread nD τ) ↦[arg12.view.set]{fullShare} arg12.view.writes (Elt F) f LU)
              ∗ (arg13.view.loc (c : Thread nD τ) ↦[arg13.view.set]{fullShare} arg13.view.writes (Elt F) (harg13.unread cg) LG) ∗ (arg14.view.loc (c : Thread nD τ) ↦[arg14.view.set]{fullShare} arg14.view.writes (Elt F) (harg14.unread cv) LV)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14) K } := by
  refine ⟨?_, [], ?_, ?_, ?_, ?_, fun E K => ?run⟩
  case run =>
    simp only [cc0_ffn_eq_skeleton]; unfold cc0_ffn_skel
    simp only [k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, ⟨%ds2, %fs2, -, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg13.eq_unread hfs3; obtain rfl := harg14.eq_unread hfs4
    sl_exec (disch := first | sl_exact hb | sl_exact ho | sl_exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [HS0]; · iexact HS0
    isplitl [HS1]; · iexists _; iexact HS1
    isplitl [HS2]; · iexists _; iexact HS2
    isplitl [HS3]; · iexact HS3
    iexact HS4

end Cert.Kernel5Ideal.Ffn
-- ==== Proof.FfnB.RunLast.lean ====
module

public import proofs.«01_k».proof.Proof.FfnB.RunInner

@[expose] public section

set_option maxRecDepth 16384

noncomputable section

namespace Cert.Kernel5Ideal.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2408000 in
/-- The body runs over whole buffers at any contents; the lists name what it stores where. Here: at the end of a tile of rows. -/
noncomputable def runLast (c : Dev nD) (i : grid0.Coords)
    (arg2 : Memref sig .tc .vmem S1024x2048 .f32) (harg2 : arg2.IsWhole)
    (arg3 : Memref sig .tc .vmem S1x2048x512 .bf16) (harg3 : arg3.IsWhole)
    (arg4 : Memref sig .tc .vmem S1x2048x512 .bf16) (harg4 : arg4.IsWhole)
    (arg5 : Memref sig .tc .vmem S1x3x11264 .f32) (harg5 : arg5.IsWhole)
    (arg6 : Memref sig .tc .vmem S1x1x11264 .f32) (harg6 : arg6.IsWhole)
    (arg7 : Memref sig .tc .vmem S1x512x2048 .bf16) (harg7 : arg7.IsWhole)
    (arg8 : Memref sig .tc .vmem S1x1x2048 .f32) (harg8 : arg8.IsWhole)
    (arg9 : Memref sig .tc .vmem S1024x2048 .f32) (harg9 : arg9.IsWhole)
    (arg10 : Memref sig .tc .vmem S1024x2048 .bf16) (harg10 : arg10.IsWhole)
    (arg11 : Memref sig .tc .vmem S1032x512 .f32) (harg11 : arg11.IsWhole)
    (arg12 : Memref sig .tc .vmem S1032x512 .f32) (harg12 : arg12.IsWhole)
    (arg13 : Memref sig .tc .vmem S11x8x512 .f32) (harg13 : arg13.IsWhole)
    (arg14 : Memref sig .tc .vmem S11x8x512 .f32) (harg14 : arg14.IsWhole)
    (hb : ¬begins i) (ho : ¬opens i) (he : ends i)
    (x0 : Vec F S1024x2048 .f32) (x1 : Vec F S1x2048x512 .bf16) (x2 : Vec F S1x2048x512 .bf16) (x3 : Vec F S1x3x11264 .f32) (x4 : Vec F S1x1x11264 .f32) (x5 : Vec F S1x512x2048 .bf16) (x6 : Vec F S1x1x2048 .f32)
    (y : Vec F S1024x2048 .f32) (h : Vec F S1024x2048 .bf16) (cg cv : Vec F S11x8x512 .f32) :
    Σ' (LY : List (View.Piece (Elt F) S1024x2048 .f32)), Σ' (LH : List (View.Piece (Elt F) S1024x2048 .bf16)), Σ' (LG : List (View.Piece (Elt F) S11x8x512 .f32)), Σ' (LV : List (View.Piece (Elt F) S11x8x512 .f32)), Σ' (LT : List (View.Piece (Elt F) S1032x512 .f32)), { LU : List (View.Piece (Elt F) S1032x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare y ∗ owns (c : Thread nD τ) arg10 fullShare h ∗ (∃ d, owns (c : Thread nD τ) arg11 fullShare d) ∗ (∃ d, owns (c : Thread nD τ) arg12 fullShare d) ∗ owns (c : Thread nD τ) arg13 fullShare cg ∗ owns (c : Thread nD τ) arg14 fullShare cv
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
              ∗ (arg9.view.loc (c : Thread nD τ) ↦[arg9.view.set]{fullShare} arg9.view.writes (Elt F) (harg9.unread y) LY) ∗ (arg10.view.loc (c : Thread nD τ) ↦[arg10.view.set]{fullShare} arg10.view.writes (Elt F) (harg10.unread h) LH)
              ∗ (∃ f, arg11.view.loc (c : Thread nD τ) ↦[arg11.view.set]{fullShare} arg11.view.writes (Elt F) f LT) ∗ (∃ f, arg12.view.loc (c : Thread nD τ) ↦[arg12.view.set]{fullShare} arg12.view.writes (Elt F) f LU)
              ∗ (arg13.view.loc (c : Thread nD τ) ↦[arg13.view.set]{fullShare} arg13.view.writes (Elt F) (harg13.unread cg) LG) ∗ (arg14.view.loc (c : Thread nD τ) ↦[arg14.view.set]{fullShare} arg14.view.writes (Elt F) (harg14.unread cv) LV)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14) K } := by
  refine ⟨?_, [], ?_, ?_, ?_, ?_, fun E K => ?run⟩
  case run =>
    simp only [cc0_ffn_eq_skeleton]; unfold cc0_ffn_skel
    simp only [k0_part35_eq_skeleton, k0_part36_eq_skeleton, k0_part37_eq_skeleton, k0_part38_eq_skeleton, k0_part39_eq_skeleton, k0_part40_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, ⟨%ds2, %fs2, -, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg13.eq_unread hfs3; obtain rfl := harg14.eq_unread hfs4
    sl_exec (disch := first | sl_exact hb | sl_exact ho | sl_exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [HS0]; · iexact HS0
    isplitl [HS1]; · iexists _; iexact HS1
    isplitl [HS2]; · iexists _; iexact HS2
    isplitl [HS3]; · iexact HS3
    iexact HS4

end Cert.Kernel5Ideal.Ffn
-- ==== Proof.FfnB.RunStart.lean ====
module

public import proofs.«01_k».proof.Proof.FfnB.RunLast

@[expose] public section

set_option maxRecDepth 16384

noncomputable section

namespace Cert.Kernel5Ideal.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body runs over whole buffers at any contents; the lists name what it stores where. Here: at the start of a later tile of rows. -/
noncomputable def runStart (c : Dev nD) (i : grid0.Coords)
    (arg2 : Memref sig .tc .vmem S1024x2048 .f32) (harg2 : arg2.IsWhole)
    (arg3 : Memref sig .tc .vmem S1x2048x512 .bf16) (harg3 : arg3.IsWhole)
    (arg4 : Memref sig .tc .vmem S1x2048x512 .bf16) (harg4 : arg4.IsWhole)
    (arg5 : Memref sig .tc .vmem S1x3x11264 .f32) (harg5 : arg5.IsWhole)
    (arg6 : Memref sig .tc .vmem S1x1x11264 .f32) (harg6 : arg6.IsWhole)
    (arg7 : Memref sig .tc .vmem S1x512x2048 .bf16) (harg7 : arg7.IsWhole)
    (arg8 : Memref sig .tc .vmem S1x1x2048 .f32) (harg8 : arg8.IsWhole)
    (arg9 : Memref sig .tc .vmem S1024x2048 .f32) (harg9 : arg9.IsWhole)
    (arg10 : Memref sig .tc .vmem S1024x2048 .bf16) (harg10 : arg10.IsWhole)
    (arg11 : Memref sig .tc .vmem S1032x512 .f32) (harg11 : arg11.IsWhole)
    (arg12 : Memref sig .tc .vmem S1032x512 .f32) (harg12 : arg12.IsWhole)
    (arg13 : Memref sig .tc .vmem S11x8x512 .f32) (harg13 : arg13.IsWhole)
    (arg14 : Memref sig .tc .vmem S11x8x512 .f32) (harg14 : arg14.IsWhole)
    (hb : begins i) (ho : ¬opens i) (he : ¬ends i)
    (x0 : Vec F S1024x2048 .f32) (x1 : Vec F S1x2048x512 .bf16) (x2 : Vec F S1x2048x512 .bf16) (x3 : Vec F S1x3x11264 .f32) (x4 : Vec F S1x1x11264 .f32) (x5 : Vec F S1x512x2048 .bf16) (x6 : Vec F S1x1x2048 .f32)
    (y : Vec F S1024x2048 .f32) (h : Vec F S1024x2048 .bf16) (cg cv : Vec F S11x8x512 .f32) :
    Σ' (LY : List (View.Piece (Elt F) S1024x2048 .f32)), Σ' (LH : List (View.Piece (Elt F) S1024x2048 .bf16)), Σ' (LG : List (View.Piece (Elt F) S11x8x512 .f32)), Σ' (LV : List (View.Piece (Elt F) S11x8x512 .f32)), Σ' (LT : List (View.Piece (Elt F) S1032x512 .f32)), { LU : List (View.Piece (Elt F) S1032x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare y ∗ owns (c : Thread nD τ) arg10 fullShare h ∗ (∃ d, owns (c : Thread nD τ) arg11 fullShare d) ∗ (∃ d, owns (c : Thread nD τ) arg12 fullShare d) ∗ owns (c : Thread nD τ) arg13 fullShare cg ∗ owns (c : Thread nD τ) arg14 fullShare cv
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
              ∗ (arg9.view.loc (c : Thread nD τ) ↦[arg9.view.set]{fullShare} arg9.view.writes (Elt F) (harg9.unread y) LY) ∗ (arg10.view.loc (c : Thread nD τ) ↦[arg10.view.set]{fullShare} arg10.view.writes (Elt F) (harg10.unread h) LH)
              ∗ (∃ f, arg11.view.loc (c : Thread nD τ) ↦[arg11.view.set]{fullShare} arg11.view.writes (Elt F) f LT) ∗ (∃ f, arg12.view.loc (c : Thread nD τ) ↦[arg12.view.set]{fullShare} arg12.view.writes (Elt F) f LU)
              ∗ (arg13.view.loc (c : Thread nD τ) ↦[arg13.view.set]{fullShare} arg13.view.writes (Elt F) (harg13.unread cg) LG) ∗ (arg14.view.loc (c : Thread nD τ) ↦[arg14.view.set]{fullShare} arg14.view.writes (Elt F) (harg14.unread cv) LV)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_ffn_eq_skeleton]; unfold cc0_ffn_skel
    simp only [k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, ⟨%ds2, %fs2, -, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg13.eq_unread hfs3; obtain rfl := harg14.eq_unread hfs4
    sl_exec (disch := first | sl_exact hb | sl_exact ho | sl_exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [HS0]; · iexact HS0
    isplitl [HS1]; · iexists _; iexact HS1
    isplitl [HS2]; · iexists _; iexact HS2
    isplitl [HS3]; · iexact HS3
    iexact HS4

end Cert.Kernel5Ideal.Ffn
-- ==== Proof.FfnB.Step.lean ====
module

public import proofs.«01_k».proof.Proof.FfnB.RunStart
public import Idealize.ShloMosaic.Lib.Pipeline.ValueKit
public import Idealize.ShloMosaic.Lib.Pipeline.ReadBack

@[expose] public section

set_option maxRecDepth 16384

noncomputable section

namespace Cert.Kernel5Ideal.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What one point of the feed-forward call computes, as functions of what it finds -/

section Reads
variable {sig : RefSig} {κ : Kind} {sp : Space} {s : Shape} {e : EltTy} {Val : EltTy → Type}

/-- A load from a whole buffer reads its contents. -/
theorem readAt_ld (a : Memref sig κ sp s e) (h : a.IsWhole) (X : s.Idx → Val e) (r : Rect s) :
    View.readAt Val a.view r.toLoadRect (h.unread X) = View.ld X r := by
  rw [View.readAt_eq_ld, h.read_unread]

/-- A load of what a list of stores left. -/
theorem readCov_ld [∀ e, Nonempty (Val e)] (v : View sig κ sp s e) (L : List (View.Piece Val s e)) (r : Rect s) :
    v.readCov L r.toLoadRect = View.ld (View.canon L) r := View.readCov_eq_canon' v L r.toLoadRect

/-- Stores that cover a shape hide the earlier ones. -/
theorem canon_append_cover [∀ e, Nonempty (Val e)] (L' : List (View.Piece Val s e)) : ∀ (L : List (View.Piece Val s e)) (y : s.Idx),
    (∃ p ∈ L, y ∈ p.1.set) → View.canon (L ++ L') y = View.canon L y
  | [], _, h => by obtain ⟨p, hp, _⟩ := h; cases hp
  | p :: L, y, h => by
    by_cases hy : y ∈ p.1.set
    · obtain ⟨r, w⟩ := p
      obtain ⟨x, rfl⟩ : ∃ x, r.emb x = y := r.exists_idx_of_mem hy
      rw [List.cons_append, View.canon_cons_emb, View.canon_cons_emb]
    · obtain ⟨q, hq, hqy⟩ := h
      have hq' : q ∈ L := (List.mem_cons.mp hq).resolve_left fun e => hy (e ▸ hqy)
      rw [List.cons_append, View.canon_cons_of_not_mem p _ hy, View.canon_cons_of_not_mem p _ hy]
      exact canon_append_cover L' L y ⟨q, hq', hqy⟩
end Reads

abbrev top : Rect S1024x2048 := Rect.unit ![0, 0] S512x2048.size inb_S1024x2048_S512x2048_0_0
abbrev bot : Rect S1024x2048 := Rect.unit ![512, 0] S512x2048.size inb_S1024x2048_S512x2048_512_0
abbrev upAll : Rect S1x2048x512 := Rect.unit ![0, 0, 0] S1x2048x512.size inb_S1x2048x512_S1x2048x512_0_0_0
abbrev downAll : Rect S1x512x2048 := Rect.unit ![0, 0, 0] S1x512x2048.size inb_S1x512x2048_S1x512x2048_0_0_0
abbrev gainAll : Rect S1x1x2048 := Rect.unit ![0, 0, 0] S1x1x2048.size inb_S1x1x2048_S1x1x2048_0_0_0
/-- The rows kept for the next tile. -/
abbrev tailRows : Rect S1032x512 := Rect.unit ![1024, 0] S8x512.size inb_S1032x512_S8x512_1024_0
/-- The place in the kept rows of the point's feature block. -/
abbrev slot (i : grid0.Coords) : Rect S11x8x512 := Rect.unit (k0_off1 i) S1x8x512.size (k0_off1_inb i)

/-- Whether the point's tile opens a sequence. -/
def firstTile (i : grid0.Coords) : BitVec 1 :=
  Scalar.cmpi .eq (Scalar.select (Scalar.andi (Scalar.xori (Scalar.cmpi .slt (Scalar.remsi (BitVec.ofNat 32 (i 0).val) 16#32) 0#32) 0#1)
      (Scalar.cmpi .ne (Scalar.remsi (BitVec.ofNat 32 (i 0).val) 16#32) 0#32))
    (Scalar.addi (Scalar.remsi (BitVec.ofNat 32 (i 0).val) 16#32) 16#32) (Scalar.remsi (BitVec.ofNat 32 (i 0).val) 16#32)) 0#32

/-- The normalised rows. -/
def hNorm (x0 : Vec F S1024x2048 .f32) : Vec F S1024x2048 .bf16 :=
  k0_pay107 (View.ld x0 (Rect.unit ![0, 0] S1024x2048.size inb_S1024x2048_S1024x2048_0_0))

/-- The rows times a block of the up-projection, under eight rows of the tile before. -/
def buf (i : grid0.Coords) (z : Vec F S1x8x512 .f32) (h : Vec F S1024x2048 .bf16) (w : Vec F S1x2048x512 .bf16) : Vec F S1032x512 .f32 :=
  View.canon (Val := Elt F) (s := S1032x512) (e := .f32)
    [⟨Rect.unit ![520, 0] S512x512.size inb_S1032x512_S512x512_520_0, k0_pay113 (View.ld h bot) (View.ld w upAll)⟩,
      ⟨Rect.unit ![8, 0] S512x512.size inb_S1032x512_S512x512_8_0, k0_pay111 (View.ld h top) (View.ld w upAll)⟩,
      ⟨Rect.unit ![0, 0] S8x512.size inb_S1032x512_S8x512_0_0, k0_pay110 (firstTile i) z⟩]

/-- The gate's convolution of 512 rows, read at three consecutive starts. -/
def gate (i : grid0.Coords) (x3 : Vec F S1x3x11264 .f32) (x4 : Vec F S1x1x11264 .f32) (a b d : Vec F S512x512 .f32) : FVec F S512x512 .f32 :=
  k0_pay120 (View.ld x4 (Rect.unit (k0_off2 i) S1x1x512.size (k0_off2_inb i))) a (View.ld x3 (Rect.unit (k0_off3 i) S1x1x512.size (k0_off3_inb i)))
    b (View.ld x3 (Rect.unit (k0_off4 i) S1x1x512.size (k0_off4_inb i))) d (View.ld x3 (Rect.unit (k0_off5 i) S1x1x512.size (k0_off5_inb i)))

/-- The value's. -/
def value (i : grid0.Coords) (x3 : Vec F S1x3x11264 .f32) (x4 : Vec F S1x1x11264 .f32) (a b d : Vec F S512x512 .f32) : FVec F S512x512 .f32 :=
  k0_pay120 (View.ld x4 (Rect.unit (k0_off6 i) S1x1x512.size (k0_off6_inb i))) a (View.ld x3 (Rect.unit (k0_off7 i) S1x1x512.size (k0_off7_inb i)))
    b (View.ld x3 (Rect.unit (k0_off8 i) S1x1x512.size (k0_off8_inb i))) d (View.ld x3 (Rect.unit (k0_off9 i) S1x1x512.size (k0_off9_inb i)))

/-- Half a block of the sum, with the product of the activated features and a block of the down-projection. -/
def accum (i : grid0.Coords) (g v : FVec F S512x512 .f32) (y : Vec F S512x2048 .f32) (x5 : Vec F S1x512x2048 .bf16) : FVec F S512x2048 .f32 :=
  k0_pay124 (BitVec.ofNat 32 (i 1).val) g v (mulf (broadcast S512x512 (Scalar.ofBits .f32 0x3F000000#32)) g) (mulf (mulf g g) g) k0_pay123 y
    (View.ld x5 downAll)

def yStep (i : grid0.Coords) (g v : Vec F S1032x512 .f32) (x3 : Vec F S1x3x11264 .f32) (x4 : Vec F S1x1x11264 .f32) (x5 : Vec F S1x512x2048 .bf16)
    (y : Vec F S1024x2048 .f32) : Vec F S1024x2048 .f32 :=
  View.canon (Val := Elt F) (s := S1024x2048) (e := .f32)
    [⟨bot, accum i
        (gate i x3 x4 (View.ld g (Rect.unit ![518, 0] S512x512.size inb_S1032x512_S512x512_518_0))
          (View.ld g (Rect.unit ![519, 0] S512x512.size inb_S1032x512_S512x512_519_0)) (View.ld g (Rect.unit ![520, 0] S512x512.size inb_S1032x512_S512x512_520_0)))
        (value i x3 x4 (View.ld v (Rect.unit ![518, 0] S512x512.size inb_S1032x512_S512x512_518_0))
          (View.ld v (Rect.unit ![519, 0] S512x512.size inb_S1032x512_S512x512_519_0)) (View.ld v (Rect.unit ![520, 0] S512x512.size inb_S1032x512_S512x512_520_0)))
        (View.ld y bot) x5⟩,
      ⟨top, accum i
        (gate i x3 x4 (View.ld g (Rect.unit ![6, 0] S512x512.size inb_S1032x512_S512x512_6_0))
          (View.ld g (Rect.unit ![7, 0] S512x512.size inb_S1032x512_S512x512_7_0)) (View.ld g (Rect.unit ![8, 0] S512x512.size inb_S1032x512_S512x512_8_0)))
        (value i x3 x4 (View.ld v (Rect.unit ![6, 0] S512x512.size inb_S1032x512_S512x512_6_0))
          (View.ld v (Rect.unit ![7, 0] S512x512.size inb_S1032x512_S512x512_7_0)) (View.ld v (Rect.unit ![8, 0] S512x512.size inb_S1032x512_S512x512_8_0)))
        (View.ld y top) x5⟩]

theorem yCover (P Q : S512x2048.Idx → Elt F .f32) (L : List (View.Piece (Elt F) S1024x2048 .f32)) (y : S1024x2048.Idx) :
    ∃ p ∈ (⟨bot, P⟩ : View.Piece (Elt F) S1024x2048 .f32) :: (⟨top, Q⟩ : View.Piece (Elt F) S1024x2048 .f32) :: L, y ∈ p.1.set := by
  have h := View.cover_of_tiledBy (Val := Elt F) (e := .f32) [(⟨bot, P⟩ : View.Piece (Elt F) S1024x2048 .f32), ⟨top, Q⟩] ![512, 2048] (by sl_kernel_rfl) y
  obtain ⟨p, hp, hy⟩ := h
  rcases List.mem_cons.mp hp with rfl | hp
  · exact ⟨_, List.mem_cons_self, hy⟩
  · rcases List.mem_cons.mp hp with rfl | hp
    · exact ⟨_, List.mem_cons_of_mem _ List.mem_cons_self, hy⟩
    · exact absurd hp List.not_mem_nil

theorem yCanon (P Q : S512x2048.Idx → Elt F .f32) (L : List (View.Piece (Elt F) S1024x2048 .f32)) :
    View.canon ((⟨bot, P⟩ : View.Piece (Elt F) S1024x2048 .f32) :: (⟨top, Q⟩ : View.Piece (Elt F) S1024x2048 .f32) :: L)
      = View.canon [(⟨bot, P⟩ : View.Piece (Elt F) S1024x2048 .f32), ⟨top, Q⟩] :=
  funext fun y => canon_append_cover L [(⟨bot, P⟩ : View.Piece (Elt F) S1024x2048 .f32), ⟨top, Q⟩] y (yCover P Q [] y)

/-- Sixteen finished rows, from sixteen rows of the sum and of the input. -/
def chunk (x0 y : Vec F S1024x2048 .f32) (x6 : Vec F S1x1x2048 .f32) (k : Fin 64) : FVec F S16x2048 .f32 :=
  have inb : ∀ a, (![16 * k.val, 0] : Fin 2 → ℕ) a + S16x2048.size a ≤ S1024x2048.size a := by
    intro a; have := k.isLt; fin_cases a
    · show 16 * k.val + 16 ≤ 1024; omega
    · show 0 + 2048 ≤ 2048; omega
  k0_pay3 (View.ld y (Rect.unit ![16 * k.val, 0] S16x2048.size inb)) (View.ld x0 (Rect.unit ![16 * k.val, 0] S16x2048.size inb)) (View.ld x6 gainAll)

/-- The finished tile: the sum normalised and scaled, and the input added. -/
def yEnd (x0 y : Vec F S1024x2048 .f32) (x6 : Vec F S1x1x2048 .f32) : Vec F S1024x2048 .f32 := fun z =>
  chunk x0 y x6 ⟨(z 0).val / 16, by have h : (z 0).val < 1024 := (z 0).isLt; omega⟩
    (ix2 ⟨(z 0).val % 16, Nat.mod_lt _ (by decide)⟩ ⟨(z 1).val, (z 1).isLt⟩)

theorem yEnd_at (x0 y : Vec F S1024x2048 .f32) (x6 : Vec F S1x1x2048 .f32) (k : Fin 64) (p : Fin 16) (q : Fin 2048) (z : S1024x2048.Idx)
    (h0 : (z 0).val = 16 * k.val + p.val) (h1 : (z 1).val = q.val) : yEnd x0 y x6 z = chunk x0 y x6 k (ix2 p q) := by
  unfold yEnd
  have ek : ∀ (r : ℕ) (hr : r / 16 < 64), r = 16 * k.val + p.val → (⟨r / 16, hr⟩ : Fin 64) = k := fun r hr h =>
    Fin.ext (by show r / 16 = k.val; omega)
  have ep : ∀ (r : ℕ) (hr : r % 16 < 16), r = 16 * k.val + p.val → (⟨r % 16, hr⟩ : Fin 16) = p := fun r hr h =>
    Fin.ext (by show r % 16 = p.val; omega)
  have eq : ∀ (r : ℕ) (hr : r < 2048), r = q.val → (⟨r, hr⟩ : Fin 2048) = q := fun r hr h => Fin.ext h
  rw [ek _ _ h0, ep _ _ h0]
  exact congrArg (fun q => chunk x0 y x6 k (ix2 p q)) (eq _ _ h1)

/-- After `n` chunks: the first `16 n` rows are finished, the others still the sum. -/
def Done (x0 y : Vec F S1024x2048 .f32) (x6 : Vec F S1x1x2048 .f32) (n : ℕ) (L : List (View.Piece (Elt F) S1024x2048 .f32)) : Prop :=
  ∀ z, View.canon L z = if (z 0).val < 16 * n then yEnd x0 y x6 z else y z

/-- Storing the next chunk finishes sixteen more rows. -/
theorem Done.step {x0 y : Vec F S1024x2048 .f32} {x6 : Vec F S1x1x2048 .f32} {n o : ℕ} (ho : o = 16 * n) (hn : n < 64)
    {L : List (View.Piece (Elt F) S1024x2048 .f32)} (a2 : Memref sig .tc .vmem S1024x2048 .f32) (h2 : a2.IsWhole)
    (a8 : Memref sig .tc .vmem S1x1x2048 .f32) (h8 : a8.IsWhole) (v : View sig .tc .vmem S1024x2048 .f32)
    (inb : ∀ a, (![o, 0] : Fin 2 → ℕ) a + S16x2048.size a ≤ S1024x2048.size a) (hL : Done x0 y x6 n L)
    {p : S16x2048.Idx → Elt F .f32}
    (hp : p = k0_pay3 (v.readCov L (Rect.unit (s := S1024x2048) ![o, 0] S16x2048.size inb).toLoadRect)
      (View.readAt (Elt F) a2.view (Rect.unit (s := S1024x2048) ![o, 0] S16x2048.size inb).toLoadRect (h2.unread x0))
      (View.readAt (Elt F) a8.view gainAll.toLoadRect (h8.unread x6))) :
    Done x0 y x6 (n + 1) ((⟨Rect.unit (s := S1024x2048) ![o, 0] S16x2048.size inb, p⟩ : View.Piece (Elt F) S1024x2048 .f32) :: L) := by
  subst ho
  have hp' : p = chunk x0 y x6 ⟨n, hn⟩ := by
    rw [hp, readAt_ld, readAt_ld, readCov_ld]
    have e : View.ld (View.canon L) (Rect.unit (s := S1024x2048) ![16 * n, 0] S16x2048.size inb) = View.ld y (Rect.unit (s := S1024x2048) ![16 * n, 0] S16x2048.size inb) := by
      funext j
      refine (hL _).trans (if_neg ?_)
      show ¬ 16 * n + 1 * (j 0).val < 16 * n
      omega
    rw [e]; rfl
  subst hp'
  intro z
  by_cases hz : z ∈ (Rect.unit (s := S1024x2048) ![16 * n, 0] S16x2048.size inb).set
  · obtain ⟨x, rfl⟩ : ∃ x, (Rect.unit (s := S1024x2048) ![16 * n, 0] S16x2048.size inb).emb x = z := LoadRect.exists_idx_of_mem _ hz
    rw [View.canon_cons_emb]
    obtain ⟨x0', x1', rfl⟩ : ∃ (a : Fin 16) (b : Fin 2048), x = ix2 a b := ⟨x 0, x 1, by funext a; fin_cases a <;> rfl⟩
    have h0 := x0'.isLt
    rw [if_pos (by show 16 * n + 1 * x0'.val < 16 * (n + 1); omega)]
    exact (yEnd_at x0 y x6 ⟨n, hn⟩ x0' x1' _ (by show 16 * n + 1 * x0'.val = 16 * n + x0'.val; omega) (by show 0 + 1 * x1'.val = x1'.val; omega)).symm
  · have hz2 : z ∉ (⟨Rect.unit (s := S1024x2048) ![16 * n, 0] S16x2048.size inb, chunk x0 y x6 ⟨n, hn⟩⟩ : View.Piece (Elt F) S1024x2048 .f32).1.set := hz
    refine (View.canon_cons_of_not_mem _ L hz2).trans ((hL z).trans ?_)
    clear hz2
    have hz' : ¬ (16 * n ≤ (z 0).val ∧ (z 0).val < 16 * n + 16) := fun ⟨ha, hb⟩ => hz (by
      have e : (Rect.unit (s := S1024x2048) ![16 * n, 0] S16x2048.size inb).emb
          (ix2 (⟨(z 0).val - 16 * n, by omega⟩ : Fin 16) (⟨(z 1).val, (z 1).isLt⟩ : Fin 2048)) = z := funext fun a => by
        match a with
        | 0 => exact Fin.ext (by show 16 * n + 1 * ((z 0).val - 16 * n) = (z 0).val; omega)
        | 1 => exact Fin.ext (by show 0 + 1 * (z 1).val = (z 1).val; omega)
      rw [← e]; exact LoadRect.idx_mem _ _)
    by_cases hh : (z 0).val < 16 * n
    · rw [if_pos hh, if_pos (by omega)]
    · rw [if_neg hh, if_neg (by omega)]

/-- The kept rows with the point's own replaced. -/
def put (i : grid0.Coords) (w : Vec F S1x8x512 .f32) (X : Vec F S11x8x512 .f32) : Vec F S11x8x512 .f32 := fun z =>
  if z ∈ (slot i).set then View.canon (Val := Elt F) (s := S11x8x512) (e := .f32) [⟨slot i, w⟩] z else X z

theorem read_put (i : grid0.Coords) (w : Vec F S1x8x512 .f32) (X : Vec F S11x8x512 .f32) (a : Memref sig .tc .vmem S11x8x512 .f32) (h : a.IsWhole) :
    a.view.read (Elt F) (a.view.writes (Elt F) (h.unread X) [(⟨slot i, w⟩ : View.Piece (Elt F) S11x8x512 .f32)]) = put i w X := by
  funext z
  unfold put
  by_cases hz : z ∈ (slot i).set
  · rw [if_pos hz]; exact View.read_writes_apply_eq_canon _ _ _ _ ⟨_, List.mem_cons_self, hz⟩
  · rw [if_neg hz, View.read_writes_apply_of_forall_not_mem _ _ _ _ (fun p hp hy => hz (by
      rcases List.mem_cons.mp hp with rfl | hp
      · exact hy
      · cases hp)), h.read_unread]

theorem put_same (i : grid0.Coords) (w : Vec F S1x8x512 .f32) (X : Vec F S11x8x512 .f32) : View.ld (put i w X) (slot i) = w := by
  funext j
  have hz : (slot i).emb j ∈ (slot i).set := LoadRect.idx_mem _ _
  show put i w X ((slot i).emb j) = w j
  unfold put
  rw [if_pos hz, View.canon_cons_emb]

theorem off1_eq (i : grid0.Coords) : k0_off1 i = ![(i 1).val, 0, 0] := by
  have h : (i 1).val < 11 := (i 1).isLt
  unfold k0_off1
  funext a; fin_cases a
  · show (Scalar.indexCast (BitVec.ofNat 32 (i 1).val)).toNat = (i 1).val
    show (BitVec.ofNat 32 (i 1).val).toNat = (i 1).val
    rw [BitVec.toNat_ofNat]; exact Nat.mod_eq_of_lt (by omega)
  · rfl
  · rfl

theorem put_other (i i' : grid0.Coords) (hi : (i 1).val ≠ (i' 1).val) (w : Vec F S1x8x512 .f32) (X : Vec F S11x8x512 .f32) :
    View.ld (put i w X) (slot i') = View.ld X (slot i') := by
  funext j
  have val : ∀ (i : grid0.Coords) (x : (slot i).shape.Idx), ((slot i).emb x 0).val = (i 1).val := fun i x => by
    have hx : (x 0).val < 1 := (x 0).isLt
    show k0_off1 i 0 + 1 * (x 0).val = (i 1).val
    rw [off1_eq]; show (i 1).val + 1 * (x 0).val = (i 1).val; omega
  have hz : (slot i').emb j ∉ (slot i).set := fun h => by
    obtain ⟨x, hx⟩ : ∃ x, (slot i).emb x = (slot i').emb j := LoadRect.exists_idx_of_mem _ h
    exact hi (by rw [← val i x, ← val i' j, hx])
  show put i w X ((slot i').emb j) = X ((slot i').emb j)
  unfold put
  rw [if_neg hz]

end Cert.Kernel5Ideal.Ffn
-- ==== Proof.FfnB.Reads.lean ====
module

public import proofs.«01_k».proof.Proof.FfnB.Step

@[expose] public section

set_option maxRecDepth 16384

noncomputable section

namespace Cert.Kernel5Ideal.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the body leaves in each buffer, case by case -/

variable (c : Dev nD) (i : grid0.Coords)
  (arg2 : Memref sig .tc .vmem S1024x2048 .f32) (harg2 : arg2.IsWhole)
  (arg3 : Memref sig .tc .vmem S1x2048x512 .bf16) (harg3 : arg3.IsWhole)
  (arg4 : Memref sig .tc .vmem S1x2048x512 .bf16) (harg4 : arg4.IsWhole)
  (arg5 : Memref sig .tc .vmem S1x3x11264 .f32) (harg5 : arg5.IsWhole)
  (arg6 : Memref sig .tc .vmem S1x1x11264 .f32) (harg6 : arg6.IsWhole)
  (arg7 : Memref sig .tc .vmem S1x512x2048 .bf16) (harg7 : arg7.IsWhole)
  (arg8 : Memref sig .tc .vmem S1x1x2048 .f32) (harg8 : arg8.IsWhole)
  (arg9 : Memref sig .tc .vmem S1024x2048 .f32) (harg9 : arg9.IsWhole)
  (arg10 : Memref sig .tc .vmem S1024x2048 .bf16) (harg10 : arg10.IsWhole)
  (arg11 : Memref sig .tc .vmem S1032x512 .f32) (harg11 : arg11.IsWhole)
  (arg12 : Memref sig .tc .vmem S1032x512 .f32) (harg12 : arg12.IsWhole)
  (arg13 : Memref sig .tc .vmem S11x8x512 .f32) (harg13 : arg13.IsWhole)
  (arg14 : Memref sig .tc .vmem S11x8x512 .f32) (harg14 : arg14.IsWhole)
  (x0 : Vec F S1024x2048 .f32) (x1 : Vec F S1x2048x512 .bf16) (x2 : Vec F S1x2048x512 .bf16) (x3 : Vec F S1x3x11264 .f32) (x4 : Vec F S1x1x11264 .f32) (x5 : Vec F S1x512x2048 .bf16) (x6 : Vec F S1x1x2048 .f32)
  (y : Vec F S1024x2048 .f32) (h : Vec F S1024x2048 .bf16) (cg cv : Vec F S11x8x512 .f32)

theorem whole_ld (w : Vec F S1024x2048 .bf16) :
    View.canon (Val := Elt F) (s := S1024x2048) (e := .bf16) [⟨Rect.unit ![0, 0] ![1024, 2048] inb_S1024x2048_S1024x2048_0_0, w⟩] = w :=
  View.canon_unit_zero (by funext a; fin_cases a <;> rfl) _ w

theorem read_whole (a : Memref sig .tc .vmem S1024x2048 .bf16) (ha : a.IsWhole) (w : Vec F S1024x2048 .bf16) :
    a.view.read (Elt F) (a.view.writes (Elt F) (ha.unread h) [⟨Rect.unit ![0, 0] S1024x2048.size inb_S1024x2048_S1024x2048_0_0, w⟩]) = w := by
  rw [View.read_writes_eq_canon _ _ _ fun y => ⟨_, List.mem_cons_self, View.mem_set_unit_zero (by funext a; fin_cases a <;> rfl) inb_S1024x2048_S1024x2048_0_0 y⟩]
  exact whole_ld w

/-- At the start of a tile the old sum is not used. -/
theorem accum_start (hb : begins i) (g v : FVec F S512x512 .f32) (a b : Vec F S512x2048 .f32) :
    accum i g v a x5 = accum i g v b x5 := by
  have h0 : Scalar.cmpi .eq (BitVec.ofNat 32 (i 1).val) 0#32 = 1#1 := by
    have hb' : Scalar.cmpi .ne (Scalar.extui (Scalar.cmpi .eq (BitVec.ofNat 32 (i 1).val) 0#32) : BitVec 32) 0#32 = 1#1 := hb
    generalize Scalar.cmpi .eq (BitVec.ofNat 32 (i 1).val) 0#32 = q at hb' ⊢
    revert q; decide
  unfold accum k0_pay124
  dsimp only
  rw [h0]
  rfl

theorem yStep_start (hb : begins i) (g v : Vec F S1032x512 .f32) (a b : Vec F S1024x2048 .f32) :
    yStep i g v x3 x4 x5 a = yStep i g v x3 x4 x5 b := by
  unfold yStep
  rw [accum_start i x5 hb _ _ (View.ld a bot) (View.ld b bot), accum_start i x5 hb _ _ (View.ld a top) (View.ld b top)]

theorem runFirst_g (hb : begins i) (ho : opens i) (he : ¬ends i) :
    arg13.view.read (Elt F) (arg13.view.writes (Elt F) (harg13.unread cg) (runFirst c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.2.1)
      = put i (k0_pay115 (View.ld (buf i (View.ld cg (slot i)) (hNorm x0) x1) tailRows)) cg := by
  unfold runFirst; dsimp only; frame_open; simp only [readAt_ld, readCov_ld, whole_ld]
  exact read_put i _ cg arg13 harg13

theorem runFirst_v (hb : begins i) (ho : opens i) (he : ¬ends i) :
    arg14.view.read (Elt F) (arg14.view.writes (Elt F) (harg14.unread cv) (runFirst c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.2.2.1)
      = put i (k0_pay115 (View.ld (buf i (View.ld cv (slot i)) (hNorm x0) x2) tailRows)) cv := by
  unfold runFirst; dsimp only; frame_open; simp only [readAt_ld, readCov_ld, whole_ld]
  exact read_put i _ cv arg14 harg14

theorem runFirst_h (hb : begins i) (ho : opens i) (he : ¬ends i) :
    arg10.view.read (Elt F) (arg10.view.writes (Elt F) (harg10.unread h) (runFirst c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.1) = hNorm x0 := by
  unfold runFirst; dsimp only; frame_open; simp only [readAt_ld, readCov_ld, whole_ld]
  exact read_whole h arg10 harg10 _

theorem runFirst_y (hb : begins i) (ho : opens i) (he : ¬ends i) :
    arg9.view.read (Elt F) (arg9.view.writes (Elt F) (harg9.unread y) (runFirst c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).1) = yStep i (buf i (View.ld cg (slot i)) (hNorm x0) x1) (buf i (View.ld cv (slot i)) (hNorm x0) x2) x3 x4 x5 y := by
  unfold runFirst; dsimp only; frame_open
  refine (View.read_writes_eq_canon _ _ _ fun z => yCover _ _ _ z).trans ?_
  simp only [readAt_ld, readCov_ld, whole_ld]
  refine (yCanon _ _ _).trans ?_
  refine congrArg₂ (fun (P Q : S512x2048.Idx → Elt F .f32) => View.canon [(⟨bot, P⟩ : View.Piece (Elt F) S1024x2048 .f32), ⟨top, Q⟩]) ?_ ?_
  · exact accum_start i x5 hb _ _ _ _
  · exact accum_start i x5 hb _ _ _ _

theorem runInner_g (hb : ¬begins i) (ho : ¬opens i) (he : ¬ends i) :
    arg13.view.read (Elt F) (arg13.view.writes (Elt F) (harg13.unread cg) (runInner c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.2.1)
      = put i (k0_pay115 (View.ld (buf i (View.ld cg (slot i)) h x1) tailRows)) cg := by
  unfold runInner; dsimp only; frame_open; simp only [readAt_ld, readCov_ld, whole_ld]
  exact read_put i _ cg arg13 harg13

theorem runInner_v (hb : ¬begins i) (ho : ¬opens i) (he : ¬ends i) :
    arg14.view.read (Elt F) (arg14.view.writes (Elt F) (harg14.unread cv) (runInner c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.2.2.1)
      = put i (k0_pay115 (View.ld (buf i (View.ld cv (slot i)) h x2) tailRows)) cv := by
  unfold runInner; dsimp only; frame_open; simp only [readAt_ld, readCov_ld, whole_ld]
  exact read_put i _ cv arg14 harg14

theorem runInner_h (hb : ¬begins i) (ho : ¬opens i) (he : ¬ends i) :
    arg10.view.read (Elt F) (arg10.view.writes (Elt F) (harg10.unread h) (runInner c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.1) = h := by
  unfold runInner; dsimp only; rw [View.writes_nil, harg10.read_unread]

theorem runInner_y (hb : ¬begins i) (ho : ¬opens i) (he : ¬ends i) :
    arg9.view.read (Elt F) (arg9.view.writes (Elt F) (harg9.unread y) (runInner c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).1) = yStep i (buf i (View.ld cg (slot i)) h x1) (buf i (View.ld cv (slot i)) h x2) x3 x4 x5 y := by
  unfold runInner; dsimp only; frame_open
  refine (View.read_writes_eq_canon _ _ _ fun z => yCover _ _ _ z).trans ?_
  simp only [readAt_ld, readCov_ld, whole_ld]
  rfl

theorem runLast_g (hb : ¬begins i) (ho : ¬opens i) (he : ends i) :
    arg13.view.read (Elt F) (arg13.view.writes (Elt F) (harg13.unread cg) (runLast c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.2.1)
      = put i (k0_pay115 (View.ld (buf i (View.ld cg (slot i)) h x1) tailRows)) cg := by
  unfold runLast; dsimp only; frame_open; simp only [readAt_ld, readCov_ld, whole_ld]
  exact read_put i _ cg arg13 harg13

theorem runLast_v (hb : ¬begins i) (ho : ¬opens i) (he : ends i) :
    arg14.view.read (Elt F) (arg14.view.writes (Elt F) (harg14.unread cv) (runLast c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.2.2.1)
      = put i (k0_pay115 (View.ld (buf i (View.ld cv (slot i)) h x2) tailRows)) cv := by
  unfold runLast; dsimp only; frame_open; simp only [readAt_ld, readCov_ld, whole_ld]
  exact read_put i _ cv arg14 harg14

theorem runLast_h (hb : ¬begins i) (ho : ¬opens i) (he : ends i) :
    arg10.view.read (Elt F) (arg10.view.writes (Elt F) (harg10.unread h) (runLast c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.1) = h := by
  unfold runLast; dsimp only; rw [View.writes_nil, harg10.read_unread]

set_option maxHeartbeats 2000000 in
theorem runLast_base :
    View.canon (runLast.sl.H7_2 c i arg3 harg3 arg4 harg4 arg5 harg5 arg6 harg6 arg7 harg7 arg9 harg9 arg10 harg10 arg11 arg12 arg13 harg13 arg14 harg14 x1 x2 x3 x4 x5 y h cg cv)
      = yStep i (buf i (View.ld cg (slot i)) h x1) (buf i (View.ld cv (slot i)) h x2) x3 x4 x5 y := by
  unfold runLast.sl.H7_2; frame_open; simp only [readAt_ld, readCov_ld, whole_ld]
  rfl

set_option maxHeartbeats 4000000 in
theorem runLast_done (hb : ¬begins i) (ho : ¬opens i) (he : ends i) :
    Done x0 (yStep i (buf i (View.ld cg (slot i)) h x1) (buf i (View.ld cv (slot i)) h x2) x3 x4 x5 y) x6 64 (runLast c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).1 := by
  unfold runLast; dsimp only
  iterate 64 (refine Done.step (by first | rfl | decide) (by decide) arg2 harg2 arg8 harg8 arg9.view _ ?_ (by rfl))
  intro z
  rw [if_neg (by omega)]
  exact congrFun (runLast_base c i arg3 harg3 arg4 harg4 arg5 harg5 arg6 harg6 arg7 harg7 arg9 harg9 arg10 harg10 arg11 arg12 arg13 harg13 arg14 harg14 x1 x2 x3 x4 x5 y h cg cv) z

theorem runStart_g (hb : begins i) (ho : ¬opens i) (he : ¬ends i) :
    arg13.view.read (Elt F) (arg13.view.writes (Elt F) (harg13.unread cg) (runStart c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.2.1)
      = put i (k0_pay115 (View.ld (buf i (View.ld cg (slot i)) (hNorm x0) x1) tailRows)) cg := by
  unfold runStart; dsimp only; frame_open; simp only [readAt_ld, readCov_ld, whole_ld]
  exact read_put i _ cg arg13 harg13

theorem runStart_v (hb : begins i) (ho : ¬opens i) (he : ¬ends i) :
    arg14.view.read (Elt F) (arg14.view.writes (Elt F) (harg14.unread cv) (runStart c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.2.2.1)
      = put i (k0_pay115 (View.ld (buf i (View.ld cv (slot i)) (hNorm x0) x2) tailRows)) cv := by
  unfold runStart; dsimp only; frame_open; simp only [readAt_ld, readCov_ld, whole_ld]
  exact read_put i _ cv arg14 harg14

theorem runStart_h (hb : begins i) (ho : ¬opens i) (he : ¬ends i) :
    arg10.view.read (Elt F) (arg10.view.writes (Elt F) (harg10.unread h) (runStart c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.1) = hNorm x0 := by
  unfold runStart; dsimp only; frame_open; simp only [readAt_ld, readCov_ld, whole_ld]
  exact read_whole h arg10 harg10 _

theorem runStart_y (hb : begins i) (ho : ¬opens i) (he : ¬ends i) :
    arg9.view.read (Elt F) (arg9.view.writes (Elt F) (harg9.unread y) (runStart c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).1) = yStep i (buf i (View.ld cg (slot i)) (hNorm x0) x1) (buf i (View.ld cv (slot i)) (hNorm x0) x2) x3 x4 x5 y := by
  unfold runStart; dsimp only; frame_open
  refine (View.read_writes_eq_canon _ _ _ fun z => yCover _ _ _ z).trans ?_
  simp only [readAt_ld, readCov_ld, whole_ld]
  rfl

/-- A store more hides nothing of a covered shape. -/
theorem cover_cons (p : View.Piece (Elt F) S1024x2048 .f32) (L : List (View.Piece (Elt F) S1024x2048 .f32))
    (hL : ∀ z, ∃ q ∈ L, z ∈ q.1.set) : ∀ z, ∃ q ∈ p :: L, z ∈ q.1.set := fun z =>
  have ⟨q, hq, hz⟩ := hL z
  ⟨q, List.mem_cons_of_mem _ hq, hz⟩

set_option maxHeartbeats 4000000 in
theorem runLast_y (hb : ¬begins i) (ho : ¬opens i) (he : ends i) :
    arg9.view.read (Elt F) (arg9.view.writes (Elt F) (harg9.unread y) (runLast c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).1) = yEnd x0 (yStep i (buf i (View.ld cg (slot i)) h x1) (buf i (View.ld cv (slot i)) h x2) x3 x4 x5 y) x6 := by
  refine (View.read_writes_eq_canon _ _ _ ?_).trans (funext fun z => ?_)
  · unfold runLast; dsimp only
    iterate 64 refine cover_cons _ _ ?_
    exact fun z => yCover _ _ _ z
  · refine (runLast_done (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he z).trans (if_pos ?_)
    have h0 : (z 0).val < 1024 := (z 0).isLt
    exact h0

end Cert.Kernel5Ideal.Ffn
-- ==== Proof.FfnB.Body.lean ====
module

public import proofs.«01_k».proof.Proof.FfnB.Reads

@[expose] public section

set_option maxRecDepth 16384

noncomputable section

namespace Cert.Kernel5Ideal.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the body does at a point, in one statement -/

/-- The normalised rows after a point: computed where a tile begins, kept otherwise. -/
def hAfter (i : grid0.Coords) (x0 : Vec F S1024x2048 .f32) (h : Vec F S1024x2048 .bf16) : Vec F S1024x2048 .bf16 :=
  if begins i then hNorm x0 else h

/-- The kept rows after a point. -/
def keep (i : grid0.Coords) (w : Vec F S1x2048x512 .bf16) (h : Vec F S1024x2048 .bf16) (cg : Vec F S11x8x512 .f32) : Vec F S11x8x512 .f32 :=
  put i (k0_pay115 (View.ld (buf i (View.ld cg (slot i)) h w) tailRows)) cg

/-- The output tile after a point, from the two blocks of features. -/
def yAfter (i : grid0.Coords) (g v : Vec F S1032x512 .f32) (x0 : Vec F S1024x2048 .f32) (x3 : Vec F S1x3x11264 .f32) (x4 : Vec F S1x1x11264 .f32)
    (x5 : Vec F S1x512x2048 .bf16) (x6 : Vec F S1x1x2048 .f32) (y : Vec F S1024x2048 .f32) : Vec F S1024x2048 .f32 :=
  if ends i then yEnd x0 (yStep i g v x3 x4 x5 y) x6 else yStep i g v x3 x4 x5 y

variable (c : Dev nD) (i : grid0.Coords)
  (arg2 : Memref sig .tc .vmem S1024x2048 .f32) (harg2 : arg2.IsWhole)
  (arg3 : Memref sig .tc .vmem S1x2048x512 .bf16) (harg3 : arg3.IsWhole)
  (arg4 : Memref sig .tc .vmem S1x2048x512 .bf16) (harg4 : arg4.IsWhole)
  (arg5 : Memref sig .tc .vmem S1x3x11264 .f32) (harg5 : arg5.IsWhole)
  (arg6 : Memref sig .tc .vmem S1x1x11264 .f32) (harg6 : arg6.IsWhole)
  (arg7 : Memref sig .tc .vmem S1x512x2048 .bf16) (harg7 : arg7.IsWhole)
  (arg8 : Memref sig .tc .vmem S1x1x2048 .f32) (harg8 : arg8.IsWhole)
  (arg9 : Memref sig .tc .vmem S1024x2048 .f32) (harg9 : arg9.IsWhole)
  (arg10 : Memref sig .tc .vmem S1024x2048 .bf16) (harg10 : arg10.IsWhole)
  (arg11 : Memref sig .tc .vmem S1032x512 .f32) (harg11 : arg11.IsWhole)
  (arg12 : Memref sig .tc .vmem S1032x512 .f32) (harg12 : arg12.IsWhole)
  (arg13 : Memref sig .tc .vmem S11x8x512 .f32) (harg13 : arg13.IsWhole)
  (arg14 : Memref sig .tc .vmem S11x8x512 .f32) (harg14 : arg14.IsWhole)
  (x0 : Vec F S1024x2048 .f32) (x1 : Vec F S1x2048x512 .bf16) (x2 : Vec F S1x2048x512 .bf16) (x3 : Vec F S1x3x11264 .f32) (x4 : Vec F S1x1x11264 .f32) (x5 : Vec F S1x512x2048 .bf16) (x6 : Vec F S1x1x2048 .f32)
  (y : Vec F S1024x2048 .f32) (h : Vec F S1024x2048 .bf16) (cg cv : Vec F S11x8x512 .f32)

set_option maxHeartbeats 4000000 in
theorem body_triple (hx : opens i → begins i) (hz : ends i → ¬begins i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y ∗ owns (c : Thread nD τ) arg10 fullShare h
        ∗ (∃ d, owns (c : Thread nD τ) arg11 fullShare d) ∗ (∃ d, owns (c : Thread nD τ) arg12 fullShare d) ∗ owns (c : Thread nD τ) arg13 fullShare cg ∗ owns (c : Thread nD τ) arg14 fullShare cv
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (yAfter i (buf i (View.ld cg (slot i)) (hAfter i x0 h) x1) (buf i (View.ld cv (slot i)) (hAfter i x0 h) x2) x0 x3 x4 x5 x6 y) ∗ owns (c : Thread nD τ) arg10 fullShare (hAfter i x0 h)
        ∗ (∃ d, owns (c : Thread nD τ) arg11 fullShare d) ∗ (∃ d, owns (c : Thread nD τ) arg12 fullShare d) ∗ owns (c : Thread nD τ) arg13 fullShare (keep i x1 (hAfter i x0 h) cg) ∗ owns (c : Thread nD τ) arg14 fullShare (keep i x2 (hAfter i x0 h) cv)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14) K := by
  iintro ⟨H0, H1, H2, H3, H4, H5, H6, H7, HS0, HS1, HS2, HS3, HS4, Hk⟩
  by_cases hb : begins i
  · have he : ¬ends i := fun h => hz h hb
    by_cases ho : opens i
    · have eh : hAfter i x0 h = hNorm x0 := if_pos hb
      iapply ((runFirst c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.2.2.2.2.2 E K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, HS0, ⟨%f1, HS1⟩, ⟨%f2, HS2⟩, HS3, HS4⟩
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact (runFirst_y c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans (by unfold yAfter; rw [eh]; exact (if_neg he).symm)
      isplitl [HS0]
      · unfold owns; iexists _; isplitr
        swap; · iexact HS0
        ipureintro; exact (runFirst_h c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans eh.symm
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · unfold owns; iexists _; isplitr
        swap; · iexact HS3
        ipureintro; exact (runFirst_g c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans (by unfold keep; rw [eh])
      unfold owns; iexists _; isplitr
      swap; · iexact HS4
      ipureintro; exact (runFirst_v c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans (by unfold keep; rw [eh])
    · have eh : hAfter i x0 h = hNorm x0 := if_pos hb
      iapply ((runStart c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.2.2.2.2.2 E K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, HS0, ⟨%f1, HS1⟩, ⟨%f2, HS2⟩, HS3, HS4⟩
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact (runStart_y c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans (by unfold yAfter; rw [eh]; exact (if_neg he).symm)
      isplitl [HS0]
      · unfold owns; iexists _; isplitr
        swap; · iexact HS0
        ipureintro; exact (runStart_h c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans eh.symm
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · unfold owns; iexists _; isplitr
        swap; · iexact HS3
        ipureintro; exact (runStart_g c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans (by unfold keep; rw [eh])
      unfold owns; iexists _; isplitr
      swap; · iexact HS4
      ipureintro; exact (runStart_v c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans (by unfold keep; rw [eh])
  · have ho : ¬opens i := fun h => hb (hx h)
    by_cases he : ends i
    · have eh : hAfter i x0 h = h := if_neg hb
      iapply ((runLast c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.2.2.2.2.2 E K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, HS0, ⟨%f1, HS1⟩, ⟨%f2, HS2⟩, HS3, HS4⟩
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact (runLast_y c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans (by unfold yAfter; rw [eh]; exact (if_pos he).symm)
      isplitl [HS0]
      · unfold owns; iexists _; isplitr
        swap; · iexact HS0
        ipureintro; exact (runLast_h c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans eh.symm
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · unfold owns; iexists _; isplitr
        swap; · iexact HS3
        ipureintro; exact (runLast_g c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans (by unfold keep; rw [eh])
      unfold owns; iexists _; isplitr
      swap; · iexact HS4
      ipureintro; exact (runLast_v c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans (by unfold keep; rw [eh])
    · have eh : hAfter i x0 h = h := if_neg hb
      iapply ((runInner c i arg2 harg2 arg3 harg3 arg4 harg4 arg5 harg5 arg6 harg6 arg7 harg7 arg8 harg8 arg9 harg9 arg10 harg10 arg11 harg11 arg12 harg12 arg13 harg13 arg14 harg14 hb ho he x0 x1 x2 x3 x4 x5 x6 y h cg cv).2.2.2.2.2.2 E K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, HS0, ⟨%f1, HS1⟩, ⟨%f2, HS2⟩, HS3, HS4⟩
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact (runInner_y c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans (by unfold yAfter; rw [eh]; exact (if_neg he).symm)
      isplitl [HS0]
      · unfold owns; iexists _; isplitr
        swap; · iexact HS0
        ipureintro; exact (runInner_h c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans eh.symm
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · unfold owns; iexists _; isplitr
        swap; · iexact HS3
        ipureintro; exact (runInner_g c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans (by unfold keep; rw [eh])
      unfold owns; iexists _; isplitr
      swap; · iexact HS4
      ipureintro; exact (runInner_v c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y h cg cv hb ho he).trans (by unfold keep; rw [eh])

end Cert.Kernel5Ideal.Ffn
-- ==== Proof.FfnB.State.lean ====
module

public import proofs.«01_k».proof.Proof.FfnB.Body

@[expose] public section

set_option maxRecDepth 16384

noncomputable section

namespace Cert.Kernel5Ideal.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the buffers hold at each point -/

variable (m : (ℓ : Loc nD τ sig) → Buf (Elt F) ℓ) (c : Dev nD)

abbrev xb (t : Fin cfg0.N) : Vec F S1024x2048 .f32 := iblk m c 0 t
abbrev wgb (t : Fin cfg0.N) : Vec F S1x2048x512 .bf16 := iblk m c 1 t
abbrev wvb (t : Fin cfg0.N) : Vec F S1x2048x512 .bf16 := iblk m c 2 t
abbrev cwb (t : Fin cfg0.N) : Vec F S1x3x11264 .f32 := iblk m c 3 t
abbrev cbb (t : Fin cfg0.N) : Vec F S1x1x11264 .f32 := iblk m c 4 t
abbrev wdb (t : Fin cfg0.N) : Vec F S1x512x2048 .bf16 := iblk m c 5 t
abbrev pgb (t : Fin cfg0.N) : Vec F S1x1x2048 .f32 := iblk m c 6 t

theorem lt352 (t : Fin cfg0.N) : t.val < 352 := lt_of_lt_of_eq t.isLt (show cfg0.N = 352 from N_0)

theorem coord0 (t : Fin cfg0.N) : (grid0.coords t 0).val = t.val / 11 := by
  have ht := lt352 t
  have e : (grid0.coords t 0).val = t.val / 11 % 32 := Pipeline.Grid.coords_val t 0 (by decide) rfl
  omega

theorem coord1 (t : Fin cfg0.N) : (grid0.coords t 1).val = t.val % 11 := by
  have e : (grid0.coords t 1).val = t.val / 1 % 11 := Pipeline.Grid.coords_val t 1 (by decide) rfl
  omega

theorem index0 : ∀ t : Fin cfg0.N, win0_0.index t = ![t.val / 11, 0] := by decide +kernel

/-- The rows a point stages. -/
theorem xb_at (t : Fin cfg0.N) (r : Fin 1024) (k : Fin 2048) :
    xb m c t (ix2 r k) = m ((c : Thread nD τ).loc main_arg0) (ix2 (⟨1024 * (t.val / 11) + r.val, by have := lt352 t; omega⟩ : Fin 32768) k) := by
  have ht := lt352 t
  have hr := r.isLt
  have hk := k.isLt
  unfold xb
  refine Eq.trans ?_ (congrFun (V_main_arg0 m c) _)
  blk_ext [iblk, index0 t]

/-- The points of a tile stage the same rows. -/
theorem xb_same (t t' : Fin cfg0.N) (h : t.val / 11 = t'.val / 11) : xb m c t = xb m c t' := by
  funext y
  obtain ⟨r, k, rfl⟩ : ∃ (a : Fin 1024) (b : Fin 2048), y = ix2 a b := ⟨y 0, y 1, by funext a; fin_cases a <;> rfl⟩
  rw [xb_at, xb_at]
  congr 2
  exact Fin.ext (by show 1024 * (t.val / 11) + r.val = 1024 * (t'.val / 11) + r.val; rw [h])

theorem inb_tail : ∀ a, (![504, 0] : Fin 2 → ℕ) a + S8x512.size a ≤ S512x512.size a := by
  intro a; fin_cases a <;> decide

/-- The last eight rows of a tile's block of features. -/
def tailOf (h : Vec F S1024x2048 .bf16) (w : Vec F S1x2048x512 .bf16) : Vec F S1x8x512 .f32 :=
  k0_pay115 (View.ld (k0_pay113 (View.ld h bot) (View.ld w upAll) : Vec F S512x512 .f32) (Rect.unit (s := S512x512) ![504, 0] S8x512.size inb_tail))

theorem buf_tail (i : grid0.Coords) (z : Vec F S1x8x512 .f32) (h : Vec F S1024x2048 .bf16) (w : Vec F S1x2048x512 .bf16) :
    k0_pay115 (View.ld (buf i z h w) tailRows) = tailOf h w := by
  unfold tailOf
  refine congrArg k0_pay115 (funext fun j => ?_)
  obtain ⟨r, k, rfl⟩ : ∃ (a : Fin 8) (b : Fin 512), j = ix2 a b := ⟨j 0, j 1, by funext a; fin_cases a <;> rfl⟩
  have hr := r.isLt
  have e : (Rect.unit (s := S1032x512) ![1024, 0] S8x512.size inb_S1032x512_S8x512_1024_0).idx (ix2 r k)
      = (Rect.unit (s := S1032x512) ![520, 0] S512x512.size inb_S1032x512_S512x512_520_0).emb (ix2 (⟨504 + r.val, by omega⟩ : Fin 512) k) := funext fun a => by
    match a with
    | 0 => exact Fin.ext (by show 1024 + 1 * r.val = 520 + 1 * (504 + r.val); omega)
    | 1 => rfl
  show buf i z h w ((Rect.unit (s := S1032x512) ![1024, 0] S8x512.size inb_S1032x512_S8x512_1024_0).idx (ix2 r k)) = _
  rw [e]
  unfold buf
  rw [View.canon_cons_emb]
  show _ = k0_pay113 (View.ld h bot) (View.ld w upAll) ((Rect.unit (s := S512x512) ![504, 0] S8x512.size inb_tail).idx (ix2 r k))
  congr 1
  funext a
  match a with
  | 0 => exact Fin.ext (by show 504 + r.val = 504 + 1 * r.val; omega)
  | 1 => exact Fin.ext (by show k.val = 0 + 1 * k.val; omega)

theorem slot_congr (i i' : grid0.Coords) (h : (i 1).val = (i' 1).val) (X : Vec F S11x8x512 .f32) : (View.ld X (slot i) : Vec F S1x8x512 .f32) = View.ld X (slot i') := by
  funext j
  refine congrArg X (funext fun a => Fin.ext ?_)
  show k0_off1 i a + 1 * (j a).val = k0_off1 i' a + 1 * (j a).val
  rw [off1_eq, off1_eq, h]

/-- The eight rows before a point's tile: the last ones of the tile before, where there is one. -/
def halo (w : Fin cfg0.N → Vec F S1x2048x512 .bf16) (t : Fin cfg0.N) : Vec F S1x8x512 .f32 :=
  if 11 ≤ t.val then tailOf (hNorm (xb m c ⟨t.val - 11, by have := t.isLt; omega⟩)) (w ⟨t.val - 11, by have := t.isLt; omega⟩)
  else broadcast S1x8x512 (Scalar.ofBits .f32 0x00000000#32)

/-- A point's block of features, under those rows. -/
def bufAt (w : Fin cfg0.N → Vec F S1x2048x512 .bf16) (t : Fin cfg0.N) : Vec F S1032x512 .f32 :=
  buf (grid0.coords t) (halo m c w t) (hNorm (xb m c t)) (w t)

theorem first_of_lt (t : Fin cfg0.N) (h : t.val < 11) : firstTile (grid0.coords t) = 1#1 := by
  have e : (grid0.coords t 0).val = 0 := by rw [coord0]; omega
  unfold firstTile
  rw [e]
  decide

theorem buf_first (i : grid0.Coords) (hi : firstTile i = 1#1) (z z' : Vec F S1x8x512 .f32) (h : Vec F S1024x2048 .bf16) (w : Vec F S1x2048x512 .bf16) :
    buf i z h w = buf i z' h w := by
  unfold buf k0_pay110
  rw [hi]
  rfl

/-- The kept rows before point `n` are those of the last eleven points. -/
def Kept (n : ℕ) (w : Fin cfg0.N → Vec F S1x2048x512 .bf16) (cg : Vec F S11x8x512 .f32) : Prop :=
  ∀ t : Fin cfg0.N, t.val < n → n ≤ t.val + 11 → (View.ld cg (slot (grid0.coords t)) : Vec F S1x8x512 .f32) = tailOf (hNorm (xb m c t)) (w t)

theorem Kept.step {w : Fin cfg0.N → Vec F S1x2048x512 .bf16} {cg : Vec F S11x8x512 .f32} (t : Fin cfg0.N) (hK : Kept m c t.val w cg) :
    Kept m c (t.val + 1) w (keep (grid0.coords t) (w t) (hNorm (xb m c t)) cg) := by
  intro t' h1 h2
  unfold keep
  by_cases e : t' = t
  · subst e
    rw [buf_tail]
    exact put_same _ _ _
  · have ne : t'.val ≠ t.val := fun h => e (Fin.ext h)
    refine (put_other _ _ ?_ _ _).trans (hK t' (by omega) (by omega))
    rw [coord1, coord1]
    omega

theorem Kept.buf {w : Fin cfg0.N → Vec F S1x2048x512 .bf16} {cg : Vec F S11x8x512 .f32} (t : Fin cfg0.N) (hK : Kept m c t.val w cg) :
    buf (grid0.coords t) (View.ld cg (slot (grid0.coords t))) (hNorm (xb m c t)) (w t) = bufAt m c w t := by
  unfold bufAt
  by_cases h : 11 ≤ t.val
  · have hz : halo m c w t = View.ld cg (slot (grid0.coords t)) := by
      unfold halo
      rw [if_pos h]
      refine Eq.trans (hK ⟨t.val - 11, _⟩ (by show t.val - 11 < t.val; omega) (by show t.val ≤ t.val - 11 + 11; omega)).symm (slot_congr _ _ ?_ _)
      rw [coord1, coord1]
      show (t.val - 11) % 11 = t.val % 11
      omega
    rw [hz]
  · exact buf_first _ (first_of_lt t (by omega)) _ _ _ _

/-- The scratch before point `n`. -/
def Good (n : ℕ) (h : Vec F S1024x2048 .bf16) (cg cv : Vec F S11x8x512 .f32) : Prop :=
  (∀ t : Fin cfg0.N, t.val + 1 = n → h = hNorm (xb m c t)) ∧ Kept m c n (wgb m c) cg ∧ Kept m c n (wvb m c) cv

theorem Good.zero (h : Vec F S1024x2048 .bf16) (cg cv : Vec F S11x8x512 .f32) : Good m c 0 h cg cv :=
  ⟨fun t ht => absurd ht (by omega), fun t ht => absurd ht (by omega), fun t ht => absurd ht (by omega)⟩

theorem Good.h {h : Vec F S1024x2048 .bf16} {cg cv : Vec F S11x8x512 .f32} (t : Fin cfg0.N) (hG : Good m c t.val h cg cv) :
    hAfter (grid0.coords t) (xb m c t) h = hNorm (xb m c t) := by
  unfold hAfter
  by_cases hb : begins (grid0.coords t)
  · rw [if_pos hb]
  · rw [if_neg hb]
    have h0 : ¬ t.val % 11 = 0 := fun h => hb ((hbegins t).mpr h)
    rw [hG.1 ⟨t.val - 1, by have := t.isLt; omega⟩ (by show t.val - 1 + 1 = t.val; omega)]
    exact congrArg hNorm (xb_same m c _ _ (by show (t.val - 1) / 11 = t.val / 11; omega))

theorem Good.step {h : Vec F S1024x2048 .bf16} {cg cv : Vec F S11x8x512 .f32} (t : Fin cfg0.N) (hG : Good m c t.val h cg cv) :
    Good m c (t.val + 1) (hAfter (grid0.coords t) (xb m c t) h) (keep (grid0.coords t) (wgb m c t) (hAfter (grid0.coords t) (xb m c t) h) cg)
      (keep (grid0.coords t) (wvb m c t) (hAfter (grid0.coords t) (xb m c t) h) cv) := by
  rw [hG.h]
  exact ⟨fun t' ht' => by rw [show t' = t from Fin.ext (by omega)], hG.2.1.step m c t, hG.2.2.step m c t⟩

/-- One point's work on the output tile. -/
def yNext (t : Fin cfg0.N) (y : Vec F S1024x2048 .f32) : Vec F S1024x2048 .f32 :=
  yAfter (grid0.coords t) (bufAt m c (wgb m c) t) (bufAt m c (wvb m c) t) (xb m c t) (cwb m c t) (cbb m c t) (wdb m c t) (pgb m c t) y

/-- The output tile after each point. -/
def yAt : (n : ℕ) → (hn : n < cfg0.N) → Vec F S1024x2048 .f32
  | 0, hn => yNext m c ⟨0, hn⟩ (fun _ => Scalar.ofBits .f32 0x00000000#32)
  | n + 1, hn => yNext m c ⟨n + 1, hn⟩ (yAt n (Nat.lt_of_succ_lt hn))

theorem yNext_start (t : Fin cfg0.N) (h : t.val % 11 = 0) (y y' : Vec F S1024x2048 .f32) : yNext m c t y = yNext m c t y' := by
  unfold yNext yAfter
  rw [yStep_start (grid0.coords t) (cwb m c t) (cbb m c t) (wdb m c t) ((hbegins t).mpr h) _ _ y y']

theorem yAt_start (t : Fin cfg0.N) (h : t.val % 11 = 0) (y : Vec F S1024x2048 .f32) : yAt m c t.val t.isLt = yNext m c t y := by
  obtain ⟨n, hn⟩ := t
  cases n with
  | zero => exact yNext_start m c _ h _ _
  | succ n => exact yNext_start m c _ h _ _

theorem yAt_next (t : Fin cfg0.N) (h : ¬ t.val % 11 = 0) : yAt m c t.val t.isLt = yNext m c t (yAt m c (t.val - 1) (Nat.lt_of_le_of_lt (Nat.sub_le _ _) t.isLt)) := by
  obtain ⟨n, hn⟩ := t
  cases n with
  | zero => exact absurd rfl h
  | succ n => rfl

end Cert.Kernel5Ideal.Ffn
-- ==== Proof.FfnB.Frame.lean ====
module

public import proofs.«01_k».proof.Proof.FfnB.State
public import Idealize.ShloMosaic.Lib.Claim

@[expose] public section

set_option maxRecDepth 16384

noncomputable section

namespace Cert.Kernel5Ideal.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the feed-forward call -/

variable (m : (ℓ : Loc nD τ sig) → Buf (Elt F) ℓ) (ρ : Dev nD → PrngReg)

/-- Between two points: the scratch as the points so far left it, and the generator. -/
def Inv (c : Dev nD) (n : ℕ) : sProp 𝕄 :=
  iprop((∃ h cg cv, iprop(⌜Good m c n h cg cv⌝ ∗ owns (c : Thread nD τ) scM0_0 fullShare h ∗ (∃ d, owns (c : Thread nD τ) scM0_1 fullShare d)
      ∗ (∃ d, owns (c : Thread nD τ) scM0_2 fullShare d) ∗ owns (c : Thread nD τ) scM0_3 fullShare cg ∗ owns (c : Thread nD τ) scM0_4 fullShare cv))
    ∗ (∃ r, prngReg c r))

/-- What the pipeline is told: the arrays, what each point leaves in each window, and the invariant. -/
def dats (_ : Fin 1) (c : Dev nD) : Dat τ (Elt F) Unit ℕ (UR sig nD τ) ℕ cfg0 c where
  A w := V m c (Pipeline.arrRef spec0 w)
  after w := match w with
    | 0 => iblk m c 0
    | 1 => iblk m c 1
    | 2 => iblk m c 2
    | 3 => iblk m c 3
    | 4 => iblk m c 4
    | 5 => iblk m c 5
    | 6 => iblk m c 6
    | 7 => fun t => yAt m c t.val t.isLt
  Φ t := Inv m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = yAt m c t.val t.isLt := by dsimp only [dats]
theorem found_0 (c : Dev nD) (t : Fin cfg0.N) (d) : (dats m 0 c).before 0 t d = iblk m c 0 t := before_0 m (dats m 0 c) (A_eq m c 0) (after_0 m c) t d
theorem found_1 (c : Dev nD) (t : Fin cfg0.N) (d) : (dats m 0 c).before 1 t d = iblk m c 1 t := before_1 m (dats m 0 c) (A_eq m c 1) (after_1 m c) t d
theorem found_2 (c : Dev nD) (t : Fin cfg0.N) (d) : (dats m 0 c).before 2 t d = iblk m c 2 t := before_2 m (dats m 0 c) (A_eq m c 2) (after_2 m c) t d
theorem found_3 (c : Dev nD) (t : Fin cfg0.N) (d) : (dats m 0 c).before 3 t d = iblk m c 3 t := before_3 m (dats m 0 c) (A_eq m c 3) (after_3 m c) t d
theorem found_4 (c : Dev nD) (t : Fin cfg0.N) (d) : (dats m 0 c).before 4 t d = iblk m c 4 t := before_4 m (dats m 0 c) (A_eq m c 4) (after_4 m c) t d
theorem found_5 (c : Dev nD) (t : Fin cfg0.N) (d) : (dats m 0 c).before 5 t d = iblk m c 5 t := before_5 m (dats m 0 c) (A_eq m c 5) (after_5 m c) t d
theorem found_6 (c : Dev nD) (t : Fin cfg0.N) (d) : (dats m 0 c).before 6 t d = iblk m c 6 t := before_6 m (dats m 0 c) (A_eq m c 6) (after_6 m c) t d

/-- Within a tile the output window still holds what the point before left. -/
theorem found_7 (c : Dev nD) (t : Fin cfg0.N) (h0 : ¬t.val % 11 = 0) (d) :
    (dats m 0 c).before 7 t d = yAt m c (t.val - 1) (Nat.lt_of_le_of_lt (Nat.sub_le _ _) t.isLt) := by
  have hN := lt352 t
  rw [Dat.before_out_kept _ 7 rfl t (by omega) (Bool.eq_false_iff.mpr fun h => by have := (flush0_7 _).mp h; dsimp only at this; omega)
    (fun _ => rfl) (fun _ _ => rfl)]
  dsimp only [dats]

/-- Whatever a point finds in the output window, it leaves the tile's next state. -/
theorem found_next (c : Dev nD) (t : Fin cfg0.N) (d) : yNext m c t ((dats m 0 c).before 7 t d) = yAt m c t.val t.isLt := by
  by_cases h : t.val % 11 = 0
  · exact (yAt_start m c t h _).symm
  · rw [found_7 m c t h d, yAt_next m c t h]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

theorem Phi_at (c : Dev nD) (t : Fin (cfg0.N + 1)) : (dats m 0 c).Φ t = Inv m c t.val := by dsimp only [dats]

theorem y_left (c : Dev nD) (t : Fin cfg0.N) (d) (h : Vec F S1024x2048 .bf16) (cg cv : Vec F S11x8x512 .f32) (hG : Good m c t.val h cg cv) :
    yAfter (grid0.coords t) (buf (grid0.coords t) (View.ld cg (slot (grid0.coords t))) (hAfter (grid0.coords t) (xb m c t) h) (wgb m c t))
      (buf (grid0.coords t) (View.ld cv (slot (grid0.coords t))) (hAfter (grid0.coords t) (xb m c t) h) (wvb m c t))
      (xb m c t) (cwb m c t) (cbb m c t) (wdb m c t) (pgb m c t) ((dats m 0 c).before 7 t d) = yAt m c t.val t.isLt := by
  rw [hG.h, hG.2.1.buf m c t, hG.2.2.buf m c t]
  exact found_next m c t d

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2, found_3, found_4, found_5, found_6]
  rw [show (dats m 0 c).owesAt () t.succ = (dats m 0 c).owesAt () t.castSucc from rfl,
    after_0, after_1, after_2, after_3, after_4, after_5, after_6, after_7, Phi_at, Phi_at]
  rw [show t.castSucc.val = t.val from rfl, show t.succ.val = t.val + 1 from rfl]
  unfold Inv
  iintro ⟨⟨⟨%h, %cg, %cv, %hG, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (xb m c t) (wgb m c t) (wvb m c t) (cwb m c t) (cbb m c t) (wdb m c t) (pgb m c t) ((dats m 0 c).before 7 t d7) h cg cv
    (fun ho => (hbegins t).mpr (by have := (hopens t).mp ho; omega)) (fun he hb => by have := (hends t).mp he; have := (hbegins t).mp hb; omega) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  rw [y_left m c t d7 h cg cv hG]
  iintro ⟨H0, H1, H2, H3, H4, H5, H6, H7, HS0, HS1, HS2, HS3, HS4⟩
  isplitl [HS0 HS1 HS2 HS3 HS4 Hg]
  · isplitl [HS0 HS1 HS2 HS3 HS4]
    · iexists _; iexists _; iexists _
      isplitr
      · ipureintro; exact hG.step m c t
      isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [Phi_at, PhiA0_eq]
  unfold Inv
  iintro ⟨⟨⟨%h, HS0⟩, HS1, HS2, ⟨%cg, HS3⟩, ⟨%cv, HS4⟩⟩, Hg⟩
  isplitl [HS0 HS1 HS2 HS3 HS4]
  · iexists _; iexists _; iexists _
    isplitr
    · ipureintro; exact Good.zero m c h cg cv
    isplitl [HS0]; · iexact HS0
    isplitl [HS1]; · iexact HS1
    isplitl [HS2]; · iexact HS2
    isplitl [HS3]; · iexact HS3
    iexact HS4
  iexact Hg

theorem hout (c : Dev nD) : (dats m 0 c).Φ (Fin.last cfg0.N) ⊢ Pipeline.ΦA spec0 c := by
  rw [Phi_at, PhiA0_eq]
  unfold Inv
  iintro ⟨⟨%h, %cg, %cv, -, HS0, HS1, HS2, HS3, HS4⟩, Hg⟩
  isplitl [HS0 HS1 HS2 HS3 HS4]
  · isplitl [HS0]
    · iexists _; iexact HS0
    isplitl [HS1]; · iexact HS1
    isplitl [HS2]; · iexact HS2
    isplitl [HS3]
    · iexists _; iexact HS3
    iexists _; iexact HS4
  iexact Hg

set_option backward.isDefEq.respectTransparency.types false in
/-- Every run ends, with the arrays as the points leave them and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The call leaves its arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Kernel5Ideal.Ffn
-- ==== Proof.FfnB.RawFrame.lean ====
module

public import proofs.«01_k».proof.Proof.FfnB.Frame
public import proofs.«01_k».proof.Kernel5

@[expose] public section
noncomputable section
namespace Cert.Kernel5.Ffn
open Cert.Kernel5 Idealize.ShloMosaic Idealize.SL.Sem Idealize.ShloMosaic.TcCoe
variable {F : FTy → Type} [FloatOps F] [Cert.Kernel5.Facts]

/-! # The run of the call as printed

No operation of this call is replaced in its idealized program, so the two programs are the same term and the frame of one is the other's. -/

/-- The call leaves its arguments as they were, and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Eq.mp (by sl_kernel_rfl) (@Cert.Kernel5Ideal.Ffn.frame F _ m ρ)

end Cert.Kernel5.Ffn
-- ==== Proof.FfnB.Points.lean ====
module

public import proofs.«01_k».proof.Proof.FfnB.State
public import proofs.«01_k».proof.Proof.Ffn.Math
public import Idealize.ShloMosaic.Lib.Pointwise

@[expose] public section
set_option maxRecDepth 16384
noncomputable section
namespace Cert.Kernel5Ideal.Ffn
open Cert.Kernel5Ideal Cert.Kernel5Ideal.Gen Idealize.ShloMosaic Idealize.ShloMosaic.TcCoe Idealize.SL.Sem
open Idealize.ShloMosaic.Pointwise
open Cert.KernelIdeal.Attn (nat2 nat3 nat2_ix nat3_ix nat2_idx)
open Cert.Kernel2Ideal.Inproj (rowScale)
open Cert.Ffn (gelu)

/-! # What one point computes, entry by entry -/

theorem hNorm_at (x0 : Vec Ideal S1024x2048 .f32) (r : Fin 1024) (k : Fin 2048) :
    hNorm x0 (ix2 r k) = nat2 x0 r k * rowScale (nat2 x0 r) := by
  unfold hNorm rowScale
  pointwise [k0_pay107]
  simp only [nat2_ix, Nat.one_mul, Nat.zero_add]

/-- A row of the tile times a column of a block of the up-projection. -/
def prod (h : Vec Ideal S1024x2048 .bf16) (w : Vec Ideal S1x2048x512 .bf16) (r e : ℕ) : EReal := ∑ k : Fin 2048, nat2 h r k.val * nat3 w 0 k.val e

theorem prod_top (h : Vec Ideal S1024x2048 .bf16) (w : Vec Ideal S1x2048x512 .bf16) (r e : Fin 512) :
    k0_pay111 (F := Ideal) (View.ld h top) (View.ld w upAll) (ix2 r e) = prod h w r e := by
  unfold prod
  pointwise [k0_pay111]
  simp only [nat2_ix, nat3_ix, Nat.one_mul, Nat.zero_add]
  rfl

theorem prod_bot (h : Vec Ideal S1024x2048 .bf16) (w : Vec Ideal S1x2048x512 .bf16) (r e : Fin 512) :
    k0_pay113 (F := Ideal) (View.ld h bot) (View.ld w upAll) (ix2 r e) = prod h w (512 + r.val) e := by
  unfold prod
  pointwise [k0_pay113]
  simp only [nat2_ix, nat3_ix, Nat.one_mul, Nat.zero_add]
  rfl

theorem tail_at (h : Vec Ideal S1024x2048 .bf16) (w : Vec Ideal S1x2048x512 .bf16) (r : Fin 8) (e : Fin 512) :
    tailOf h w (ix3 0 r e) = prod h w (1016 + r.val) e := by
  have hr := r.isLt
  refine Eq.trans ?_ ((prod_bot h w ⟨504 + r.val, by omega⟩ e).trans ?_)
  · unfold tailOf
    generalize (k0_pay113 (View.ld h bot) (View.ld w upAll) : Vec Ideal S512x512 .f32) = q
    pointwise [k0_pay115]
  · show prod h w (512 + (504 + r.val)) e.val = _
    congr 1
    omega

/-- The carried rows a point starts from: zero where its tile opens a sequence. -/
theorem head_at (b : BitVec 1) (z : Vec Ideal S1x8x512 .f32) (r : Fin 8) (e : Fin 512) :
    k0_pay110 (F := Ideal) b z (ix2 r e) = if b = 1#1 then 0 else nat3 z 0 r e := by
  by_cases hb : b = 1#1
  · subst hb
    rw [if_pos rfl]
    pointwise [k0_pay110]
  · rw [if_neg hb]
    have h0 : b = 0#1 := by revert hb; revert b; decide
    subst h0
    pointwise [k0_pay110]
    simp only [nat3_ix]
    rfl

section Pieces
variable (A B : Vec Ideal S512x512 .f32) (C : Vec Ideal S8x512 .f32)

/-- Eight rows and twice 512 rows under one another. -/
def stack : Vec Ideal S1032x512 .f32 :=
  View.canon (Val := Elt Ideal) (s := S1032x512) (e := .f32)
    [⟨Rect.unit ![520, 0] S512x512.size inb_S1032x512_S512x512_520_0, A⟩,
      ⟨Rect.unit ![8, 0] S512x512.size inb_S1032x512_S512x512_8_0, B⟩,
      ⟨Rect.unit ![0, 0] S8x512.size inb_S1032x512_S8x512_0_0, C⟩]

theorem emb_520 (r e : Fin 512) (q : Fin 1032) (hq : q.val = 520 + r.val) :
    (Rect.unit (s := S1032x512) ![520, 0] S512x512.size inb_S1032x512_S512x512_520_0).emb (ix2 r e) = (ix2 q e : S1032x512.Idx) := funext fun a => by
  match a with
  | 0 => exact Fin.ext (by show 520 + 1 * r.val = q.val; omega)
  | 1 => exact Fin.ext (by show 0 + 1 * e.val = e.val; omega)

theorem emb_8 (r e : Fin 512) (q : Fin 1032) (hq : q.val = 8 + r.val) :
    (Rect.unit (s := S1032x512) ![8, 0] S512x512.size inb_S1032x512_S512x512_8_0).emb (ix2 r e) = (ix2 q e : S1032x512.Idx) := funext fun a => by
  match a with
  | 0 => exact Fin.ext (by show 8 + 1 * r.val = q.val; omega)
  | 1 => exact Fin.ext (by show 0 + 1 * e.val = e.val; omega)

theorem emb_0 (r : Fin 8) (e : Fin 512) (q : Fin 1032) (hq : q.val = r.val) :
    (Rect.unit (s := S1032x512) ![0, 0] S8x512.size inb_S1032x512_S8x512_0_0).emb (ix2 r e) = (ix2 q e : S1032x512.Idx) := funext fun a => by
  match a with
  | 0 => exact Fin.ext (by show 0 + 1 * r.val = q.val; omega)
  | 1 => exact Fin.ext (by show 0 + 1 * e.val = e.val; omega)

theorem not_520 (q : Fin 1032) (e : Fin 512) (h : q.val < 520) :
    (ix2 q e : S1032x512.Idx) ∉ (Rect.unit (s := S1032x512) ![520, 0] S512x512.size inb_S1032x512_S512x512_520_0).set := by
  intro hm
  obtain ⟨x, hx⟩ := LoadRect.exists_idx_of_mem _ hm
  have h0 : 520 + 1 * (x 0).val = q.val := congrArg (fun y : S1032x512.Idx => (y 0).val) hx
  omega

theorem not_8 (q : Fin 1032) (e : Fin 512) (h : q.val < 8) :
    (ix2 q e : S1032x512.Idx) ∉ (Rect.unit (s := S1032x512) ![8, 0] S512x512.size inb_S1032x512_S512x512_8_0).set := by
  intro hm
  obtain ⟨x, hx⟩ := LoadRect.exists_idx_of_mem _ hm
  have h0 : 8 + 1 * (x 0).val = q.val := congrArg (fun y : S1032x512.Idx => (y 0).val) hx
  omega

theorem stack_bot (r e : Fin 512) (q : Fin 1032) (hq : q.val = 520 + r.val) : stack A B C (ix2 q e) = A (ix2 r e) := by
  rw [← emb_520 r e q hq]
  exact View.canon_cons_emb _ _ _ _

theorem stack_top (r e : Fin 512) (q : Fin 1032) (hq : q.val = 8 + r.val) : stack A B C (ix2 q e) = B (ix2 r e) := by
  have hr := r.isLt
  refine (View.canon_cons_of_not_mem (Val := Elt Ideal) (e := .f32) (⟨Rect.unit ![520, 0] S512x512.size inb_S1032x512_S512x512_520_0, A⟩ : View.Piece (Elt Ideal) S1032x512 .f32) _
    (not_520 q e (by omega))).trans ?_
  rw [← emb_8 r e q hq]
  exact View.canon_cons_emb _ _ _ _

theorem stack_head (r : Fin 8) (e : Fin 512) (q : Fin 1032) (hq : q.val = r.val) : stack A B C (ix2 q e) = C (ix2 r e) := by
  have hr := r.isLt
  refine (View.canon_cons_of_not_mem (Val := Elt Ideal) (e := .f32) (⟨Rect.unit ![520, 0] S512x512.size inb_S1032x512_S512x512_520_0, A⟩ : View.Piece (Elt Ideal) S1032x512 .f32) _
    (not_520 q e (by omega))).trans ?_
  refine (View.canon_cons_of_not_mem (Val := Elt Ideal) (e := .f32) (⟨Rect.unit ![8, 0] S512x512.size inb_S1032x512_S512x512_8_0, B⟩ : View.Piece (Elt Ideal) S1032x512 .f32) _
    (not_8 q e (by omega))).trans ?_
  rw [← emb_0 r e q hq]
  exact View.canon_cons_emb _ _ _ _
end Pieces

section Buf
variable (i : grid0.Coords) (z : Vec Ideal S1x8x512 .f32) (h : Vec Ideal S1024x2048 .bf16) (w : Vec Ideal S1x2048x512 .bf16)

theorem buf_stack : buf i z h w = stack (k0_pay113 (View.ld h bot) (View.ld w upAll)) (k0_pay111 (View.ld h top) (View.ld w upAll)) (k0_pay110 (firstTile i) z) := rfl

/-- The block's rows of the point's own tile. -/
theorem buf_own (r : Fin 1024) (e : Fin 512) (q : Fin 1032) (hq : q.val = 8 + r.val) : buf i z h w (ix2 q e) = prod h w r e := by
  have hr := r.isLt
  rw [buf_stack]
  by_cases hlt : r.val < 512
  · exact (stack_top _ _ _ ⟨r.val, hlt⟩ e q hq).trans (prod_top h w _ _)
  · refine (stack_bot _ _ _ ⟨r.val - 512, by omega⟩ e q (by show q.val = 520 + (r.val - 512); omega)).trans ((prod_bot h w _ _).trans ?_)
    show prod h w (512 + (r.val - 512)) e.val = _
    congr 1
    omega

/-- Its first eight rows. -/
theorem buf_head (r : Fin 8) (e : Fin 512) (q : Fin 1032) (hq : q.val = r.val) :
    buf i z h w (ix2 q e) = if firstTile i = 1#1 then 0 else nat3 z 0 r e := by
  rw [buf_stack]
  exact (stack_head _ _ _ r e q hq).trans (head_at _ z r e)
end Buf

section Conv
variable (i : grid0.Coords) (x3 : Vec Ideal S1x3x11264 .f32) (x4 : Vec Ideal S1x1x11264 .f32)

theorem conv_pay (A : Vec Ideal S1x1x512 .f32) (a : Vec Ideal S512x512 .f32) (B : Vec Ideal S1x1x512 .f32) (b : Vec Ideal S512x512 .f32)
    (C : Vec Ideal S1x1x512 .f32) (d : Vec Ideal S512x512 .f32) (D : Vec Ideal S1x1x512 .f32) (r e : Fin 512) :
    k0_pay120 (F := Ideal) A a B b C d D (ix2 r e)
      = A (ix3 0 0 e) + a (ix2 r e) * B (ix3 0 0 e) + b (ix2 r e) * C (ix3 0 0 e) + d (ix2 r e) * D (ix3 0 0 e) := by
  pointwise [k0_pay120]

theorem coord_lt : (i 1).val < 11 := (i 1).isLt

theorem off2 : k0_off2 i = ![0, 0, 512 * (i 1).val] := by
  have h : ∀ j : Fin 11, (Scalar.indexCast (Scalar.muli (BitVec.ofNat 32 j.val) 512#32)).toNat = 512 * j.val := by decide +kernel
  exact congrArg (fun n => (![0, 0, n] : Fin 3 → ℕ)) (h (i 1))
theorem off3 : k0_off3 i = ![0, 0, 512 * (i 1).val] := off2 i
theorem off4 : k0_off4 i = ![0, 1, 512 * (i 1).val] := by
  have h : ∀ j : Fin 11, (Scalar.indexCast (Scalar.muli (BitVec.ofNat 32 j.val) 512#32)).toNat = 512 * j.val := by decide +kernel
  exact congrArg (fun n => (![0, 1, n] : Fin 3 → ℕ)) (h (i 1))
theorem off5 : k0_off5 i = ![0, 2, 512 * (i 1).val] := by
  have h : ∀ j : Fin 11, (Scalar.indexCast (Scalar.muli (BitVec.ofNat 32 j.val) 512#32)).toNat = 512 * j.val := by decide +kernel
  exact congrArg (fun n => (![0, 2, n] : Fin 3 → ℕ)) (h (i 1))
theorem off_value : ∀ j : Fin 11, (Scalar.indexCast (Scalar.addi 5632#32 (Scalar.muli (BitVec.ofNat 32 j.val) 512#32))).toNat = 5632 + 512 * j.val := by
  decide +kernel
theorem off6 : k0_off6 i = ![0, 0, 5632 + 512 * (i 1).val] := congrArg (fun n => (![0, 0, n] : Fin 3 → ℕ)) (off_value (i 1))
theorem off7 : k0_off7 i = ![0, 0, 5632 + 512 * (i 1).val] := congrArg (fun n => (![0, 0, n] : Fin 3 → ℕ)) (off_value (i 1))
theorem off8 : k0_off8 i = ![0, 1, 5632 + 512 * (i 1).val] := congrArg (fun n => (![0, 1, n] : Fin 3 → ℕ)) (off_value (i 1))
theorem off9 : k0_off9 i = ![0, 2, 5632 + 512 * (i 1).val] := congrArg (fun n => (![0, 2, n] : Fin 3 → ℕ)) (off_value (i 1))

/-- A load of 512 features of one row of an array of 11264. -/
theorem ld_row {n : ℕ} (X : Vec Ideal ⟨3, ![1, n, 11264]⟩ .f32) (o : Fin 3 → ℕ) (inb : ∀ a, o a + S1x1x512.size a ≤ (⟨3, ![1, n, 11264]⟩ : Shape).size a)
    (d p : ℕ) (ho : o = ![0, d, p]) (e : Fin 512) :
    (View.ld X (Rect.unit (s := ⟨3, ![1, n, 11264]⟩) o S1x1x512.size inb) : Vec Ideal S1x1x512 .f32) (ix3 0 0 e) = nat3 X 0 d (p + e.val) := by
  subst ho
  have h1 : d + 1 ≤ n := inb 1
  have h2 : p + 512 ≤ 11264 := inb 2
  have he := e.isLt
  unfold nat3
  rw [dif_pos ⟨by omega, by omega, by omega⟩]
  refine congrArg X (funext fun a => ?_)
  match a with
  | 0 => rfl
  | 1 => exact Fin.ext (by show d + 1 * 0 = d; omega)
  | 2 => exact Fin.ext (by show p + 1 * e.val = p + e.val; omega)

/-- The convolution at feature `f` of three entries of consecutive rows. -/
def tap (f : ℕ) (a b d : EReal) : EReal := nat3 x4 0 0 f + a * nat3 x3 0 0 f + b * nat3 x3 0 1 f + d * nat3 x3 0 2 f

theorem gate_at (a b d : Vec Ideal S512x512 .f32) (r e : Fin 512) :
    gate i x3 x4 a b d (ix2 r e) = tap x3 x4 (512 * (i 1).val + e.val) (a (ix2 r e)) (b (ix2 r e)) (d (ix2 r e)) := by
  unfold gate tap
  rw [conv_pay, ld_row x4 _ _ _ _ (off2 i), ld_row x3 _ _ _ _ (off3 i), ld_row x3 _ _ _ _ (off4 i), ld_row x3 _ _ _ _ (off5 i)]

theorem value_at (a b d : Vec Ideal S512x512 .f32) (r e : Fin 512) :
    value i x3 x4 a b d (ix2 r e) = tap x3 x4 (5632 + 512 * (i 1).val + e.val) (a (ix2 r e)) (b (ix2 r e)) (d (ix2 r e)) := by
  unfold value tap
  rw [conv_pay, ld_row x4 _ _ _ _ (off6 i), ld_row x3 _ _ _ _ (off7 i), ld_row x3 _ _ _ _ (off8 i), ld_row x3 _ _ _ _ (off9 i)]

theorem one_word : Ideal.ofBits .f32 0x3F800000#32 = (1 : EReal) := by
  simp [Ideal.ofBits, Ideal.ieee, -EReal.coe_mul]; norm_num [← EReal.coe_mul]

theorem gelu_eq (x : EReal) : Ideal.ofBits .f32 0x3F000000#32 * x * ((1 : EReal)
    + Ideal.tanh (Ideal.ofBits .f32 0x3F4C422A#32 * (x + Ideal.ofBits .f32 0x3D372713#32 * (x * x * x)))) = gelu x := by
  unfold gelu
  rw [one_word, mul_comm (Ideal.ofBits .f32 0x3F000000#32) x, mul_assoc]

theorem accum_at (g v : FVec Ideal S512x512 .f32) (y : Vec Ideal S512x2048 .f32) (x5 : Vec Ideal S1x512x2048 .bf16) (r : Fin 512) (e : Fin 2048) :
    accum i g v y x5 (ix2 r e)
      = (if (i 1).val = 0 then 0 else y (ix2 r e)) + ∑ f : Fin 512, gelu (g (ix2 r f)) * v (ix2 r f) * nat3 x5 0 f.val e.val := by
  have hc : ∀ j : Fin 11, Scalar.cmpi .eq (BitVec.ofNat 32 j.val) 0#32 = if j.val = 0 then 1#1 else 0#1 := by decide +kernel
  have hw : ∀ f : Fin 512, (View.ld x5 downAll : Vec Ideal S1x512x2048 .bf16) (ix3 0 f e) = nat3 x5 0 f.val e.val := fun f => by
    refine Eq.trans (congrArg x5 (funext fun a => ?_)) (nat3_ix x5 0 f e)
    match a with
    | 0 => rfl
    | 1 => exact Fin.ext (by show 0 + 1 * f.val = f.val; omega)
    | 2 => exact Fin.ext (by show 0 + 1 * e.val = e.val; omega)
  unfold accum
  generalize (View.ld x5 downAll : Vec Ideal S1x512x2048 .bf16) = W at *
  unfold k0_pay124
  dsimp only
  rw [hc (i 1)]
  by_cases h0 : (i 1).val = 0
  · simp only [if_pos h0]
    pointwise [k0_pay123]
    simp only [gelu_eq, hw]
  · simp only [if_neg h0]
    pointwise [k0_pay123]
    simp only [gelu_eq, hw]
end Conv

end Cert.Kernel5Ideal.Ffn
-- ==== Proof.FfnB.Windows.lean ====
module

public import proofs.«01_k».proof.Proof.FfnB.State
public import Idealize.ShloMosaic.Lib.Pipeline.ValueKit.Geometry
public import Idealize.ShloMosaic.Lib.StableHlo.ReadAt
public import Idealize.ShloMosaic.Lib.Tactic
public import proofs.«01_k».proof.Proof.Ffn.Math
public import Idealize.ShloMosaic.Lib.Pointwise

@[expose] public section
set_option maxRecDepth 16384
noncomputable section
namespace Cert.Kernel5Ideal.Ffn
open Cert.Kernel5Ideal Cert.Kernel5Ideal.Gen Idealize.ShloMosaic Idealize.ShloMosaic.TcCoe Idealize.SL.Sem
open Idealize.ShloMosaic.Pointwise
open Cert.KernelIdeal.Attn (nat2 nat3 nat2_ix nat3_ix)

/-! # Which block of each array a grid point stages

Point `t` works on rows `1024 (t / 11)` onwards and on the features `512 (t % 11)` onwards of the gate and of the value. -/

variable (m : (ℓ : Loc nD τ sig) → Buf (Elt Ideal) ℓ) (c : Dev nD)

/-- The call's input. -/
abbrev Xm : Vec Ideal S32768x2048 .f32 := m ((c : Thread nD τ).loc main_arg0)
/-- The gains before the up-projections of the two layers. -/
abbrev Gm : Vec Ideal S2x2048 .f32 := m ((c : Thread nD τ).loc main_arg1)
/-- The up-projections. -/
abbrev Wm : Vec Ideal S2x2048x11264 .f32 := m ((c : Thread nD τ).loc main_arg2)
/-- The taps of the convolutions. -/
abbrev Cm : Vec Ideal S2x3x11264 .f32 := m ((c : Thread nD τ).loc main_arg3)
/-- Their biases. -/
abbrev Bm : Vec Ideal S2x11264 .f32 := m ((c : Thread nD τ).loc main_arg4)
/-- The down-projections. -/
abbrev Dm : Vec Ideal S2x5632x2048 .f32 := m ((c : Thread nD τ).loc main_arg5)
/-- The gains after them. -/
abbrev Pm : Vec Ideal S2x2048 .f32 := m ((c : Thread nD τ).loc main_arg6)

theorem index1 : ∀ t : Fin cfg0.N, win0_1.index t = ![1, 0, t.val % 11] := by decide +kernel
theorem index2 : ∀ t : Fin cfg0.N, win0_2.index t = ![1, 0, t.val % 11 + 11] := by decide +kernel
theorem index3 : ∀ t : Fin cfg0.N, win0_3.index t = ![1, 0, 0] := by decide +kernel
theorem index4 : ∀ t : Fin cfg0.N, win0_4.index t = ![1, 0, 0] := by decide +kernel
theorem index5 : ∀ t : Fin cfg0.N, win0_5.index t = ![1, t.val % 11, 0] := by decide +kernel
theorem index6 : ∀ t : Fin cfg0.N, win0_6.index t = ![1, 0, 0] := by decide +kernel
theorem index7 : ∀ t : Fin cfg0.N, win0_7.index t = ![t.val / 11, 0] := by decide +kernel

/-- The rows a point stages. -/
theorem x_at (t : Fin cfg0.N) (r : Fin 1024) (k : Fin 2048) :
    xb m c t (ix2 r k) = nat2 (Xm m c) (1024 * (t.val / 11) + r.val) k.val :=
  (xb_at m c t r k).trans (nat2_ix (Xm m c) _ _)

/-- The up-projections with the gain in them, as the host prepares them. -/
theorem gained_at (l : Fin 2) (k : Fin 2048) (e : Fin 11264) :
    (V m c main_v3 : Vec Ideal S2x2048x11264 .bf16) (ix3 l k e) = Wm m c (ix3 l k e) * Gm m c (ix2 l k) := by
  after_reads_at

theorem down_host (l : Fin 2) (f : Fin 5632) (e : Fin 2048) :
    (V m c main_v4 : Vec Ideal S2x5632x2048 .bf16) (ix3 l f e) = Dm m c (ix3 l f e) := by
  after_reads_at

theorem bias_host (l : Fin 2) (e : Fin 11264) :
    (V m c main_v5 : Vec Ideal S2x1x11264 .f32) (ix3 l 0 e) = Bm m c (ix2 l e) := by
  after_reads_at

theorem post_host (l : Fin 2) (e : Fin 2048) :
    (V m c main_v6 : Vec Ideal S2x1x2048 .f32) (ix3 l 0 e) = Pm m c (ix2 l e) := by
  after_reads_at

/-- The gate's weights. -/
theorem wg_at (t : Fin cfg0.N) (k : Fin 2048) (e : Fin 512) :
    wgb m c t (ix3 0 k e) = nat3 (Wm m c) 1 k.val (512 * (t.val % 11) + e.val) * nat2 (Gm m c) 1 k.val := by
  have he := e.isLt
  have hk := k.isLt
  have h2 : t.val % 11 < 11 := Nat.mod_lt _ (by decide)
  refine Eq.trans ?_ ((gained_at m c 1 k ⟨512 * (t.val % 11) + e.val, by omega⟩).trans ?_)
  · unfold wgb
    blk_ext [iblk, index1 t]
  · rw [nat3_ix (Wm m c), nat2_ix (Gm m c)]
    rfl

/-- The value's. -/
theorem wv_at (t : Fin cfg0.N) (k : Fin 2048) (e : Fin 512) :
    wvb m c t (ix3 0 k e) = nat3 (Wm m c) 1 k.val (5632 + 512 * (t.val % 11) + e.val) * nat2 (Gm m c) 1 k.val := by
  have he := e.isLt
  have hk := k.isLt
  have h2 : t.val % 11 < 11 := Nat.mod_lt _ (by decide)
  refine Eq.trans ?_ ((gained_at m c 1 k ⟨5632 + 512 * (t.val % 11) + e.val, by omega⟩).trans ?_)
  · unfold wvb
    blk_ext [iblk, index2 t]
  · rw [nat3_ix (Wm m c), nat2_ix (Gm m c)]
    rfl

/-- The taps. -/
theorem cw_at (t : Fin cfg0.N) (d : Fin 3) (e : Fin 11264) : cwb m c t (ix3 0 d e) = nat3 (Cm m c) 1 d.val e.val := by
  refine Eq.trans ?_ ((congrFun (V_main_arg3 m c) (ix3 1 d e)).trans (nat3_ix (Cm m c) 1 d e))
  unfold cwb
  blk_ext [iblk, index3 t]

/-- The biases. -/
theorem cb_at (t : Fin cfg0.N) (e : Fin 11264) : cbb m c t (ix3 0 0 e) = nat2 (Bm m c) 1 e.val := by
  refine Eq.trans ?_ ((bias_host m c 1 e).trans (nat2_ix (Bm m c) 1 e))
  unfold cbb
  blk_ext [iblk, index4 t]

/-- The block of the down-projection. -/
theorem wd_at (t : Fin cfg0.N) (f : Fin 512) (e : Fin 2048) : wdb m c t (ix3 0 f e) = nat3 (Dm m c) 1 (512 * (t.val % 11) + f.val) e.val := by
  have hf := f.isLt
  have h2 : t.val % 11 < 11 := Nat.mod_lt _ (by decide)
  refine Eq.trans ?_ ((down_host m c 1 ⟨512 * (t.val % 11) + f.val, by omega⟩ e).trans ?_)
  · unfold wdb
    blk_ext [iblk, index5 t]
  · exact nat3_ix (Dm m c) 1 _ e

/-- The gain after it. -/
theorem pg_at (t : Fin cfg0.N) (e : Fin 2048) : pgb m c t (ix3 0 0 e) = nat2 (Pm m c) 1 e.val := by
  refine Eq.trans ?_ ((post_host m c 1 e).trans (nat2_ix (Pm m c) 1 e))
  unfold pgb
  blk_ext [iblk, index6 t]

end Cert.Kernel5Ideal.Ffn
-- ==== Proof.FfnB.Sums.lean ====
module

public import proofs.«01_k».proof.Proof.FfnB.Points
public import proofs.«01_k».proof.Proof.FfnB.Windows

@[expose] public section
set_option maxRecDepth 16384
noncomputable section
namespace Cert.Kernel5Ideal.Ffn
open Cert.Kernel5Ideal Cert.Kernel5Ideal.Gen Idealize.ShloMosaic Idealize.ShloMosaic.TcCoe Idealize.SL.Sem
open Idealize.ShloMosaic.Pointwise
open Cert.KernelIdeal.Attn (nat2 nat3 nat2_ix nat3_ix nat2_idx)
open Cert.Kernel2Ideal.Inproj (rowScale)
open Cert.Ffn

/-! # The output tile after each point, as a part of the reference's sum -/

/-- An array of one matrix, read at natural coordinates. -/
theorem nat3_one {b c : ℕ} (f : (⟨3, ![1, b, c]⟩ : Shape).Idx → EReal) (j : Fin b) (k : Fin c) : nat3 f 0 j.val k.val = f (ix3 0 j k) :=
  (nat3_ix f 0 j k).symm

section Halves
variable (A B : Vec Ideal S512x2048 .f32)

/-- Two halves of an output tile. -/
def halves : Vec Ideal S1024x2048 .f32 := View.canon (Val := Elt Ideal) (s := S1024x2048) (e := .f32) [⟨bot, A⟩, ⟨top, B⟩]

theorem halves_bot (r : Fin 512) (e : Fin 2048) (q : Fin 1024) (hq : q.val = 512 + r.val) : halves A B (ix2 q e) = A (ix2 r e) := by
  have ee : bot.emb (ix2 r e) = (ix2 q e : S1024x2048.Idx) := funext fun a => by
    match a with
    | 0 => exact Fin.ext (by show 512 + 1 * r.val = q.val; omega)
    | 1 => exact Fin.ext (by show 0 + 1 * e.val = e.val; omega)
  rw [← ee]
  exact View.canon_cons_emb _ _ _ _

theorem halves_top (r : Fin 512) (e : Fin 2048) (q : Fin 1024) (hq : q.val = r.val) : halves A B (ix2 q e) = B (ix2 r e) := by
  have hr := r.isLt
  have hn : (ix2 q e : S1024x2048.Idx) ∉ bot.set := by
    intro hm
    obtain ⟨x, hx⟩ := LoadRect.exists_idx_of_mem _ hm
    have h0 : 512 + 1 * (x 0).val = q.val := congrArg (fun y : S1024x2048.Idx => (y 0).val) hx
    omega
  have ee : top.emb (ix2 r e) = (ix2 q e : S1024x2048.Idx) := funext fun a => by
    match a with
    | 0 => exact Fin.ext (by show 0 + 1 * r.val = q.val; omega)
    | 1 => exact Fin.ext (by show 0 + 1 * e.val = e.val; omega)
  refine (View.canon_cons_of_not_mem (Val := Elt Ideal) (e := .f32) (⟨bot, A⟩ : View.Piece (Elt Ideal) S1024x2048 .f32) _ hn).trans ?_
  rw [← ee]
  exact View.canon_cons_emb _ _ _ _
end Halves

/-- A load of 512 rows of a block of features. -/
theorem ld_rows (g : Vec Ideal S1032x512 .f32) (o : ℕ) (inb : ∀ a, (![o, 0] : Fin 2 → ℕ) a + S512x512.size a ≤ S1032x512.size a) (r f : Fin 512) :
    (View.ld g (Rect.unit (s := S1032x512) ![o, 0] S512x512.size inb) : Vec Ideal S512x512 .f32) (ix2 r f) = nat2 g (o + r.val) f.val := by
  have h0 : o + 512 ≤ 1032 := inb 0
  have hr := r.isLt
  refine Eq.trans (congrArg g (funext fun a => ?_)) (nat2_ix g ⟨o + r.val, by omega⟩ f)
  match a with
  | 0 => exact Fin.ext (by show o + 1 * r.val = o + r.val; omega)
  | 1 => exact Fin.ext (by show 0 + 1 * f.val = f.val; omega)

section Step
variable (i : grid0.Coords) (g v : Vec Ideal S1032x512 .f32) (x3 : Vec Ideal S1x3x11264 .f32) (x4 : Vec Ideal S1x1x11264 .f32)
  (x5 : Vec Ideal S1x512x2048 .bf16) (y : Vec Ideal S1024x2048 .f32)

/-- One point's share of an entry of the sum. -/
def share (r e : ℕ) : EReal := ∑ f : Fin 512,
  gelu (tap x3 x4 (512 * (i 1).val + f.val) (nat2 g (6 + r) f.val) (nat2 g (7 + r) f.val) (nat2 g (8 + r) f.val))
    * tap x3 x4 (5632 + 512 * (i 1).val + f.val) (nat2 v (6 + r) f.val) (nat2 v (7 + r) f.val) (nat2 v (8 + r) f.val) * nat3 x5 0 f.val e

theorem yStep_at (r : Fin 1024) (e : Fin 2048) :
    yStep i g v x3 x4 x5 y (ix2 r e) = (if (i 1).val = 0 then 0 else y (ix2 r e)) + share i g v x3 x4 x5 r.val e.val := by
  have hr := r.isLt
  unfold yStep share
  by_cases hlt : r.val < 512
  · refine (halves_top _ _ ⟨r.val, hlt⟩ e r rfl).trans ((accum_at i _ _ _ x5 ⟨r.val, hlt⟩ e).trans ?_)
    refine congrArg₂ (· + ·) (congrArg (fun q : EReal => if (i 1).val = 0 then 0 else q) ?_) (Finset.sum_congr rfl fun f _ => by
      rw [gate_at, value_at, ld_rows, ld_rows, ld_rows, ld_rows, ld_rows, ld_rows])
    refine congrArg y (funext fun a => ?_)
    match a with
    | 0 => exact Fin.ext (by show 0 + 1 * r.val = r.val; omega)
    | 1 => exact Fin.ext (by show 0 + 1 * e.val = e.val; omega)
  · refine (halves_bot _ _ ⟨r.val - 512, by omega⟩ e r (by show r.val = 512 + (r.val - 512); omega)).trans ((accum_at i _ _ _ x5 ⟨r.val - 512, by omega⟩ e).trans ?_)
    have e6 : 518 + (r.val - 512) = 6 + r.val := by omega
    have e7 : 519 + (r.val - 512) = 7 + r.val := by omega
    have e8 : 520 + (r.val - 512) = 8 + r.val := by omega
    refine congrArg₂ (· + ·) (congrArg (fun q : EReal => if (i 1).val = 0 then 0 else q) ?_) (Finset.sum_congr rfl fun f _ => by
      rw [gate_at, value_at, ld_rows, ld_rows, ld_rows, ld_rows, ld_rows, ld_rows]
      simp only [e6, e7, e8])
    refine congrArg y (funext fun a => ?_)
    match a with
    | 0 => exact Fin.ext (by show 512 + 1 * (r.val - 512) = r.val; omega)
    | 1 => exact Fin.ext (by show 0 + 1 * e.val = e.val; omega)
end Step

/-- A finished entry. -/
theorem yEnd_ix (x0 y : Vec Ideal S1024x2048 .f32) (x6 : Vec Ideal S1x1x2048 .f32) (r : Fin 1024) (e : Fin 2048) :
    yEnd x0 y x6 (ix2 r e) = nat2 x0 r e + nat2 y r e * rowScale (nat2 y r) * nat3 x6 0 0 e := by
  have hr := r.isLt
  have er : 16 * (r.val / 16) + r.val % 16 = r.val := Nat.div_add_mod _ _
  refine (yEnd_at x0 y x6 ⟨r.val / 16, by omega⟩ ⟨r.val % 16, by omega⟩ e (ix2 r e) er.symm rfl).trans ?_
  unfold chunk rowScale
  pointwise [k0_pay3]
  simp only [nat2_ix, nat3_ix, Nat.one_mul, Nat.zero_add, er]
  rfl

section Tile
variable (m : (ℓ : Loc nD τ sig) → Buf (Elt Ideal) ℓ) (c : Dev nD)

/-- The test on a tile's number. -/
def firstWord (x : BitVec 32) : BitVec 1 :=
  Scalar.cmpi .eq (Scalar.select (Scalar.andi (Scalar.xori (Scalar.cmpi .slt (Scalar.remsi x 16#32) 0#32) 0#1) (Scalar.cmpi .ne (Scalar.remsi x 16#32) 0#32))
    (Scalar.addi (Scalar.remsi x 16#32) 16#32) (Scalar.remsi x 16#32)) 0#32

/-- A tile opens a sequence when its number is a multiple of sixteen. -/
theorem firstTile_iff (t : Fin cfg0.N) : firstTile (grid0.coords t) = 1#1 ↔ t.val / 11 % 16 = 0 := by
  have h : ∀ a : Fin 32, firstWord (BitVec.ofNat 32 a.val) = 1#1 ↔ a.val % 16 = 0 := by decide +kernel
  have e := h (grid0.coords t 0)
  rw [coord0 t] at e
  rw [← e]
  show firstWord (BitVec.ofNat 32 (grid0.coords t 0).val) = 1#1 ↔ _
  rw [coord0 t]

variable (w : Fin cfg0.N → Vec Ideal S1x2048x512 .bf16) (col : ℕ → ℕ → ℕ)
  (hw : ∀ (t : Fin cfg0.N) (k : Fin 2048) (e : Fin 512), w t (ix3 0 k e) = nat3 (Wm m c) 1 k.val (col (t.val % 11) e.val) * nat2 (Gm m c) 1 k.val)

include hw in
/-- A point's product is the reference's: the gain is a factor of the weights in one and of the rows in the other. -/
theorem prod_up (t : Fin cfg0.N) (r : Fin 1024) (e : Fin 512) :
    prod (hNorm (xb m c t)) (w t) r.val e.val = up (nat2 (Xm m c)) (nat2 (Gm m c) 1) (nat3 (Wm m c) 1) (1024 * (t.val / 11) + r.val) (col (t.val % 11) e.val) := by
  have hx : ∀ k : Fin 2048, nat2 (xb m c t) r.val k.val = nat2 (Xm m c) (1024 * (t.val / 11) + r.val) k.val :=
    fun k => (nat2_ix (xb m c t) r k).symm.trans (x_at m c t r k)
  have hs : rowScale (nat2 (xb m c t) r.val) = rowScale (nat2 (Xm m c) (1024 * (t.val / 11) + r.val)) := by
    unfold rowScale
    simp only [hx]
  unfold prod up
  refine Finset.sum_congr rfl fun k _ => ?_
  rw [← nat2_ix (hNorm (xb m c t)) r k, hNorm_at, hs, hx, nat3_one (w t) k e, hw, mul_comm (nat3 (Wm m c) 1 _ _), mul_assoc, mul_assoc, mul_assoc]

include hw in
/-- A point's block of features holds the rows of the reference, those before its tile included. -/
theorem buf_back (t : Fin cfg0.N) (r : Fin 1024) (e : Fin 512) (d : ℕ) (hd : d ≤ 2) :
    nat2 (bufAt m c w t) (8 - d + r.val) e.val
      = back (nat2 (Xm m c)) (nat2 (Gm m c) 1) (nat3 (Wm m c) 1) d (1024 * (t.val / 11) + r.val) (col (t.val % 11) e.val) := by
  have hr := r.isLt
  have ht := lt352 t
  unfold back
  refine (nat2_ix (bufAt m c w t) ⟨8 - d + r.val, by omega⟩ e).symm.trans ?_
  unfold bufAt
  by_cases h : d ≤ r.val
  · refine (buf_own _ _ _ _ ⟨r.val - d, by omega⟩ e _ (by show 8 - d + r.val = 8 + (r.val - d); omega)).trans ((prod_up m c w col hw t _ e).trans ?_)
    rw [if_neg (by omega)]
    show up _ _ _ (1024 * (t.val / 11) + (r.val - d)) _ = _
    congr 1
    omega
  · refine (buf_head _ _ _ _ ⟨8 - d + r.val, by omega⟩ e _ rfl).trans ?_
    by_cases h0 : t.val / 11 % 16 = 0
    · rw [if_pos ((firstTile_iff t).mpr h0), if_pos (by omega)]
    · rw [if_neg (fun hh => h0 ((firstTile_iff t).mp hh)), if_neg (by omega)]
      have h11 : 11 ≤ t.val := by omega
      unfold halo
      rw [if_pos h11]
      refine (nat3_one (tailOf (hNorm (xb m c ⟨t.val - 11, by omega⟩)) (w ⟨t.val - 11, by omega⟩)) (⟨8 - d + r.val, by omega⟩ : Fin 8) e).trans ((tail_at _ _ _ e).trans ?_)
      refine (prod_up m c w col hw ⟨t.val - 11, _⟩ ⟨1016 + (8 - d + r.val), by omega⟩ e).trans ?_
      show up _ _ _ (1024 * ((t.val - 11) / 11) + (1016 + (8 - d + r.val))) (col ((t.val - 11) % 11) e.val) = _
      have e1 : (t.val - 11) % 11 = t.val % 11 := by omega
      rw [e1]
      congr 1
      omega

/-- The taps of a point's blocks at a feature are the reference's convolution. -/
theorem tap_conv (t : Fin cfg0.N) (r : Fin 1024) (f : ℕ) (hf : f < 11264) {a b d : EReal}
    (ha : a = back (nat2 (Xm m c)) (nat2 (Gm m c) 1) (nat3 (Wm m c) 1) 2 (1024 * (t.val / 11) + r.val) f)
    (hb : b = back (nat2 (Xm m c)) (nat2 (Gm m c) 1) (nat3 (Wm m c) 1) 1 (1024 * (t.val / 11) + r.val) f)
    (hd : d = back (nat2 (Xm m c)) (nat2 (Gm m c) 1) (nat3 (Wm m c) 1) 0 (1024 * (t.val / 11) + r.val) f) :
    tap (cwb m c t) (cbb m c t) f a b d
      = conv (nat2 (Xm m c)) (nat2 (Gm m c) 1) (nat3 (Wm m c) 1) (nat3 (Cm m c) 1) (nat2 (Bm m c) 1) (1024 * (t.val / 11) + r.val) f := by
  have h3 : ∀ k : Fin 3, nat3 (cwb m c t) 0 k.val f = nat3 (Cm m c) 1 k.val f := fun k =>
    (nat3_ix (cwb m c t) 0 k ⟨f, hf⟩).symm.trans (cw_at m c t k ⟨f, hf⟩)
  have h4 : nat3 (cbb m c t) 0 0 f = nat2 (Bm m c) 1 f := (nat3_ix (cbb m c t) 0 0 ⟨f, hf⟩).symm.trans (cb_at m c t ⟨f, hf⟩)
  have h30 := h3 0
  have h31 := h3 1
  have h32 := h3 2
  unfold tap conv
  rw [ha, hb, hd, h4]
  exact congrArg₂ (· + ·) (congrArg₂ (· + ·) (congrArg (_ + _ * ·) h30) (congrArg (_ * ·) h31)) (congrArg (_ * ·) h32)

/-- One feature's term of the reference's down-projection. -/
def term (r e f : ℕ) : EReal :=
  act (nat2 (Xm m c)) (nat2 (Gm m c) 1) (nat3 (Wm m c) 1) (nat3 (Cm m c) 1) (nat2 (Bm m c) 1) r f * nat3 (Dm m c) 1 f e

/-- The down-projection over the first `512 j` features. -/
def part (j r e : ℕ) : EReal := ∑ f ∈ Finset.range (512 * j), term m c r e f

theorem part_succ (j r e : ℕ) : part m c (j + 1) r e = part m c j r e + ∑ f : Fin 512, term m c r e (512 * j + f.val) := by
  unfold part
  rw [Nat.mul_succ, Finset.sum_range_add, Finset.sum_range (fun x => term m c r e (512 * j + x))]

theorem part_all (r e : ℕ) : part m c 11 r e
    = down (nat2 (Xm m c)) (nat2 (Gm m c) 1) (nat3 (Wm m c) 1) (nat3 (Cm m c) 1) (nat2 (Bm m c) 1) (nat3 (Dm m c) 1) r e :=
  Finset.sum_range (fun f => term m c r e f)

theorem share_at (t : Fin cfg0.N) (r : Fin 1024) (e : Fin 2048) :
    share (grid0.coords t) (bufAt m c (wgb m c) t) (bufAt m c (wvb m c) t) (cwb m c t) (cbb m c t) (wdb m c t) r.val e.val
      = ∑ f : Fin 512, term m c (1024 * (t.val / 11) + r.val) e.val (512 * (t.val % 11) + f.val) := by
  have h2 : t.val % 11 < 11 := Nat.mod_lt _ (by decide)
  unfold share term act
  refine Finset.sum_congr rfl fun f _ => ?_
  have hf := f.isLt
  have hg := fun d hd => buf_back m c (wgb m c) (fun j e => 512 * j + e) (fun t k e => wg_at m c t k e) t r f d hd
  have hv := fun d hd => buf_back m c (wvb m c) (fun j e => 5632 + 512 * j + e) (fun t k e => wv_at m c t k e) t r f d hd
  rw [coord1 t, tap_conv m c t r (512 * (t.val % 11) + f.val) (by omega) (hg 2 (by omega)) (hg 1 (by omega)) (hg 0 (by omega)),
    tap_conv m c t r (5632 + 512 * (t.val % 11) + f.val) (by omega) (hv 2 (by omega)) (hv 1 (by omega)) (hv 0 (by omega)),
    nat3_one (wdb m c t) f e, wd_at, Nat.add_assoc 5632]

/-- A point adds its 512 features to the sum. -/
theorem step_at (t : Fin cfg0.N) (y : Vec Ideal S1024x2048 .f32)
    (hy : ¬ t.val % 11 = 0 → ∀ (r : Fin 1024) (e : Fin 2048), y (ix2 r e) = part m c (t.val % 11) (1024 * (t.val / 11) + r.val) e.val)
    (r : Fin 1024) (e : Fin 2048) :
    yStep (grid0.coords t) (bufAt m c (wgb m c) t) (bufAt m c (wvb m c) t) (cwb m c t) (cbb m c t) (wdb m c t) y (ix2 r e)
      = part m c (t.val % 11 + 1) (1024 * (t.val / 11) + r.val) e.val := by
  rw [yStep_at, share_at, part_succ, coord1]
  congr 1
  by_cases h0 : t.val % 11 = 0
  · rw [if_pos h0, h0]
    rfl
  · rw [if_neg h0, hy h0]

theorem tile_partial : ∀ (n : ℕ) (hn : n < cfg0.N), ¬ n % 11 = 10 → ∀ (r : Fin 1024) (e : Fin 2048),
    yAt m c n hn (ix2 r e) = part m c (n % 11 + 1) (1024 * (n / 11) + r.val) e.val := by
  intro n
  induction n with
  | zero =>
    intro hn h r e
    rw [yAt_start m c ⟨0, hn⟩ rfl (fun _ => 0)]
    unfold yNext yAfter
    rw [if_neg (fun hh => h ((hends ⟨0, hn⟩).mp hh))]
    exact step_at m c ⟨0, hn⟩ _ (fun hh => absurd rfl hh) r e
  | succ n ih =>
    intro hn h r e
    by_cases h0 : (n + 1) % 11 = 0
    · rw [yAt_start m c ⟨n + 1, hn⟩ h0 (fun _ => 0)]
      unfold yNext yAfter
      rw [if_neg (fun hh => h ((hends ⟨n + 1, hn⟩).mp hh))]
      exact step_at m c ⟨n + 1, hn⟩ _ (fun hh => absurd h0 hh) r e
    · show yNext m c ⟨n + 1, hn⟩ (yAt m c n (Nat.lt_of_succ_lt hn)) (ix2 r e) = _
      unfold yNext yAfter
      rw [if_neg (fun hh => h ((hends ⟨n + 1, hn⟩).mp hh))]
      refine step_at m c ⟨n + 1, hn⟩ _ (fun _ r e => ?_) r e
      rw [ih (Nat.lt_of_succ_lt hn) (by omega) r e]
      have e1 : n % 11 + 1 = (n + 1) % 11 := by omega
      have e2 : n / 11 = (n + 1) / 11 := by omega
      rw [e1, e2]

/-- A tile's last point leaves the reference's rows. -/
theorem tile_done (t : Fin cfg0.N) (h : t.val % 11 = 10) (r : Fin 1024) (e : Fin 2048) :
    yAt m c t.val t.isLt (ix2 r e)
      = out (nat2 (Xm m c)) (nat2 (Gm m c) 1) (nat3 (Wm m c) 1) (nat3 (Cm m c) 1) (nat2 (Bm m c) 1) (nat3 (Dm m c) 1) (nat2 (Pm m c) 1)
          (1024 * (t.val / 11) + r.val) e.val := by
  have h0 : ¬ t.val % 11 = 0 := by omega
  rw [yAt_next m c t h0]
  unfold yNext yAfter
  rw [if_pos ((hends t).mpr h), yEnd_ix]
  have hy : ∀ k : Fin 2048, nat2 (yStep (grid0.coords t) (bufAt m c (wgb m c) t) (bufAt m c (wvb m c) t) (cwb m c t) (cbb m c t) (wdb m c t)
      (yAt m c (t.val - 1) (Nat.lt_of_le_of_lt (Nat.sub_le _ _) t.isLt))) r.val k.val
      = down (nat2 (Xm m c)) (nat2 (Gm m c) 1) (nat3 (Wm m c) 1) (nat3 (Cm m c) 1) (nat2 (Bm m c) 1) (nat3 (Dm m c) 1) (1024 * (t.val / 11) + r.val) k.val := by
    intro k
    rw [← nat2_ix _ r k, step_at m c t _ (fun _ r e => ?_) r k, h, part_all]
    rw [tile_partial m c (t.val - 1) _ (by omega) r e]
    have e1 : (t.val - 1) % 11 + 1 = t.val % 11 := by omega
    have e2 : (t.val - 1) / 11 = t.val / 11 := by omega
    rw [e1, e2]
  generalize yStep (grid0.coords t) (bufAt m c (wgb m c) t) (bufAt m c (wvb m c) t) (cwb m c t) (cbb m c t) (wdb m c t)
      (yAt m c (t.val - 1) (Nat.lt_of_le_of_lt (Nat.sub_le _ _) t.isLt)) = Y at *
  unfold out
  have hs : rowScale (nat2 Y r.val) = rowScale (down (nat2 (Xm m c)) (nat2 (Gm m c) 1) (nat3 (Wm m c) 1) (nat3 (Cm m c) 1) (nat2 (Bm m c) 1) (nat3 (Dm m c) 1) (1024 * (t.val / 11) + r.val)) := by
    unfold rowScale
    simp only [hy]
  rw [hs, hy, ← nat2_ix (xb m c t) r e, x_at, show nat3 (pgb m c t) 0 0 e.val = nat2 (Pm m c) 1 e.val from (nat3_one (pgb m c t) 0 e).trans (pg_at m c t e)]
end Tile

end Cert.Kernel5Ideal.Ffn
-- ==== Proof.FfnB.RefOut.lean ====
module

public import proofs.«01_k».proof.Proof.Gen.Reference5Ideal.Read
public import proofs.«01_k».proof.Proof.Ffn.Math
public import Idealize.ShloMosaic.Lib.Pointwise
public import Idealize.ShloMosaic.Lib.Tactic
public import Idealize.ShloMosaic.Lib.IdealHost

@[expose] public section
set_option maxRecDepth 16384
noncomputable section
namespace Cert.Reference5Ideal.Ffn
open Cert.Reference5Ideal Cert.Reference5Ideal.Gen Cert.Reference5Ideal.Read Idealize.ShloMosaic Idealize.ShloMosaic.TcCoe Idealize.SL.Sem
open Idealize.ShloMosaic.Pointwise
open Cert.KernelIdeal.Attn (nat2 nat3 nat2_ix nat3_ix)
open Cert.Kernel2Ideal.Inproj (rowScale)
open Cert.Ffn

/-! # The reference's result as a formula -/

variable (X : Vec Ideal S32768x2048 .f32) (G : Vec Ideal S2x2048 .f32) (W : Vec Ideal S2x2048x11264 .f32) (C : Vec Ideal S2x3x11264 .f32)
  (B : Vec Ideal S2x11264 .f32) (D : Vec Ideal S2x5632x2048 .f32) (P : Vec Ideal S2x2048 .f32)

theorem x_at (b : Fin 2) (s : Fin 16384) (k : Fin 2048) : val_main_v0 (F := Ideal) X (ix3 b s k) = nat2 X (16384 * b.val + s.val) k.val := by
  pointwise [val_main_v0]
  rw [nat2_ix X]
  congr 1
  show b.val * 16384 + s.val = _; omega

theorem scale_at (b : Fin 2) (s : Fin 16384) (z : Fin 1) : val_main_v10 (F := Ideal) X (ix3 b s z) = rowScale (nat2 X (16384 * b.val + s.val)) := by
  unfold rowScale
  pointwise [val_main_v10, val_main_v9, val_main_v8, val_main_v7, val_main_v6, val_main_v5, val_main_v4, val_main_v3, val_main_cst, val_main_cst_0, val_main_cst_1]
  simp only [x_at]

theorem hidden_at (b : Fin 2) (s : Fin 16384) (k : Fin 2048) :
    val_main_v15 (F := Ideal) X G (ix3 b s k) = nat2 X (16384 * b.val + s.val) k.val * rowScale (nat2 X (16384 * b.val + s.val)) * nat2 G 1 k.val := by
  pointwise [val_main_v15, val_main_v14, val_main_v13, val_main_v12, val_main_v11, val_main_v2, val_main_v1]
  rw [scale_at, x_at]
  simp only [nat2_ix]
  rfl

theorem up_at (b : Fin 2) (s : Fin 16384) (e : Fin 11264) :
    val_main_v18 (F := Ideal) X G W (ix3 b s e) = up (nat2 X) (nat2 G 1) (nat3 W 1) (16384 * b.val + s.val) e.val := by
  unfold up
  pointwise [val_main_v18, val_main_v17, val_main_v16]
  simp only [hidden_at]
  simp only [nat3_ix]
  rfl

/-- The rows with two of zeros before each sequence. -/
theorem padded_at (b : Fin 2) (s : Fin 16386) (e : Fin 11264) :
    val_main_v23 (F := Ideal) X G W (ix3 b s e)
      = if s.val < 2 then 0 else up (nat2 X) (nat2 G 1) (nat3 W 1) (16384 * b.val + (s.val - 2)) e.val := by
  pointwise [val_main_v23, val_main_call0_v0, val_main_c]
  have hs := s.isLt
  by_cases h : s.val < 2
  · rw [dif_neg (by omega), if_pos h]
    show ((((0#32 : BitVec 32).toInt : ℤ) : ℝ) : EReal) = 0
    simp
  · rw [dif_pos ⟨by omega, by omega⟩, if_neg h, up_at]

theorem conv_at (b : Fin 2) (s : Fin 16384) (e : Fin 11264) :
    val_main_v46 (F := Ideal) X G W C B (ix3 b s e) = conv (nat2 X) (nat2 G 1) (nat3 W 1) (nat3 C 1) (nat2 B 1) (16384 * b.val + s.val) e.val := by
  have hs := s.isLt
  unfold conv back
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v22, val_main_v21, val_main_v20, val_main_v19]
  simp only [padded_at]
  simp only [nat2_ix, nat3_ix]
  have e0 : (16384 * b.val + s.val) % 16384 = s.val := by omega
  rw [e0, if_neg (Nat.not_lt_zero s.val), if_neg (show ¬ 2 + s.val < 2 by omega)]
  have e2 : 16384 * b.val + (2 + s.val - 2) = 16384 * b.val + s.val := by omega
  have f2 : (if s.val < 2 then 0 else up (nat2 X) (nat2 G 1) (nat3 W 1) (16384 * b.val + (s.val - 2)) e.val)
      = if s.val < 2 then 0 else up (nat2 X) (nat2 G 1) (nat3 W 1) (16384 * b.val + s.val - 2) e.val := by
    by_cases h : s.val < 2
    · rw [if_pos h, if_pos h]
    · rw [if_neg h, if_neg h]; congr 1; omega
  have f1 : (if 1 + s.val < 2 then 0 else up (nat2 X) (nat2 G 1) (nat3 W 1) (16384 * b.val + (1 + s.val - 2)) e.val)
      = if s.val < 1 then 0 else up (nat2 X) (nat2 G 1) (nat3 W 1) (16384 * b.val + s.val - 1) e.val := by
    by_cases h : s.val < 1
    · rw [if_pos h, if_pos (by omega)]
    · rw [if_neg h, if_neg (by omega)]; congr 1; omega
  rw [f1, f2, e2]
  rfl

theorem act_at (b : Fin 2) (s : Fin 16384) (f : Fin 5632) :
    val_main_v62 (F := Ideal) X G W C B (ix3 b s f) = act (nat2 X) (nat2 G 1) (nat3 W 1) (nat3 C 1) (nat2 B 1) (16384 * b.val + s.val) f.val := by
  unfold act gelu
  pointwise [val_main_v62, val_main_v61, val_main_v60, val_main_v59, val_main_v58, val_main_v57, val_main_v56, val_main_v55, val_main_v54, val_main_v53, val_main_v52, val_main_v51, val_main_v50, val_main_v49, val_main_v48, val_main_v47, val_main_cst_2, val_main_cst_3, val_main_cst_4, val_main_cst_5]
  simp only [conv_at]

theorem down_at (b : Fin 2) (s : Fin 16384) (e : Fin 2048) :
    val_main_v65 (F := Ideal) X G W C B D (ix3 b s e) = down (nat2 X) (nat2 G 1) (nat3 W 1) (nat3 C 1) (nat2 B 1) (nat3 D 1) (16384 * b.val + s.val) e.val := by
  unfold down
  pointwise [val_main_v65, val_main_v64, val_main_v63]
  simp only [act_at]
  simp only [nat3_ix]
  rfl

theorem end_at (b : Fin 2) (s : Fin 16384) (z : Fin 1) :
    val_main_v75 (F := Ideal) X G W C B D (ix3 b s z) = rowScale (down (nat2 X) (nat2 G 1) (nat3 W 1) (nat3 C 1) (nat2 B 1) (nat3 D 1) (16384 * b.val + s.val)) := by
  unfold rowScale
  pointwise [val_main_v75, val_main_v74, val_main_v73, val_main_v72, val_main_v71, val_main_v70, val_main_v69, val_main_v68, val_main_cst_6, val_main_cst_7, val_main_cst_8]
  simp only [down_at]

theorem out_at (r : Fin 32768) (e : Fin 2048) :
    val_main_v82 (F := Ideal) X G W C B D P (ix2 r e)
      = out (nat2 X) (nat2 G 1) (nat3 W 1) (nat3 C 1) (nat2 B 1) (nat3 D 1) (nat2 P 1) r.val e.val := by
  have hr := r.isLt
  have he := e.isLt
  have e0 : idx_main_v82 (ix2 r e) = ix3 (⟨r.val / 16384, by omega⟩ : Fin 2) (⟨r.val % 16384, by omega⟩ : Fin 16384) e := by
    funext a; match a with
    | ⟨0, _⟩ => exact Fin.ext (by show (r.val * 2048 + e.val) / 33554432 = r.val / 16384; omega)
    | ⟨1, _⟩ => exact Fin.ext (by show (r.val * 2048 + e.val) / 2048 % 16384 = r.val % 16384; omega)
    | ⟨2, _⟩ => exact Fin.ext (by show (r.val * 2048 + e.val) % 2048 = e.val; omega)
  have e1 : 16384 * (r.val / 16384) + r.val % 16384 = r.val := Nat.div_add_mod _ _
  rw [val_main_v82_apply, e0]
  unfold out
  pointwise [val_main_v81, val_main_v80, val_main_v79, val_main_v78, val_main_v77, val_main_v76, val_main_v67, val_main_v66]
  rw [end_at, x_at, down_at]
  simp only [e1, nat2_ix]
  rfl

end Cert.Reference5Ideal.Ffn
-- ==== Proof.FfnB.Out.lean ====
module

public import proofs.«01_k».proof.Proof.FfnB.Sums
public import proofs.«01_k».proof.Proof.FfnB.Frame
public import proofs.«01_k».proof.Proof.FfnB.RefOut
public import Idealize.ShloMosaic.Lib.Pipeline.ValueKit.Point

@[expose] public section
set_option maxRecDepth 16384
noncomputable section
namespace Cert.Kernel5Ideal.Ffn
open Cert.Kernel5Ideal Cert.Kernel5Ideal.Gen Idealize.ShloMosaic Idealize.ShloMosaic.TcCoe Idealize.SL.Sem
open Idealize.ShloMosaic.Pointwise

/-! # The call's result array is the reference's -/

variable (m : (ℓ : Loc nD τ sig) → Buf (Elt Ideal) ℓ)

theorem y_eq (c : Dev nD) : (dats m 0 c).arrAt 7 cfg0.N
    = Cert.Reference5Ideal.Read.val_main_v82 (F := Ideal) (Xm m c) (Gm m c) (Wm m c) (Cm m c) (Bm m c) (Dm m c) (Pm m c) := by
  refine (dats m 0 c).arrAt_eq_of_covers 7 _ (by decide +kernel) fun t hf y => ?_
  have h1 := (flush0_7 t).1 hf
  blk_simp
  rw [after_7]
  refine (congrArg (yAt m c t.val t.isLt) (eq_ix2 y)).trans ((tile_done m c t h1 (y 0) (y 1)).trans ?_)
  have e0 : ((((cfg0.win 7).blk t).view.emb y) 0).val = 1024 * (t.val / 11) + (y 0).val := by
    blk_simp [index7 t]
    omega
  have e1 : ((((cfg0.win 7).blk t).view.emb y) 1).val = (y 1).val := by
    blk_simp [index7 t]
  rw [← e0, ← e1]
  generalize ((cfg0.win 7).blk t).view.emb y = w
  exact (Cert.Reference5Ideal.Ffn.out_at (Xm m c) (Gm m c) (Wm m c) (Cm m c) (Bm m c) (Dm m c) (Pm m c) (w 0) (w 1)).symm.trans (congrArg _ (eq_ix2 w).symm)

/-- The run's result and its arguments. -/
theorem run_blocks (ρ : Dev nD → PrngReg) : θ_run defs (onTc (τ := τ) (main (F := Ideal))) ⟨m, fun _ => 0, ρ⟩ (fun r => ∀ c : Dev nD,
      r.2.mem ((c.tc : Thread nD τ).loc main_v7) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c).1 7, h.2 c⟩) (θ_run_and (run_main m ρ) (frame_of m ρ (dats m) (A_eq m) (run_main m ρ)))

end Cert.Kernel5Ideal.Ffn
-- ==== Proof.Attn.Softmax.lean ====
module

public import Idealize.ShloMosaic.PureOps.Ideal

@[expose] public section
noncomputable section
namespace Cert.Attn
open Idealize.ShloMosaic

/-! # Sums, maxima and weights of masked scores over the reals -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A masked score: the score where the mask holds, minus infinity elsewhere. -/
def masked (p : Prop) [Decidable p] (s : ℝ) : EReal := if p then (s : EReal) else ⊥

/-- The maximum of masked scores, one of which is not masked, is a real number. -/
theorem max_real {ι : Type} [Fintype ι] (P : ι → Prop) [DecidablePred P] (s : ι → ℝ) (h : ∃ i, P i) :
    ∃ m : ℝ, Finset.univ.fold max ⊥ (fun i => masked (P i) (s i)) = (m : EReal) := by
  obtain ⟨i, hi⟩ := h
  have hb : Finset.univ.fold max ⊥ (fun i => masked (P i) (s i)) ≠ ⊥ := by
    have h1 : ((s i : ℝ) : EReal) ≤ Finset.univ.fold max ⊥ (fun i => masked (P i) (s i)) :=
      (Finset.le_fold_max _).2 (Or.inr ⟨i, Finset.mem_univ _, by unfold masked; rw [if_pos hi]⟩)
    intro e
    rw [e] at h1
    exact absurd (le_bot_iff.1 h1) (EReal.coe_ne_bot _)
  have ht : Finset.univ.fold max ⊥ (fun i => masked (P i) (s i)) ≠ ⊤ := by
    have h2 : Finset.univ.fold max ⊥ (fun i => masked (P i) (s i)) < ⊤ :=
      (Finset.fold_max_lt _).2 ⟨bot_lt_top, fun i _ => by
        unfold masked
        split
        · exact EReal.coe_lt_top _
        · exact bot_lt_top⟩
    exact ne_of_lt h2
  exact ⟨_, (EReal.coe_toReal ht hb).symm⟩

/-- The weight of a masked score to base 2: zero where masked. -/
theorem exp2_masked (p : Prop) [Decidable p] (s m : ℝ) :
    Ideal.exp2 (masked p s - (m : EReal)) = ((if p then Real.exp (Real.log 2 * s - Real.log 2 * m) else 0 : ℝ) : EReal) := by
  unfold masked
  by_cases hp : p
  · rw [if_pos hp, if_pos hp, ← EReal.coe_sub, Ideal.exp2_coe]
    congr 1
    show (2 : ℝ) ^ (s - m) = _
    rw [Real.rpow_def_of_pos (by norm_num), mul_sub]
  · rw [if_neg hp, if_neg hp, EReal.bot_sub, Ideal.exp2_bot]
    rfl

/-- The weight of a masked score to base e: zero where masked. -/
theorem exp_masked (p : Prop) [Decidable p] (s m : ℝ) :
    Ideal.exp (masked p s - (m : EReal)) = ((if p then Real.exp (s - m) else 0 : ℝ) : EReal) := by
  unfold masked
  by_cases hp : p
  · rw [if_pos hp, if_pos hp, ← EReal.coe_sub, Ideal.exp_coe]
  · rw [if_neg hp, if_neg hp, EReal.bot_sub, Ideal.exp_bot]
    rfl

/-- A sum over a longer window of a function that is zero outside a shorter one. -/
theorem sum_window (f : ℕ → ℝ) (o p N M : ℕ) (h1 : o ≤ p) (h2 : p + M ≤ o + N) (hz : ∀ j, o ≤ j → j < o + N → ¬ (p ≤ j ∧ j < p + M) → f j = 0) :
    ∑ x : Fin N, f (o + x.val) = ∑ b : Fin M, f (p + b.val) := by
  rw [Fin.sum_univ_eq_sum_range (fun x => f (o + x)) N, Fin.sum_univ_eq_sum_range (fun x => f (p + x)) M]
  have e1 : ∑ x ∈ Finset.range N, f (o + x) = ∑ j ∈ Finset.Ico o (o + N), f j := by
    rw [Finset.sum_Ico_eq_sum_range, Nat.add_sub_cancel_left]
  have e2 : ∑ x ∈ Finset.range M, f (p + x) = ∑ j ∈ Finset.Ico p (p + M), f j := by
    rw [Finset.sum_Ico_eq_sum_range, Nat.add_sub_cancel_left]
  rw [e1, e2]
  symm
  refine Finset.sum_subset (fun j hj => ?_) (fun j hj hn => ?_)
  · rw [Finset.mem_Ico] at hj ⊢; omega
  · rw [Finset.mem_Ico] at hj
    refine hz j hj.1 hj.2 (fun q => hn ?_)
    rw [Finset.mem_Ico]; exact q

/-- Normalising weights before or after the sum, and from either shift of the scores, gives the same average. -/
theorem average {ι : Type} [Fintype ι] (P : ι → Prop) [DecidablePred P] (h : ∃ i, P i) (s v : ι → ℝ) (m M : ℝ) :
    (((∑ i, (if P i then Real.exp (s i - m) else 0) * v i : ℝ) : EReal)) * Ideal.div 1 ((∑ i, (if P i then Real.exp (s i - m) else 0) : ℝ) : EReal)
      = ∑ i, ((v i : ℝ) : EReal) * Ideal.div ((if P i then Real.exp (s i - M) else 0 : ℝ) : EReal) ((∑ i, (if P i then Real.exp (s i - M) else 0) : ℝ) : EReal) := by
  have pos : ∀ m : ℝ, 0 < ∑ i, (if P i then Real.exp (s i - m) else 0) := by
    intro m
    obtain ⟨i, hi⟩ := h
    refine Finset.sum_pos' (fun j _ => ?_) ⟨i, Finset.mem_univ _, ?_⟩
    · split
      · exact (Real.exp_pos _).le
      · exact le_refl _
    · rw [if_pos hi]; exact Real.exp_pos _
  have shift : ∀ i, (if P i then Real.exp (s i - m) else 0) = Real.exp (M - m) * (if P i then Real.exp (s i - M) else 0) := by
    intro i
    split
    · rw [← Real.exp_add]; congr 1; ring
    · rw [mul_zero]
  have hM := pos M
  rw [Ideal.div_coe (ne_of_gt (pos m)), one_mul, ← EReal.coe_mul]
  simp only [Ideal.div_coe (ne_of_gt hM), ← EReal.coe_mul]
  rw [coe_sum]
  congr 1
  simp only [shift, mul_assoc, ← Finset.mul_sum]
  generalize hL : (∑ i, (if P i then Real.exp (s i - M) else 0)) = L at hM
  have hc : Real.exp (M - m) ≠ 0 := (Real.exp_pos _).ne'
  have : ∀ i, v i * ((if P i then Real.exp (s i - M) else 0) * (1 / L)) = ((if P i then Real.exp (s i - M) else 0) * v i) * (1 / L) := by intro i; ring
  simp only [this, ← Finset.sum_mul]
  field_simp

end Cert.Attn
-- ==== Proof.Attn.Join.lean ====
module

public import proofs.«01_k».proof.Proof.Attn.Consts
public import proofs.«01_k».proof.Proof.Attn.Softmax

@[expose] public section
noncomputable section
namespace Cert.Attn
open Idealize.ShloMosaic
open Cert.KernelIdeal.Attn (nat2 keyAt biasAt scoreAt topAt weightAt sumAt outAt lg lg)
open Cert.ReferenceIdeal.Attn (refScore refTop refWeight refOut)

/-! # The two formulas agree on finite arguments

Query row `r` of query block `i` is row `256 i + r` of the arguments. Its band is 576 keys long and begins at key
`64 (r / 64)` of the 768 keys the kernel holds for the block. -/

variable (z a : ℕ → ℕ → ℝ)

/-- Key or value `j` of block `i`, as a real number: zero before the array's first row. -/
def keyR (i j e : ℕ) : ℝ := if 512 ≤ 256 * i + j then z (256 * i + j - 512) e else 0

/-- The score in base 2 of row `r` against key `j` where it is not masked. -/
def scoreR (i h r j : ℕ) : ℝ :=
  (∑ d : Fin 128, z (256 * i + r) (128 * h + d.val) * keyR z i j (1024 + (128 * h + d.val))) + a h (min 256 (640 + r - j)) * (Real.log 2)⁻¹

/-- Key `j` is in the band of row `r` and not before the sequence's first key. -/
abbrev Seen (i r j : ℕ) : Prop := 256 * (2 - i % 64) ≤ j ∧ 64 * (r / 64) ≤ j ∧ j < 64 * (r / 64) + 576

/-- The kernel's weight of key `j` from the maximum `m`, as a real number. -/
def weightR (m : ℝ) (i h r j : ℕ) : ℝ := if Seen i r j then Real.exp (Real.log 2 * scoreR z a i h r j - Real.log 2 * m) else 0

variable {z a} {Z : Vec Ideal Cert.KernelIdeal.S32768x4096 .bf16} {A : Vec Ideal Cert.KernelIdeal.S8x257 .f32}
  (hZ : ∀ i j, nat2 Z i j = ((z i j : ℝ) : EReal)) (hA : ∀ i j, nat2 A i j = ((a i j : ℝ) : EReal))

include hZ in
theorem key_real (i j e : ℕ) : keyAt Z i j e = ((keyR z i j e : ℝ) : EReal) := by
  unfold keyAt keyR
  split
  · exact hZ _ _
  · rfl

include hZ hA in
theorem score_real (i h r j : ℕ) : scoreAt Z A i h r j = masked (Seen i r j) (scoreR z a i h r j) := by
  unfold scoreAt
  simp only [hZ, key_real hZ, ← EReal.coe_mul, coe_sum]
  rw [lg_eq]
  unfold biasAt masked scoreR
  by_cases hs : Seen i r j
  · rw [if_pos hs, if_pos hs, hA, ← EReal.coe_mul, ← EReal.coe_add]
  · rw [if_neg hs, if_neg hs, neg_inf, EReal.bot_mul_coe_of_pos (inv_pos.2 log2_pos), EReal.add_bot]

include hZ hA in
theorem top_real (i h r : ℕ) (hr : r < 256) : ∃ m : ℝ, topAt Z A i h r = (m : EReal) := by
  unfold topAt
  simp only [score_real hZ hA, neg_inf]
  refine max_real (fun x : Fin 640 => Seen i r (128 * (r / 128) + x.val)) _ ⟨⟨64 * (r / 64) + 512 - 128 * (r / 128), by omega⟩, ?_⟩
  show 256 * (2 - i % 64) ≤ 128 * (r / 128) + (64 * (r / 64) + 512 - 128 * (r / 128)) ∧ _ ≤ 128 * (r / 128) + (64 * (r / 64) + 512 - 128 * (r / 128)) ∧ 128 * (r / 128) + (64 * (r / 64) + 512 - 128 * (r / 128)) < _
  omega

include hZ hA in
theorem weight_real (i h r : ℕ) (m : ℝ) (hm : topAt Z A i h r = (m : EReal)) (j : ℕ) :
    weightAt Z A i h r j = ((weightR z a m i h r j : ℝ) : EReal) := by
  unfold weightAt
  rw [hm, score_real hZ hA]
  exact exp2_masked _ _ _

/-- The kernel's formula over the band, as real numbers. -/
theorem weight_zero (m : ℝ) (i h r j : ℕ) (hj : ¬ (64 * (r / 64) ≤ j ∧ j < 64 * (r / 64) + 576)) : weightR z a m i h r j = 0 :=
  if_neg (fun q => hj q.2)

include hZ hA in
theorem sum_real (i h r : ℕ) (m : ℝ) (hm : topAt Z A i h r = (m : EReal)) :
    sumAt Z A i h r = ((∑ b : Fin 576, weightR z a m i h r (64 * (r / 64) + b.val) : ℝ) : EReal) := by
  unfold sumAt
  simp only [weight_real hZ hA i h r m hm]
  rw [coe_sum, sum_window (weightR z a m i h r) (128 * (r / 128)) (64 * (r / 64)) 640 576 (by omega) (by omega) (fun j _ _ q => weight_zero m i h r j q)]

include hZ hA in
theorem out_real (i r c : ℕ) (hr : r < 256) (m : ℝ) (hm : topAt Z A i (c / 128) r = (m : EReal)) :
    outAt Z A i r c = ((∑ b : Fin 576, weightR z a m i (c / 128) r (64 * (r / 64) + b.val) * keyR z i (64 * (r / 64) + b.val) (2048 + c) : ℝ) : EReal)
      * Ideal.div 1 ((∑ b : Fin 576, weightR z a m i (c / 128) r (64 * (r / 64) + b.val) : ℝ) : EReal) := by
  unfold outAt
  rw [sum_real hZ hA i (c / 128) r m hm]
  refine congrArg (fun s => s * _) ?_
  have e : ∀ k : Fin 768, (if 128 * (r / 128) ≤ k.val ∧ k.val < 128 * (r / 128) + 640 then weightAt Z A i (c / 128) r k.val else 0) * keyAt Z i k.val (2048 + c)
      = ((weightR z a m i (c / 128) r (0 + k.val) * keyR z i (0 + k.val) (2048 + c) : ℝ) : EReal) := by
    intro k
    rw [Nat.zero_add, EReal.coe_mul, key_real hZ]
    refine congrArg (fun s => s * _) ?_
    by_cases hk : 128 * (r / 128) ≤ k.val ∧ k.val < 128 * (r / 128) + 640
    · rw [if_pos hk, weight_real hZ hA i _ r m hm]
    · rw [if_neg hk, weight_zero m i _ r k.val (by omega)]
      rfl
  simp only [e]
  rw [coe_sum, sum_window (fun j => weightR z a m i (c / 128) r j * keyR z i j (2048 + c)) 0 (64 * (r / 64)) 768 576 (by omega) (by omega)
    (fun j _ _ q => by show weightR z a m i (c / 128) r j * _ = 0; rw [weight_zero m i _ r j q, zero_mul])]

include hZ hA in
theorem ref_score (i h r b : ℕ) (hr : r < 256) (hb : b < 576) :
    refScore Z A (256 * i + r) h b = masked (Seen i r (64 * (r / 64) + b)) (Real.log 2 * scoreR z a i h r (64 * (r / 64) + b)) := by
  unfold refScore masked
  by_cases hs : Seen i r (64 * (r / 64) + b)
  · have h1 : 512 ≤ 64 * ((256 * i + r) / 64 % 256) + b := by have := hs.1; omega
    rw [if_pos hs, if_pos h1, unscale_eq, sqrt128, Ideal.div_coe sqrt128_ne]
    simp only [hZ, hA, ← EReal.coe_mul, coe_sum, ← EReal.coe_add]
    refine congrArg (fun s : ℝ => (s : EReal)) ?_
    have hk : ∀ d : Fin 128, keyR z i (64 * (r / 64) + b) (1024 + (128 * h + d.val))
        = z (16384 * ((256 * i + r) / 16384) + (64 * ((256 * i + r) / 64 % 256) + b - 512)) (1024 + (128 * h + d.val)) := by
      intro d
      unfold keyR
      rw [if_pos (by omega)]
      congr 1
      omega
    unfold scoreR
    simp only [hk]
    have hc : min 256 (640 + r - (64 * (r / 64) + b)) = min 256 (640 + (256 * i + r) % 64 - b) := by omega
    rw [hc, mul_add, Finset.mul_sum, Finset.sum_mul]
    have hl := log2_pos.ne'
    have hq := sqrt128_ne
    congr 1
    · refine Finset.sum_congr rfl fun d _ => ?_
      field_simp
    · field_simp
  · have h1 : ¬ 512 ≤ 64 * ((256 * i + r) / 64 % 256) + b := fun q => hs ⟨by omega, by omega, by omega⟩
    rw [if_neg hs, if_neg h1, neg_inf]

include hZ hA in
theorem ref_top (i h r : ℕ) (hr : r < 256) : ∃ M : ℝ, refTop Z A (256 * i + r) h = (M : EReal) := by
  unfold refTop
  have e : ∀ k : Fin 576, refScore Z A (256 * i + r) h k.val = masked (Seen i r (64 * (r / 64) + k.val)) (Real.log 2 * scoreR z a i h r (64 * (r / 64) + k.val)) :=
    fun k => ref_score hZ hA i h r k.val hr k.isLt
  simp only [e, neg_inf]
  obtain ⟨M, hM⟩ := max_real (fun k : Fin 576 => Seen i r (64 * (r / 64) + k.val)) (fun k => Real.log 2 * scoreR z a i h r (64 * (r / 64) + k.val))
    ⟨⟨512, by omega⟩, by show _ ≤ 64 * (r / 64) + 512 ∧ _ ≤ 64 * (r / 64) + 512 ∧ 64 * (r / 64) + 512 < _; omega⟩
  exact ⟨M, by rw [hM]; exact max_eq_right bot_le⟩

include hZ hA in
/-- The kernel's formula and the reference's are equal. -/
theorem out_eq (i r c : ℕ) (hr : r < 256) : outAt Z A i r c = refOut Z A (256 * i + r) c := by
  obtain ⟨m, hm⟩ := top_real hZ hA i (c / 128) r hr
  obtain ⟨M, hM⟩ := ref_top hZ hA i (c / 128) r hr
  rw [out_real hZ hA i r c hr m hm]
  have hw : ∀ k : Fin 576, refWeight Z A (256 * i + r) (c / 128) k.val
      = ((if Seen i r (64 * (r / 64) + k.val) then Real.exp (Real.log 2 * scoreR z a i (c / 128) r (64 * (r / 64) + k.val) - M) else 0 : ℝ) : EReal) := by
    intro k
    unfold refWeight
    rw [hM, ref_score hZ hA i _ r k.val hr k.isLt]
    exact exp_masked _ _ _
  have hv : ∀ k : Fin 576, (if 512 ≤ 64 * ((256 * i + r) / 64 % 256) + k.val then nat2 Z (16384 * ((256 * i + r) / 16384) + (64 * ((256 * i + r) / 64 % 256) + k.val - 512)) (2048 + c) else 0)
      = ((if Seen i r (64 * (r / 64) + k.val) then keyR z i (64 * (r / 64) + k.val) (2048 + c) else 0 : ℝ) : EReal) := by
    intro k
    have hk := k.isLt
    by_cases hs : Seen i r (64 * (r / 64) + k.val)
    · have h1 : 512 ≤ 64 * ((256 * i + r) / 64 % 256) + k.val := by have := hs.1; omega
      rw [if_pos hs, if_pos h1, hZ]
      unfold keyR
      rw [if_pos (by omega)]
      have e : 16384 * ((256 * i + r) / 16384) + (64 * ((256 * i + r) / 64 % 256) + k.val - 512) = 256 * i + (64 * (r / 64) + k.val) - 512 := by omega
      rw [e]
    · have h1 : ¬ 512 ≤ 64 * ((256 * i + r) / 64 % 256) + k.val := fun q => hs ⟨by omega, by omega, by omega⟩
      rw [if_neg hs, if_neg h1]
      rfl
  unfold refOut
  simp only [hw, hv, coe_sum]
  rw [← average (fun k : Fin 576 => Seen i r (64 * (r / 64) + k.val))
    ⟨⟨512, by omega⟩, by show _ ≤ 64 * (r / 64) + 512 ∧ _ ≤ 64 * (r / 64) + 512 ∧ 64 * (r / 64) + 512 < _; omega⟩
    (fun k => Real.log 2 * scoreR z a i (c / 128) r (64 * (r / 64) + k.val))
    (fun k => if Seen i r (64 * (r / 64) + k.val) then keyR z i (64 * (r / 64) + k.val) (2048 + c) else 0) (Real.log 2 * m) M]
  unfold weightR
  refine congrArg (fun s : ℝ => (s : EReal) * _) (Finset.sum_congr rfl fun k _ => ?_)
  by_cases hs : Seen i r (64 * (r / 64) + k.val)
  · simp only [if_pos hs]
  · simp only [if_neg hs, zero_mul]

end Cert.Attn
-- ==== Proof.Attn.Finite.lean ====
module

public import proofs.«01_k».proof.Defs
public import proofs.«01_k».proof.Proof.Attn.Consts
public import Idealize.ShloMosaic.Lib.ReduceAll

@[expose] public section
noncomputable section
namespace Cert.Attn
open Idealize.ShloMosaic
open Cert.KernelIdeal.Attn (nat2)

/-! # What the precondition says: every entry is a real number -/

theorem preFacts : Cert.Pre_all_finite.Facts := by constructor <;> decide

/-- A value whose absolute value is below infinity is a real number. -/
theorem real_of_abs (x y : EReal) (hy : y = ⊤) (h : Ideal.cmp .olt (max x (-x)) y = 1#1) : ∃ r : ℝ, x = (r : EReal) := by
  have h1 : max x (-x) < ⊤ := by
    by_contra hn
    subst hy
    have : Ideal.cmp .olt (max x (-x)) ⊤ = 0#1 := by unfold Ideal.cmp; simp only [decide_eq_false hn]; rfl
    rw [this] at h
    exact absurd h (by decide)
  have ht : x ≠ ⊤ := fun e => absurd (lt_of_le_of_lt (le_max_left _ _) h1) (by rw [e]; exact lt_irrefl _)
  have hb : x ≠ ⊥ := fun e => absurd (lt_of_le_of_lt (le_max_right _ _) h1) (by rw [e, EReal.neg_bot]; exact lt_irrefl _)
  exact ⟨x.toReal, (EReal.coe_toReal ht hb).symm⟩

instance : Subsingleton Cert.Pre_all_finite.S_.Idx := ⟨fun _ _ => funext fun a => a.elim0⟩

theorem finite [Cert.Pre_all_finite.Facts] (Z : Vec Ideal Cert.KernelIdeal.S32768x4096 .bf16) (A : Vec Ideal Cert.KernelIdeal.S8x257 .f32)
    (h : Cert.Pre_all_finite.fn (F := Ideal) Z A = fun _ => 1#1) :
    (∀ y, ∃ r : ℝ, Z y = (r : EReal)) ∧ (∀ y, ∃ r : ℝ, A y = (r : EReal)) := by
  have h0 := congrFun h (fun a => a.elim0)
  obtain ⟨h1, h2⟩ := IntOp.andi_eq_one.1 h0
  exact ⟨fun y => real_of_abs _ _ pos_inf16 (Host.reduce_andi_all _ _ _ _ _ h1 y), fun y => real_of_abs _ _ pos_inf (Host.reduce_andi_all _ _ _ _ _ h2 y)⟩

/-- A matrix of real numbers, read at natural coordinates. -/
theorem nat_real {p q : ℕ} (f : (⟨2, ![p, q]⟩ : Shape).Idx → EReal) (h : ∀ y, ∃ r : ℝ, f y = (r : EReal)) :
    ∃ g : ℕ → ℕ → ℝ, ∀ i j, nat2 f i j = ((g i j : ℝ) : EReal) := by
  have e : ∀ i j, ∃ r : ℝ, nat2 f i j = (r : EReal) := by
    intro i j
    unfold nat2
    split
    case isTrue hij => exact h _
    case isFalse => exact ⟨0, rfl⟩
  exact ⟨fun i j => (e i j).choose, fun i j => (e i j).choose_spec⟩

end Cert.Attn
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Attn.Out
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal
public import proofs.«01_k».proof.Proof.Inproj.Out
public import proofs.«01_k».proof.Proof.Gen.Kernel3
public import proofs.«01_k».proof.Proof.Gen.Kernel3Ideal
public import proofs.«01_k».proof.Proof.Gen.Reference3Ideal.Run
public import proofs.«01_k».proof.Proof.Gen.Reference3Ideal
public import proofs.«01_k».proof.Proof.Ffn.RawFrame
public import proofs.«01_k».proof.Proof.Ffn.Out
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal
public import proofs.«01_k».proof.Proof.InprojB.Out
public import proofs.«01_k».proof.Proof.Gen.Kernel5
public import proofs.«01_k».proof.Proof.Gen.Kernel5Ideal
public import proofs.«01_k».proof.Proof.Gen.Reference5Ideal.Run
public import proofs.«01_k».proof.Proof.Gen.Reference5Ideal
public import proofs.«01_k».proof.Proof.FfnB.RawFrame
public import proofs.«01_k».proof.Proof.FfnB.Out
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Attn.Join
public import proofs.«01_k».proof.Proof.Attn.Finite
public import Idealize.ShloMosaic.Adequacy
public import Idealize.ShloMosaic.Init

@[expose] public section

noncomputable section

namespace Cert.Proof

open Idealize.ShloMosaic Idealize.SL.Sem Cert.Kernel

/-- On finite arguments the reference's result is the kernel's, at every row and column. -/
theorem result_eq (m : (ℓ : Loc Cert.KernelIdeal.nD Cert.KernelIdeal.τ Cert.KernelIdeal.sig) → Buf (Elt Ideal) ℓ) (c : Dev Cert.KernelIdeal.nD)
    (hZ : ∀ y, ∃ r : ℝ, Cert.KernelIdeal.Attn.Zm m c y = (r : EReal)) (hA : ∀ y, ∃ r : ℝ, Cert.KernelIdeal.Attn.Am m c y = (r : EReal)) :
    Cert.ReferenceIdeal.Read.val_main_v84 (F := Ideal) (Cert.KernelIdeal.Attn.Zm m c) (Cert.KernelIdeal.Attn.Am m c) = Cert.KernelIdeal.Attn.result m c := by
  obtain ⟨z, hz⟩ := Cert.Attn.nat_real _ hZ
  obtain ⟨a, ha⟩ := Cert.Attn.nat_real _ hA
  funext y
  unfold Cert.KernelIdeal.Attn.result
  rw [Cert.Attn.out_eq hz ha _ _ _ (Nat.mod_lt _ (by decide))]
  have e : 256 * ((y 0).val / 256) + (y 0).val % 256 = (y 0).val := Nat.div_add_mod _ _
  rw [e]
  exact (congrArg _ (eq_ix2 y)).trans (Cert.ReferenceIdeal.Attn.out_at _ _ (y 0) (y 1))

/-- The programs of the attention, of the input projection and of the channel mixing run with every argument unchanged; the idealized
kernels of the first two differ from their kernels in one named constant each, `log2_e` and `qk_scale`, and the third's is its kernel;
the attention's idealized kernel and reference end with equal results on finite arguments, the other two pairs on all arguments. The
kernel of the first layer's mixing and its idealized kernel run with every argument unchanged; of their result nothing is said. -/
theorem claim : Cert.Claim := by
  refine ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Attn.preFacts,
    fun m ρ _ => Cert.Kernel.Gen.frame m ρ,
    fun m ρ _ => Cert.KernelIdeal.Gen.frame m ρ,
    fun m ρ _ => Cert.KernelIdeal.Gen.frame m ρ,
    fun m ρ _ => (θ_run Cert.ReferenceIdeal.defs _ _).mono (fun r h => ⟨fun c => (h c).2, sem_eq_zero_of_no_sems (by decide) r.2⟩)
      (Cert.ReferenceIdeal.Value.run m ρ),
    fun m ρ _ => (θ_run Cert.ReferenceIdeal.defs _ _).mono (fun r h => ⟨fun c => (h c).2, sem_eq_zero_of_no_sems (by decide) r.2⟩)
      (Cert.ReferenceIdeal.Value.run m ρ),
    fun m ρ _ => Cert.Kernel2.Gen.frame m ρ,
    fun m ρ _ => Cert.Kernel2Ideal.Gen.frame m ρ,
    fun m ρ _ => (θ_run Cert.Reference2Ideal.defs _ _).mono (fun r h => ⟨fun c => (h c).2.2, sem_eq_zero_of_no_sems (by decide) r.2⟩)
      (Cert.Reference2Ideal.Value.run m ρ),
    fun m ρ _ => Cert.Kernel3.Ffn.frame m ρ,
    fun m ρ _ => Cert.Kernel3Ideal.Ffn.frame m ρ,
    fun m ρ _ => (θ_run Cert.Reference3Ideal.defs _ _).mono (fun r h => ⟨fun c => (h c).2, sem_eq_zero_of_no_sems (by decide) r.2⟩)
      (Cert.Reference3Ideal.Value.run m ρ),
    fun m ρ _ => Cert.Kernel4.Gen.frame m ρ,
    fun m ρ _ => Cert.Kernel4Ideal.Gen.frame m ρ,
    fun m ρ _ => (θ_run Cert.Reference4Ideal.defs _ _).mono (fun r h => ⟨fun c => (h c).2.2, sem_eq_zero_of_no_sems (by decide) r.2⟩)
      (Cert.Reference4Ideal.Value.run m ρ),
    fun m ρ _ => Cert.Kernel5.Ffn.frame m ρ,
    fun m ρ _ => Cert.Kernel5Ideal.Ffn.frame m ρ,
    fun m ρ _ => (θ_run Cert.Reference5Ideal.defs _ _).mono (fun r h => ⟨fun c => (h c).2, sem_eq_zero_of_no_sems (by decide) r.2⟩)
      (Cert.Reference5Ideal.Value.run m ρ),
    fun m ρ _ => Cert.Kernel6.Gen.frame m ρ,
    fun m ρ _ => Cert.Kernel6Ideal.Gen.frame m ρ,
    IdealRules.named_const.statement Cert.KernelIdeal.κ "log2_e" .f32 0x3FB8AA3B#32 (((Real.log 2)⁻¹ : ℝ) : EReal) rfl, ?_,
    IdealRules.named_const.statement Cert.Kernel2Ideal.κ "qk_scale" .f32 0x3E0293EE#32 (((Real.log 2 * Real.sqrt 128)⁻¹ : ℝ) : EReal) rfl, ?_,
    trivial, ?_,
    IdealRules.named_const.statement Cert.Kernel4Ideal.κ "qk_scale" .f32 0x3E0293EE#32 (((Real.log 2 * Real.sqrt 128)⁻¹ : ℝ) : EReal) rfl, ?_,
    trivial, ?_, trivial⟩
  · intro m ρ m' ρ' hpre hagree
    refine ⟨fun c => Cert.KernelIdeal.Attn.result m c, ?_, ?_⟩
    · refine (θ_run Cert.KernelIdeal.defs _ _).mono (fun _ h c => ⟨(h c).1.trans ?_, (h c).2⟩) (Cert.KernelIdeal.Value.run_blocks m ρ)
      exact Cert.KernelIdeal.Attn.arr_eq m c
    · refine (θ_run Cert.ReferenceIdeal.defs _ _).mono (fun _ h c => ⟨(h c).1.trans ?_, (h c).2⟩) (Cert.ReferenceIdeal.Value.run m' ρ')
      obtain ⟨hZ, hA⟩ := @Cert.Attn.finite Cert.Attn.preFacts _ _ (hpre c)
      rw [Cert.ReferenceIdeal.Read.val_main_v84_eq, (hagree c).1, (hagree c).2]
      exact result_eq m c hZ hA
  · intro m ρ m' ρ' _ hagree
    refine ⟨fun c => (Cert.Kernel2Ideal.Gen.dats m 0 c).arrAt 2 Cert.Kernel2Ideal.cfg0.N,
      fun c => (Cert.Kernel2Ideal.Gen.dats m 0 c).arrAt 3 Cert.Kernel2Ideal.cfg0.N, Cert.Kernel2Ideal.Value.run_blocks m ρ, ?_⟩
    refine (θ_run Cert.Reference2Ideal.defs _ _).mono (fun _ h c => ⟨(h c).1.trans ?_, (h c).2.1.trans ?_, (h c).2.2⟩)
      (Cert.Reference2Ideal.Value.run m' ρ')
    · rw [Cert.Reference2Ideal.Read.val_main_v27_eq, (hagree c).1, (hagree c).2.1, (hagree c).2.2]
      exact (Cert.Kernel2Ideal.Inproj.z_eq m c).symm
    · rw [Cert.Reference2Ideal.Read.val_main_v18_eq, (hagree c).1, (hagree c).2.1, (hagree c).2.2]
      exact (Cert.Kernel2Ideal.Inproj.u_eq m c).symm
  · intro m ρ m' ρ' _ hagree
    refine ⟨fun c => (Cert.Kernel3Ideal.Ffn.dats m 0 c).arrAt 7 Cert.Kernel3Ideal.cfg0.N, Cert.Kernel3Ideal.Ffn.run_blocks m ρ, ?_⟩
    refine (θ_run Cert.Reference3Ideal.defs _ _).mono (fun _ h c => ⟨(h c).1.trans ?_, (h c).2⟩) (Cert.Reference3Ideal.Value.run m' ρ')
    obtain ⟨h0, h1, h2, h3, h4, h5, h6⟩ := hagree c
    have key : Cert.Reference3Ideal.Read.val_main_v82 (F := Ideal)
      (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3))
      (m' ((c.tc : Thread Cert.Reference3Ideal.nD Cert.Reference3Ideal.τ).loc Cert.Reference3Ideal.main_arg4))
      (m' ((c.tc : Thread Cert.Reference3Ideal.nD Cert.Reference3Ideal.τ).loc Cert.Reference3Ideal.main_arg5))
      (m' ((c.tc : Thread Cert.Reference3Ideal.nD Cert.Reference3Ideal.τ).loc Cert.Reference3Ideal.main_arg6))
        = (Cert.Kernel3Ideal.Ffn.dats m 0 c).arrAt 7 Cert.Kernel3Ideal.cfg0.N := by
      rw [h0, h1, h2, h3, h4, h5, h6]
      exact (Cert.Kernel3Ideal.Ffn.y_eq m c).symm
    rw [Cert.Reference3Ideal.Read.val_main_v82_eq]
    exact key
  · intro m ρ m' ρ' _ hagree
    refine ⟨fun c => (Cert.Kernel4Ideal.Gen.dats m 0 c).arrAt 2 Cert.Kernel4Ideal.cfg0.N,
      fun c => (Cert.Kernel4Ideal.Gen.dats m 0 c).arrAt 3 Cert.Kernel4Ideal.cfg0.N, Cert.Kernel4Ideal.Value.run_blocks m ρ, ?_⟩
    refine (θ_run Cert.Reference4Ideal.defs _ _).mono (fun _ h c => ⟨(h c).1.trans ?_, (h c).2.1.trans ?_, (h c).2.2⟩)
      (Cert.Reference4Ideal.Value.run m' ρ')
    · rw [Cert.Reference4Ideal.Read.val_main_v27_eq, (hagree c).1, (hagree c).2.1, (hagree c).2.2]
      exact (Cert.Kernel4Ideal.Inproj.z_eq m c).symm
    · rw [Cert.Reference4Ideal.Read.val_main_v18_eq, (hagree c).1, (hagree c).2.1, (hagree c).2.2]
      exact (Cert.Kernel4Ideal.Inproj.u_eq m c).symm
  · intro m ρ m' ρ' _ hagree
    refine ⟨fun c => (Cert.Kernel5Ideal.Ffn.dats m 0 c).arrAt 7 Cert.Kernel5Ideal.cfg0.N, Cert.Kernel5Ideal.Ffn.run_blocks m ρ, ?_⟩
    refine (θ_run Cert.Reference5Ideal.defs _ _).mono (fun _ h c => ⟨(h c).1.trans ?_, (h c).2⟩) (Cert.Reference5Ideal.Value.run m' ρ')
    obtain ⟨h0, h1, h2, h3, h4, h5, h6⟩ := hagree c
    have key : Cert.Reference5Ideal.Read.val_main_v82 (F := Ideal)
      (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg2))
      (m' ((c.tc : Thread Cert.Reference5Ideal.nD Cert.Reference5Ideal.τ).loc Cert.Reference5Ideal.main_arg3))
      (m' ((c.tc : Thread Cert.Reference5Ideal.nD Cert.Reference5Ideal.τ).loc Cert.Reference5Ideal.main_arg4))
      (m' ((c.tc : Thread Cert.Reference5Ideal.nD Cert.Reference5Ideal.τ).loc Cert.Reference5Ideal.main_arg5))
      (m' ((c.tc : Thread Cert.Reference5Ideal.nD Cert.Reference5Ideal.τ).loc Cert.Reference5Ideal.main_arg6))
        = (Cert.Kernel5Ideal.Ffn.dats m 0 c).arrAt 7 Cert.Kernel5Ideal.cfg0.N := by
      rw [h0, h1, h2, h3, h4, h5, h6]
      exact (Cert.Kernel5Ideal.Ffn.y_eq m c).symm
    rw [Cert.Reference5Ideal.Read.val_main_v82_eq]
    exact key

end Cert.Proof

end
